-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)) (v2 : (c : Dev Cert.Kernel7Ideal.nD) → Buf (Elt Ideal) ((c.tc : Thread Cert.Kernel7Ideal.nD Cert.Kernel7Ideal.τ).loc Cert.Kernel7Ideal.main_v30_2)) (v3 : (c : Dev Cert.Kernel7Ideal.nD) → Buf (Elt Ideal) ((c.tc : Thread Cert.Kernel7Ideal.nD Cert.Kernel7Ideal.τ).loc Cert.Kernel7Ideal.main_v30_3)) (v4 : (c : Dev Cert.Kernel7Ideal.nD) → Buf (Elt Ideal) ((c.tc : Thread Cert.Kernel7Ideal.nD Cert.Kernel7Ideal.τ).loc Cert.Kernel7Ideal.main_v30_4)) (v5 : (c : Dev Cert.Kernel7Ideal.nD) → Buf (Elt Ideal) ((c.tc : Thread Cert.Kernel7Ideal.nD Cert.Kernel7Ideal.τ).loc Cert.Kernel7Ideal.main_v30_5)) (v6 : (c : Dev Cert.Kernel7Ideal.nD) → Buf (Elt Ideal) ((c.tc : Thread Cert.Kernel7Ideal.nD Cert.Kernel7Ideal.τ).loc Cert.Kernel7Ideal.main_v30_6)) (v7 : (c : Dev Cert.Kernel7Ideal.nD) → Buf (Elt Ideal) ((c.tc : Thread Cert.Kernel7Ideal.nD Cert.Kernel7Ideal.τ).loc Cert.Kernel7Ideal.main_v30_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_v30_2) = v2 c
          ∧ r.2.mem ((c.tc : Thread Cert.Kernel7Ideal.nD Cert.Kernel7Ideal.τ).loc Cert.Kernel7Ideal.main_v30_3) = v3 c
          ∧ r.2.mem ((c.tc : Thread Cert.Kernel7Ideal.nD Cert.Kernel7Ideal.τ).loc Cert.Kernel7Ideal.main_v30_4) = v4 c
          ∧ r.2.mem ((c.tc : Thread Cert.Kernel7Ideal.nD Cert.Kernel7Ideal.τ).loc Cert.Kernel7Ideal.main_v30_5) = v5 c
          ∧ r.2.mem ((c.tc : Thread Cert.Kernel7Ideal.nD Cert.Kernel7Ideal.τ).loc Cert.Kernel7Ideal.main_v30_6) = v6 c
          ∧ r.2.mem ((c.tc : Thread Cert.Kernel7Ideal.nD Cert.Kernel7Ideal.τ).loc Cert.Kernel7Ideal.main_v30_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_v41) = v3 c
          ∧ r.2.mem ((c.tc : Thread Cert.Reference7Ideal.nD Cert.Reference7Ideal.τ).loc Cert.Reference7Ideal.main_v44) = v4 c
          ∧ r.2.mem ((c.tc : Thread Cert.Reference7Ideal.nD Cert.Reference7Ideal.τ).loc Cert.Reference7Ideal.main_v48) = v5 c
          ∧ r.2.mem ((c.tc : Thread Cert.Reference7Ideal.nD Cert.Reference7Ideal.τ).loc Cert.Reference7Ideal.main_v56) = v6 c
          ∧ r.2.mem ((c.tc : Thread Cert.Reference7Ideal.nD Cert.Reference7Ideal.τ).loc Cert.Reference7Ideal.main_v59) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v11_0)) (v1 : (c : Dev Cert.Kernel8Ideal.nD) → Buf (Elt Ideal) ((c.tc : Thread Cert.Kernel8Ideal.nD Cert.Kernel8Ideal.τ).loc Cert.Kernel8Ideal.main_v11_1)) (v2 : (c : Dev Cert.Kernel8Ideal.nD) → Buf (Elt Ideal) ((c.tc : Thread Cert.Kernel8Ideal.nD Cert.Kernel8Ideal.τ).loc Cert.Kernel8Ideal.main_v11_2)) (v3 : (c : Dev Cert.Kernel8Ideal.nD) → Buf (Elt Ideal) ((c.tc : Thread Cert.Kernel8Ideal.nD Cert.Kernel8Ideal.τ).loc Cert.Kernel8Ideal.main_v11_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_0) = v0 c
          ∧ r.2.mem ((c.tc : Thread Cert.Kernel8Ideal.nD Cert.Kernel8Ideal.τ).loc Cert.Kernel8Ideal.main_v11_1) = v1 c
          ∧ r.2.mem ((c.tc : Thread Cert.Kernel8Ideal.nD Cert.Kernel8Ideal.τ).loc Cert.Kernel8Ideal.main_v11_2) = v2 c
          ∧ r.2.mem ((c.tc : Thread Cert.Kernel8Ideal.nD Cert.Kernel8Ideal.τ).loc Cert.Kernel8Ideal.main_v11_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v53) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_steps : Cert.Pre_finite_steps.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_steps.lean ====
abbrev S4x4096x4096 : Shape := ⟨3, ![4, 4096, 4096]⟩
abbrev S4x4096x32 : Shape := ⟨3, ![4, 4096, 32]⟩
abbrev S4x4096x2048 : Shape := ⟨3, ![4, 4096, 2048]⟩
abbrev S32 : Shape := ⟨1, ![32]⟩
abbrev S2048 : Shape := ⟨1, ![2048]⟩
abbrev S_ : Shape := ⟨0, ![]⟩

class Facts : Prop where
  bcast_S_S4x4096x32 : S_.BroadcastsInDim S4x4096x32 (![] : Fin 0 → Fin S4x4096x32.rank)
  reducesTo_S4x4096x32_S_d0_1_2 : S4x4096x32.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4x4096x4096 .f32) (main_arg1 : FVec F S4x4096x32 .f32) (main_arg2 : FVec F S4x4096x2048 .f32) (main_arg3 : FVec F S32 .f32) (main_arg4 : FVec F S32 .f32) (main_arg5 : FVec F S2048 .f32) : IVec S_ 1 :=
  let main_v0 : FVec F S4x4096x32 .f32 := Host.absf main_arg1
  let main_cst : FVec F S_ .f32 := constant S_ .f32 0x7F800000#32
  let main_v1 : FVec F S4x4096x32 .f32 := broadcastInDim S4x4096x32 ![] bcast_S_S4x4096x32 main_cst
  let main_v2 : IVec S4x4096x32 1 := cmpf .olt main_v0 main_v1
  let main_c : IVec S_ 1 := constantI S_ 1 1#1
  let main_v3 : IVec S_ 1 := (fun x v => Host.reduce IntOp.andi x v reducesTo_S4x4096x32_S_d0_1_2 h_S_) main_v2 main_c
  let main_v4 : FVec F S32 .f32 := Host.absf main_arg3
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Kernel.lean ====
abbrev S4x4096x4096 : Shape := ⟨3, ![4, 4096, 4096]⟩
abbrev S4x4096x32 : Shape := ⟨3, ![4, 4096, 32]⟩
abbrev S4x4096x2048 : Shape := ⟨3, ![4, 4096, 2048]⟩
abbrev S32 : Shape := ⟨1, ![32]⟩
abbrev S2048 : Shape := ⟨1, ![2048]⟩
abbrev S1x32 : Shape := ⟨2, ![1, 32]⟩
abbrev S_ : Shape := ⟨0, ![]⟩
abbrev S1x128 : Shape := ⟨2, ![1, 128]⟩
abbrev S32x64 : Shape := ⟨2, ![32, 64]⟩
abbrev S1x2048 : Shape := ⟨2, ![1, 2048]⟩
abbrev S16384x4096 : Shape := ⟨2, ![16384, 4096]⟩
abbrev S16384x32 : Shape := ⟨2, ![16384, 32]⟩
abbrev S16384x128 : Shape := ⟨2, ![16384, 128]⟩
abbrev S16384x2048 : Shape := ⟨2, ![16384, 2048]⟩
abbrev S4x32x64x128 : Shape := ⟨4, ![4, 32, 64, 128]⟩
abbrev S128x2048 : Shape := ⟨2, ![128, 2048]⟩
abbrev S128x1024 : Shape := ⟨2, ![128, 1024]⟩
abbrev S128x128 : Shape := ⟨2, ![128, 128]⟩
abbrev S1x32x64x128 : Shape := ⟨4, ![1, 32, 64, 128]⟩
abbrev S8x128x256 : Shape := ⟨3, ![8, 128, 256]⟩
abbrev S128x256 : Shape := ⟨2, ![128, 256]⟩
abbrev S256x256 : Shape := ⟨2, ![256, 256]⟩
abbrev S1x256 : Shape := ⟨2, ![1, 256]⟩
abbrev S1x128x256 : Shape := ⟨3, ![1, 128, 256]⟩
abbrev S128x1 : Shape := ⟨2, ![128, 1]⟩
abbrev S128 : Shape := ⟨1, ![128]⟩
abbrev S256x128 : Shape := ⟨2, ![256, 128]⟩
abbrev S4x64x128 : Shape := ⟨3, ![4, 64, 128]⟩
abbrev S1x4x64x128 : Shape := ⟨4, ![1, 4, 64, 128]⟩

abbrev nBuf : Space → Nat
  | .hbm => 22
  | .vmem => 19
  | .smem => 0
  | _ => 0

abbrev bufTy : (tb : Table) → Fin (tcTables nBuf tb) → BufTy
  | .hbm, ⟨0, _⟩ => ⟨S4x4096x4096, .f32⟩
  | .hbm, ⟨1, _⟩ => ⟨S4x4096x32, .f32⟩
  | .hbm, ⟨2, _⟩ => ⟨S4x4096x2048, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S1x32, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S16384x4096, .f32⟩
  | .hbm, ⟨15, _⟩ => ⟨S16384x32, .f32⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S16384x2048, .f32⟩
  | .hbm, ⟨20, _⟩ => ⟨S16384x2048, .bf16⟩
  | .hbm, ⟨21, _⟩ => ⟨S4x32x64x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x2048, .f32⟩
  | .local _ .vmem, ⟨9, _⟩ => ⟨S128x2048, .f32⟩
  | .local _ .vmem, ⟨10, _⟩ => ⟨S1x128, .f32⟩
  | .local _ .vmem, ⟨11, _⟩ => ⟨S1x2048, .f32⟩
  | .local _ .vmem, ⟨12, _⟩ => ⟨S1x2048, .f32⟩
  | .local _ .vmem, ⟨13, _⟩ => ⟨S128x2048, .bf16⟩
  | .local _ .vmem, ⟨14, _⟩ => ⟨S128x2048, .bf16⟩
  | .local _ .vmem, ⟨15, _⟩ => ⟨S1x32x64x128, .f32⟩
  | .local _ .vmem, ⟨16, _⟩ => ⟨S1x32x64x128, .f32⟩
  | .local _ .vmem, ⟨17, _⟩ => ⟨S8x128x256, .f32⟩
  | .local _ .vmem, ⟨18, _⟩ => ⟨S128x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1158 : BitVec 1 := Scalar.cmpi .eq arg1 c31_i32
  let v1159 : BitVec 32 := Scalar.extui v1158
  let c0_i32_332 : BitVec 32 := 0#32
  let v1160 : BitVec 1 := Scalar.cmpi .ne v1159 c0_i32_332
  v1160

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x4096x4096 : Shape := ⟨3, ![4, 4096, 4096]⟩
abbrev S4x4096x32 : Shape := ⟨3, ![4, 4096, 32]⟩
abbrev S4x4096x2048 : Shape := ⟨3, ![4, 4096, 2048]⟩
abbrev S32 : Shape := ⟨1, ![32]⟩
abbrev S2048 : Shape := ⟨1, ![2048]⟩
abbrev S4x4096x1024 : Shape := ⟨3, ![4, 4096, 1024]⟩
abbrev S4x4096x8x4x64 : Shape := ⟨5, ![4, 4096, 8, 4, 64]⟩
abbrev S4x4096x8x128 : Shape := ⟨4, ![4, 4096, 8, 128]⟩
abbrev S4x4096x8x4 : Shape := ⟨4, ![4, 4096, 8, 4]⟩
abbrev S8x4 : Shape := ⟨2, ![8, 4]⟩
abbrev S_ : Shape := ⟨0, ![]⟩
abbrev S128x128 : Shape := ⟨2, ![128, 128]⟩
abbrev S1x128x128x1x1 : Shape := ⟨5, ![1, 128, 128, 1, 1]⟩
abbrev S4x8x4x64x128 : Shape := ⟨5, ![4, 8, 4, 64, 128]⟩
abbrev S4x32x128x8x4x64 : Shape := ⟨6, ![4, 32, 128, 8, 4, 64]⟩
abbrev S32x4x128x8x4x64 : Shape := ⟨6, ![32, 4, 128, 8, 4, 64]⟩
abbrev S4x32x128x8x4 : Shape := ⟨5, ![4, 32, 128, 8, 4]⟩
abbrev S32x4x128x8x4 : Shape := ⟨5, ![32, 4, 128, 8, 4]⟩
abbrev S4x32x128x8x128 : Shape := ⟨5, ![4, 32, 128, 8, 128]⟩
abbrev S32x4x128x8x128 : Shape := ⟨5, ![32, 4, 128, 8, 128]⟩
abbrev S1x4x128x8x4x64 : Shape := ⟨6, ![1, 4, 128, 8, 4, 64]⟩
abbrev S4x128x8x4x64 : Shape := ⟨5, ![4, 128, 8, 4, 64]⟩
abbrev S1x4x128x8x4 : Shape := ⟨5, ![1, 4, 128, 8, 4]⟩
abbrev S4x128x8x4 : Shape := ⟨4, ![4, 128, 8, 4]⟩
abbrev S1x4x128x8x128 : Shape := ⟨5, ![1, 4, 128, 8, 128]⟩
abbrev S4x128x8x128 : Shape := ⟨4, ![4, 128, 8, 128]⟩
abbrev S1x1x8x4 : Shape := ⟨4, ![1, 1, 8, 4]⟩
abbrev S4x128x1x8x4 : Shape := ⟨5, ![4, 128, 1, 8, 4]⟩
abbrev S4x1x128x8x4 : Shape := ⟨5, ![4, 1, 128, 8, 4]⟩
abbrev S4x128x128x8x4 : Shape := ⟨5, ![4, 128, 128, 8, 4]⟩
abbrev S4x8x128x128 : Shape := ⟨4, ![4, 8, 128, 128]⟩
abbrev S4x128x128x8 : Shape := ⟨4, ![4, 128, 128, 8]⟩
abbrev S4x128x128x8x1 : Shape := ⟨5, ![4, 128, 128, 8, 1]⟩
abbrev S4x128x8x4x1 : Shape := ⟨5, ![4, 128, 8, 4, 1]⟩
abbrev S4x1x8x4 : Shape := ⟨4, ![4, 1, 8, 4]⟩
abbrev S4x8x4 : Shape := ⟨3, ![4, 8, 4]⟩
abbrev S4x8x4x1x1 : Shape := ⟨5, ![4, 8, 4, 1, 1]⟩
abbrev S8x4x1 : Shape := ⟨3, ![8, 4, 1]⟩
abbrev S1x1x8x4x1 : Shape := ⟨5, ![1, 1, 8, 4, 1]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S4x32x64x128 : Shape := ⟨4, ![4, 32, 64, 128]⟩

abbrev nBuf : Space → Nat
  | .hbm => 176
  | .vmem => 0
  | .smem => 0
  | _ => 0

abbrev hbmTy0_0 (i : Nat) : BufTy := match i % 128 with
  | 0 => ⟨S4x4096x4096, .f32⟩
  | 1 => ⟨S4x4096x32, .f32⟩
  | 2 => ⟨S4x4096x2048, .f32⟩
  | 3 => ⟨S32, .f32⟩
  | 4 => ⟨S32, .f32⟩
  | 5 => ⟨S2048, .f32⟩
  | 6 => ⟨S4x4096x2048, .f32⟩
  | 7 => ⟨S4x4096x1024, .f32⟩
  | 8 => ⟨S4x4096x1024, .f32⟩
  | 9 => ⟨S4x4096x8x4x64, .f32⟩
  | 10 => ⟨S4x4096x8x128, .f32⟩
  | 11 => ⟨S4x4096x8x128, .f32⟩
  | 12 => ⟨S4x4096x8x4, .f32⟩
  | 13 => ⟨S32, .f32⟩
  | 14 => ⟨S8x4, .f32⟩
  | 15 => ⟨S8x4, .f32⟩
  | 16 => ⟨S_, .i1⟩
  | 17 => ⟨S128x128, .i1⟩
  | 18 => ⟨S128x128, .i32⟩
  | 19 => ⟨S_, .i32⟩
  | 20 => ⟨S128x128, .i32⟩
  | 21 => ⟨S128x128, .i32⟩
  | 22 => ⟨S128x128, .i32⟩
  | 23 => ⟨S128x128, .i1⟩
  | 24 => ⟨S_, .i1⟩
  | 25 => ⟨S128x128, .i1⟩
  | 26 => ⟨S128x128, .i1⟩
  | 27 => ⟨S1x128x128x1x1, .i1⟩
  | 28 => ⟨S_, .f32⟩
  | 29 => ⟨S4x8x4x64x128, .f32⟩
  | 30 => ⟨S4x32x128x8x4x64, .f32⟩
  | 31 => ⟨S32x4x128x8x4x64, .f32⟩
  | 32 => ⟨S4x32x128x8x4, .f32⟩
  | 33 => ⟨S32x4x128x8x4, .f32⟩
  | 34 => ⟨S4x32x128x8x128, .f32⟩
  | 35 => ⟨S32x4x128x8x128, .f32⟩
  | 36 => ⟨S4x32x128x8x128, .f32⟩
  | 37 => ⟨S32x4x128x8x128, .f32⟩
  | 38 => ⟨S_, .f32⟩
  | 39 => ⟨S32x4x128x8x4x64, .f32⟩
  | 40 => ⟨S_, .i32⟩
  | 41 => ⟨S32x4x128x8x4x64, .f32⟩
  | 42 => ⟨S32x4x128x8x4, .f32⟩
  | 43 => ⟨S32x4x128x8x128, .f32⟩
  | 44 => ⟨S32x4x128x8x128, .f32⟩
  | 45 => ⟨S8x4, .f32⟩
  | 46 => ⟨S1x128x128x1x1, .i1⟩
  | 47 => ⟨S_, .i32⟩
  | 48 => ⟨S4x8x4x64x128, .f32⟩
  | 49 => ⟨S32x4x128x8x4x64, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x4x128x8x4x64, .f32⟩
  | 58 => ⟨S4x128x8x4x64, .f32⟩
  | 59 => ⟨S_, .i32⟩
  | 60 => ⟨S_, .i32⟩
  | 61 => ⟨S_, .i32⟩
  | 62 => ⟨S_, .i32⟩
  | 63 => ⟨S1x4x128x8x4, .f32⟩
  | 64 => ⟨S4x128x8x4, .f32⟩
  | 65 => ⟨S_, .i32⟩
  | 66 => ⟨S_, .i32⟩
  | 67 => ⟨S_, .i32⟩
  | 68 => ⟨S_, .i32⟩
  | 69 => ⟨S1x4x128x8x128, .f32⟩
  | 70 => ⟨S4x128x8x128, .f32⟩
  | 71 => ⟨S_, .i32⟩
  | 72 => ⟨S_, .i32⟩
  | 73 => ⟨S_, .i32⟩
  | 74 => ⟨S_, .i32⟩
  | 75 => ⟨S1x4x128x8x128, .f32⟩
  | 76 => ⟨S4x128x8x128, .f32⟩
  | 77 => ⟨S1x1x8x4, .f32⟩
  | 78 => ⟨S4x128x8x4, .f32⟩
  | 79 => ⟨S4x128x8x4, .f32⟩
  | 80 => ⟨S_, .f32⟩
  | 81 => ⟨S_, .f32⟩
  | 82 => ⟨S4x128x8x4, .f32⟩
  | 83 => ⟨S4x128x1x8x4, .f32⟩
  | 84 => ⟨S4x1x128x8x4, .f32⟩
  | 85 => ⟨S4x128x128x8x4, .f32⟩
  | 86 => ⟨S4x128x128x8x4, .f32⟩
  | 87 => ⟨S4x128x128x8x4, .f32⟩
  | 88 => ⟨S_, .f32⟩
  | 89 => ⟨S_, .f32⟩
  | 90 => ⟨S4x128x128x8x4, .i1⟩
  | 91 => ⟨S4x128x128x8x4, .f32⟩
  | 92 => ⟨S4x128x128x8x4, .f32⟩
  | 93 => ⟨S4x128x128x8x4, .f32⟩
  | 94 => ⟨S4x8x128x128, .f32⟩
  | 95 => ⟨S4x128x128x8, .f32⟩
  | 96 => ⟨S4x128x128x8x1, .f32⟩
  | 97 => ⟨S4x128x128x8x4, .f32⟩
  | 98 => ⟨S4x128x128x8x4, .f32⟩
  | 99 => ⟨S4x1x128x8x4, .f32⟩
  | 100 => ⟨S4x128x128x8x4, .f32⟩
  | 101 => ⟨S4x128x128x8x4, .f32⟩
  | 102 => ⟨S4x8x4x64x128, .f32⟩
  | 103 => ⟨S4x128x8x4x64, .f32⟩
  | 104 => ⟨S4x8x4x64x128, .f32⟩
  | 105 => ⟨S4x128x8x4x64, .f32⟩
  | 106 => ⟨S4x128x8x4, .f32⟩
  | 107 => ⟨S4x128x8x4x1, .f32⟩
  | 108 => ⟨S4x128x8x4x64, .f32⟩
  | 109 => ⟨S4x128x8x4x64, .f32⟩
  | 110 => ⟨S4x1x8x4, .f32⟩
  | 111 => ⟨S4x128x8x4, .f32⟩
  | 112 => ⟨S4x128x8x4, .f32⟩
  | 113 => ⟨S4x128x8x4, .f32⟩
  | 114 => ⟨S4x128x8x4, .f32⟩
  | 115 => ⟨S4x1x8x4, .f32⟩
  | 116 => ⟨S4x8x4, .f32⟩
  | 117 => ⟨S4x8x4, .f32⟩
  | 118 => ⟨S4x8x4x1x1, .f32⟩
  | 119 => ⟨S4x8x4x64x128, .f32⟩
  | 120 => ⟨S4x8x4x64x128, .f32⟩
  | 121 => ⟨S4x128x8x4x1, .f32⟩
  | 122 => ⟨S4x128x8x4x64, .f32⟩
  | 123 => ⟨S4x128x8x4x64, .f32⟩
  | 124 => ⟨S4x8x4x64x128, .f32⟩
  | 125 => ⟨S4x8x4x64x128, .f32⟩
  | 126 => ⟨S4x128x8x4x64, .f32⟩
  | 127 => ⟨S1x4x128x8x4x64, .f32⟩
  | _ => ⟨S4x4096x4096, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S32x4x128x8x4x64, .f32⟩
  | 6 => ⟨S_, .i32⟩
  | 7 => ⟨S_, .i32⟩
  | 8 => ⟨S4x32x128x8x4x64, .f32⟩
  | 9 => ⟨S4x4096x8x4x64, .f32⟩
  | 10 => ⟨S4x4096x2048, .f32⟩
  | 11 => ⟨S4x4096x8x4x64, .f32⟩
  | 12 => ⟨S8x4, .f32⟩
  | 13 => ⟨S8x4x1, .f32⟩
  | 14 => ⟨S1x1x8x4x1, .f32⟩
  | 15 => ⟨S4x4096x8x4x64, .f32⟩
  | 16 => ⟨S4x4096x8x4x64, .f32⟩
  | 17 => ⟨S4x4096x8x4x64, .f32⟩
  | 18 => ⟨S4x4096x2048, .f32⟩
  | 19 => ⟨S4x4096x2048, .f32⟩
  | 20 => ⟨S4x4096x2048, .f32⟩
  | 21 => ⟨S_, .f32⟩
  | 22 => ⟨S4x4096x2048, .f32⟩
  | 23 => ⟨S4x4096x2048, .f32⟩
  | 24 => ⟨S_, .f32⟩
  | 25 => ⟨S4x4096x2048, .f32⟩
  | 26 => ⟨S4x4096x2048, .f32⟩
  | 27 => ⟨S4x4096x2048, .f32⟩
  | 28 => ⟨S4x4096x2048, .f32⟩
  | 29 => ⟨S4x4096x2048, .f32⟩
  | 30 => ⟨S_, .f32⟩
  | 31 => ⟨S4x4096, .f32⟩
  | 32 => ⟨S4x4096x1, .f32⟩
  | 33 => ⟨S_, .f32⟩
  | 34 => ⟨S4x4096x1, .f32⟩
  | 35 => ⟨S4x4096x1, .f32⟩
  | 36 => ⟨S_, .f32⟩
  | 37 => ⟨S4x4096x1, .f32⟩
  | 38 => ⟨S4x4096x1, .f32⟩
  | 39 => ⟨S4x4096x1, .f32⟩
  | 40 => ⟨S4x4096x2048, .f32⟩
  | 41 => ⟨S4x4096x2048, .f32⟩
  | 42 => ⟨S1x1x2048, .f32⟩
  | 43 => ⟨S4x4096x2048, .f32⟩
  | 44 => ⟨S4x4096x2048, .f32⟩
  | 45 => ⟨S16384x2048, .f32⟩
  | 46 => ⟨S16384x2048, .bf16⟩
  | 47 => ⟨S4x32x64x128, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_c_1 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_v23_5 : Ref sig .tc := ⟨.hbm, 46, rfl⟩
abbrev main_v23_6 : Ref sig .tc := ⟨.hbm, 47, rfl⟩
abbrev main_v23_7 : Ref sig .tc := ⟨.hbm, 48, rfl⟩
abbrev main_v23_8 : Ref sig .tc := ⟨.hbm, 49, rfl⟩
abbrev main_while0c_c_15 : Ref sig .tc := ⟨.hbm, 50, rfl⟩
abbrev main_while0c_v59 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_c_2 : Ref sig .tc := ⟨.hbm, 55, rfl⟩
abbrev main_while0b_call1_c_3 : Ref sig .tc := ⟨.hbm, 56, rfl⟩
abbrev main_while0b_call1_v0 : Ref sig .tc := ⟨.hbm, 57, rfl⟩
abbrev main_while0b_v59 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_c_2 : Ref sig .tc := ⟨.hbm, 62, rfl⟩
abbrev main_while0b_call2_v0 : Ref sig .tc := ⟨.hbm, 63, rfl⟩
abbrev main_while0b_v60 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_c_2 : Ref sig .tc := ⟨.hbm, 68, rfl⟩
abbrev main_while0b_call3_v0 : Ref sig .tc := ⟨.hbm, 69, rfl⟩
abbrev main_while0b_v61 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_c_2 : Ref sig .tc := ⟨.hbm, 74, rfl⟩
abbrev main_while0b_call4_v0 : Ref sig .tc := ⟨.hbm, 75, rfl⟩
abbrev main_while0b_v62 : Ref sig .tc := ⟨.hbm, 76, rfl⟩
abbrev main_while0b_v63 : Ref sig .tc := ⟨.hbm, 77, rfl⟩
abbrev main_while0b_v64 : Ref sig .tc := ⟨.hbm, 78, rfl⟩
abbrev main_while0b_v65 : Ref sig .tc := ⟨.hbm, 79, rfl⟩
abbrev main_while0b_call5_call0_cst : Ref sig .tc := ⟨.hbm, 80, rfl⟩
abbrev main_while0b_call5_call0_v0 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_v71 : Ref sig .tc := ⟨.hbm, 87, rfl⟩
abbrev main_while0b_cst_15 : Ref sig .tc := ⟨.hbm, 88, rfl⟩
abbrev main_while0b_call6_v0 : Ref sig .tc := ⟨.hbm, 89, rfl⟩
abbrev main_while0b_call6_v1 : Ref sig .tc := ⟨.hbm, 90, rfl⟩
abbrev main_while0b_call6_v2 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_v85 : Ref sig .tc := ⟨.hbm, 105, rfl⟩
abbrev main_while0b_v86 : Ref sig .tc := ⟨.hbm, 106, rfl⟩
abbrev main_while0b_v87 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_call7_v0 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_call7_c_3 : Ref sig .tc := ⟨.hbm, 132, rfl⟩
abbrev main_while0b_v107 : Ref sig .tc := ⟨.hbm, 133, rfl⟩
abbrev main_while0b_c_16 : Ref sig .tc := ⟨.hbm, 134, rfl⟩
abbrev main_while0b_v108 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_cst_2 : Ref sig .tc := ⟨.hbm, 149, rfl⟩
abbrev main_v37 : Ref sig .tc := ⟨.hbm, 150, rfl⟩
abbrev main_v38 : Ref sig .tc := ⟨.hbm, 151, rfl⟩
abbrev main_cst_3 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_cst_4 : Ref sig .tc := ⟨.hbm, 158, rfl⟩
abbrev main_v44 : Ref sig .tc := ⟨.hbm, 159, rfl⟩
abbrev main_v45 : Ref sig .tc := ⟨.hbm, 160, rfl⟩
abbrev main_cst_5 : Ref sig .tc := ⟨.hbm, 161, rfl⟩
abbrev main_v46 : Ref sig .tc := ⟨.hbm, 162, rfl⟩
abbrev main_v47 : Ref sig .tc := ⟨.hbm, 163, rfl⟩
abbrev main_cst_6 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S1024x6144 : Shape := ⟨2, ![1024, 6144]⟩
abbrev S6144 : Shape := ⟨1, ![6144]⟩
abbrev S2048 : Shape := ⟨1, ![2048]⟩
abbrev S4x128x128 : Shape := ⟨3, ![4, 128, 128]⟩
abbrev S4x128 : Shape := ⟨2, ![4, 128]⟩
abbrev S1x6144 : Shape := ⟨2, ![1, 6144]⟩
abbrev S1x2048 : Shape := ⟨2, ![1, 2048]⟩
abbrev S128x128 : Shape := ⟨2, ![128, 128]⟩
abbrev S_ : Shape := ⟨0, ![]⟩
abbrev S128x4 : Shape := ⟨2, ![128, 4]⟩
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S1024x512 : Shape := ⟨2, ![1024, 512]⟩
abbrev S512x512 : Shape := ⟨2, ![512, 512]⟩
abbrev S1x512 : Shape := ⟨2, ![1, 512]⟩
abbrev S32x2048 : Shape := ⟨2, ![32, 2048]⟩
abbrev S32 : Shape := ⟨1, ![32]⟩
abbrev S32x1 : Shape := ⟨2, ![32, 1]⟩
abbrev S1x128x128 : Shape := ⟨3, ![1, 128, 128]⟩
abbrev S128x512 : Shape := ⟨2, ![128, 512]⟩
abbrev S128x1 : Shape := ⟨2, ![128, 1]⟩

abbrev nBuf : Space → Nat
  | .hbm => 25
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024x6144, .f32⟩
  | .hbm, ⟨2, _⟩ => ⟨S6144, .f32⟩
  | .hbm, ⟨3, _⟩ => ⟨S2048, .f32⟩
  | .hbm, ⟨4, _⟩ => ⟨S2048, .f32⟩
  | .hbm, ⟨5, _⟩ => ⟨S4x128x128, .f32⟩
  | .hbm, ⟨6, _⟩ => ⟨S4x128, .f32⟩
  | .hbm, ⟨7, _⟩ => ⟨S1024x6144, .bf16⟩
  | .hbm, ⟨8, _⟩ => ⟨S1x6144, .f32⟩
  | .hbm, ⟨9, _⟩ => ⟨S1x2048, .f32⟩
  | .hbm, ⟨10, _⟩ => ⟨S1x2048, .f32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S4x128x128, .i1⟩
  | .hbm, ⟨18, _⟩ => ⟨S_, .f32⟩
  | .hbm, ⟨19, _⟩ => ⟨S4x128x128, .f32⟩
  | .hbm, ⟨20, _⟩ => ⟨S4x128x128, .f32⟩
  | .hbm, ⟨21, _⟩ => ⟨S4x128x128, .bf16⟩
  | .hbm, ⟨22, _⟩ => ⟨S128x4, .f32⟩
  | .hbm, ⟨23, _⟩ => ⟨S16384x1024, .f32⟩
  | .hbm, ⟨24, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S1x6144, .f32⟩
  | .local _ .vmem, ⟨4, _⟩ => ⟨S1x2048, .f32⟩
  | .local _ .vmem, ⟨5, _⟩ => ⟨S1x2048, .f32⟩
  | .local _ .vmem, ⟨6, _⟩ => ⟨S4x128x128, .bf16⟩
  | .local _ .vmem, ⟨7, _⟩ => ⟨S128x4, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst : Ref sig .tc := ⟨.hbm, 18, rfl⟩
abbrev main_call0_v6 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v259 : BitVec 32 := Scalar.addi c0_i32 c16_i32
  let c1_i32 : BitVec 32 := 1#32
  ⟨c0_i32, v259, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32 : BitVec 32 := 32#32
  let v500 : BitVec 32 := Scalar.muli arg12 c32_i32
  v500
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v500 : BitVec 32 := Scalar.muli arg12 c32_i32
  let v501 : BitVec 32 := v500
  let v502 : Index := Scalar.indexCast v501
  let c0_336 : Index := 0#32
  ![v502.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4096x1024 : Shape := ⟨3, ![4, 4096, 1024]⟩
abbrev S1024x6144 : Shape := ⟨2, ![1024, 6144]⟩
abbrev S6144 : Shape := ⟨1, ![6144]⟩
abbrev S2048 : Shape := ⟨1, ![2048]⟩
abbrev S4x128x128 : Shape := ⟨3, ![4, 128, 128]⟩
abbrev S4x128 : Shape := ⟨2, ![4, 128]⟩
abbrev S4x4096x6144 : Shape := ⟨3, ![4, 4096, 6144]⟩
abbrev S1x1x6144 : Shape := ⟨3, ![1, 1, 6144]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S128x128 : Shape := ⟨2, ![128, 128]⟩
abbrev S4x32x128x4x512 : Shape := ⟨5, ![4, 32, 128, 4, 512]⟩
abbrev S4x4x32x512x128 : Shape := ⟨5, ![4, 4, 32, 512, 128]⟩
abbrev S128x4 : Shape := ⟨2, ![128, 4]⟩
abbrev S1x1x128x4x1 : Shape := ⟨5, ![1, 1, 128, 4, 1]⟩
abbrev S16384x2048 : Shape := ⟨2, ![16384, 2048]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6144, .f32⟩
  | .hbm, ⟨2, _⟩ => ⟨S6144, .f32⟩
  | .hbm, ⟨3, _⟩ => ⟨S2048, .f32⟩
  | .hbm, ⟨4, _⟩ => ⟨S2048, .f32⟩
  | .hbm, ⟨5, _⟩ => ⟨S4x128x128, .f32⟩
  | .hbm, ⟨6, _⟩ => ⟨S4x128, .f32⟩
  | .hbm, ⟨7, _⟩ => ⟨S4x4096x6144, .f32⟩
  | .hbm, ⟨8, _⟩ => ⟨S1x1x6144, .f32⟩
  | .hbm, ⟨9, _⟩ => ⟨S4x4096x6144, .f32⟩
  | .hbm, ⟨10, _⟩ => ⟨S4x4096x6144, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x2048, .f32⟩
  | .hbm, ⟨64, _⟩ => ⟨S4x4096x2048, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x2048, .f32⟩
  | .hbm, ⟨70, _⟩ => ⟨S4x4096x2048, .f32⟩
  | .hbm, ⟨71, _⟩ => ⟨S1x1x2048, .f32⟩
  | .hbm, ⟨72, _⟩ => ⟨S4x4096x2048, .f32⟩
  | .hbm, ⟨73, _⟩ => ⟨S4x4096x2048, .f32⟩
  | .hbm, ⟨74, _⟩ => ⟨S1x1x2048, .f32⟩
  | .hbm, ⟨75, _⟩ => ⟨S4x4096x2048, .f32⟩
  | .hbm, ⟨76, _⟩ => ⟨S4x4096x2048, .f32⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S4x128x128, .i1⟩
  | .hbm, ⟨84, _⟩ => ⟨S_, .f32⟩
  | .hbm, ⟨85, _⟩ => ⟨S4x128x128, .f32⟩
  | .hbm, ⟨86, _⟩ => ⟨S4x128x128, .f32⟩
  | .hbm, ⟨87, _⟩ => ⟨S4x32x128x4x512, .f32⟩
  | .hbm, ⟨88, _⟩ => ⟨S4x4x32x512x128, .f32⟩
  | .hbm, ⟨89, _⟩ => ⟨S4x32x128x4x512, .f32⟩
  | .hbm, ⟨90, _⟩ => ⟨S128x4, .f32⟩
  | .hbm, ⟨91, _⟩ => ⟨S1x1x128x4x1, .f32⟩
  | .hbm, ⟨92, _⟩ => ⟨S4x32x128x4x512, .f32⟩
  | .hbm, ⟨93, _⟩ => ⟨S4x32x128x4x512, .f32⟩
  | .hbm, ⟨94, _⟩ => ⟨S4x4096x2048, .f32⟩
  | .hbm, ⟨95, _⟩ => ⟨S4x4096x2048, .f32⟩
  | .hbm, ⟨96, _⟩ => ⟨S4x4096x2048, .f32⟩
  | .hbm, ⟨97, _⟩ => ⟨S4x4096x2048, .f32⟩
  | .hbm, ⟨98, _⟩ => ⟨S_, .f32⟩
  | .hbm, ⟨99, _⟩ => ⟨S4x4096x2048, .f32⟩
  | .hbm, ⟨100, _⟩ => ⟨S4x4096x2048, .f32⟩
  | .hbm, ⟨101, _⟩ => ⟨S_, .f32⟩
  | .hbm, ⟨102, _⟩ => ⟨S4x4096x2048, .f32⟩
  | .hbm, ⟨103, _⟩ => ⟨S4x4096x2048, .f32⟩
  | .hbm, ⟨104, _⟩ => ⟨S4x4096x2048, .f32⟩
  | .hbm, ⟨105, _⟩ => ⟨S4x4096x2048, .f32⟩
  | .hbm, ⟨106, _⟩ => ⟨S16384x2048, .f32⟩
  | .hbm, ⟨107, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_cst : Ref sig .tc := ⟨.hbm, 84, rfl⟩
abbrev main_call0_v6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Kernel3.lean ====
abbrev S16384x2048 : Shape := ⟨2, ![16384, 2048]⟩
abbrev S4x4096x1024 : Shape := ⟨3, ![4, 4096, 1024]⟩
abbrev S4x4x4096x256 : Shape := ⟨4, ![4, 4, 4096, 256]⟩
abbrev S2048x1024 : Shape := ⟨2, ![2048, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S_ : Shape := ⟨0, ![]⟩
abbrev S1x1024 : Shape := ⟨2, ![1, 1024]⟩
abbrev S4x1x1024 : Shape := ⟨3, ![4, 1, 1024]⟩
abbrev S4x16384x256 : Shape := ⟨3, ![4, 16384, 256]⟩
abbrev S16384x1024 : Shape := ⟨2, ![16384, 1024]⟩
abbrev S512x2048 : Shape := ⟨2, ![512, 2048]⟩
abbrev S512x1024 : Shape := ⟨2, ![512, 1024]⟩
abbrev S1x512x256 : Shape := ⟨3, ![1, 512, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S4x4096x1024, .f32⟩
  | .hbm, ⟨2, _⟩ => ⟨S4x4x4096x256, .f32⟩
  | .hbm, ⟨3, _⟩ => ⟨S2048x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S_, .f32⟩
  | .hbm, ⟨9, _⟩ => ⟨S1x1024, .f32⟩
  | .hbm, ⟨10, _⟩ => ⟨S4x1x1024, .f32⟩
  | .hbm, ⟨11, _⟩ => ⟨S4x1x1024, .f32⟩
  | .hbm, ⟨12, _⟩ => ⟨S4x16384x256, .f32⟩
  | .hbm, ⟨13, _⟩ => ⟨S16384x1024, .f32⟩
  | .hbm, ⟨14, _⟩ => ⟨S2048x1024, .bf16⟩
  | .hbm, ⟨15, _⟩ => ⟨S4x1024x1024, .bf16⟩
  | .hbm, ⟨16, _⟩ => ⟨S4x256x1024, .bf16⟩
  | .hbm, ⟨17, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S2048x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S512x1024, .f32⟩
  | .local _ .vmem, ⟨13, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x2048 : Shape := ⟨2, ![16384, 2048]⟩
abbrev S4x4096x1024 : Shape := ⟨3, ![4, 4096, 1024]⟩
abbrev S4x4x4096x256 : Shape := ⟨4, ![4, 4, 4096, 256]⟩
abbrev S2048x1024 : Shape := ⟨2, ![2048, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S4x4096x2048 : Shape := ⟨3, ![4, 4096, 2048]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x4096x1024, .f32⟩
  | .hbm, ⟨2, _⟩ => ⟨S4x4x4096x256, .f32⟩
  | .hbm, ⟨3, _⟩ => ⟨S2048x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S16384x2048, .f32⟩
  | .hbm, ⟨9, _⟩ => ⟨S4x4096x2048, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S1x1024x1024, .f32⟩
  | .hbm, ⟨49, _⟩ => ⟨S1024x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S1x4x4096x256, .f32⟩
  | .hbm, ⟨60, _⟩ => ⟨S4x4096x256, .f32⟩
  | .hbm, ⟨61, _⟩ => ⟨S1x256x1024, .f32⟩
  | .hbm, ⟨62, _⟩ => ⟨S256x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel4.lean ====
abbrev S16384x1024 : Shape := ⟨2, ![16384, 1024]⟩
abbrev S4x4096x1024 : Shape := ⟨3, ![4, 4096, 1024]⟩
abbrev S4x4x4096x256 : Shape := ⟨4, ![4, 4, 4096, 256]⟩
abbrev S1024x1024 : Shape := ⟨2, ![1024, 1024]⟩
abbrev S1024 : Shape := ⟨1, ![1024]⟩
abbrev S4x1024 : Shape := ⟨2, ![4, 1024]⟩
abbrev S4x256x1024 : Shape := ⟨3, ![4, 256, 1024]⟩
abbrev S4x1024x1024 : Shape := ⟨3, ![4, 1024, 1024]⟩
abbrev S1x1024 : Shape := ⟨2, ![1, 1024]⟩
abbrev S4x1x1024 : Shape := ⟨3, ![4, 1, 1024]⟩
abbrev S4x16384x256 : Shape := ⟨3, ![4, 16384, 256]⟩
abbrev S512x1024 : Shape := ⟨2, ![512, 1024]⟩
abbrev S1x512x256 : Shape := ⟨3, ![1, 512, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x4x4096x256, .f32⟩
  | .hbm, ⟨3, _⟩ => ⟨S1024x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S1x1024, .f32⟩
  | .hbm, ⟨10, _⟩ => ⟨S4x1x1024, .f32⟩
  | .hbm, ⟨11, _⟩ => ⟨S4x1x1024, .f32⟩
  | .hbm, ⟨12, _⟩ => ⟨S4x16384x256, .f32⟩
  | .hbm, ⟨13, _⟩ => ⟨S16384x1024, .f32⟩
  | .hbm, ⟨14, _⟩ => ⟨S1024x1024, .bf16⟩
  | .hbm, ⟨15, _⟩ => ⟨S4x1024x1024, .bf16⟩
  | .hbm, ⟨16, _⟩ => ⟨S4x256x1024, .bf16⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S512x1024, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S4x4096x1024 : Shape := ⟨3, ![4, 4096, 1024]⟩
abbrev S4x4x4096x256 : Shape := ⟨4, ![4, 4, 4096, 256]⟩
abbrev S1024x1024 : Shape := ⟨2, ![1024, 1024]⟩
abbrev S1024 : Shape := ⟨1, ![1024]⟩
abbrev S4x1024 : Shape := ⟨2, ![4, 1024]⟩
abbrev S4x256x1024 : Shape := ⟨3, ![4, 256, 1024]⟩
abbrev S4x1024x1024 : Shape := ⟨3, ![4, 1024, 1024]⟩
abbrev S1x1x1024 : Shape := ⟨3, ![1, 1, 1024]⟩
abbrev S_ : Shape := ⟨0, ![]⟩
abbrev S1x1024 : Shape := ⟨2, ![1, 1024]⟩
abbrev S4x4096 : Shape := ⟨2, ![4, 4096]⟩
abbrev S4x4096x1 : Shape := ⟨3, ![4, 4096, 1]⟩
abbrev S1x1024x1024 : Shape := ⟨3, ![1, 1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x4x4096x256, .f32⟩
  | .hbm, ⟨3, _⟩ => ⟨S1024x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S16384x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S1x1024x1024, .f32⟩
  | .hbm, ⟨53, _⟩ => ⟨S1024x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S1x4x4096x256, .f32⟩
  | .hbm, ⟨64, _⟩ => ⟨S4x4096x256, .f32⟩
  | .hbm, ⟨65, _⟩ => ⟨S1x256x1024, .f32⟩
  | .hbm, ⟨66, _⟩ => ⟨S256x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel5.lean ====
abbrev S16384x2048 : Shape := ⟨2, ![16384, 2048]⟩
abbrev S4x4096x1024 : Shape := ⟨3, ![4, 4096, 1024]⟩
abbrev S4x4x4096x256 : Shape := ⟨4, ![4, 4, 4096, 256]⟩
abbrev S2048x1024 : Shape := ⟨2, ![2048, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S_ : Shape := ⟨0, ![]⟩
abbrev S1x1024 : Shape := ⟨2, ![1, 1024]⟩
abbrev S4x1x1024 : Shape := ⟨3, ![4, 1, 1024]⟩
abbrev S4x16384x256 : Shape := ⟨3, ![4, 16384, 256]⟩
abbrev S16384x1024 : Shape := ⟨2, ![16384, 1024]⟩
abbrev S512x2048 : Shape := ⟨2, ![512, 2048]⟩
abbrev S512x1024 : Shape := ⟨2, ![512, 1024]⟩
abbrev S1x512x256 : Shape := ⟨3, ![1, 512, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S4x4096x1024, .f32⟩
  | .hbm, ⟨2, _⟩ => ⟨S4x4x4096x256, .f32⟩
  | .hbm, ⟨3, _⟩ => ⟨S2048x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S_, .f32⟩
  | .hbm, ⟨9, _⟩ => ⟨S1x1024, .f32⟩
  | .hbm, ⟨10, _⟩ => ⟨S4x1x1024, .f32⟩
  | .hbm, ⟨11, _⟩ => ⟨S4x1x1024, .f32⟩
  | .hbm, ⟨12, _⟩ => ⟨S4x16384x256, .f32⟩
  | .hbm, ⟨13, _⟩ => ⟨S16384x1024, .f32⟩
  | .hbm, ⟨14, _⟩ => ⟨S2048x1024, .bf16⟩
  | .hbm, ⟨15, _⟩ => ⟨S4x1024x1024, .bf16⟩
  | .hbm, ⟨16, _⟩ => ⟨S4x256x1024, .bf16⟩
  | .hbm, ⟨17, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S2048x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S512x1024, .f32⟩
  | .local _ .vmem, ⟨13, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x2048 : Shape := ⟨2, ![16384, 2048]⟩
abbrev S4x4096x1024 : Shape := ⟨3, ![4, 4096, 1024]⟩
abbrev S4x4x4096x256 : Shape := ⟨4, ![4, 4, 4096, 256]⟩
abbrev S2048x1024 : Shape := ⟨2, ![2048, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S4x4096x2048 : Shape := ⟨3, ![4, 4096, 2048]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x4096x1024, .f32⟩
  | .hbm, ⟨2, _⟩ => ⟨S4x4x4096x256, .f32⟩
  | .hbm, ⟨3, _⟩ => ⟨S2048x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S16384x2048, .f32⟩
  | .hbm, ⟨9, _⟩ => ⟨S4x4096x2048, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S1x1024x1024, .f32⟩
  | .hbm, ⟨49, _⟩ => ⟨S1024x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S1x4x4096x256, .f32⟩
  | .hbm, ⟨60, _⟩ => ⟨S4x4096x256, .f32⟩
  | .hbm, ⟨61, _⟩ => ⟨S1x256x1024, .f32⟩
  | .hbm, ⟨62, _⟩ => ⟨S256x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel6.lean ====
abbrev S16384x1024 : Shape := ⟨2, ![16384, 1024]⟩
abbrev S4x4096x1024 : Shape := ⟨3, ![4, 4096, 1024]⟩
abbrev S4x4x4096x256 : Shape := ⟨4, ![4, 4, 4096, 256]⟩
abbrev S1024x1024 : Shape := ⟨2, ![1024, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S_ : Shape := ⟨0, ![]⟩
abbrev S1x1024 : Shape := ⟨2, ![1, 1024]⟩
abbrev S4x1x1024 : Shape := ⟨3, ![4, 1, 1024]⟩
abbrev S4x16384x256 : Shape := ⟨3, ![4, 16384, 256]⟩
abbrev S512x1024 : Shape := ⟨2, ![512, 1024]⟩
abbrev S1x512x256 : Shape := ⟨3, ![1, 512, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x4x4096x256, .f32⟩
  | .hbm, ⟨3, _⟩ => ⟨S1024x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S_, .f32⟩
  | .hbm, ⟨9, _⟩ => ⟨S1x1024, .f32⟩
  | .hbm, ⟨10, _⟩ => ⟨S4x1x1024, .f32⟩
  | .hbm, ⟨11, _⟩ => ⟨S4x1x1024, .f32⟩
  | .hbm, ⟨12, _⟩ => ⟨S4x16384x256, .f32⟩
  | .hbm, ⟨13, _⟩ => ⟨S16384x1024, .f32⟩
  | .hbm, ⟨14, _⟩ => ⟨S1024x1024, .bf16⟩
  | .hbm, ⟨15, _⟩ => ⟨S4x1024x1024, .bf16⟩
  | .hbm, ⟨16, _⟩ => ⟨S4x256x1024, .bf16⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S512x1024, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16384x1024 : Shape := ⟨2, ![16384, 1024]⟩
abbrev S4x4096x1024 : Shape := ⟨3, ![4, 4096, 1024]⟩
abbrev S4x4x4096x256 : Shape := ⟨4, ![4, 4, 4096, 256]⟩
abbrev S1024x1024 : Shape := ⟨2, ![1024, 1024]⟩
abbrev S4x1024 : Shape := ⟨2, ![4, 1024]⟩
abbrev S4x256x1024 : Shape := ⟨3, ![4, 256, 1024]⟩
abbrev S4x1024x1024 : Shape := ⟨3, ![4, 1024, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1024 : Shape := ⟨3, ![1, 1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S4x4x4096x256, .f32⟩
  | .hbm, ⟨3, _⟩ => ⟨S1024x1024, .f32⟩
  | .hbm, ⟨4, _⟩ => ⟨S4x1024, .f32⟩
  | .hbm, ⟨5, _⟩ => ⟨S4x1024, .f32⟩
  | .hbm, ⟨6, _⟩ => ⟨S4x256x1024, .f32⟩
  | .hbm, ⟨7, _⟩ => ⟨S4x1024x1024, .f32⟩
  | .hbm, ⟨8, _⟩ => ⟨S16384x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S1x1024x1024, .f32⟩
  | .hbm, ⟨49, _⟩ => ⟨S1024x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S1x4x4096x256, .f32⟩
  | .hbm, ⟨60, _⟩ => ⟨S4x4096x256, .f32⟩
  | .hbm, ⟨61, _⟩ => ⟨S1x256x1024, .f32⟩
  | .hbm, ⟨62, _⟩ => ⟨S256x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel7.lean ====
abbrev S4x4096x1024 : Shape := ⟨3, ![4, 4096, 1024]⟩
abbrev S1024x3144 : Shape := ⟨2, ![1024, 3144]⟩
abbrev S64 : Shape := ⟨1, ![64]⟩
abbrev S1x2048 : Shape := ⟨2, ![1, 2048]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x16x64 : Shape := ⟨3, ![1024, 16, 64]⟩
abbrev S1024x16x128 : Shape := ⟨3, ![1024, 16, 128]⟩
abbrev S1024x2048 : Shape := ⟨2, ![1024, 2048]⟩
abbrev S256x1024 : Shape := ⟨2, ![256, 1024]⟩
abbrev S1024x4x64 : Shape := ⟨3, ![1024, 4, 64]⟩
abbrev S1024x4x128 : Shape := ⟨3, ![1024, 4, 128]⟩
abbrev S64x1024 : Shape := ⟨2, ![64, 1024]⟩
abbrev S64x1 : Shape := ⟨2, ![64, 1]⟩
abbrev S16384x1024 : Shape := ⟨2, ![16384, 1024]⟩
abbrev S4x256x4096 : Shape := ⟨3, ![4, 256, 4096]⟩
abbrev S4x64x4096 : Shape := ⟨3, ![4, 64, 4096]⟩
abbrev S4x8x64x512 : Shape := ⟨4, ![4, 8, 64, 512]⟩
abbrev S16384x512 : Shape := ⟨2, ![16384, 512]⟩
abbrev S16384x128 : Shape := ⟨2, ![16384, 128]⟩
abbrev S16384x2048 : Shape := ⟨2, ![16384, 2048]⟩
abbrev S512x1024 : Shape := ⟨2, ![512, 1024]⟩
abbrev S1x256x512 : Shape := ⟨3, ![1, 256, 512]⟩
abbrev S1x64x512 : Shape := ⟨3, ![1, 64, 512]⟩
abbrev S1x1x64x512 : Shape := ⟨4, ![1, 1, 64, 512]⟩
abbrev S512x512 : Shape := ⟨2, ![512, 512]⟩
abbrev S512x128 : Shape := ⟨2, ![512, 128]⟩
abbrev S512x2048 : Shape := ⟨2, ![512, 2048]⟩
abbrev S256x512 : Shape := ⟨2, ![256, 512]⟩
abbrev S64x512 : Shape := ⟨2, ![64, 512]⟩
abbrev S512 : Shape := ⟨1, ![512]⟩
abbrev S1x512 : Shape := ⟨2, ![1, 512]⟩
abbrev S512x1 : Shape := ⟨2, ![512, 1]⟩

abbrev nBuf : Space → Nat
  | .hbm => 53
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1024x3144, .f32⟩
  | .hbm, ⟨2, _⟩ => ⟨S64, .f32⟩
  | .hbm, ⟨3, _⟩ => ⟨S64, .f32⟩
  | .hbm, ⟨4, _⟩ => ⟨S1x2048, .f32⟩
  | .hbm, ⟨5, _⟩ => ⟨S1024x1024, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x1024, .bf16⟩
  | .hbm, ⟨16, _⟩ => ⟨S1024x256, .bf16⟩
  | .hbm, ⟨17, _⟩ => ⟨S1024x256, .bf16⟩
  | .hbm, ⟨18, _⟩ => ⟨S1024x512, .bf16⟩
  | .hbm, ⟨19, _⟩ => ⟨S1024x64, .bf16⟩
  | .hbm, ⟨20, _⟩ => ⟨S1024x128, .bf16⟩
  | .hbm, ⟨21, _⟩ => ⟨S1024x1024, .bf16⟩
  | .hbm, ⟨22, _⟩ => ⟨S1024x16x64, .bf16⟩
  | .hbm, ⟨23, _⟩ => ⟨S_, .i32⟩
  | .hbm, ⟨24, _⟩ => ⟨S_, .bf16⟩
  | .hbm, ⟨25, _⟩ => ⟨S1024x16x128, .bf16⟩
  | .hbm, ⟨26, _⟩ => ⟨S1024x2048, .bf16⟩
  | .hbm, ⟨27, _⟩ => ⟨S256x1024, .bf16⟩
  | .hbm, ⟨28, _⟩ => ⟨S256x1024, .bf16⟩
  | .hbm, ⟨29, _⟩ => ⟨S1024x4x64, .bf16⟩
  | .hbm, ⟨30, _⟩ => ⟨S_, .i32⟩
  | .hbm, ⟨31, _⟩ => ⟨S_, .bf16⟩
  | .hbm, ⟨32, _⟩ => ⟨S1024x4x128, .bf16⟩
  | .hbm, ⟨33, _⟩ => ⟨S1024x512, .bf16⟩
  | .hbm, ⟨34, _⟩ => ⟨S1024x4x64, .bf16⟩
  | .hbm, ⟨35, _⟩ => ⟨S_, .i32⟩
  | .hbm, ⟨36, _⟩ => ⟨S_, .bf16⟩
  | .hbm, ⟨37, _⟩ => ⟨S1024x4x128, .bf16⟩
  | .hbm, ⟨38, _⟩ => ⟨S1024x512, .bf16⟩
  | .hbm, ⟨39, _⟩ => ⟨S64x1024, .bf16⟩
  | .hbm, ⟨40, _⟩ => ⟨S64x1, .f32⟩
  | .hbm, ⟨41, _⟩ => ⟨S64x1, .f32⟩
  | .hbm, ⟨42, _⟩ => ⟨S16384x1024, .f32⟩
  | .hbm, ⟨43, _⟩ => ⟨S4x256x4096, .f32⟩
  | .hbm, ⟨44, _⟩ => ⟨S4x256x4096, .f32⟩
  | .hbm, ⟨45, _⟩ => ⟨S4x64x4096, .f32⟩
  | .hbm, ⟨46, _⟩ => ⟨S4x8x64x512, .f32⟩
  | .hbm, ⟨47, _⟩ => ⟨S16384x512, .f32⟩
  | .hbm, ⟨48, _⟩ => ⟨S16384x128, .f32⟩
  | .hbm, ⟨49, _⟩ => ⟨S16384x1024, .f32⟩
  | .hbm, ⟨50, _⟩ => ⟨S16384x2048, .bf16⟩
  | .hbm, ⟨51, _⟩ => ⟨S16384x512, .bf16⟩
  | .hbm, ⟨52, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S64x1024, .bf16⟩
  | .local _ .vmem, ⟨9, _⟩ => ⟨S1024x128, .bf16⟩
  | .local _ .vmem, ⟨10, _⟩ => ⟨S1024x1024, .bf16⟩
  | .local _ .vmem, ⟨11, _⟩ => ⟨S64x1, .f32⟩
  | .local _ .vmem, ⟨12, _⟩ => ⟨S64x1, .f32⟩
  | .local _ .vmem, ⟨13, _⟩ => ⟨S1x2048, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x64x512, .f32⟩
  | .local _ .vmem, ⟨19, _⟩ => ⟨S1x64x512, .f32⟩
  | .local _ .vmem, ⟨20, _⟩ => ⟨S1x1x64x512, .f32⟩
  | .local _ .vmem, ⟨21, _⟩ => ⟨S1x1x64x512, .f32⟩
  | .local _ .vmem, ⟨22, _⟩ => ⟨S512x512, .f32⟩
  | .local _ .vmem, ⟨23, _⟩ => ⟨S512x512, .f32⟩
  | .local _ .vmem, ⟨24, _⟩ => ⟨S512x128, .f32⟩
  | .local _ .vmem, ⟨25, _⟩ => ⟨S512x128, .f32⟩
  | .local _ .vmem, ⟨26, _⟩ => ⟨S512x1024, .f32⟩
  | .local _ .vmem, ⟨27, _⟩ => ⟨S512x1024, .f32⟩
  | .local _ .vmem, ⟨28, _⟩ => ⟨S512x2048, .bf16⟩
  | .local _ .vmem, ⟨29, _⟩ => ⟨S512x2048, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_call2_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_call3_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev main_v30_6 : Ref sig .tc := ⟨.hbm, 49, rfl⟩
abbrev main_v30_7 : Ref sig .tc := ⟨.hbm, 50, rfl⟩
abbrev main_v30_8 : Ref sig .tc := ⟨.hbm, 51, rfl⟩
abbrev main_v30_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference7Ideal.lean ====
abbrev S4x4096x1024 : Shape := ⟨3, ![4, 4096, 1024]⟩
abbrev S1024x3144 : Shape := ⟨2, ![1024, 3144]⟩
abbrev S64 : Shape := ⟨1, ![64]⟩
abbrev S1x2048 : Shape := ⟨2, ![1, 2048]⟩
abbrev S4x4096x3144 : Shape := ⟨3, ![4, 4096, 3144]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩
abbrev S1x1x64 : Shape := ⟨3, ![1, 1, 64]⟩
abbrev S16384x16x64 : Shape := ⟨3, ![16384, 16, 64]⟩
abbrev S16384x16x128 : Shape := ⟨3, ![16384, 16, 128]⟩
abbrev S16384x2048 : Shape := ⟨2, ![16384, 2048]⟩
abbrev S4x256x4096 : Shape := ⟨3, ![4, 256, 4096]⟩
abbrev S4x64x4096 : Shape := ⟨3, ![4, 64, 4096]⟩
abbrev S4x8x512x64 : Shape := ⟨4, ![4, 8, 512, 64]⟩
abbrev S4x8x64x512 : Shape := ⟨4, ![4, 8, 64, 512]⟩
abbrev S16384x512 : Shape := ⟨2, ![16384, 512]⟩
abbrev S16384x8 : Shape := ⟨2, ![16384, 8]⟩
abbrev S16384x128 : Shape := ⟨2, ![16384, 128]⟩
abbrev S16384x1024 : Shape := ⟨2, ![16384, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3144, .f32⟩
  | .hbm, ⟨2, _⟩ => ⟨S64, .f32⟩
  | .hbm, ⟨3, _⟩ => ⟨S64, .f32⟩
  | .hbm, ⟨4, _⟩ => ⟨S1x2048, .f32⟩
  | .hbm, ⟨5, _⟩ => ⟨S4x4096x3144, .f32⟩
  | .hbm, ⟨6, _⟩ => ⟨S4x4096x1024, .f32⟩
  | .hbm, ⟨7, _⟩ => ⟨S4x4096x256, .f32⟩
  | .hbm, ⟨8, _⟩ => ⟨S4x4096x256, .f32⟩
  | .hbm, ⟨9, _⟩ => ⟨S4x4096x512, .f32⟩
  | .hbm, ⟨10, _⟩ => ⟨S4x4096x64, .f32⟩
  | .hbm, ⟨11, _⟩ => ⟨S4x4096x8, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x64, .f32⟩
  | .hbm, ⟨20, _⟩ => ⟨S4x4096x64, .f32⟩
  | .hbm, ⟨21, _⟩ => ⟨S4x4096x64, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x64, .f32⟩
  | .hbm, ⟨29, _⟩ => ⟨S4x4096x64, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x64, .f32⟩
  | .hbm, ⟨35, _⟩ => ⟨S4x4096x64, .f32⟩
  | .hbm, ⟨36, _⟩ => ⟨S1x1x64, .f32⟩
  | .hbm, ⟨37, _⟩ => ⟨S4x4096x64, .f32⟩
  | .hbm, ⟨38, _⟩ => ⟨S4x4096x64, .f32⟩
  | .hbm, ⟨39, _⟩ => ⟨S1x1x64, .f32⟩
  | .hbm, ⟨40, _⟩ => ⟨S4x4096x64, .f32⟩
  | .hbm, ⟨41, _⟩ => ⟨S4x4096x64, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S16384x16x64, .f32⟩
  | .hbm, ⟨46, _⟩ => ⟨S_, .i32⟩
  | .hbm, ⟨47, _⟩ => ⟨S_, .f32⟩
  | .hbm, ⟨48, _⟩ => ⟨S16384x16x128, .f32⟩
  | .hbm, ⟨49, _⟩ => ⟨S16384x2048, .f32⟩
  | .hbm, ⟨50, _⟩ => ⟨S4x256x4096, .f32⟩
  | .hbm, ⟨51, _⟩ => ⟨S4x256x4096, .f32⟩
  | .hbm, ⟨52, _⟩ => ⟨S4x64x4096, .f32⟩
  | .hbm, ⟨53, _⟩ => ⟨S4x8x512x64, .f32⟩
  | .hbm, ⟨54, _⟩ => ⟨S4x8x64x512, .f32⟩
  | .hbm, ⟨55, _⟩ => ⟨S_, .f32⟩
  | .hbm, ⟨56, _⟩ => ⟨S4x4096x512, .f32⟩
  | .hbm, ⟨57, _⟩ => ⟨S4x4096x512, .f32⟩
  | .hbm, ⟨58, _⟩ => ⟨S16384x512, .f32⟩
  | .hbm, ⟨59, _⟩ => ⟨S_, .f32⟩
  | .hbm, ⟨60, _⟩ => ⟨S4x4096x8, .f32⟩
  | .hbm, ⟨61, _⟩ => ⟨S4x4096x8, .f32⟩
  | .hbm, ⟨62, _⟩ => ⟨S16384x8, .f32⟩
  | .hbm, ⟨63, _⟩ => ⟨S_, .i32⟩
  | .hbm, ⟨64, _⟩ => ⟨S_, .f32⟩
  | .hbm, ⟨65, _⟩ => ⟨S16384x128, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S16384x1024, .f32⟩
  | .hbm, ⟨76, _⟩ => ⟨S16384x2048, .f32⟩
  | .hbm, ⟨77, _⟩ => ⟨S16384x2048, .f32⟩
  | .hbm, ⟨78, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel8.lean ====
abbrev S4x4096x1024 : Shape := ⟨3, ![4, 4096, 1024]⟩
abbrev S1024x6176 : Shape := ⟨2, ![1024, 6176]⟩
abbrev S4x4096 : Shape := ⟨2, ![4, 4096]⟩
abbrev S4096 : Shape := ⟨1, ![4096]⟩
abbrev S32 : Shape := ⟨1, ![32]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S1x32 : Shape := ⟨2, ![1, 32]⟩
abbrev S1x128 : Shape := ⟨2, ![1, 128]⟩
abbrev S1x4096 : Shape := ⟨2, ![1, 4096]⟩
abbrev S16384x1024 : Shape := ⟨2, ![16384, 1024]⟩
abbrev S16384x2048 : Shape := ⟨2, ![16384, 2048]⟩
abbrev S16384x4096 : Shape := ⟨2, ![16384, 4096]⟩
abbrev S16384x128 : Shape := ⟨2, ![16384, 128]⟩
abbrev S4x3x4096 : Shape := ⟨3, ![4, 3, 4096]⟩
abbrev S512x1024 : Shape := ⟨2, ![512, 1024]⟩
abbrev S512x2048 : Shape := ⟨2, ![512, 2048]⟩
abbrev S512x4096 : Shape := ⟨2, ![512, 4096]⟩
abbrev S512x128 : Shape := ⟨2, ![512, 128]⟩
abbrev S1x3x4096 : Shape := ⟨3, ![1, 3, 4096]⟩
abbrev S520x4096 : Shape := ⟨2, ![520, 4096]⟩
abbrev S8x4096 : Shape := ⟨2, ![8, 4096]⟩
abbrev S1024x1024 : Shape := ⟨2, ![1024, 1024]⟩
abbrev S136x128 : Shape := ⟨2, ![136, 128]⟩
abbrev S128x128 : Shape := ⟨2, ![128, 128]⟩
abbrev S3x4096 : Shape := ⟨2, ![3, 4096]⟩

abbrev nBuf : Space → Nat
  | .hbm => 24
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x6176, .f32⟩
  | .hbm, ⟨2, _⟩ => ⟨S4x4096, .f32⟩
  | .hbm, ⟨3, _⟩ => ⟨S4096, .f32⟩
  | .hbm, ⟨4, _⟩ => ⟨S32, .f32⟩
  | .hbm, ⟨5, _⟩ => ⟨S1024x2048, .f32⟩
  | .hbm, ⟨6, _⟩ => ⟨S1024x2048, .bf16⟩
  | .hbm, ⟨7, _⟩ => ⟨S1024x4096, .f32⟩
  | .hbm, ⟨8, _⟩ => ⟨S1024x4096, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x32, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x4096, .f32⟩
  | .hbm, ⟨19, _⟩ => ⟨S16384x1024, .f32⟩
  | .hbm, ⟨20, _⟩ => ⟨S16384x2048, .f32⟩
  | .hbm, ⟨21, _⟩ => ⟨S16384x4096, .f32⟩
  | .hbm, ⟨22, _⟩ => ⟨S16384x128, .f32⟩
  | .hbm, ⟨23, _⟩ => ⟨S4x3x4096, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x4096, .bf16⟩
  | .local _ .vmem, ⟨4, _⟩ => ⟨S1024x128, .bf16⟩
  | .local _ .vmem, ⟨5, _⟩ => ⟨S1x128, .f32⟩
  | .local _ .vmem, ⟨6, _⟩ => ⟨S4x4096, .f32⟩
  | .local _ .vmem, ⟨7, _⟩ => ⟨S1x4096, .f32⟩
  | .local _ .vmem, ⟨8, _⟩ => ⟨S512x2048, .f32⟩
  | .local _ .vmem, ⟨9, _⟩ => ⟨S512x2048, .f32⟩
  | .local _ .vmem, ⟨10, _⟩ => ⟨S512x4096, .f32⟩
  | .local _ .vmem, ⟨11, _⟩ => ⟨S512x4096, .f32⟩
  | .local _ .vmem, ⟨12, _⟩ => ⟨S512x128, .f32⟩
  | .local _ .vmem, ⟨13, _⟩ => ⟨S512x128, .f32⟩
  | .local _ .vmem, ⟨14, _⟩ => ⟨S1x3x4096, .f32⟩
  | .local _ .vmem, ⟨15, _⟩ => ⟨S1x3x4096, .f32⟩
  | .local _ .vmem, ⟨16, _⟩ => ⟨S520x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c8_i32_2181 : BitVec 32 := 8#32
  let c0_i32_2182 : BitVec 32 := 0#32
  let v4415 : BitVec 1 := Scalar.cmpi .eq c8_i32_2181 c0_i32_2182
  let c1_i32_2183 : BitVec 32 := 1#32
  let v4416 : BitVec 32 := Scalar.select v4415 c1_i32_2183 c8_i32_2181
  let v4417 : BitVec 32 := Scalar.remsi arg0 v4416
  let c0_i32_2185 : BitVec 32 := 0#32
  let v4419 : BitVec 1 := Scalar.cmpi .slt v4417 c0_i32_2185
  let c0_i32_2186 : BitVec 32 := 0#32
  let v4420 : BitVec 1 := Scalar.cmpi .slt v4416 c0_i32_2186
  let v4421 : BitVec 1 := Scalar.xori v4419 v4420
  let c0_i32_2184 : BitVec 32 := 0#32
  let v4418 : BitVec 1 := Scalar.cmpi .ne v4417 c0_i32_2184
  let v4422 : BitVec 1 := Scalar.andi v4421 v4418
  let v4423 : BitVec 32 := Scalar.addi v4417 v4416
  let v4424 : BitVec 32 := Scalar.select v4422 v4423 v4417
  let c7_i32 : BitVec 32 := 7#32
  let v4425 : BitVec 1 := Scalar.cmpi .eq v4424 c7_i32
  let v4426 : BitVec 32 := Scalar.extui v4425
  let c0_i32_2187 : BitVec 32 := 0#32
  let v4427 : BitVec 1 := Scalar.cmpi .ne v4426 c0_i32_2187
  v4427

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S4x4096x1024 : Shape := ⟨3, ![4, 4096, 1024]⟩
abbrev S1024x6176 : Shape := ⟨2, ![1024, 6176]⟩
abbrev S4x4096 : Shape := ⟨2, ![4, 4096]⟩
abbrev S4096 : Shape := ⟨1, ![4096]⟩
abbrev S32 : Shape := ⟨1, ![32]⟩
abbrev S4x4096x6176 : Shape := ⟨3, ![4, 4096, 6176]⟩
abbrev S4x4096x2048 : Shape := ⟨3, ![4, 4096, 2048]⟩
abbrev S4x4096x4096 : Shape := ⟨3, ![4, 4096, 4096]⟩
abbrev S4x4096x32 : Shape := ⟨3, ![4, 4096, 32]⟩
abbrev S_ : Shape := ⟨0, ![]⟩
abbrev S4x3x4096 : Shape := ⟨3, ![4, 3, 4096]⟩
abbrev S4x4099x4096 : Shape := ⟨3, ![4, 4099, 4096]⟩
abbrev S1x4096 : Shape := ⟨2, ![1, 4096]⟩
abbrev S1x1x4096 : Shape := ⟨3, ![1, 1, 4096]⟩
abbrev S1x1x32 : Shape := ⟨3, ![1, 1, 32]⟩
abbrev S16384x32 : Shape := ⟨2, ![16384, 32]⟩
abbrev S16384x128 : Shape := ⟨2, ![16384, 128]⟩
abbrev S16384x2048 : Shape := ⟨2, ![16384, 2048]⟩
abbrev S16384x4096 : Shape := ⟨2, ![16384, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6176, .f32⟩
  | .hbm, ⟨2, _⟩ => ⟨S4x4096, .f32⟩
  | .hbm, ⟨3, _⟩ => ⟨S4096, .f32⟩
  | .hbm, ⟨4, _⟩ => ⟨S32, .f32⟩
  | .hbm, ⟨5, _⟩ => ⟨S4x4096x6176, .f32⟩
  | .hbm, ⟨6, _⟩ => ⟨S4x4096x2048, .f32⟩
  | .hbm, ⟨7, _⟩ => ⟨S4x4096x4096, .f32⟩
  | .hbm, ⟨8, _⟩ => ⟨S4x4096x32, .f32⟩
  | .hbm, ⟨9, _⟩ => ⟨S_, .f32⟩
  | .hbm, ⟨10, _⟩ => ⟨S4x3x4096, .f32⟩
  | .hbm, ⟨11, _⟩ => ⟨S4x4099x4096, .f32⟩
  | .hbm, ⟨12, _⟩ => ⟨S1x4096, .f32⟩
  | .hbm, ⟨13, _⟩ => ⟨S4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S1x4096, .f32⟩
  | .hbm, ⟨22, _⟩ => ⟨S4096, .f32⟩
  | .hbm, ⟨23, _⟩ => ⟨S4x4096x4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S1x4096, .f32⟩
  | .hbm, ⟨29, _⟩ => ⟨S4096, .f32⟩
  | .hbm, ⟨30, _⟩ => ⟨S4x4096x4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S1x4096, .f32⟩
  | .hbm, ⟨36, _⟩ => ⟨S4096, .f32⟩
  | .hbm, ⟨37, _⟩ => ⟨S4x4096x4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | .hbm, ⟨45, _⟩ => ⟨S1x1x32, .f32⟩
  | .hbm, ⟨46, _⟩ => ⟨S4x4096x32, .f32⟩
  | .hbm, ⟨47, _⟩ => ⟨S4x4096x32, .f32⟩
  | .hbm, ⟨48, _⟩ => ⟨S16384x32, .f32⟩
  | .hbm, ⟨49, _⟩ => ⟨S_, .i32⟩
  | .hbm, ⟨50, _⟩ => ⟨S_, .f32⟩
  | .hbm, ⟨51, _⟩ => ⟨S16384x128, .f32⟩
  | .hbm, ⟨52, _⟩ => ⟨S16384x2048, .f32⟩
  | .hbm, ⟨53, _⟩ => ⟨S4x4096x4096, .f32⟩
  | .hbm, ⟨54, _⟩ => ⟨S4x4096x4096, .f32⟩
  | .hbm, ⟨55, _⟩ => ⟨S_, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S16384x4096, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | .hbm, ⟨68, _⟩ => ⟨S16384x128, .i1⟩
  | .hbm, ⟨69, _⟩ => ⟨S16384x128, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .f32⟩
  | .hbm, ⟨77, _⟩ => ⟨S4x3x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_call0_v0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_1 : Ref sig .tc := ⟨.hbm, 55, rfl⟩
abbrev main_v46 : Ref sig .tc := ⟨.hbm, 56, rfl⟩
abbrev main_v47 : Ref sig .tc := ⟨.hbm, 57, rfl⟩
abbrev main_cst_2 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Proof.Spec.lean ====
module

public import Idealize.ShloMosaic.Lib.Pointwise

@[expose] public section

noncomputable section

namespace Cert.Ssd
open Idealize.ShloMosaic

/-- The running sum of the step sizes times the head's rate, within a chunk. -/
def ssdCum (d : Fin 128 → EReal) (A : EReal) (t : Fin 128) : EReal := ∑ s : Fin 128, if s ≤ t then d s * A else 0

/-- The decay from row `s` to row `t` of a chunk; nothing reaches back in time. -/
def ssdDecay (d : Fin 128 → EReal) (A : EReal) (t s : Fin 128) : EReal :=
  Ideal.exp (if s ≤ t then ssdCum d A t - ssdCum d A s else Ideal.ofBits FTy.f32 0xFF800000#32)

/-- One output column of a chunk at row `t`: the carried state read out, the skip term, and the chunk's own inputs. -/
def ssdOut (C B : Fin 128 → Fin 128 → EReal) (X d S : Fin 128 → EReal) (A D : EReal) (t : Fin 128) : EReal :=
  (∑ n : Fin 128, C t n * S n) * Ideal.exp (ssdCum d A t) + D * X t
    + ∑ s : Fin 128, (∑ n : Fin 128, C t n * B s n) * ssdDecay d A t s * d s * X s

/-- One column of the state after a chunk. -/
def ssdState (B : Fin 128 → Fin 128 → EReal) (X d S : Fin 128 → EReal) (A : EReal) (n : Fin 128) : EReal :=
  Ideal.exp (ssdCum d A 127) * S n
    + ∑ s : Fin 128, B s n * (X s * (Ideal.exp (ssdCum d A 127 - ssdCum d A s) * d s))

/-- A value that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.exp {x : EReal} (hx : IsReal x) : IsReal (Ideal.exp x) := by
  obtain ⟨a, rfl⟩ := hx
  exact ⟨Real.exp a, rfl⟩

theorem isReal_zero : IsReal 0 := ⟨0, rfl⟩

/-- A real number and the difference that is left of it add up to it. -/
theorem IsReal.add_sub_self {x : EReal} (hx : IsReal x) : x + (x - x) = x := by
  obtain ⟨a, rfl⟩ := hx
  rw [← EReal.coe_sub, ← EReal.coe_add]
  simp

theorem isReal_cum {d : Fin 128 → EReal} {A : EReal} (hd : ∀ s, IsReal (d s)) (hA : IsReal A) (t : Fin 128) : IsReal (ssdCum d A t) := by
  unfold ssdCum
  refine Finset.sum_induction _ IsReal (fun _ _ => IsReal.add) isReal_zero fun s _ => ?_
  split
  · exact (hd s).mul hA
  · exact isReal_zero

/-- Row `s` of chunk `k` of a sequence. -/
def rowOf (k : ℕ) (s : Fin 128) : Fin 4096 := ⟨(128 * k + s.val) % 4096, Nat.mod_lt _ (by decide)⟩

variable (xbc : Fin 4 → Fin 4096 → Fin 4096 → EReal) (dt : Fin 4 → Fin 4096 → Fin 32 → EReal) (z : Fin 4 → Fin 4096 → Fin 2048 → EReal)
  (al ds : Fin 32 → EReal) (ng : Fin 2048 → EReal)

/-- The decay rate of a head. -/
def rateOf (h : Fin 32) : EReal := -Ideal.exp (al h)
/-- A chunk's inputs in one output column. -/
def chX (b : Fin 4) (k : ℕ) (j : Fin 2048) (s : Fin 128) : EReal := xbc b (rowOf k s) ⟨j.val, by omega⟩
/-- A chunk's input vectors, of the group that the column belongs to. -/
def chB (b : Fin 4) (k : ℕ) (j : Fin 2048) (s n : Fin 128) : EReal := xbc b (rowOf k s) ⟨2048 + (128 * (j.val / 256) + n.val), by omega⟩
/-- A chunk's read-out vectors, of the group that the column belongs to. -/
def chC (b : Fin 4) (k : ℕ) (j : Fin 2048) (s n : Fin 128) : EReal := xbc b (rowOf k s) ⟨3072 + (128 * (j.val / 256) + n.val), by omega⟩
/-- The head that a column belongs to. -/
def headOf (j : Fin 2048) : Fin 32 := ⟨j.val / 64, by omega⟩
/-- A chunk's step sizes, of the column's head. -/
def chD (b : Fin 4) (k : ℕ) (j : Fin 2048) (s : Fin 128) : EReal := dt b (rowOf k s) (headOf j)

/-- The state of one column before chunk `k`. -/
def stateAt (b : Fin 4) (j : Fin 2048) : ℕ → Fin 128 → EReal
  | 0 => fun _ => 0
  | k + 1 => ssdState (chB xbc b k j) (chX xbc b k j) (chD dt b k j) (stateAt b j k) (rateOf al (headOf j))

/-- One output before the gate. -/
def rawAt (b : Fin 4) (k : ℕ) (t : Fin 128) (j : Fin 2048) : EReal :=
  ssdOut (chC xbc b k j) (chB xbc b k j) (chX xbc b k j) (chD dt b k j) (stateAt xbc dt al b j k) (rateOf al (headOf j)) (ds (headOf j)) t

/-- A raw output times the gate. -/
def gated (y z : EReal) : EReal := y * (z * Ideal.div 1 (1 + Ideal.exp (-z)))

/-- The norm's factor of a row of gated outputs. -/
def rmsFactor (u : Fin 2048 → EReal) : EReal :=
  Ideal.rsqrt (Ideal.div (∑ j : Fin 2048, u j * u j) (Ideal.ofBits FTy.f32 0x45000000#32) + Ideal.ofBits FTy.f32 0x3727C5AC#32)

/-- One output of the mixer: gated, normalised over its row, scaled. -/
def actAt (b : Fin 4) (k : ℕ) (t : Fin 128) (j : Fin 2048) : EReal :=
  gated (rawAt xbc dt al ds b k t j) (z b (rowOf k t) j)
    * rmsFactor (fun x => gated (rawAt xbc dt al ds b k t x) (z b (rowOf k t) x)) * ng j

end Cert.Ssd
-- ==== Proof.Finite.lean ====
module

public import proofs.«01_k».proof.Pre_finite_steps
public import proofs.«01_k».proof.Proof.Spec
public import Idealize.ShloMosaic.Lib.Pointwise
public import Idealize.ShloMosaic.Lib.ReduceAll

@[expose] public section

set_option maxRecDepth 16384

noncomputable section

namespace Cert.Ssd
open Idealize.ShloMosaic
open Cert.Pre_finite_steps

theorem facts_pre : Cert.Pre_finite_steps.Facts where
  bcast_S_S4x4096x32 := by decide
  reducesTo_S4x4096x32_S_d0_1_2 := by decide
  h_S_ := by decide
  bcast_S_S32 := by decide
  reducesTo_S32_S_d0 := by decide

theorem inf_top : Ideal.ofBits FTy.f32 0x7F800000#32 = ⊤ := by
  simp [Ideal.ofBits, Ideal.ieee]

/-- A value whose absolute value is below infinity is a real number. -/
theorem isReal_of_abs_lt (x : EReal) (h : FloatOps.cmpf (F := Ideal) (φ := .f32) .olt (FloatOps.hostAbsf (φ := .f32) (F := Ideal) x) (Ideal.ofBits FTy.f32 0x7F800000#32) = 1#1) : IsReal x := by
  have h' : max x (-x) < ⊤ := by
    rw [inf_top] at h
    by_contra hn
    have : BitVec.ofBool (decide (max x (-x) < ⊤)) = 1#1 := h
    rw [decide_eq_false hn] at this
    exact absurd this (by decide)
  induction x with
  | coe r => exact ⟨r, rfl⟩
  | bot => exact absurd h' (by simp)
  | top => exact absurd h' (by simp)

/-- Where the precondition holds, the step sizes and the rates' logarithms are real numbers. -/
theorem real_of_pre [hF : Cert.Pre_finite_steps.Facts] (x0 : FVec Ideal S4x4096x4096 .f32) (x1 : FVec Ideal S4x4096x32 .f32) (x2 : FVec Ideal S4x4096x2048 .f32)
    (x3 : FVec Ideal S32 .f32) (x4 : FVec Ideal S32 .f32) (x5 : FVec Ideal S2048 .f32)
    (h : Cert.Pre_finite_steps.fn (F := Ideal) x0 x1 x2 x3 x4 x5 = fun _ => 1#1) : (∀ i, IsReal (x1 i)) ∧ ∀ i, IsReal (x3 i) := by
  have h0 := congrFun h (Shape.Idx.first hF.h_S_)
  unfold Cert.Pre_finite_steps.fn at h0
  obtain ⟨h1, h3⟩ := IntOp.andi_eq_one.1 h0
  haveI : Subsingleton S_.Idx := ⟨fun a b => funext fun i => i.elim0⟩
  refine ⟨fun i => isReal_of_abs_lt _ ?_, fun i => isReal_of_abs_lt _ ?_⟩
  · exact Host.reduce_andi_all _ _ _ _ _ h1 i
  · exact Host.reduce_andi_all _ _ _ _ _ h3 i

end Cert.Ssd
-- ==== Proof.Group.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Ssd
open Idealize.ShloMosaic Idealize.ShloMosaic.TcCoe Idealize.SL.Sem
open Cert.KernelIdeal Cert.KernelIdeal.Gen

/-- A matrix's first operand transposed: `C · Bᵀ` of a group's 128 read-out and input rows. -/
def grpCb (bg cg : FVec Ideal S128x128 .f32) : FVec Ideal S128x128 .f32 :=
  matmul dot_S128x128_S128x128_S128x128_1_1_0_0_n_n none (truncf .bf16 cg bitsLt_bf16_f32) (truncf .bf16 bg bitsLt_bf16_f32)
    (constant S128x128 .f32 0x00000000#32)

/-- The 0/1 matrix that carries a head's column to the 64 lanes of that head, for the group whose first head is `w`. -/
def grpSpread (w : BitVec 32) : FVec Ideal S256x256 .bf16 :=
  truncf .bf16 (select (cmpi .eq k0_pay21 (addi (broadcast S256x256 w) k0_pay22))
    (broadcast S256x256 (Scalar.ofBits (F := Ideal) .f32 0x3F800000#32)) (broadcast S256x256 (Scalar.ofBits .f32 0x00000000#32))) bitsLt_bf16_f32

/-- A per-head table (in two halves) spread over a group's lanes. -/
def grpLanes (w : BitVec 32) (hl : FVec Ideal S128x256 .bf16) : FVec Ideal S128x256 .f32 :=
  matmul dot_S128x256_S256x256_S128x256_1_0_0_1_n_n none hl (grpSpread w) (constant S128x256 .f32 0x00000000#32)

/-- The group's carried state read out, plus the skip term. -/
def grpBase (cg : FVec Ideal S128x128 .f32) (st : FVec Ideal S128x256 .f32) (ec : FVec Ideal S128x256 .f32)
    (dk : FVec Ideal S1x256 .f32) (xg : FVec Ideal S128x256 .f32) : FVec Ideal S128x256 .f32 :=
  addf (mulf (matmul dot_S128x128_S128x256_S128x256_1_0_0_1_n_n none (truncf .bf16 cg bitsLt_bf16_f32)
      (truncf .bf16 st bitsLt_bf16_f32) (constant S128x256 .f32 0x00000000#32)) ec)
    (mulf (broadcastTo S128x256 dk broadcasts_S1x256_S128x256) xg)

theorem slicesC {h : ℕ} (hh : h < 128) : S128x128.Slices ![0, h] S128x1 := by
  refine ⟨rfl, fun a => ?_⟩
  match a with
  | 0 => show 0 + 128 ≤ 128; omega
  | 1 => show h + 1 ≤ 128; omega

theorem slicesR {h : ℕ} (hh : h < 128) : S128x128.Slices ![h, 0] S1x128 := by
  refine ⟨rfl, fun a => ?_⟩
  match a with
  | 0 => show h + 1 ≤ 128; omega
  | 1 => show 0 + 128 ≤ 128; omega

/-- One head's term within the chunk: the decayed scores times the inputs of that head's lanes. -/
def grpHead (h : ℕ) (hh : h < 128) (w : BitVec 32)
    (tri : IVec S128x128 1) (cum cumT dtT : FVec Ideal S128x128 .f32) (lane : IVec S1x256 32)
    (cb : FVec Ideal S128x128 .f32) (xg : FVec Ideal S128x256 .f32) : FVec Ideal S128x256 .f32 :=
  matmul dot_S128x128_S128x256_S128x256_1_0_0_1_n_n none
    (truncf .bf16 (mulf (mulf cb (exp (select tri
        (subf (broadcastTo S128x128 (extractStridedSlice S128x1 ![0, h] cum (slicesC hh)) broadcasts_S128x1_S128x128)
          (broadcastTo S128x128 (extractStridedSlice S1x128 ![h, 0] cumT (slicesR hh)) broadcasts_S1x128_S128x128))
        (broadcast S128x128 (Scalar.ofBits .f32 0xFF800000#32)))))
      (broadcastTo S128x128 (extractStridedSlice S1x128 ![h, 0] dtT (slicesR hh)) broadcasts_S1x128_S128x128)) bitsLt_bf16_f32)
    (truncf .bf16 (select (broadcastTo S128x256 (cmpi .eq lane (broadcast S1x256 w))
        broadcasts_S1x256_S128x256) xg (broadcast S128x256 (Scalar.ofBits .f32 0x00000000#32))) bitsLt_bf16_f32)
    (constant S128x256 .f32 0x00000000#32)

/-- A group's output rows: the carried state read out, the skip term, and the four heads' terms in turn. -/
def grpY (g : ℕ) (hg : g < 8) (tri : IVec S128x128 1) (cum cumT dtT : FVec Ideal S128x128 .f32) (lane : IVec S1x256 32)
    (e : FVec Ideal S128x256 .bf16) (b c : FVec Ideal S128x128 .f32) (x : FVec Ideal S128x256 .f32)
    (st : FVec Ideal S128x256 .f32) (dk : FVec Ideal S1x256 .f32) : FVec Ideal S128x256 .f32 :=
  addf (addf (addf (addf (grpBase c st (grpLanes (BitVec.ofNat 32 (4 * g)) e) dk x)
    (grpHead (4 * g) (by omega) 0#32 tri cum cumT dtT lane (grpCb b c) x))
    (grpHead (4 * g + 1) (by omega) 1#32 tri cum cumT dtT lane (grpCb b c) x))
    (grpHead (4 * g + 2) (by omega) 2#32 tri cum cumT dtT lane (grpCb b c) x))
    (grpHead (4 * g + 3) (by omega) 3#32 tri cum cumT dtT lane (grpCb b c) x)

/-- The group's state after the chunk. -/
def grpState (bg : FVec Ideal S128x128 .f32) (ec wd xg st : FVec Ideal S128x256 .f32) : FVec Ideal S128x256 .f32 :=
  addf (mulf (broadcastTo S128x256 (extractStridedSlice S1x256 ![127, 0] ec slices_S128x256_o127_0_S1x256) broadcasts_S1x256_S128x256) st)
    (matmul dot_S128x128_S128x256_S128x256_0_0_1_1_n_n none (truncf .bf16 bg bitsLt_bf16_f32)
      (truncf .bf16 (mulf xg wd) bitsLt_bf16_f32) (constant S128x256 .f32 0x00000000#32))

/-- The quotient of a lane by a head's width, as the kernel computes it once for all groups. -/
def laneHead : IVec S1x256 32 :=
  k0_pay25 (iota .tc S1x256 32 [1] iota_S1x256_d1_w32) 64#32 k0_pay23 k0_pay24 1#32

/-- A group's 128 columns of a 1024-wide block. -/
def colsN (g : Fin 8) (x : Vec Ideal S128x1024 .f32) : FVec Ideal S128x128 .f32 :=
  fun j => x (ix2 (j 0 : Fin 128) (⟨128 * g.val + (j 1 : Fin 128).val, by have h1 := g.isLt; have h2 : (j 1).val < 128 := (j 1).isLt; exact (by omega : 128 * g.val + (j 1).val < 1024)⟩ : Fin 1024))

/-- A group's 256 columns of a 2048-wide block. -/
def colsX (g : Fin 8) (x : Vec Ideal S128x2048 .f32) : FVec Ideal S128x256 .f32 :=
  fun j => x (ix2 (j 0 : Fin 128) (⟨256 * g.val + (j 1 : Fin 256).val, by have h1 := g.isLt; have h2 : (j 1).val < 256 := (j 1).isLt; exact (by omega : 256 * g.val + (j 1).val < 2048)⟩ : Fin 2048))

/-- A group's 256 columns of a 2048-wide row. -/
def rowX (g : Fin 8) (x : Vec Ideal S1x2048 .f32) : FVec Ideal S1x256 .f32 :=
  fun j => x (ix2 (0 : Fin 1) (⟨256 * g.val + (j 1 : Fin 256).val, by have h1 := g.isLt; have h2 : (j 1).val < 256 := (j 1).isLt; exact (by omega : 256 * g.val + (j 1).val < 2048)⟩ : Fin 2048))

/-- A group's plane of the carried state. -/
def plane (g : Fin 8) (s : Vec Ideal S8x128x256 .f32) : Vec Ideal S1x128x256 .f32 :=
  fun j => s (ix3 g (j 1 : Fin 128) (j 2 : Fin 256))

/-- The exponentials of the running sums, in two halves. -/
def ecumHl (dt : Vec Ideal S128x128 .f32) (al : Vec Ideal S1x128 .f32) : FVec Ideal S128x256 .bf16 := k0_pay17 dt al
/-- The step weights at the chunk's end, in two halves. -/
def wendHl (dt : Vec Ideal S128x128 .f32) (al : Vec Ideal S1x128 .f32) : FVec Ideal S128x256 .bf16 :=
  k0_pay20 (k0_pay18 dt al) (k0_pay19 dt al)

/-- The group's state after the chunk, from the chunk's blocks and the state before it. -/
def stG (g : Fin 8) (x0 : Vec Ideal S128x2048 .f32) (x1 : Vec Ideal S128x1024 .f32) (x3 : Vec Ideal S128x128 .f32)
    (x5 : Vec Ideal S1x128 .f32) (xs : Vec Ideal S8x128x256 .f32) : FVec Ideal S128x256 .f32 :=
  grpState (colsN g x1) (grpLanes (BitVec.ofNat 32 (4 * g.val)) (ecumHl x3 x5)) (grpLanes (BitVec.ofNat 32 (4 * g.val)) (wendHl x3 x5))
    (colsX g x0) (shapeCast S128x256 (plane g xs) shapeCasts_S1x128x256_S128x256)

/-- The whole carried state after the chunk. -/
def stAll (x0 : Vec Ideal S128x2048 .f32) (x1 : Vec Ideal S128x1024 .f32) (x3 : Vec Ideal S128x128 .f32)
    (x5 : Vec Ideal S1x128 .f32) (xs : Vec Ideal S8x128x256 .f32) : Vec Ideal S8x128x256 .f32 :=
  fun i => stG (i 0) x0 x1 x3 x5 xs (ix2 (i 1 : Fin 128) (i 2 : Fin 256))

theorem ld_colsN (g : Fin 8) {off : Fin 2 → ℕ} (inb : ∀ a, off a + ![128, 128] a ≤ S128x1024.size a) (x : Vec Ideal S128x1024 .f32)
    (h : off = ![0, 128 * g.val]) : View.ld x (Rect.unit (s := S128x1024) off ![128, 128] inb) = colsN g x := by
  subst h
  funext j
  idx_vars j
  pointwise [colsN]
  try rfl

theorem ld_colsX (g : Fin 8) {off : Fin 2 → ℕ} (inb : ∀ a, off a + ![128, 256] a ≤ S128x2048.size a) (x : Vec Ideal S128x2048 .f32)
    (h : off = ![0, 256 * g.val]) : View.ld x (Rect.unit (s := S128x2048) off ![128, 256] inb) = colsX g x := by
  subst h
  funext j
  idx_vars j
  pointwise [colsX]
  try rfl

theorem ld_rowX (g : Fin 8) {off : Fin 2 → ℕ} (inb : ∀ a, off a + ![1, 256] a ≤ S1x2048.size a) (x : Vec Ideal S1x2048 .f32)
    (h : off = ![0, 256 * g.val]) : View.ld x (Rect.unit (s := S1x2048) off ![1, 256] inb) = rowX g x := by
  subst h
  funext j
  idx_vars j
  pointwise [rowX]
  try rfl

theorem ld_plane (g : Fin 8) {off : Fin 3 → ℕ} (inb : ∀ a, off a + ![1, 128, 256] a ≤ S8x128x256.size a) (s : Vec Ideal S8x128x256 .f32)
    (h : off = ![g.val, 0, 0]) :
    View.ld s (Rect.unit (s := S8x128x256) off ![1, 128, 256] inb) = plane g s := by
  subst h
  funext j
  idx_vars j
  pointwise [plane]
  try rfl

theorem st_pay0 (b : Vec Ideal S128x128 .f32) (e w : FVec Ideal S128x256 .bf16) (x : Vec Ideal S128x256 .f32) (s : Vec Ideal S1x128x256 .f32) :
    k0_pay41 (k0_pay40 (k0_pay27 b) (k0_pay30 e k0_pay21 k0_pay22) (k0_pay31 w k0_pay21 k0_pay22) (k0_pay32 x) (k0_pay33 s))
      = shapeCast S1x128x256 (grpState b (grpLanes 0#32 e) (grpLanes 0#32 w) x (shapeCast S128x256 s shapeCasts_S1x128x256_S128x256))
          shapeCasts_S128x256_S1x128x256 := by
  simp only [k0_pay41, k0_pay40, k0_pay27, k0_pay30, k0_pay31, k0_pay32, k0_pay33, k0_pay29, grpState, grpLanes, grpSpread, shapeCast_self]

theorem st_pay1 (b : Vec Ideal S128x128 .f32) (e w : FVec Ideal S128x256 .bf16) (x : Vec Ideal S128x256 .f32) (s : Vec Ideal S1x128x256 .f32) :
    k0_pay57 (k0_pay43 b) (k0_pay46 e k0_pay21 k0_pay22) (k0_pay47 w k0_pay21 k0_pay22) (k0_pay48 x) (k0_pay49 s)
      = shapeCast S1x128x256 (grpState b (grpLanes 4#32 e) (grpLanes 4#32 w) x (shapeCast S128x256 s shapeCasts_S1x128x256_S128x256))
          shapeCasts_S128x256_S1x128x256 := by
  simp only [k0_pay57, k0_pay43, k0_pay46, k0_pay47, k0_pay48, k0_pay49, k0_pay45, grpState, grpLanes, grpSpread, shapeCast_self]

theorem st_pay2 (b : Vec Ideal S128x128 .f32) (e w : FVec Ideal S128x256 .bf16) (x : Vec Ideal S128x256 .f32) (s : Vec Ideal S1x128x256 .f32) :
    k0_pay74 (k0_pay59 b) (k0_pay62 e k0_pay21 k0_pay22) (k0_pay63 w k0_pay21 k0_pay22) (k0_pay64 x) (k0_pay65 s)
      = shapeCast S1x128x256 (grpState b (grpLanes 8#32 e) (grpLanes 8#32 w) x (shapeCast S128x256 s shapeCasts_S1x128x256_S128x256))
          shapeCasts_S128x256_S1x128x256 := by
  simp only [k0_pay74, k0_pay59, k0_pay62, k0_pay63, k0_pay64, k0_pay65, k0_pay61, grpState, grpLanes, grpSpread, shapeCast_self]

theorem st_pay3 (b : Vec Ideal S128x128 .f32) (e w : FVec Ideal S128x256 .bf16) (x : Vec Ideal S128x256 .f32) (s : Vec Ideal S1x128x256 .f32) :
    k0_pay91 (k0_pay76 b) (k0_pay80 e k0_pay21 (k0_pay78 k0_pay22)) (k0_pay81 w k0_pay21 (k0_pay78 k0_pay22)) (k0_pay82 x) (k0_pay83 s)
      = shapeCast S1x128x256 (grpState b (grpLanes 12#32 e) (grpLanes 12#32 w) x (shapeCast S128x256 s shapeCasts_S1x128x256_S128x256))
          shapeCasts_S128x256_S1x128x256 := by
  simp only [k0_pay91, k0_pay76, k0_pay80, k0_pay81, k0_pay82, k0_pay83, k0_pay78, k0_pay79, grpState, grpLanes, grpSpread, shapeCast_self]

theorem st_pay4 (b : Vec Ideal S128x128 .f32) (e w : FVec Ideal S128x256 .bf16) (x : Vec Ideal S128x256 .f32) (s : Vec Ideal S1x128x256 .f32) :
    k0_pay108 (k0_pay93 b) (k0_pay96 e k0_pay21 k0_pay22) (k0_pay97 w (k0_pay95 k0_pay21 k0_pay22)) (k0_pay98 x) (k0_pay99 s)
      = shapeCast S1x128x256 (grpState b (grpLanes 16#32 e) (grpLanes 16#32 w) x (shapeCast S128x256 s shapeCasts_S1x128x256_S128x256))
          shapeCasts_S128x256_S1x128x256 := by
  simp only [k0_pay108, k0_pay93, k0_pay96, k0_pay97, k0_pay98, k0_pay99, k0_pay95, grpState, grpLanes, grpSpread, shapeCast_self]

theorem st_pay5 (b : Vec Ideal S128x128 .f32) (e w : FVec Ideal S128x256 .bf16) (x : Vec Ideal S128x256 .f32) (s : Vec Ideal S1x128x256 .f32) :
    k0_pay122 (k0_pay110 b) (k0_pay113 e k0_pay21 k0_pay22) (k0_pay114 w k0_pay21 k0_pay22) (k0_pay115 x) (k0_pay116 s)
      = shapeCast S1x128x256 (grpState b (grpLanes 20#32 e) (grpLanes 20#32 w) x (shapeCast S128x256 s shapeCasts_S1x128x256_S128x256))
          shapeCasts_S128x256_S1x128x256 := by
  simp only [k0_pay122, k0_pay110, k0_pay113, k0_pay114, k0_pay115, k0_pay116, k0_pay112, grpState, grpLanes, grpSpread, shapeCast_self]

theorem st_pay6 (b : Vec Ideal S128x128 .f32) (e w : FVec Ideal S128x256 .bf16) (x : Vec Ideal S128x256 .f32) (s : Vec Ideal S1x128x256 .f32) :
    k0_pay138 (k0_pay124 b) (k0_pay136 (k0_pay127 e k0_pay21 k0_pay22) (k0_pay130 s)) (k0_pay137 (k0_pay128 w k0_pay21 k0_pay22) (k0_pay129 x)) (constant S128x256 .f32 0#32)
      = shapeCast S1x128x256 (grpState b (grpLanes 24#32 e) (grpLanes 24#32 w) x (shapeCast S128x256 s shapeCasts_S1x128x256_S128x256))
          shapeCasts_S128x256_S1x128x256 := by
  simp only [k0_pay138, k0_pay124, k0_pay136, k0_pay127, k0_pay130, k0_pay137, k0_pay128, k0_pay129, k0_pay126, grpState, grpLanes, grpSpread, shapeCast_self]

theorem st_pay7 (b : Vec Ideal S128x128 .f32) (e w : FVec Ideal S128x256 .bf16) (x : Vec Ideal S128x256 .f32) (s : Vec Ideal S1x128x256 .f32) :
    k0_pay152 (k0_pay140 b) (k0_pay143 e k0_pay21 k0_pay22) (k0_pay144 w k0_pay21 k0_pay22) (k0_pay145 x) (k0_pay146 s)
      = shapeCast S1x128x256 (grpState b (grpLanes 28#32 e) (grpLanes 28#32 w) x (shapeCast S128x256 s shapeCasts_S1x128x256_S128x256))
          shapeCasts_S128x256_S1x128x256 := by
  simp only [k0_pay152, k0_pay140, k0_pay143, k0_pay144, k0_pay145, k0_pay146, k0_pay142, grpState, grpLanes, grpSpread, shapeCast_self]

theorem y_pay0 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay39 tri cum cumT dtT lane (k0_pay28 c b) (k0_pay32 x) (k0_pay37 tri cum cumT dtT lane (k0_pay28 c b) (k0_pay32 x) (k0_pay34 e k0_pay21 k0_pay22 c x s dk) (k0_pay35 cum) (k0_pay36 cumT)) (k0_pay38 tri cum cumT (k0_pay28 c b))
      = grpY 0 (by decide) tri cum cumT dtT lane e b c x (shapeCast S128x256 s shapeCasts_S1x128x256_S128x256) dk := by
  simp only [k0_pay26, k0_pay27, k0_pay28, k0_pay29, k0_pay30, k0_pay31, k0_pay32, k0_pay33, k0_pay34, k0_pay35, k0_pay36, k0_pay37, k0_pay38, k0_pay39, k0_pay40, k0_pay41, grpY, grpBase, grpHead, grpCb,
    grpLanes, grpSpread, shapeCast_self, Nat.reduceMul, Nat.reduceAdd]
  try rfl

theorem y_pay1 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay56 tri cum cumT dtT lane (k0_pay44 c b) (k0_pay48 x) (k0_pay53 tri cum cumT dtT lane (k0_pay44 c b) (k0_pay48 x) (k0_pay50 e k0_pay21 k0_pay22 c x s dk) (k0_pay51 tri cum cumT c b) (k0_pay52 dtT)) (k0_pay54 tri cum cumT dtT (k0_pay44 c b)) (FloatOps.ofBits FTy.f32 0#32) (k0_pay55 lane)
      = grpY 1 (by decide) tri cum cumT dtT lane e b c x (shapeCast S128x256 s shapeCasts_S1x128x256_S128x256) dk := by
  simp only [k0_pay42, k0_pay43, k0_pay44, k0_pay45, k0_pay46, k0_pay47, k0_pay48, k0_pay49, k0_pay50, k0_pay51, k0_pay52, k0_pay53, k0_pay54, k0_pay55, k0_pay56, k0_pay57, grpY, grpBase, grpHead, grpCb,
    grpLanes, grpSpread, shapeCast_self, Nat.reduceMul, Nat.reduceAdd]
  try rfl

theorem y_pay2 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay73 tri dtT lane (k0_pay60 (k0_pay58 c) b) (k0_pay64 x) (k0_pay70 tri cum cumT dtT lane (k0_pay60 (k0_pay58 c) b) (k0_pay64 x) (k0_pay66 e k0_pay21 k0_pay22 (k0_pay58 c) x s dk) (k0_pay67 tri cum cumT dtT (k0_pay58 c) b) (k0_pay68 lane) k0_pay69) (k0_pay71 cum) (k0_pay72 cumT)
      = grpY 2 (by decide) tri cum cumT dtT lane e b c x (shapeCast S128x256 s shapeCasts_S1x128x256_S128x256) dk := by
  simp only [k0_pay58, k0_pay59, k0_pay60, k0_pay61, k0_pay62, k0_pay63, k0_pay64, k0_pay65, k0_pay66, k0_pay67, k0_pay68, k0_pay69, k0_pay70, k0_pay71, k0_pay72, k0_pay73, k0_pay74, grpY, grpBase, grpHead, grpCb,
    grpLanes, grpSpread, shapeCast_self, Nat.reduceMul, Nat.reduceAdd]
  try rfl

theorem y_pay3 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay90 lane (k0_pay82 x) (k0_pay87 tri cum cumT dtT lane (k0_pay77 c b) (k0_pay82 x) (k0_pay84 tri cum cumT dtT e k0_pay21 lane (k0_pay75 c) (k0_pay77 c b) (k0_pay78 k0_pay22) x s dk) (k0_pay85 cumT) (k0_pay86 cum)) (k0_pay88 tri cum cumT (k0_pay77 c b)) (k0_pay89 dtT)
      = grpY 3 (by decide) tri cum cumT dtT lane e b c x (shapeCast S128x256 s shapeCasts_S1x128x256_S128x256) dk := by
  simp only [k0_pay75, k0_pay76, k0_pay77, k0_pay78, k0_pay79, k0_pay80, k0_pay81, k0_pay82, k0_pay83, k0_pay84, k0_pay85, k0_pay86, k0_pay87, k0_pay88, k0_pay89, k0_pay90, k0_pay91, grpY, grpBase, grpHead, grpCb,
    grpLanes, grpSpread, shapeCast_self, Nat.reduceMul, Nat.reduceAdd]
  try rfl

theorem y_pay4 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay107 (k0_pay98 x) (k0_pay103 tri cum cumT dtT lane (k0_pay94 c b) (k0_pay98 x) (k0_pay100 tri cum cumT dtT lane (k0_pay92 c) (k0_pay94 c b) (k0_pay96 e k0_pay21 k0_pay22) x s dk) (k0_pay101 tri cum cumT (k0_pay94 c b)) (k0_pay102 dtT)) (k0_pay104 tri cum cumT dtT (k0_pay94 c b)) (k0_pay105 lane) k0_pay106
      = grpY 4 (by decide) tri cum cumT dtT lane e b c x (shapeCast S128x256 s shapeCasts_S1x128x256_S128x256) dk := by
  simp only [k0_pay92, k0_pay93, k0_pay94, k0_pay95, k0_pay96, k0_pay97, k0_pay98, k0_pay99, k0_pay100, k0_pay101, k0_pay102, k0_pay103, k0_pay104, k0_pay105, k0_pay106, k0_pay107, k0_pay108, grpY, grpBase, grpHead, grpCb,
    grpLanes, grpSpread, shapeCast_self, Nat.reduceMul, Nat.reduceAdd]
  try rfl

theorem y_pay5 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay121 (k0_pay120 tri cum cumT dtT lane (k0_pay111 c b) (k0_pay115 x) (k0_pay117 tri cum cumT dtT lane (k0_pay109 c) (k0_pay111 c b) (k0_pay113 e k0_pay21 k0_pay22) (k0_pay115 x) s dk) (k0_pay118 tri cum cumT dtT (k0_pay111 c b)) (k0_pay119 lane (k0_pay115 x)))
      = grpY 5 (by decide) tri cum cumT dtT lane e b c x (shapeCast S128x256 s shapeCasts_S1x128x256_S128x256) dk := by
  simp only [k0_pay109, k0_pay110, k0_pay111, k0_pay112, k0_pay113, k0_pay114, k0_pay115, k0_pay116, k0_pay117, k0_pay118, k0_pay119, k0_pay120, k0_pay121, k0_pay122, grpY, grpBase, grpHead, grpCb,
    grpLanes, grpSpread, shapeCast_self, Nat.reduceMul, Nat.reduceAdd]
  try rfl

theorem y_pay6 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay135 tri cum cumT dtT lane (k0_pay125 c b) (k0_pay129 x) (k0_pay132 tri cum cumT dtT lane (k0_pay125 c b) (k0_pay129 x) (k0_pay131 e k0_pay21 k0_pay22 c s) dk) (k0_pay133 cum) (k0_pay134 cumT)
      = grpY 6 (by decide) tri cum cumT dtT lane e b c x (shapeCast S128x256 s shapeCasts_S1x128x256_S128x256) dk := by
  simp only [k0_pay123, k0_pay124, k0_pay125, k0_pay126, k0_pay127, k0_pay128, k0_pay129, k0_pay130, k0_pay131, k0_pay132, k0_pay133, k0_pay134, k0_pay135, k0_pay136, k0_pay137, k0_pay138, grpY, grpBase, grpHead, grpCb,
    grpLanes, grpSpread, shapeCast_self, Nat.reduceMul, Nat.reduceAdd]
  try rfl

theorem y_pay7 (tri : IVec S128x128 1) (cum cumT dtT : FVec Ideal S128x128 .f32) (lane : IVec S1x256 32)
    (e : FVec Ideal S128x256 .bf16) (b c : Vec Ideal S128x128 .f32) (x : Vec Ideal S128x256 .f32)
    (s : Vec Ideal S1x128x256 .f32) (dk : Vec Ideal S1x256 .f32) :
    k0_pay151 tri cum cumT dtT lane (k0_pay141 c b) (k0_pay145 x) (k0_pay149 tri cum cumT dtT lane (k0_pay141 c b) (k0_pay145 x) (k0_pay147 e k0_pay21 k0_pay22 c x s dk) (k0_pay148 cum cumT)) (k0_pay150 tri cum cumT dtT (k0_pay141 c b))
      = grpY 7 (by decide) tri cum cumT dtT lane e b c x (shapeCast S128x256 s shapeCasts_S1x128x256_S128x256) dk := by
  simp only [k0_pay139, k0_pay140, k0_pay141, k0_pay142, k0_pay143, k0_pay144, k0_pay145, k0_pay146, k0_pay147, k0_pay148, k0_pay149, k0_pay150, k0_pay151, k0_pay152, grpY, grpBase, grpHead, grpCb,
    grpLanes, grpSpread, shapeCast_self, Nat.reduceMul, Nat.reduceAdd]
  try rfl

end Cert.Ssd
end
-- ==== Proof.Cases.lean ====
module

public import proofs.«01_k».proof.Proof.Group
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Ssd
open Idealize.ShloMosaic Idealize.ShloMosaic.TcCoe Idealize.SL.Sem
open Cert.KernelIdeal Cert.KernelIdeal.Gen

/-- A group's output rows, from the chunk's blocks and the state before it. -/
def yG (g : Fin 8) (x0 : Vec Ideal S128x2048 .f32) (x1 x2 : Vec Ideal S128x1024 .f32) (x3 : Vec Ideal S128x128 .f32)
    (x5 : Vec Ideal S1x128 .f32) (x6 : Vec Ideal S1x2048 .f32) (xs : Vec Ideal S8x128x256 .f32) : FVec Ideal S128x256 .f32 :=
  grpY g.val g.isLt k0_pay13 (k0_pay14 x3 x5) (k0_pay15 x3 x5) (k0_pay16 x3) laneHead (ecumHl x3 x5) (colsN g x1) (colsN g x2)
    (colsX g x0) (shapeCast S128x256 (plane g xs) shapeCasts_S1x128x256_S128x256) (rowX g x6)

/-- The chunk's output rows before the gate: every group's 256 columns side by side. -/
def yAll (x0 : Vec Ideal S128x2048 .f32) (x1 x2 : Vec Ideal S128x1024 .f32) (x3 : Vec Ideal S128x128 .f32)
    (x5 : Vec Ideal S1x128 .f32) (x6 : Vec Ideal S1x2048 .f32) (xs : Vec Ideal S8x128x256 .f32) : FVec Ideal S128x2048 .f32 :=
  fun i => yG ⟨(i 1).val / 256, by have h : (i 1).val < 2048 := (i 1).isLt; omega⟩ x0 x1 x2 x3 x5 x6 xs
    (ix2 (i 0 : Fin 128) (⟨(i 1).val % 256, Nat.mod_lt _ (by decide)⟩ : Fin 256))

/-- The final state as it is written out: head by head, the state's lanes turned into rows. -/
def finAll (s : Vec Ideal S8x128x256 .f32) : Vec Ideal S1x32x64x128 .f32 :=
  fun i => s (ix3 (⟨(i 1).val / 4, by have h : (i 1).val < 32 := (i 1).isLt; omega⟩ : Fin 8) (i 3 : Fin 128)
    (⟨64 * ((i 1).val % 4) + (i 2).val, by have h : (i 2).val < 64 := (i 2).isLt; omega⟩ : Fin 256))

theorem stAll_piece (g : Fin 8) (x0 : Vec Ideal S128x2048 .f32) (x1 : Vec Ideal S128x1024 .f32) (x3 : Vec Ideal S128x128 .f32)
    (x5 : Vec Ideal S1x128 .f32) (xs : Vec Ideal S8x128x256 .f32) (z : S1x128x256.Idx) (y : S8x128x256.Idx)
    (h0 : (y 0).val = g.val) (h1 : (y 1).val = (z 1).val) (h2 : (y 2).val = (z 2).val) :
    shapeCast S1x128x256 (stG g x0 x1 x3 x5 xs) shapeCasts_S128x256_S1x128x256 z = stAll x0 x1 x3 x5 xs y := by
  idx_vars z
  idx_vars y
  obtain rfl : y0 = g := Fin.ext h0
  obtain rfl : y1 = z1 := Fin.ext h1
  obtain rfl : y2 = z2 := Fin.ext h2
  pointwise [stAll]

theorem yAll_piece (g : Fin 8) (x0 : Vec Ideal S128x2048 .f32) (x1 x2 : Vec Ideal S128x1024 .f32) (x3 : Vec Ideal S128x128 .f32)
    (x5 : Vec Ideal S1x128 .f32) (x6 : Vec Ideal S1x2048 .f32) (xs : Vec Ideal S8x128x256 .f32) (z : S128x256.Idx) (y : S128x2048.Idx)
    (h0 : (y 0).val = (z 0).val) (h1 : (y 1).val = 256 * g.val + (z 1).val) :
    yG g x0 x1 x2 x3 x5 x6 xs z = yAll x0 x1 x2 x3 x5 x6 xs y := by
  have h : (z 1).val < 256 := (z 1).isLt
  have hy : (y 1).val < 2048 := (y 1).isLt
  have e : (⟨(y 1).val / 256, by omega⟩ : Fin 8) = g := Fin.ext (by show (y 1).val / 256 = g.val; omega)
  unfold yAll
  rw [e, eq_ix2 z]
  refine congrArg _ ?_
  have e0 : (z 0 : Fin 128) = y 0 := Fin.ext h0.symm
  have e1 : (z 1 : Fin 256) = ⟨(y 1).val % 256, Nat.mod_lt _ (by decide)⟩ := Fin.ext (by show (z 1).val = (y 1).val % 256; omega)
  exact congrArg₂ ix2 e0 e1

theorem finAll_piece (g : Fin 8) (s : Vec Ideal S8x128x256 .f32) (p : Vec Ideal S1x128x256 .f32)
    (hp : ∀ (n : Fin 128) (q : Fin 256), p (ix3 0 n q) = s (ix3 g n q)) (z : S1x4x64x128.Idx) (y : S1x32x64x128.Idx)
    (h1 : (y 1).val = 4 * g.val + (z 1).val) (h2 : (y 2).val = (z 2).val) (h3 : (y 3).val = (z 3).val) :
    k0_pay2 p z = finAll s y := by
  have b1 : (z 1).val < 4 := (z 1).isLt
  have b2 : (z 2).val < 64 := (z 2).isLt
  have b3 : (y 1).val < 32 := (y 1).isLt
  idx_vars z
  idx_vars y
  pointwise [k0_pay2, finAll]
  rw [hp]
  have e0 : g = ⟨y1.val / 4, by omega⟩ := Fin.ext (by show g.val = y1.val / 4; omega)
  have e1 : z3 = y3 := Fin.ext h3.symm
  have e2 : (⟨z1.val * 64 + z2.val, by omega⟩ : Fin 256) = ⟨64 * (y1.val % 4) + y2.val, by omega⟩ :=
    Fin.ext (by show z1.val * 64 + z2.val = 64 * (y1.val % 4) + y2.val; omega)
  rw [e2, e1, e0]

theorem sout0_A_0_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : cond0_0 i) (hc1 : ¬cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stAll x0 x1 x3 x5 (k0_pay10 (F := Ideal)) := by
  funext y
  frame_open
  simp (disch := decide) only [↓ View.readCov_skip, ↓ View.readCov_cons_toLoadRect, ↓ View.readCov_fill]
  frame_out
  refine View.canon_append_of_piecesOf (stAll x0 x1 x3 x5 (k0_pay10 (F := Ideal))) [_] [_, _, _, _, _, _, _, _] ⟨?_, ?_, ?_, ?_, ?_, ?_, ?_, ?_, trivial⟩ y ?_
  · intro x
    rw [ld_colsN 7, ld_colsX 7, ld_plane 7, st_pay7]
    · refine stAll_piece 7 x0 x1 x3 x5 _ x _ ?_ ?_ ?_
      · have h : (x 0).val < 1 := (x 0).isLt
        show 7 + 1 * (x 0).val = 7
        omega
      · show 0 + 1 * (x 1).val = (x 1).val
        omega
      · show 0 + 1 * (x 2).val = (x 2).val
        omega
    all_goals rfl
  · intro x
    rw [ld_colsN 6, ld_colsX 6, ld_plane 6, st_pay6]
    · refine stAll_piece 6 x0 x1 x3 x5 _ x _ ?_ ?_ ?_
      · have h : (x 0).val < 1 := (x 0).isLt
        show 6 + 1 * (x 0).val = 6
        omega
      · show 0 + 1 * (x 1).val = (x 1).val
        omega
      · show 0 + 1 * (x 2).val = (x 2).val
        omega
    all_goals rfl
  · intro x
    rw [ld_colsN 5, ld_colsX 5, ld_plane 5, st_pay5]
    · refine stAll_piece 5 x0 x1 x3 x5 _ x _ ?_ ?_ ?_
      · have h : (x 0).val < 1 := (x 0).isLt
        show 5 + 1 * (x 0).val = 5
        omega
      · show 0 + 1 * (x 1).val = (x 1).val
        omega
      · show 0 + 1 * (x 2).val = (x 2).val
        omega
    all_goals rfl
  · intro x
    rw [ld_colsN 4, ld_colsX 4, ld_plane 4, st_pay4]
    · refine stAll_piece 4 x0 x1 x3 x5 _ x _ ?_ ?_ ?_
      · have h : (x 0).val < 1 := (x 0).isLt
        show 4 + 1 * (x 0).val = 4
        omega
      · show 0 + 1 * (x 1).val = (x 1).val
        omega
      · show 0 + 1 * (x 2).val = (x 2).val
        omega
    all_goals rfl
  · intro x
    rw [ld_colsN 3, ld_colsX 3, ld_plane 3, st_pay3]
    · refine stAll_piece 3 x0 x1 x3 x5 _ x _ ?_ ?_ ?_
      · have h : (x 0).val < 1 := (x 0).isLt
        show 3 + 1 * (x 0).val = 3
        omega
      · show 0 + 1 * (x 1).val = (x 1).val
        omega
      · show 0 + 1 * (x 2).val = (x 2).val
        omega
    all_goals rfl
  · intro x
    rw [ld_colsN 2, ld_colsX 2, ld_plane 2, st_pay2]
    · refine stAll_piece 2 x0 x1 x3 x5 _ x _ ?_ ?_ ?_
      · have h : (x 0).val < 1 := (x 0).isLt
        show 2 + 1 * (x 0).val = 2
        omega
      · show 0 + 1 * (x 1).val = (x 1).val
        omega
      · show 0 + 1 * (x 2).val = (x 2).val
        omega
    all_goals rfl
  · intro x
    rw [ld_colsN 1, ld_colsX 1, ld_plane 1, st_pay1]
    · refine stAll_piece 1 x0 x1 x3 x5 _ x _ ?_ ?_ ?_
      · have h : (x 0).val < 1 := (x 0).isLt
        show 1 + 1 * (x 0).val = 1
        omega
      · show 0 + 1 * (x 1).val = (x 1).val
        omega
      · show 0 + 1 * (x 2).val = (x 2).val
        omega
    all_goals rfl
  · intro x
    rw [ld_colsN 0, ld_colsX 0, ld_plane 0, st_pay0]
    · refine stAll_piece 0 x0 x1 x3 x5 _ x _ ?_ ?_ ?_
      · have h : (x 0).val < 1 := (x 0).isLt
        show 0 + 1 * (x 0).val = 0
        omega
      · show 0 + 1 * (x 1).val = (x 1).val
        omega
      · show 0 + 1 * (x 2).val = (x 2).val
        omega
    all_goals rfl
  · exact View.cover_of_tiledL _ ![1, 128, 256] (by rfl) y
theorem sout0_B_0_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : ¬cond0_0 i) (hc1 : ¬cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) (xs0 : Vec Ideal S8x128x256 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = stAll x0 x1 x3 x5 xs0 := by
  funext y
  frame_open
  simp (disch := decide) only [↓ View.readCov_skip, ↓ View.readCov_cons_toLoadRect, ↓ View.readCov_fill]
  frame_out
  canon_tiles x h
  case piece0 =>
    rw [ld_colsN 7, ld_colsX 7, ld_plane 7, st_pay7]
    · exact stAll_piece 7 x0 x1 x3 x5 xs0 x y (by simpa using h0) h1 h2
    all_goals rfl
  case piece1 =>
    rw [ld_colsN 6, ld_colsX 6, ld_plane 6, st_pay6]
    · exact stAll_piece 6 x0 x1 x3 x5 xs0 x y (by simpa using h0) h1 h2
    all_goals rfl
  case piece2 =>
    rw [ld_colsN 5, ld_colsX 5, ld_plane 5, st_pay5]
    · exact stAll_piece 5 x0 x1 x3 x5 xs0 x y (by simpa using h0) h1 h2
    all_goals rfl
  case piece3 =>
    rw [ld_colsN 4, ld_colsX 4, ld_plane 4, st_pay4]
    · exact stAll_piece 4 x0 x1 x3 x5 xs0 x y (by simpa using h0) h1 h2
    all_goals rfl
  case piece4 =>
    rw [ld_colsN 3, ld_colsX 3, ld_plane 3, st_pay3]
    · exact stAll_piece 3 x0 x1 x3 x5 xs0 x y (by simpa using h0) h1 h2
    all_goals rfl
  case piece5 =>
    rw [ld_colsN 2, ld_colsX 2, ld_plane 2, st_pay2]
    · exact stAll_piece 2 x0 x1 x3 x5 xs0 x y (by simpa using h0) h1 h2
    all_goals rfl
  case piece6 =>
    rw [ld_colsN 1, ld_colsX 1, ld_plane 1, st_pay1]
    · exact stAll_piece 1 x0 x1 x3 x5 xs0 x y (by simpa using h0) h1 h2
    all_goals rfl
  case piece7 =>
    rw [ld_colsN 0, ld_colsX 0, ld_plane 0, st_pay0]
    · exact stAll_piece 0 x0 x1 x3 x5 xs0 x y (by simpa using h0) h1 h2
    all_goals rfl
theorem sout0_C_0_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : ¬cond0_0 i) (hc1 : cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) (xs0 : Vec Ideal S8x128x256 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = stAll x0 x1 x3 x5 xs0 := by
  funext y
  frame_open
  simp (disch := decide) only [↓ View.readCov_skip, ↓ View.readCov_cons_toLoadRect, ↓ View.readCov_fill]
  frame_out
  canon_tiles x h
  case piece0 =>
    rw [ld_colsN 7, ld_colsX 7, ld_plane 7, st_pay7]
    · exact stAll_piece 7 x0 x1 x3 x5 xs0 x y (by simpa using h0) h1 h2
    all_goals rfl
  case piece1 =>
    rw [ld_colsN 6, ld_colsX 6, ld_plane 6, st_pay6]
    · exact stAll_piece 6 x0 x1 x3 x5 xs0 x y (by simpa using h0) h1 h2
    all_goals rfl
  case piece2 =>
    rw [ld_colsN 5, ld_colsX 5, ld_plane 5, st_pay5]
    · exact stAll_piece 5 x0 x1 x3 x5 xs0 x y (by simpa using h0) h1 h2
    all_goals rfl
  case piece3 =>
    rw [ld_colsN 4, ld_colsX 4, ld_plane 4, st_pay4]
    · exact stAll_piece 4 x0 x1 x3 x5 xs0 x y (by simpa using h0) h1 h2
    all_goals rfl
  case piece4 =>
    rw [ld_colsN 3, ld_colsX 3, ld_plane 3, st_pay3]
    · exact stAll_piece 3 x0 x1 x3 x5 xs0 x y (by simpa using h0) h1 h2
    all_goals rfl
  case piece5 =>
    rw [ld_colsN 2, ld_colsX 2, ld_plane 2, st_pay2]
    · exact stAll_piece 2 x0 x1 x3 x5 xs0 x y (by simpa using h0) h1 h2
    all_goals rfl
  case piece6 =>
    rw [ld_colsN 1, ld_colsX 1, ld_plane 1, st_pay1]
    · exact stAll_piece 1 x0 x1 x3 x5 xs0 x y (by simpa using h0) h1 h2
    all_goals rfl
  case piece7 =>
    rw [ld_colsN 0, ld_colsX 0, ld_plane 0, st_pay0]
    · exact stAll_piece 0 x0 x1 x3 x5 xs0 x y (by simpa using h0) h1 h2
    all_goals rfl
theorem out0_A_8_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : cond0_0 i) (hc1 : ¬cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (k0_pay153 (yAll x0 x1 x2 x3 x5 x6 (k0_pay10 (F := Ideal))) x4) x7 := by
  frame_open
  simp (disch := decide) only [↓ View.readCov_skip, ↓ View.readCov_cons_toLoadRect, ↓ View.readCov_fill]
  frame_out
  refine congrArg (fun y => k0_pay1 (k0_pay153 y x4) x7) ?_
  rw [View.readCov_eq_canon']
  funext y
  show View.canon _ _ = _
  canon_tiles x h
  case piece0 =>
    rw [ld_colsN 7, ld_colsN 7, ld_colsX 7, ld_plane 7, ld_rowX 7, y_pay7]
    · exact yAll_piece 7 x0 x1 x2 x3 x5 x6 (k0_pay10 (F := Ideal)) x y (by simpa using h0) (by simpa using h1)
    all_goals rfl
  case piece1 =>
    rw [ld_colsN 6, ld_colsN 6, ld_colsX 6, ld_plane 6, ld_rowX 6, y_pay6]
    · exact yAll_piece 6 x0 x1 x2 x3 x5 x6 (k0_pay10 (F := Ideal)) x y (by simpa using h0) (by simpa using h1)
    all_goals rfl
  case piece2 =>
    rw [ld_colsN 5, ld_colsN 5, ld_colsX 5, ld_plane 5, ld_rowX 5, y_pay5]
    · exact yAll_piece 5 x0 x1 x2 x3 x5 x6 (k0_pay10 (F := Ideal)) x y (by simpa using h0) (by simpa using h1)
    all_goals rfl
  case piece3 =>
    rw [ld_colsN 4, ld_colsN 4, ld_colsX 4, ld_plane 4, ld_rowX 4, y_pay4]
    · exact yAll_piece 4 x0 x1 x2 x3 x5 x6 (k0_pay10 (F := Ideal)) x y (by simpa using h0) (by simpa using h1)
    all_goals rfl
  case piece4 =>
    rw [ld_colsN 3, ld_colsN 3, ld_colsX 3, ld_plane 3, ld_rowX 3, y_pay3]
    · exact yAll_piece 3 x0 x1 x2 x3 x5 x6 (k0_pay10 (F := Ideal)) x y (by simpa using h0) (by simpa using h1)
    all_goals rfl
  case piece5 =>
    rw [ld_colsN 2, ld_colsN 2, ld_colsX 2, ld_plane 2, ld_rowX 2, y_pay2]
    · exact yAll_piece 2 x0 x1 x2 x3 x5 x6 (k0_pay10 (F := Ideal)) x y (by simpa using h0) (by simpa using h1)
    all_goals rfl
  case piece6 =>
    rw [ld_colsN 1, ld_colsN 1, ld_colsX 1, ld_plane 1, ld_rowX 1, y_pay1]
    · exact yAll_piece 1 x0 x1 x2 x3 x5 x6 (k0_pay10 (F := Ideal)) x y (by simpa using h0) (by simpa using h1)
    all_goals rfl
  case piece7 =>
    rw [ld_colsN 0, ld_colsN 0, ld_colsX 0, ld_plane 0, ld_rowX 0, y_pay0]
    · exact yAll_piece 0 x0 x1 x2 x3 x5 x6 (k0_pay10 (F := Ideal)) x y (by simpa using h0) (by simpa using h1)
    all_goals rfl
theorem out0_B_8_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : ¬cond0_0 i) (hc1 : ¬cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) (xs0 : Vec Ideal S8x128x256 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay1 (k0_pay153 (yAll x0 x1 x2 x3 x5 x6 xs0) x4) x7 := by
  frame_open
  simp (disch := decide) only [↓ View.readCov_skip, ↓ View.readCov_cons_toLoadRect, ↓ View.readCov_fill]
  frame_out
  refine congrArg (fun y => k0_pay1 (k0_pay153 y x4) x7) ?_
  rw [View.readCov_eq_canon']
  funext y
  show View.canon _ _ = _
  canon_tiles x h
  case piece0 =>
    rw [ld_colsN 7, ld_colsN 7, ld_colsX 7, ld_plane 7, ld_rowX 7, y_pay7]
    · exact yAll_piece 7 x0 x1 x2 x3 x5 x6 xs0 x y (by simpa using h0) (by simpa using h1)
    all_goals rfl
  case piece1 =>
    rw [ld_colsN 6, ld_colsN 6, ld_colsX 6, ld_plane 6, ld_rowX 6, y_pay6]
    · exact yAll_piece 6 x0 x1 x2 x3 x5 x6 xs0 x y (by simpa using h0) (by simpa using h1)
    all_goals rfl
  case piece2 =>
    rw [ld_colsN 5, ld_colsN 5, ld_colsX 5, ld_plane 5, ld_rowX 5, y_pay5]
    · exact yAll_piece 5 x0 x1 x2 x3 x5 x6 xs0 x y (by simpa using h0) (by simpa using h1)
    all_goals rfl
  case piece3 =>
    rw [ld_colsN 4, ld_colsN 4, ld_colsX 4, ld_plane 4, ld_rowX 4, y_pay4]
    · exact yAll_piece 4 x0 x1 x2 x3 x5 x6 xs0 x y (by simpa using h0) (by simpa using h1)
    all_goals rfl
  case piece4 =>
    rw [ld_colsN 3, ld_colsN 3, ld_colsX 3, ld_plane 3, ld_rowX 3, y_pay3]
    · exact yAll_piece 3 x0 x1 x2 x3 x5 x6 xs0 x y (by simpa using h0) (by simpa using h1)
    all_goals rfl
  case piece5 =>
    rw [ld_colsN 2, ld_colsN 2, ld_colsX 2, ld_plane 2, ld_rowX 2, y_pay2]
    · exact yAll_piece 2 x0 x1 x2 x3 x5 x6 xs0 x y (by simpa using h0) (by simpa using h1)
    all_goals rfl
  case piece6 =>
    rw [ld_colsN 1, ld_colsN 1, ld_colsX 1, ld_plane 1, ld_rowX 1, y_pay1]
    · exact yAll_piece 1 x0 x1 x2 x3 x5 x6 xs0 x y (by simpa using h0) (by simpa using h1)
    all_goals rfl
  case piece7 =>
    rw [ld_colsN 0, ld_colsN 0, ld_colsX 0, ld_plane 0, ld_rowX 0, y_pay0]
    · exact yAll_piece 0 x0 x1 x2 x3 x5 x6 xs0 x y (by simpa using h0) (by simpa using h1)
    all_goals rfl
theorem out0_C_8_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : ¬cond0_0 i) (hc1 : cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) (xs0 : Vec Ideal S8x128x256 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay1 (k0_pay153 (yAll x0 x1 x2 x3 x5 x6 xs0) x4) x7 := by
  frame_open
  simp (disch := decide) only [↓ View.readCov_skip, ↓ View.readCov_cons_toLoadRect, ↓ View.readCov_fill]
  frame_out
  refine congrArg (fun y => k0_pay1 (k0_pay153 y x4) x7) ?_
  rw [View.readCov_eq_canon']
  funext y
  show View.canon _ _ = _
  canon_tiles x h
  case piece0 =>
    rw [ld_colsN 7, ld_colsN 7, ld_colsX 7, ld_plane 7, ld_rowX 7, y_pay7]
    · exact yAll_piece 7 x0 x1 x2 x3 x5 x6 xs0 x y (by simpa using h0) (by simpa using h1)
    all_goals rfl
  case piece1 =>
    rw [ld_colsN 6, ld_colsN 6, ld_colsX 6, ld_plane 6, ld_rowX 6, y_pay6]
    · exact yAll_piece 6 x0 x1 x2 x3 x5 x6 xs0 x y (by simpa using h0) (by simpa using h1)
    all_goals rfl
  case piece2 =>
    rw [ld_colsN 5, ld_colsN 5, ld_colsX 5, ld_plane 5, ld_rowX 5, y_pay5]
    · exact yAll_piece 5 x0 x1 x2 x3 x5 x6 xs0 x y (by simpa using h0) (by simpa using h1)
    all_goals rfl
  case piece3 =>
    rw [ld_colsN 4, ld_colsN 4, ld_colsX 4, ld_plane 4, ld_rowX 4, y_pay4]
    · exact yAll_piece 4 x0 x1 x2 x3 x5 x6 xs0 x y (by simpa using h0) (by simpa using h1)
    all_goals rfl
  case piece4 =>
    rw [ld_colsN 3, ld_colsN 3, ld_colsX 3, ld_plane 3, ld_rowX 3, y_pay3]
    · exact yAll_piece 3 x0 x1 x2 x3 x5 x6 xs0 x y (by simpa using h0) (by simpa using h1)
    all_goals rfl
  case piece5 =>
    rw [ld_colsN 2, ld_colsN 2, ld_colsX 2, ld_plane 2, ld_rowX 2, y_pay2]
    · exact yAll_piece 2 x0 x1 x2 x3 x5 x6 xs0 x y (by simpa using h0) (by simpa using h1)
    all_goals rfl
  case piece6 =>
    rw [ld_colsN 1, ld_colsN 1, ld_colsX 1, ld_plane 1, ld_rowX 1, y_pay1]
    · exact yAll_piece 1 x0 x1 x2 x3 x5 x6 xs0 x y (by simpa using h0) (by simpa using h1)
    all_goals rfl
  case piece7 =>
    rw [ld_colsN 0, ld_colsN 0, ld_colsX 0, ld_plane 0, ld_rowX 0, y_pay0]
    · exact yAll_piece 0 x0 x1 x2 x3 x5 x6 xs0 x y (by simpa using h0) (by simpa using h1)
    all_goals rfl
theorem out0_C_9_eq (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x32x64x128 .f32) (harg11 : arg11.IsWhole) (arg12 : Memref sig .tc .vmem S8x128x256 .f32) (harg12 : arg12.IsWhole) (arg13 : Memref sig .tc .vmem S128x2048 .f32) (harg13 : arg13.IsWhole) (hc0 : ¬cond0_0 i) (hc1 : cond0_1 i)
    (x0 : Vec Ideal S128x2048 .f32) (x1 : Vec Ideal S128x1024 .f32) (x2 : Vec Ideal S128x1024 .f32) (x3 : Vec Ideal S128x128 .f32) (x4 : Vec Ideal S128x2048 .f32) (x5 : Vec Ideal S1x128 .f32) (x6 : Vec Ideal S1x2048 .f32) (x7 : Vec Ideal S1x2048 .f32) (xs0 : Vec Ideal S8x128x256 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = finAll (stAll x0 x1 x3 x5 xs0) := by
  funext y
  frame_open
  simp (disch := decide) only [↓ View.readCov_skip, ↓ View.readCov_cons_toLoadRect, ↓ View.readCov_fill]
  frame_out
  canon_tiles x h
  case piece0 =>
    rw [ld_colsN 7, ld_colsX 7, ld_plane 7, st_pay7]
    · exact finAll_piece 7 (stAll x0 x1 x3 x5 xs0) _ (fun n q => stAll_piece 7 x0 x1 x3 x5 xs0 (ix3 0 n q) (ix3 7 n q) rfl rfl rfl) x y
        (by simpa using h1) h2 h3
    all_goals rfl
  case piece1 =>
    rw [ld_colsN 6, ld_colsX 6, ld_plane 6, st_pay6]
    · exact finAll_piece 6 (stAll x0 x1 x3 x5 xs0) _ (fun n q => stAll_piece 6 x0 x1 x3 x5 xs0 (ix3 0 n q) (ix3 6 n q) rfl rfl rfl) x y
        (by simpa using h1) h2 h3
    all_goals rfl
  case piece2 =>
    rw [ld_colsN 5, ld_colsX 5, ld_plane 5, st_pay5]
    · exact finAll_piece 5 (stAll x0 x1 x3 x5 xs0) _ (fun n q => stAll_piece 5 x0 x1 x3 x5 xs0 (ix3 0 n q) (ix3 5 n q) rfl rfl rfl) x y
        (by simpa using h1) h2 h3
    all_goals rfl
  case piece3 =>
    rw [ld_colsN 4, ld_colsX 4, ld_plane 4, st_pay4]
    · exact finAll_piece 4 (stAll x0 x1 x3 x5 xs0) _ (fun n q => stAll_piece 4 x0 x1 x3 x5 xs0 (ix3 0 n q) (ix3 4 n q) rfl rfl rfl) x y
        (by simpa using h1) h2 h3
    all_goals rfl
  case piece4 =>
    rw [ld_colsN 3, ld_colsX 3, ld_plane 3, st_pay3]
    · exact finAll_piece 3 (stAll x0 x1 x3 x5 xs0) _ (fun n q => stAll_piece 3 x0 x1 x3 x5 xs0 (ix3 0 n q) (ix3 3 n q) rfl rfl rfl) x y
        (by simpa using h1) h2 h3
    all_goals rfl
  case piece5 =>
    rw [ld_colsN 2, ld_colsX 2, ld_plane 2, st_pay2]
    · exact finAll_piece 2 (stAll x0 x1 x3 x5 xs0) _ (fun n q => stAll_piece 2 x0 x1 x3 x5 xs0 (ix3 0 n q) (ix3 2 n q) rfl rfl rfl) x y
        (by simpa using h1) h2 h3
    all_goals rfl
  case piece6 =>
    rw [ld_colsN 1, ld_colsX 1, ld_plane 1, st_pay1]
    · exact finAll_piece 1 (stAll x0 x1 x3 x5 xs0) _ (fun n q => stAll_piece 1 x0 x1 x3 x5 xs0 (ix3 0 n q) (ix3 1 n q) rfl rfl rfl) x y
        (by simpa using h1) h2 h3
    all_goals rfl
  case piece7 =>
    rw [ld_colsN 0, ld_colsX 0, ld_plane 0, st_pay0]
    · exact finAll_piece 0 (stAll x0 x1 x3 x5 xs0) _ (fun n q => stAll_piece 0 x0 x1 x3 x5 xs0 (ix3 0 n q) (ix3 0 n q) rfl rfl rfl) x y
        (by simpa using h1) h2 h3
    all_goals rfl
end Cert.Ssd
end
-- ==== Proof.Read.lean ====
module

public import proofs.«01_k».proof.Proof.Cases
public import proofs.«01_k».proof.Proof.Spec
public import Idealize.ShloMosaic.Lib.Pointwise
public import Idealize.ShloMosaic.Lib.Pipeline.ValueKit

@[expose] public section

set_option maxRecDepth 16384

noncomputable section

namespace Cert.Ssd
open Idealize.ShloMosaic Idealize.ShloMosaic.TcCoe Idealize.SL.Sem
open Cert.KernelIdeal Cert.KernelIdeal.Gen

theorem pay22_at (k q : Fin 256) : k0_pay22 (ix2 k q) = BitVec.ofNat 32 (q.val / 64) := by
  have h : ∀ q : Fin 256, k0_pay22 (ix2 (0 : Fin 256) q) = BitVec.ofNat 32 (q.val / 64) := by decide +kernel
  exact h q

theorem pay21_at (k q : Fin 256) : k0_pay21 (ix2 k q) = BitVec.ofNat 32 (k.val % 128) := by
  have h : ∀ k : Fin 256, k0_pay21 (ix2 k (0 : Fin 256)) = BitVec.ofNat 32 (k.val % 128) := by decide +kernel
  exact h k

theorem laneHead_at (q : Fin 256) : laneHead (ix2 (0 : Fin 1) q) = BitVec.ofNat 32 (q.val / 64) := by
  revert q
  decide +kernel

theorem sel_eq (a b : ℕ) (ha : a < 4096) (hb : b < 4096) {α : Type} (x y : α) :
    Scalar.select (IntOp.cmpi CmpIPredicate.eq (BitVec.ofNat 32 a) (BitVec.ofNat 32 b)) x y = if a = b then x else y := by
  rw [WordCmp.cmpi_eq_eq_toNat, BitVec.toNat_ofNat, BitVec.toNat_ofNat, Nat.mod_eq_of_lt (by omega), Nat.mod_eq_of_lt (by omega)]
  by_cases h : a = b <;> simp [Scalar.select, h]

theorem sel_sle (a b : ℕ) (ha : a < 4096) (hb : b < 4096) {α : Type} (x y : α) :
    Scalar.select (IntOp.cmpi CmpIPredicate.sle (BitVec.ofNat 32 a) (BitVec.ofNat 32 b)) x y = if a ≤ b then x else y := by
  have ea : (BitVec.ofNat 32 a).toNat = a := by rw [BitVec.toNat_ofNat]; omega
  have eb : (BitVec.ofNat 32 b).toNat = b := by rw [BitVec.toNat_ofNat]; omega
  rw [WordCmp.cmpi_sle_of_lt (by omega) (by omega), ea, eb]
  by_cases h : a ≤ b <;> simp [Scalar.select, h]

theorem sel_sge (a b : ℕ) (ha : a < 4096) (hb : b < 4096) {α : Type} (x y : α) :
    Scalar.select (IntOp.cmpi CmpIPredicate.sge (BitVec.ofNat 32 b) (BitVec.ofNat 32 a)) x y = if a ≤ b then x else y :=
  sel_sle a b ha hb x y

theorem lanes_at (w : BitVec 32) (hl : FVec Ideal S128x256 .bf16) (t : Fin 128) (q : Fin 256) :
    grpLanes w hl (ix2 t q) = ∑ k : Fin 256, hl (ix2 t k) * grpSpread w (ix2 k q) := by
  pointwise [grpLanes]

theorem spread_at (g : Fin 8) (k q : Fin 256) :
    grpSpread (BitVec.ofNat 32 (4 * g.val)) (ix2 k q) = if k.val % 128 = 4 * g.val + q.val / 64 then (1 : EReal) else 0 := by
  pointwise [grpSpread]
  rw [pay21_at, pay22_at, IntOp.addi, ← BitVec.ofNat_add, sel_eq _ _ (by omega) (by omega)]

/-- Spreading a table to the lanes of a group reads the two halves at the lane's head. -/
theorem lanes_read (g : Fin 8) (hl : FVec Ideal S128x256 .bf16) (t : Fin 128) (q : Fin 256) :
    grpLanes (BitVec.ofNat 32 (4 * g.val)) hl (ix2 t q)
      = hl (ix2 t (⟨4 * g.val + q.val / 64, by omega⟩ : Fin 256)) + hl (ix2 t (⟨128 + (4 * g.val + q.val / 64), by omega⟩ : Fin 256)) := by
  rw [lanes_at]
  simp only [spread_at, mul_ite, mul_one, mul_zero]
  rw [Fin.sum_univ_two_halves 128 128 rfl]
  congr 1
  · rw [Finset.sum_eq_single (⟨4 * g.val + q.val / 64, by omega⟩ : Fin 128)]
    · exact if_pos (by show (4 * g.val + q.val / 64) % 128 = _; omega)
    · intro b _ hb
      exact if_neg fun h => hb (Fin.ext (by have := b.isLt; show b.val = 4 * g.val + q.val / 64; change b.val % 128 = _ at h; omega))
    · exact fun h => absurd (Finset.mem_univ _) h
  · rw [Finset.sum_eq_single (⟨4 * g.val + q.val / 64, by omega⟩ : Fin 128)]
    · exact if_pos (by show (128 + (4 * g.val + q.val / 64)) % 128 = _; omega)
    · intro b _ hb
      exact if_neg fun h => hb (Fin.ext (by have := b.isLt; show b.val = 4 * g.val + q.val / 64; change (128 + b.val) % 128 = _ at h; omega))
    · exact fun h => absurd (Finset.mem_univ _) h

/-- A head's rate, as the kernel forms it. -/
def rateK (al : Vec Ideal S1x128 .f32) (h : Fin 128) : EReal := 0 - Ideal.exp (al (ix2 (0 : Fin 1) h))

theorem cum_at (dt : Vec Ideal S128x128 .f32) (al : Vec Ideal S1x128 .f32) (t h : Fin 128) :
    k0_pay14 dt al (ix2 t h) = ssdCum (fun s => dt (ix2 s h)) (rateK al h) t := by
  pointwise [k0_pay14, k0_pay13, k0_pay12, k0_pay11]
  exact Finset.sum_congr rfl fun s _ => sel_sge s.val t.val (by omega) (by omega) _ _

theorem cumT_at (dt : Vec Ideal S128x128 .f32) (al : Vec Ideal S1x128 .f32) (t h : Fin 128) :
    k0_pay15 dt al (ix2 h t) = ssdCum (fun s => dt (ix2 s h)) (rateK al h) t := by
  pointwise [k0_pay15, k0_pay12, k0_pay11]
  exact Finset.sum_congr rfl fun s _ => sel_sle s.val t.val (by omega) (by omega) _ _

theorem dtT_at (dt : Vec Ideal S128x128 .f32) (t h : Fin 128) : k0_pay16 dt (ix2 h t) = dt (ix2 t h) := by
  pointwise [k0_pay16, k0_pay11]
  rw [Finset.sum_congr rfl fun s _ => sel_eq s.val t.val (by omega) (by omega) _ _]
  simp only [← Fin.ext_iff, Finset.sum_ite_eq', Finset.mem_univ, if_true]

theorem ecum_lo (dt : Vec Ideal S128x128 .f32) (al : Vec Ideal S1x128 .f32) (t h : Fin 128) :
    ecumHl dt al (ix2 t (⟨h.val, by omega⟩ : Fin 256)) = Ideal.exp (k0_pay14 dt al (ix2 t h)) := by
  pointwise [ecumHl, k0_pay17]

theorem ecum_hi (dt : Vec Ideal S128x128 .f32) (al : Vec Ideal S1x128 .f32) (t h : Fin 128) :
    ecumHl dt al (ix2 t (⟨128 + h.val, by omega⟩ : Fin 256)) = Ideal.exp (k0_pay14 dt al (ix2 t h)) - Ideal.exp (k0_pay14 dt al (ix2 t h)) := by
  pointwise [ecumHl, k0_pay17]

theorem wend_lo (dt : Vec Ideal S128x128 .f32) (al : Vec Ideal S1x128 .f32) (t h : Fin 128) :
    wendHl dt al (ix2 t (⟨h.val, by omega⟩ : Fin 256)) = k0_pay18 dt al (ix2 t h) := by
  pointwise [wendHl, k0_pay20, k0_pay19]

theorem wend_hi (dt : Vec Ideal S128x128 .f32) (al : Vec Ideal S1x128 .f32) (t h : Fin 128) :
    wendHl dt al (ix2 t (⟨128 + h.val, by omega⟩ : Fin 256)) = k0_pay18 dt al (ix2 t h) - k0_pay18 dt al (ix2 t h) := by
  pointwise [wendHl, k0_pay20, k0_pay19]

theorem pay18_at (dt : Vec Ideal S128x128 .f32) (al : Vec Ideal S1x128 .f32) (t h : Fin 128) :
    k0_pay18 dt al (ix2 t h) = Ideal.exp (k0_pay14 dt al (ix2 127 h) - k0_pay14 dt al (ix2 t h)) * dt (ix2 t h) := by
  pointwise [k0_pay18, k0_pay11]

theorem ecum_read (g : Fin 8) (dt : Vec Ideal S128x128 .f32) (al : Vec Ideal S1x128 .f32) (t : Fin 128) (q : Fin 256) (h : Fin 128)
    (hh : h.val = 4 * g.val + q.val / 64) (hd : ∀ s : Fin 128, IsReal (dt (ix2 s h))) (hA : IsReal (rateK al h)) :
    grpLanes (BitVec.ofNat 32 (4 * g.val)) (ecumHl dt al) (ix2 t q) = Ideal.exp (ssdCum (fun s => dt (ix2 s h)) (rateK al h) t) := by
  have e1 : (⟨4 * g.val + q.val / 64, by omega⟩ : Fin 256) = ⟨h.val, by omega⟩ := Fin.ext hh.symm
  have e2 : (⟨128 + (4 * g.val + q.val / 64), by omega⟩ : Fin 256) = ⟨128 + h.val, by omega⟩ := Fin.ext (by show 128 + (4 * g.val + q.val / 64) = 128 + h.val; omega)
  rw [lanes_read, e1, e2, ecum_lo, ecum_hi, cum_at]
  exact (isReal_cum hd hA t).exp.add_sub_self

theorem wend_read (g : Fin 8) (dt : Vec Ideal S128x128 .f32) (al : Vec Ideal S1x128 .f32) (t : Fin 128) (q : Fin 256) (h : Fin 128)
    (hh : h.val = 4 * g.val + q.val / 64) (hd : ∀ s : Fin 128, IsReal (dt (ix2 s h))) (hA : IsReal (rateK al h)) :
    grpLanes (BitVec.ofNat 32 (4 * g.val)) (wendHl dt al) (ix2 t q)
      = Ideal.exp (ssdCum (fun s => dt (ix2 s h)) (rateK al h) 127 - ssdCum (fun s => dt (ix2 s h)) (rateK al h) t) * dt (ix2 t h) := by
  have e1 : (⟨4 * g.val + q.val / 64, by omega⟩ : Fin 256) = ⟨h.val, by omega⟩ := Fin.ext hh.symm
  have e2 : (⟨128 + (4 * g.val + q.val / 64), by omega⟩ : Fin 256) = ⟨128 + h.val, by omega⟩ := Fin.ext (by show 128 + (4 * g.val + q.val / 64) = 128 + h.val; omega)
  rw [lanes_read, e1, e2, wend_lo, wend_hi, pay18_at, cum_at, cum_at]
  exact (((isReal_cum hd hA 127).sub (isReal_cum hd hA t)).exp.mul (hd t)).add_sub_self

theorem grpCb_at (b c : FVec Ideal S128x128 .f32) (t s : Fin 128) :
    grpCb b c (ix2 t s) = ∑ n : Fin 128, c (ix2 t n) * b (ix2 s n) := by
  pointwise [grpCb]

theorem grpState_at (b : FVec Ideal S128x128 .f32) (ec wd xg st : FVec Ideal S128x256 .f32) (n : Fin 128) (q : Fin 256) :
    grpState b ec wd xg st (ix2 n q) = ec (ix2 127 q) * st (ix2 n q) + ∑ s : Fin 128, b (ix2 s n) * (xg (ix2 s q) * wd (ix2 s q)) := by
  pointwise [grpState]

theorem grpBase_at (cg : FVec Ideal S128x128 .f32) (st ec : FVec Ideal S128x256 .f32) (dk : FVec Ideal S1x256 .f32)
    (xg : FVec Ideal S128x256 .f32) (t : Fin 128) (q : Fin 256) :
    grpBase cg st ec dk xg (ix2 t q) = (∑ n : Fin 128, cg (ix2 t n) * st (ix2 n q)) * ec (ix2 t q) + dk (ix2 0 q) * xg (ix2 t q) := by
  pointwise [grpBase]

/-- A head's term at a lane: the chunk's decayed scores over the inputs on the head's own lanes, zero on the others. -/
theorem grpHead_at (g : Fin 8) (dt : Vec Ideal S128x128 .f32) (al : Vec Ideal S1x128 .f32)
    (cb : FVec Ideal S128x128 .f32) (xg : FVec Ideal S128x256 .f32) (t : Fin 128) (q : Fin 256) (r : ℕ) (hr : r < 4)
    (hr' : 4 * g.val + r < 128) (h : Fin 128) (hh : h.val = 4 * g.val + q.val / 64) :
    grpHead (4 * g.val + r) hr' (BitVec.ofNat 32 r) k0_pay13 (k0_pay14 dt al) (k0_pay15 dt al) (k0_pay16 dt) laneHead cb xg (ix2 t q)
      = if q.val / 64 = r then ∑ s : Fin 128, cb (ix2 t s) * ssdDecay (fun s => dt (ix2 s h)) (rateK al h) t s * dt (ix2 s h) * xg (ix2 s q)
        else 0 := by
  pointwise [grpHead]
  rw [laneHead_at]
  simp only [sel_eq (q.val / 64) r (by omega) (by omega)]
  split
  · next e =>
    obtain rfl : (⟨4 * g.val + r, hr'⟩ : Fin 128) = h := Fin.ext (by show 4 * g.val + r = h.val; omega)
    refine Finset.sum_congr rfl fun s _ => ?_
    rw [cum_at, cumT_at, dtT_at]
    pointwise [k0_pay13]
    rw [sel_sge s.val t.val (by omega) (by omega)]
    rfl
  · exact Finset.sum_const_zero

/-- One entry of a group's state after a chunk. -/
theorem stG_at (g : Fin 8) (x0 : Vec Ideal S128x2048 .f32) (x1 : Vec Ideal S128x1024 .f32) (x3 : Vec Ideal S128x128 .f32)
    (x5 : Vec Ideal S1x128 .f32) (xs : Vec Ideal S8x128x256 .f32) (n : Fin 128) (q : Fin 256) (h : Fin 128)
    (hh : h.val = 4 * g.val + q.val / 64) (hd : ∀ s : Fin 128, IsReal (x3 (ix2 s h))) (hA : IsReal (rateK x5 h)) :
    stG g x0 x1 x3 x5 xs (ix2 n q) = ssdState (fun s n => x1 (ix2 s (⟨128 * g.val + n.val, by omega⟩ : Fin 1024)))
      (fun s => x0 (ix2 s (⟨256 * g.val + q.val, by omega⟩ : Fin 2048))) (fun s => x3 (ix2 s h)) (fun n => xs (ix3 g n q)) (rateK x5 h) n := by
  unfold stG
  rw [grpState_at, ecum_read g x3 x5 127 q h hh hd hA]
  simp only [wend_read g x3 x5 _ q h hh hd hA]
  pointwise [plane, colsN, colsX]
  rfl

/-- One entry of a group's output rows. -/
theorem yG_at (g : Fin 8) (x0 : Vec Ideal S128x2048 .f32) (x1 x2 : Vec Ideal S128x1024 .f32) (x3 : Vec Ideal S128x128 .f32)
    (x5 : Vec Ideal S1x128 .f32) (x6 : Vec Ideal S1x2048 .f32) (xs : Vec Ideal S8x128x256 .f32) (t : Fin 128) (q : Fin 256) (h : Fin 128)
    (hh : h.val = 4 * g.val + q.val / 64) (hd : ∀ s : Fin 128, IsReal (x3 (ix2 s h))) (hA : IsReal (rateK x5 h)) :
    yG g x0 x1 x2 x3 x5 x6 xs (ix2 t q) = ssdOut (fun s n => x2 (ix2 s (⟨128 * g.val + n.val, by omega⟩ : Fin 1024)))
      (fun s n => x1 (ix2 s (⟨128 * g.val + n.val, by omega⟩ : Fin 1024)))
      (fun s => x0 (ix2 s (⟨256 * g.val + q.val, by omega⟩ : Fin 2048))) (fun s => x3 (ix2 s h)) (fun n => xs (ix3 g n q)) (rateK x5 h)
      (x6 (ix2 0 (⟨256 * g.val + q.val, by omega⟩ : Fin 2048))) t := by
  unfold yG grpY
  show (((grpBase _ _ _ _ _ (ix2 t q) + grpHead (4 * g.val + 0) _ (BitVec.ofNat 32 0) _ _ _ _ _ _ _ (ix2 t q))
    + grpHead _ _ (BitVec.ofNat 32 1) _ _ _ _ _ _ _ (ix2 t q)) + grpHead _ _ (BitVec.ofNat 32 2) _ _ _ _ _ _ _ (ix2 t q))
    + grpHead _ _ (BitVec.ofNat 32 3) _ _ _ _ _ _ _ (ix2 t q) = _
  rw [grpHead_at g _ _ _ _ _ _ 0 (by omega) _ h hh, grpHead_at g _ _ _ _ _ _ 1 (by omega) _ h hh, grpHead_at g _ _ _ _ _ _ 2 (by omega) _ h hh,
    grpHead_at g _ _ _ _ _ _ 3 (by omega) _ h hh, grpBase_at, ecum_read g x3 x5 t q h hh hd hA]
  have four : ∀ b s : EReal, (((b + if q.val / 64 = 0 then s else 0) + if q.val / 64 = 1 then s else 0) + if q.val / 64 = 2 then s else 0)
      + (if q.val / 64 = 3 then s else 0) = b + s := by
    intro b s
    obtain e | e | e | e : q.val / 64 = 0 ∨ q.val / 64 = 1 ∨ q.val / 64 = 2 ∨ q.val / 64 = 3 := by omega
    all_goals simp [e]
  rw [four]
  simp only [grpCb_at]
  pointwise [plane, colsN, colsX, rowX]
  rfl

theorem gate_at (y : FVec Ideal S128x2048 .f32) (z : Vec Ideal S128x2048 .f32) (n : Vec Ideal S1x2048 .f32) (t : Fin 128) (j : Fin 2048) :
    k0_pay1 (k0_pay153 y z) n (ix2 t j)
      = gated (y (ix2 t j)) (z (ix2 t j)) * rmsFactor (fun x => gated (y (ix2 t x)) (z (ix2 t x))) * n (ix2 0 j) := by
  pointwise [k0_pay1, k0_pay153]
  simp only [zero_sub]
  rfl

end Cert.Ssd
-- ==== Proof.Blocks.lean ====
module

public import proofs.«01_k».proof.Proof.Read
public import Idealize.ShloMosaic.Lib.Pointwise
public import Idealize.ShloMosaic.Lib.Pipeline.ValueKit

@[expose] public section

set_option maxRecDepth 16384

noncomputable section

namespace Cert.Ssd
open Idealize.ShloMosaic Idealize.ShloMosaic.TcCoe Idealize.SL.Sem
open Cert.KernelIdeal Cert.KernelIdeal.Gen

variable (m : (ℓ : Loc nD τ sig) → Buf (Elt Ideal) ℓ)

/-- The windows' index maps, at every grid point. -/
theorem idx : ∀ t : Fin cfg0.N, win0_0.index t = ![t.val, 0] ∧ win0_1.index t = ![t.val, 2] ∧ win0_2.index t = ![t.val, 3]
    ∧ win0_3.index t = ![t.val, 0] ∧ win0_4.index t = ![t.val, 0] ∧ win0_5.index t = ![0, 0] ∧ win0_6.index t = ![0, 0] ∧ win0_7.index t = ![0, 0]
    ∧ t.val < 128 := (by decide +kernel : ∀ t : Fin grid0.N, _)

/-- The launch's arguments, at coordinates. -/
def aX (c : Dev nD) (b : Fin 4) (l : Fin 4096) (j : Fin 4096) : EReal := m ((c.tc : Thread nD τ).loc main_arg0) (ix3 b l j)
def aDt (c : Dev nD) (b : Fin 4) (l : Fin 4096) (h : Fin 32) : EReal := m ((c.tc : Thread nD τ).loc main_arg1) (ix3 b l h)
def aZ (c : Dev nD) (b : Fin 4) (l : Fin 4096) (j : Fin 2048) : EReal := m ((c.tc : Thread nD τ).loc main_arg2) (ix3 b l j)
def aAl (c : Dev nD) (h : Fin 32) : EReal := m ((c.tc : Thread nD τ).loc main_arg3) (ix1 h)
def aDs (c : Dev nD) (h : Fin 32) : EReal := m ((c.tc : Thread nD τ).loc main_arg4) (ix1 h)
def aNg (c : Dev nD) (j : Fin 2048) : EReal := m ((c.tc : Thread nD τ).loc main_arg5) (ix1 j)

theorem V6 (c : Dev nD) : V m c main_v6 = shapeCast S16384x4096 (m ((c.tc : Thread nD τ).loc main_arg0) : FVec Ideal S4x4096x4096 .f32) shapeCasts_S4x4096x4096_S16384x4096 := by
  entry_read
  rfl

theorem V9 (c : Dev nD) : V m c main_v9 = shapeCast S16384x2048 (m ((c.tc : Thread nD τ).loc main_arg2) : FVec Ideal S4x4096x2048 .f32) shapeCasts_S4x4096x2048_S16384x2048 := by
  entry_read
  rfl

theorem V5 (c : Dev nD) : V m c main_v5 = shapeCast S1x2048 (m ((c.tc : Thread nD τ).loc main_arg5) : FVec Ideal S2048 .f32) shapeCasts_S2048_S1x2048 := by
  entry_read
  rfl

theorem V8 (c : Dev nD) : V m c main_v8 = pad S16384x128 ![0, 0] ![0, 96] ![0, 0]
    (shapeCast S16384x32 (m ((c.tc : Thread nD τ).loc main_arg1) : FVec Ideal S4x4096x32 .f32) shapeCasts_S4x4096x32_S16384x32)
    (sitofp (F := Ideal) .f32 (constantI S_ 32 0#32)) pads_S16384x32_S16384x128_000_0960 h_S_ := by
  entry_read
  rfl

theorem V1 (c : Dev nD) : V m c main_v1 = pad S1x128 ![0, 0] ![0, 96] ![0, 0]
    (shapeCast S1x32 (m ((c.tc : Thread nD τ).loc main_arg3) : FVec Ideal S32 .f32) shapeCasts_S32_S1x32)
    (sitofp (F := Ideal) .f32 (constantI S_ 32 0#32)) pads_S1x32_S1x128_000_0960 h_S_ := by
  entry_read
  rfl

theorem V4 (c : Dev nD) : V m c main_v4 = shapeCast S1x2048 (shapeCast S2048 (broadcastInDim S32x64 ![0] bcast_S32_S32x64_0
    (m ((c.tc : Thread nD τ).loc main_arg4) : FVec Ideal S32 .f32)) shapeCasts_S32x64_S2048) shapeCasts_S2048_S1x2048 := by
  entry_read
  rfl

theorem cast_x (x : FVec Ideal S4x4096x4096 .f32) (h) (r : Fin 16384) (j : Fin 4096) :
    shapeCast S16384x4096 x h (ix2 r j) = x (ix3 (⟨r.val / 4096, by omega⟩ : Fin 4) (⟨r.val % 4096, by omega⟩ : Fin 4096) j) := by
  pointwise

theorem cast_z (x : FVec Ideal S4x4096x2048 .f32) (h) (r : Fin 16384) (j : Fin 2048) :
    shapeCast S16384x2048 x h (ix2 r j) = x (ix3 (⟨r.val / 4096, by omega⟩ : Fin 4) (⟨r.val % 4096, by omega⟩ : Fin 4096) j) := by
  pointwise

theorem cast_dt (x : FVec Ideal S4x4096x32 .f32) (h) (r : Fin 16384) (j : Fin 32) :
    shapeCast S16384x32 x h (ix2 r j) = x (ix3 (⟨r.val / 4096, by omega⟩ : Fin 4) (⟨r.val % 4096, by omega⟩ : Fin 4096) j) := by
  pointwise

theorem pad_dt (x : FVec Ideal S16384x32 .f32) (v : FVec Ideal S_ .f32) (r : Fin 16384) (h : Fin 32) :
    pad S16384x128 ![0, 0] ![0, 96] ![0, 0] x v pads_S16384x32_S16384x128_000_0960 h_S_ (ix2 r (⟨h.val, by omega⟩ : Fin 128)) = x (ix2 r h) := by
  pointwise
  try rfl

theorem pad_al (x : FVec Ideal S1x32 .f32) (v : FVec Ideal S_ .f32) (h : Fin 32) :
    pad S1x128 ![0, 0] ![0, 96] ![0, 0] x v pads_S1x32_S1x128_000_0960 h_S_ (ix2 0 (⟨h.val, by omega⟩ : Fin 128)) = x (ix2 0 h) := by
  pointwise
  try rfl

theorem V8_at (c : Dev nD) (r : Fin 16384) (j : Fin 128) (h : Fin 32) (hh : j.val = h.val) :
    (V m c main_v8) (ix2 r j) = aDt m c ⟨r.val / 4096, by omega⟩ ⟨r.val % 4096, by omega⟩ h := by
  obtain ⟨j, hj⟩ := j
  obtain rfl : j = h.val := hh
  rw [V8]
  exact (pad_dt _ _ r h).trans (cast_dt _ _ r h)

theorem cast_al (x : FVec Ideal S32 .f32) (h) (j : Fin 32) : shapeCast S1x32 x h (ix2 0 j) = x (ix1 j) := by
  pointwise

theorem V1_at (c : Dev nD) (j : Fin 128) (h : Fin 32) (hh : j.val = h.val) :
    (V m c main_v1) (ix2 0 j) = aAl m c h := by
  obtain ⟨j, hj⟩ := j
  obtain rfl : j = h.val := hh
  rw [V1]
  exact (pad_al _ _ h).trans (cast_al _ _ h)

theorem row_hi (t s : ℕ) (hs : s < 128) : (128 * t + s) / 4096 = t / 32 := by omega

theorem row_lo (t s : ℕ) (hs : s < 128) : (128 * t + s) % 4096 = (128 * (t % 32) + s) % 4096 := by omega

theorem blk0 (c : Dev nD) (t : Fin cfg0.N) (s : Fin 128) (j : Fin 2048) (b : Fin 4) (hb : b.val = t.val / 32) :
    iblk m c 0 t (ix2 s j) = aX m c b (rowOf (t.val % 32) s) ⟨j.val, by omega⟩ := by
  have := (idx t).2.2.2.2.2.2.2.2
  blk_simp [iblk]
  have e : ((cfg0.win 0).blk t).view.emb (ix2 s j) = ix2 (⟨128 * t.val + s.val, by omega⟩ : Fin 16384) (⟨j.val, by omega⟩ : Fin 4096) := by blk_ext [idx t]
  refine (congrArg (V m c main_v6) e).trans ((((congrFun (V6 m c) _).trans (cast_x _ _ _ _))).trans ?_)
  exact congrArg₂ (fun b l => aX m c b l _) (Fin.ext ((row_hi _ _ s.isLt).trans hb.symm)) (Fin.ext (row_lo _ _ s.isLt))

theorem blk1 (c : Dev nD) (t : Fin cfg0.N) (s : Fin 128) (j : Fin 1024) (b : Fin 4) (hb : b.val = t.val / 32) :
    iblk m c 1 t (ix2 s j) = aX m c b (rowOf (t.val % 32) s) ⟨2048 + j.val, by omega⟩ := by
  have := (idx t).2.2.2.2.2.2.2.2
  blk_simp [iblk]
  have e : ((cfg0.win 1).blk t).view.emb (ix2 s j) = ix2 (⟨128 * t.val + s.val, by omega⟩ : Fin 16384) (⟨2048 + j.val, by omega⟩ : Fin 4096) := by blk_ext [idx t]
  refine (congrArg (V m c main_v6) e).trans ((((congrFun (V6 m c) _).trans (cast_x _ _ _ _))).trans ?_)
  exact congrArg₂ (fun b l => aX m c b l _) (Fin.ext ((row_hi _ _ s.isLt).trans hb.symm)) (Fin.ext (row_lo _ _ s.isLt))

theorem blk2 (c : Dev nD) (t : Fin cfg0.N) (s : Fin 128) (j : Fin 1024) (b : Fin 4) (hb : b.val = t.val / 32) :
    iblk m c 2 t (ix2 s j) = aX m c b (rowOf (t.val % 32) s) ⟨3072 + j.val, by omega⟩ := by
  have := (idx t).2.2.2.2.2.2.2.2
  blk_simp [iblk]
  have e : ((cfg0.win 2).blk t).view.emb (ix2 s j) = ix2 (⟨128 * t.val + s.val, by omega⟩ : Fin 16384) (⟨3072 + j.val, by omega⟩ : Fin 4096) := by blk_ext [idx t]
  refine (congrArg (V m c main_v6) e).trans ((((congrFun (V6 m c) _).trans (cast_x _ _ _ _))).trans ?_)
  exact congrArg₂ (fun b l => aX m c b l _) (Fin.ext ((row_hi _ _ s.isLt).trans hb.symm)) (Fin.ext (row_lo _ _ s.isLt))

theorem blk4 (c : Dev nD) (t : Fin cfg0.N) (s : Fin 128) (j : Fin 2048) (b : Fin 4) (hb : b.val = t.val / 32) :
    iblk m c 4 t (ix2 s j) = aZ m c b (rowOf (t.val % 32) s) j := by
  have := (idx t).2.2.2.2.2.2.2.2
  blk_simp [iblk]
  have e : ((cfg0.win 4).blk t).view.emb (ix2 s j) = ix2 (⟨128 * t.val + s.val, by omega⟩ : Fin 16384) (j : Fin 2048) := by blk_ext [idx t]
  refine (congrArg (V m c main_v9) e).trans ((((congrFun (V9 m c) _).trans (cast_z _ _ _ _))).trans ?_)
  exact congrArg₂ (fun b l => aZ m c b l _) (Fin.ext ((row_hi _ _ s.isLt).trans hb.symm)) (Fin.ext (row_lo _ _ s.isLt))

theorem blk3 (c : Dev nD) (t : Fin cfg0.N) (s : Fin 128) (j : Fin 128) (h : Fin 32) (hh : j.val = h.val) (b : Fin 4) (hb : b.val = t.val / 32) :
    iblk m c 3 t (ix2 s j) = aDt m c b (rowOf (t.val % 32) s) h := by
  have := (idx t).2.2.2.2.2.2.2.2
  blk_simp [iblk]
  have e : ((cfg0.win 3).blk t).view.emb (ix2 s j) = ix2 (⟨128 * t.val + s.val, by omega⟩ : Fin 16384) (j : Fin 128) := by blk_ext [idx t]
  refine (congrArg (V m c main_v8) e).trans ((V8_at m c _ _ h hh).trans ?_)
  exact congrArg₂ (fun b l => aDt m c b l _) (Fin.ext ((row_hi _ _ s.isLt).trans hb.symm)) (Fin.ext (row_lo _ _ s.isLt))

theorem blk5 (c : Dev nD) (t : Fin cfg0.N) (j : Fin 128) (h : Fin 32) (hh : j.val = h.val) : iblk m c 5 t (ix2 0 j) = aAl m c h := by
  blk_simp [iblk]
  have e : ((cfg0.win 5).blk t).view.emb (ix2 0 j) = ix2 (0 : Fin 1) j := by blk_ext [idx t]
  exact (congrArg (V m c main_v1) e).trans (V1_at m c j h hh)

theorem blk6 (c : Dev nD) (t : Fin cfg0.N) (j : Fin 2048) :
    iblk m c 6 t (ix2 0 j) = aDs m c (headOf j) := by
  unfold aDs headOf
  blk_simp [iblk]
  rw [V4]
  pointwise
  blk_ext [idx t]

theorem blk7 (c : Dev nD) (t : Fin cfg0.N) (j : Fin 2048) :
    iblk m c 7 t (ix2 0 j) = aNg m c j := by
  unfold aNg
  blk_simp [iblk]
  rw [V5]
  pointwise
  blk_ext [idx t]

end Cert.Ssd
-- ==== Proof.Carried.lean ====
module

public import proofs.«01_k».proof.Proof.Blocks
public import Idealize.ShloMosaic.Lib.Pointwise
public import Idealize.ShloMosaic.Lib.Pipeline.ValueKit

@[expose] public section

set_option maxRecDepth 16384

noncomputable section

namespace Cert.Ssd
open Idealize.ShloMosaic Idealize.ShloMosaic.TcCoe Idealize.SL.Sem
open Cert.KernelIdeal Cert.KernelIdeal.Gen

variable (m : (ℓ : Loc nD τ sig) → Buf (Elt Ideal) ℓ)

/-- The step sizes and the rates' logarithms are real numbers. -/
def Fin0 (c : Dev nD) : Prop := (∀ b l h, IsReal (aDt m c b l h)) ∧ ∀ h, IsReal (aAl m c h)

/-- The lane, of a row of 2048, that a group's lane is. -/
def laneOf (g : Fin 8) (q : Fin 256) : Fin 2048 := ⟨256 * g.val + q.val, by omega⟩

theorem rateK_at (c : Dev nD) (t : Fin cfg0.N) (h : Fin 128) (h' : Fin 32) (hh : h.val = h'.val) :
    rateK (iblk m c 5 t) h = rateOf (aAl m c) h' := by
  unfold rateK rateOf
  rw [blk5 m c t h h' hh, zero_sub]

theorem chX_at (c : Dev nD) (t : Fin cfg0.N) (b : Fin 4) (hb : b.val = t.val / 32) (g : Fin 8) (q : Fin 256) :
    (fun s => iblk m c 0 t (ix2 s (⟨256 * g.val + q.val, by omega⟩ : Fin 2048))) = chX (aX m c) b (t.val % 32) (laneOf g q) :=
  funext fun s => blk0 m c t s _ b hb

theorem grp_lane (g : Fin 8) (q : Fin 256) : (laneOf g q).val / 256 = g.val := by
  show (256 * g.val + q.val) / 256 = g.val
  omega

theorem chB_at (c : Dev nD) (t : Fin cfg0.N) (b : Fin 4) (hb : b.val = t.val / 32) (g : Fin 8) (q : Fin 256) :
    (fun s n => iblk m c 1 t (ix2 s (⟨128 * g.val + n.val, by omega⟩ : Fin 1024))) = chB (aX m c) b (t.val % 32) (laneOf g q) := by
  funext s n
  refine (blk1 m c t s _ b hb).trans ?_
  unfold chB
  exact congrArg _ (Fin.ext (by show 2048 + (128 * g.val + n.val) = 2048 + (128 * ((laneOf g q).val / 256) + n.val); rw [grp_lane]))

theorem chC_at (c : Dev nD) (t : Fin cfg0.N) (b : Fin 4) (hb : b.val = t.val / 32) (g : Fin 8) (q : Fin 256) :
    (fun s n => iblk m c 2 t (ix2 s (⟨128 * g.val + n.val, by omega⟩ : Fin 1024))) = chC (aX m c) b (t.val % 32) (laneOf g q) := by
  funext s n
  refine (blk2 m c t s _ b hb).trans ?_
  unfold chC
  exact congrArg _ (Fin.ext (by show 3072 + (128 * g.val + n.val) = 3072 + (128 * ((laneOf g q).val / 256) + n.val); rw [grp_lane]))

theorem head_lane (g : Fin 8) (q : Fin 256) : (headOf (laneOf g q)).val = 4 * g.val + q.val / 64 := by
  show (256 * g.val + q.val) / 64 = _
  omega

/-- The column of the padded table that a head has. -/
def padHead (h : Fin 32) : Fin 128 := ⟨h.val, by omega⟩

theorem chD_at (c : Dev nD) (t : Fin cfg0.N) (b : Fin 4) (hb : b.val = t.val / 32) (j : Fin 2048) :
    (fun s => iblk m c 3 t (ix2 s (padHead (headOf j)))) = chD (aDt m c) b (t.val % 32) j :=
  funext fun s => blk3 m c t s _ _ rfl b hb

theorem real_chD (c : Dev nD) (hf : Fin0 m c) (t : Fin cfg0.N) (b : Fin 4) (hb : b.val = t.val / 32) (j : Fin 2048) (s : Fin 128) :
    IsReal (iblk m c 3 t (ix2 s (padHead (headOf j)))) := by
  rw [blk3 m c t s _ (headOf j) rfl b hb]
  exact hf.1 _ _ _

theorem real_rate (c : Dev nD) (hf : Fin0 m c) (t : Fin cfg0.N) (h : Fin 32) : IsReal (rateK (iblk m c 5 t) (padHead h)) := by
  unfold rateK
  rw [blk5 m c t _ h rfl]
  exact isReal_zero.sub (hf.2 h).exp

/-- One chunk's step of the carried state, at an entry. -/
theorem st_step (c : Dev nD) (hf : Fin0 m c) (t : Fin cfg0.N) (b : Fin 4) (hb : b.val = t.val / 32) (xs : Vec Ideal S8x128x256 .f32)
    (hx : ∀ g n q, xs (ix3 g n q) = stateAt (aX m c) (aDt m c) (aAl m c) b (laneOf g q) (t.val % 32) n) (g : Fin 8) (n : Fin 128) (q : Fin 256) :
    stAll (iblk m c 0 t) (iblk m c 1 t) (iblk m c 3 t) (iblk m c 5 t) xs (ix3 g n q)
      = stateAt (aX m c) (aDt m c) (aAl m c) b (laneOf g q) (t.val % 32 + 1) n := by
  show stG g _ _ _ _ _ (ix2 n q) = _
  refine (stG_at g _ _ _ _ _ n q (padHead (headOf (laneOf g q))) (head_lane g q) (real_chD m c hf t b hb _) (real_rate m c hf t _)).trans ?_
  rw [chX_at m c t b hb g q, chB_at m c t b hb g q, chD_at m c t b hb (laneOf g q), rateK_at m c t _ (headOf (laneOf g q)) rfl,
    funext fun n => hx g n q]
  rfl

/-- One raw output of a chunk. -/
theorem y_step (c : Dev nD) (hf : Fin0 m c) (t : Fin cfg0.N) (b : Fin 4) (hb : b.val = t.val / 32) (xs : Vec Ideal S8x128x256 .f32)
    (hx : ∀ g n q, xs (ix3 g n q) = stateAt (aX m c) (aDt m c) (aAl m c) b (laneOf g q) (t.val % 32) n) (s : Fin 128) (j : Fin 2048) :
    yAll (iblk m c 0 t) (iblk m c 1 t) (iblk m c 2 t) (iblk m c 3 t) (iblk m c 5 t) (iblk m c 6 t) xs (ix2 s j)
      = rawAt (aX m c) (aDt m c) (aAl m c) (aDs m c) b (t.val % 32) s j := by
  obtain ⟨g, q, rfl⟩ : ∃ (g : Fin 8) (q : Fin 256), j = laneOf g q :=
    ⟨⟨j.val / 256, by omega⟩, ⟨j.val % 256, by omega⟩, Fin.ext (by show j.val = 256 * (j.val / 256) + j.val % 256; omega)⟩
  have e : yAll (iblk m c 0 t) (iblk m c 1 t) (iblk m c 2 t) (iblk m c 3 t) (iblk m c 5 t) (iblk m c 6 t) xs (ix2 s (laneOf g q))
      = yG g (iblk m c 0 t) (iblk m c 1 t) (iblk m c 2 t) (iblk m c 3 t) (iblk m c 5 t) (iblk m c 6 t) xs (ix2 s q) :=
    (yAll_piece g _ _ _ _ _ _ _ (ix2 s q) (ix2 s (laneOf g q)) rfl rfl).symm
  rw [e, yG_at g _ _ _ _ _ _ _ s q (padHead (headOf (laneOf g q))) (head_lane g q) (real_chD m c hf t b hb _) (real_rate m c hf t _),
    chX_at m c t b hb g q, chB_at m c t b hb g q, chC_at m c t b hb g q, chD_at m c t b hb (laneOf g q),
    rateK_at m c t _ (headOf (laneOf g q)) rfl, funext fun n => hx g n q, blk6 m c t _]
  rfl

theorem pay10_at (g : Fin 8) (n : Fin 128) (q : Fin 256) : (k0_pay10 (F := Ideal)) (ix3 g n q) = 0 := by
  pointwise [k0_pay10]

/-- What the carried state holds after each point: the recurrence's state of the point's sequence. -/
theorem carried (c : Dev nD) (hf : Fin0 m c) (b : Fin 4) : ∀ (k : ℕ) (hk : k < 32) (h : 32 * b.val + k < cfg0.N) (g : Fin 8) (n : Fin 128) (q : Fin 256),
    (outsAt0 m c (32 * b.val + k) h).2.2 (ix3 g n q) = stateAt (aX m c) (aDt m c) (aAl m c) b (laneOf g q) (k + 1) n := by
  intro k
  induction k with
  | zero =>
    intro hk h g n q
    have hm : (32 * b.val + 0) % 32 = 0 := by omega
    have e := outsAt0_A m c ⟨32 * b.val + 0, h⟩ hm (by show ¬(32 * b.val + 0) % 32 = 31; omega)
    rw [show (outsAt0 m c (32 * b.val + 0) h) = _ from e]
    dsimp only
    rw [sout0_A_0_eq]
    refine (st_step m c hf ⟨32 * b.val + 0, h⟩ b (by show b.val = (32 * b.val + 0) / 32; omega) _ (fun g n q => ?_) g n q).trans ?_
    · rw [pay10_at]
      show 0 = stateAt _ _ _ _ _ ((32 * b.val + 0) % 32) n
      rw [hm]
      rfl
    · show stateAt _ _ _ _ _ ((32 * b.val + 0) % 32 + 1) n = _
      rw [hm]
  | succ k ih =>
    intro hk h g n q
    have hm : (32 * b.val + (k + 1)) % 32 = k + 1 := by omega
    have hp := ih (by omega) (by omega)
    have key : ∀ xs, (xs = (outsAt0 m c (32 * b.val + k) (by omega)).2.2) →
        stAll (iblk m c 0 ⟨32 * b.val + (k + 1), h⟩) (iblk m c 1 ⟨32 * b.val + (k + 1), h⟩) (iblk m c 3 ⟨32 * b.val + (k + 1), h⟩)
          (iblk m c 5 ⟨32 * b.val + (k + 1), h⟩) xs (ix3 g n q) = stateAt (aX m c) (aDt m c) (aAl m c) b (laneOf g q) (k + 1 + 1) n := by
      rintro xs rfl
      refine (st_step m c hf ⟨32 * b.val + (k + 1), h⟩ b (by show b.val = (32 * b.val + (k + 1)) / 32; omega) _ (fun g n q => ?_) g n q).trans ?_
      · rw [hp g n q]
        show _ = stateAt _ _ _ _ _ ((32 * b.val + (k + 1)) % 32) n
        rw [hm]
      · show stateAt _ _ _ _ _ ((32 * b.val + (k + 1)) % 32 + 1) n = _
        rw [hm]
    by_cases h1 : (32 * b.val + (k + 1)) % 32 = 31
    · have e := outsAt0_C m c ⟨32 * b.val + (k + 1), h⟩ (by show ¬(32 * b.val + (k + 1)) % 32 = 0; omega) h1
      rw [show (outsAt0 m c (32 * b.val + (k + 1)) h) = _ from e]
      dsimp only
      rw [sout0_C_0_eq]
      exact key _ rfl
    · have e := outsAt0_B m c ⟨32 * b.val + (k + 1), h⟩ (by show ¬(32 * b.val + (k + 1)) % 32 = 0; omega) h1
      rw [show (outsAt0 m c (32 * b.val + (k + 1)) h) = _ from e]
      dsimp only
      rw [sout0_B_0_eq]
      exact key _ rfl

end Cert.Ssd
-- ==== Proof.KernelSide.lean ====
module

public import proofs.«01_k».proof.Proof.Carried
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Ssd
open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- What the carried state holds when point `t` begins. -/
theorem carried_before (c : Dev nD) (hf : Fin0 m c) (t : Fin cfg0.N) (b : Fin 4) (hb : b.val = t.val / 32) (h0 : ¬ t.val % 32 = 0) (h : t.val - 1 < cfg0.N)
    (g : Fin 8) (n : Fin 128) (q : Fin 256) :
    (outsAt0 m c (t.val - 1) h).2.2 (ix3 g n q) = stateAt (aX m c) (aDt m c) (aAl m c) b (laneOf g q) (t.val % 32) n := by
  have e1 : t.val - 1 = 32 * b.val + (t.val % 32 - 1) := by omega
  have e2 : t.val % 32 = t.val % 32 - 1 + 1 := by omega
  have key : ∀ (k : ℕ) (hk : k < cfg0.N), k = 32 * b.val + (t.val % 32 - 1) →
      (outsAt0 m c k hk).2.2 (ix3 g n q) = stateAt (aX m c) (aDt m c) (aAl m c) b (laneOf g q) (t.val % 32 - 1 + 1) n := by
    rintro k hk rfl
    exact carried m c hf b _ (by omega) hk g n q
  rw [key _ h e1, ← e2]

/-- A chunk's finished rows, at an entry. -/
theorem act_step (c : Dev nD) (hf : Fin0 m c) (t : Fin cfg0.N) (b : Fin 4) (hb : b.val = t.val / 32) (xs : Vec Ideal S8x128x256 .f32)
    (hx : ∀ g n q, xs (ix3 g n q) = stateAt (aX m c) (aDt m c) (aAl m c) b (laneOf g q) (t.val % 32) n) (s : Fin 128) (j : Fin 2048) :
    k0_pay1 (k0_pay153 (yAll (iblk m c 0 t) (iblk m c 1 t) (iblk m c 2 t) (iblk m c 3 t) (iblk m c 5 t) (iblk m c 6 t) xs) (iblk m c 4 t)) (iblk m c 7 t) (ix2 s j)
      = actAt (aX m c) (aDt m c) (aZ m c) (aAl m c) (aDs m c) (aNg m c) b (t.val % 32) s j := by
  rw [gate_at]
  have hr : ∀ x, gated (yAll (iblk m c 0 t) (iblk m c 1 t) (iblk m c 2 t) (iblk m c 3 t) (iblk m c 5 t) (iblk m c 6 t) xs (ix2 s x)) (iblk m c 4 t (ix2 s x))
      = gated (rawAt (aX m c) (aDt m c) (aAl m c) (aDs m c) b (t.val % 32) s x) (aZ m c b (rowOf (t.val % 32) s) x) := fun x => by
    rw [y_step m c hf t b hb xs hx, blk4 m c t s x b hb]
  rw [blk7 m c t j, hr j, funext hr]
  rfl

/-- Every point's finished rows. -/
theorem act_at (c : Dev nD) (hf : Fin0 m c) (t : Fin cfg0.N) (b : Fin 4) (hb : b.val = t.val / 32) (s : Fin 128) (j : Fin 2048) :
    (outsAt0 m c t.val t.isLt).1 (ix2 s j) = actAt (aX m c) (aDt m c) (aZ m c) (aAl m c) (aDs m c) (aNg m c) b (t.val % 32) s j := by
  by_cases h0 : t.val % 32 = 0
  · rw [outsAt0_A m c t h0 (by omega)]
    dsimp only
    rw [out0_A_8_eq]
    refine act_step m c hf t b hb _ (fun g n q => ?_) s j
    rw [pay10_at, h0]
    rfl
  · by_cases h1 : t.val % 32 = 31
    · rw [outsAt0_C m c t h0 h1]
      dsimp only
      rw [out0_C_8_eq]
      exact act_step m c hf t b hb _ (fun g n q => carried_before m c hf t b hb h0 _ g n q) s j
    · rw [outsAt0_B m c t h0 h1]
      dsimp only
      rw [out0_B_8_eq]
      exact act_step m c hf t b hb _ (fun g n q => carried_before m c hf t b hb h0 _ g n q) s j

/-- The last point of a sequence writes out the state after the whole sequence. -/
theorem fin_at (c : Dev nD) (hf : Fin0 m c) (t : Fin cfg0.N) (b : Fin 4) (hb : b.val = t.val / 32) (h1 : t.val % 32 = 31) (i : S1x32x64x128.Idx)
    (j : Fin 2048) (hj : j.val = 64 * (i 1).val + (i 2).val) :
    (outsAt0 m c t.val t.isLt).2.1 i = stateAt (aX m c) (aDt m c) (aAl m c) b j 32 (i 3) := by
  have h0 : ¬ t.val % 32 = 0 := by omega
  have b1 : (i 1).val < 32 := (i 1).isLt
  have b2 : (i 2).val < 64 := (i 2).isLt
  rw [outsAt0_C m c t h0 h1]
  dsimp only
  rw [out0_C_9_eq]
  refine (st_step m c hf t b hb _ (fun g n q => carried_before m c hf t b hb h0 _ g n q) _ _ _).trans ?_
  rw [h1]
  refine congrArg (fun x => stateAt (aX m c) (aDt m c) (aAl m c) b x 32 (i 3)) (Fin.ext ?_)
  show 256 * ((i 1).val / 4) + (64 * ((i 1).val % 4) + (i 2).val) = j.val
  omega

/-- The sequence a row of the first result belongs to. -/
def seqOf (r : Fin 16384) : Fin 4 := ⟨r.val / 4096, by omega⟩

/-- The first result, at an entry. -/
theorem G8_at (c : Dev nD) (hf : Fin0 m c) (r : Fin 16384) (j : Fin 2048) :
    G8 m c (ix2 r j) = actAt (aX m c) (aDt m c) (aZ m c) (aAl m c) (aDs m c) (aNg m c) (seqOf r) (r.val / 128 % 32) ⟨r.val % 128, Nat.mod_lt _ (by decide)⟩ j := by
  have ep : pt8Of (ix2 r j) = r.val / 128 := by
    show 1 * (r.val / 128 - 0) + 1 * (j.val / 2048 - 0) = _
    omega
  have hN : cfg0.N = 128 := N_0
  have hp : pt8Of (ix2 r j) < cfg0.N := by omega
  unfold G8
  rw [dif_pos hp, ← outsAt0_sweep m c _ hp]
  have key : ∀ (p : ℕ) (h : p < cfg0.N) (l : S128x2048.Idx), p = r.val / 128 → l = ix2 ⟨r.val % 128, Nat.mod_lt _ (by decide)⟩ j →
      (outsAt0 m c p h).1 l = actAt (aX m c) (aDt m c) (aZ m c) (aAl m c) (aDs m c) (aNg m c) (seqOf r) (r.val / 128 % 32) ⟨r.val % 128, Nat.mod_lt _ (by decide)⟩ j := by
    rintro p h l rfl rfl
    exact act_at m c hf ⟨r.val / 128, h⟩ (seqOf r) (by show r.val / 4096 = r.val / 128 / 32; omega) _ _
  refine key _ hp _ ep (funext fun a => ?_)
  fin_cases a
  · rfl
  · exact Fin.ext (by show j.val % 2048 = j.val; omega)

/-- The second result, at an entry. -/
theorem G9_at (c : Dev nD) (hf : Fin0 m c) (b : Fin 4) (h : Fin 32) (p : Fin 64) (n : Fin 128) :
    G9 m c (ix4 b h p n) = stateAt (aX m c) (aDt m c) (aAl m c) b ⟨64 * h.val + p.val, by omega⟩ 32 n := by
  have ep : pt9Of (ix4 b h p n) = 32 * b.val + 31 := by
    show 32 * (1 * (b.val / 1 - 0) + 1 * (h.val / 32 - 0) + 1 * (p.val / 64 - 0) + 1 * (n.val / 128 - 0)) + 31 = _
    omega
  have hN : cfg0.N = 128 := N_0
  have hp : pt9Of (ix4 b h p n) < cfg0.N := by omega
  unfold G9
  rw [dif_pos hp, ← outsAt0_sweep m c _ hp]
  have key : ∀ (q : ℕ) (hq : q < cfg0.N) (l : S1x32x64x128.Idx), q = 32 * b.val + 31 → (l 1).val = h.val → (l 2).val = p.val → (l 3) = n →
      (outsAt0 m c q hq).2.1 l = stateAt (aX m c) (aDt m c) (aAl m c) b ⟨64 * h.val + p.val, by omega⟩ 32 n := by
    rintro q hq l rfl e1 e2 rfl
    exact fin_at m c hf ⟨32 * b.val + 31, hq⟩ b (by show b.val = (32 * b.val + 31) / 32; omega) (by show (32 * b.val + 31) % 32 = 31; omega) l _ (by show 64 * h.val + p.val = _; omega)
  exact key _ hp _ ep (by show h.val % 32 = h.val; omega) (by show p.val % 64 = p.val; omega) (Fin.ext (by show n.val % 128 = n.val; omega))

end Cert.Ssd
-- ==== Proof.RefEntry.lean ====
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value
open Idealize.ShloMosaic.StableHlo Idealize.ShloMosaic.Tactic

variable (m : (ℓ : Loc nD τ sig) → Buf (Elt Ideal) ℓ)

theorem ent0 (c : Dev nD) : entryContents preI m c (Proc.devRef .tc main_v23_0)
    = transpose S32x4x128x8x4x64 [1, 0, 2, 3, 4, 5] (shapeCast S4x32x128x8x4x64 (shapeCast S4x4096x8x4x64 (extractStridedSlice S4x4096x2048 ![0, 0, 0] (m ((c.tc : Thread nD τ).loc main_arg0)) slices_S4x4096x4096_S4x4096x2048_0_0_0) shapeCasts_S4x4096x2048_S4x4096x8x4x64) shapeCasts_S4x4096x8x4x64_S4x32x128x8x4x64) transposes_S4x32x128x8x4x64_S32x4x128x8x4x64_1_0_2_3_4_5 := by
  simp only [entryContents, afterL_cons, afterL_nil]
  after_reads_simp
  rfl

theorem ent1 (c : Dev nD) : entryContents preI m c (Proc.devRef .tc main_v23_1)
    = transpose S32x4x128x8x4 [1, 0, 2, 3, 4] (shapeCast S4x32x128x8x4 (shapeCast S4x4096x8x4 (m ((c.tc : Thread nD τ).loc main_arg1)) shapeCasts_S4x4096x32_S4x4096x8x4) shapeCasts_S4x4096x8x4_S4x32x128x8x4) transposes_S4x32x128x8x4_S32x4x128x8x4_1_0_2_3_4 := by
  simp only [entryContents, afterL_cons, afterL_nil]
  after_reads_simp
  rfl

theorem ent2 (c : Dev nD) : entryContents preI m c (Proc.devRef .tc main_v23_2)
    = transpose S32x4x128x8x128 [1, 0, 2, 3, 4] (shapeCast S4x32x128x8x128 (shapeCast S4x4096x8x128 (extractStridedSlice S4x4096x1024 ![0, 0, 2048] (m ((c.tc : Thread nD τ).loc main_arg0)) slices_S4x4096x4096_S4x4096x1024_0_0_2048) shapeCasts_S4x4096x1024_S4x4096x8x128) shapeCasts_S4x4096x8x128_S4x32x128x8x128) transposes_S4x32x128x8x128_S32x4x128x8x128_1_0_2_3_4 := by
  simp only [entryContents, afterL_cons, afterL_nil]
  after_reads_simp
  rfl

theorem ent3 (c : Dev nD) : entryContents preI m c (Proc.devRef .tc main_v23_3)
    = transpose S32x4x128x8x128 [1, 0, 2, 3, 4] (shapeCast S4x32x128x8x128 (shapeCast S4x4096x8x128 (extractStridedSlice S4x4096x1024 ![0, 0, 3072] (m ((c.tc : Thread nD τ).loc main_arg0)) slices_S4x4096x4096_S4x4096x1024_0_0_3072) shapeCasts_S4x4096x1024_S4x4096x8x128) shapeCasts_S4x4096x8x128_S4x32x128x8x128) transposes_S4x32x128x8x128_S32x4x128x8x128_1_0_2_3_4 := by
  simp only [entryContents, afterL_cons, afterL_nil]
  after_reads_simp
  rfl

theorem ent4 (c : Dev nD) : entryContents preI m c (Proc.devRef .tc main_v23_4)
    = Host.negf (shapeCast S8x4 (Host.exp (show FVec Ideal S32 .f32 from m ((c.tc : Thread nD τ).loc main_arg3))) shapeCasts_S32_S8x4) := by
  simp only [entryContents, afterL_cons, afterL_nil]
  after_reads_simp
  rfl

theorem ent5 (c : Dev nD) : entryContents preI m c (Proc.devRef .tc main_v23_5)
    = broadcastInDim S1x128x128x1x1 ![1, 2] bcast_S128x128_S1x128x128x1x1_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) := by
  simp only [entryContents, afterL_cons, afterL_nil]
  after_reads_simp
  rfl

theorem ent7 (c : Dev nD) : entryContents preI m c (Proc.devRef .tc main_v23_7)
    = broadcastInDim S4x8x4x64x128 ![] bcast_S_S4x8x4x64x128 (constant (F := Ideal) S_ .f32 0x00000000#32) := by
  simp only [entryContents, afterL_cons, afterL_nil]
  after_reads_simp
  rfl

end Cert.Ssd.Ref
-- ==== Proof.RefSlices.lean ====
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value
open Idealize.ShloMosaic.StableHlo Idealize.ShloMosaic.Tactic

theorem cX (x : FVec Ideal S4x4096x4096 .f32) (k : Fin 32) (b : Fin 4) (s : Fin 128) (g : Fin 8) (r : Fin 4) (p : Fin 64) :
    transpose S32x4x128x8x4x64 [1, 0, 2, 3, 4, 5] (shapeCast S4x32x128x8x4x64 (shapeCast S4x4096x8x4x64 (extractStridedSlice S4x4096x2048 ![0, 0, 0] x slices_S4x4096x4096_S4x4096x2048_0_0_0) shapeCasts_S4x4096x2048_S4x4096x8x4x64) shapeCasts_S4x4096x8x4x64_S4x32x128x8x4x64) transposes_S4x32x128x8x4x64_S32x4x128x8x4x64_1_0_2_3_4_5 (ix6 k b s g r p)
      = x (ix3 b ⟨k.val * 128 + s.val, by omega⟩ ⟨g.val * 256 + r.val * 64 + p.val, by omega⟩) := by
  pointwise

theorem cD (x : FVec Ideal S4x4096x32 .f32) (k : Fin 32) (b : Fin 4) (s : Fin 128) (g : Fin 8) (r : Fin 4) :
    transpose S32x4x128x8x4 [1, 0, 2, 3, 4] (shapeCast S4x32x128x8x4 (shapeCast S4x4096x8x4 x shapeCasts_S4x4096x32_S4x4096x8x4) shapeCasts_S4x4096x8x4_S4x32x128x8x4) transposes_S4x32x128x8x4_S32x4x128x8x4_1_0_2_3_4 (ix5 k b s g r)
      = x (ix3 b ⟨k.val * 128 + s.val, by omega⟩ ⟨g.val * 4 + r.val, by omega⟩) := by
  pointwise

theorem cB (x : FVec Ideal S4x4096x4096 .f32) (k : Fin 32) (b : Fin 4) (s : Fin 128) (g : Fin 8) (n : Fin 128) :
    transpose S32x4x128x8x128 [1, 0, 2, 3, 4] (shapeCast S4x32x128x8x128 (shapeCast S4x4096x8x128 (extractStridedSlice S4x4096x1024 ![0, 0, 2048] x slices_S4x4096x4096_S4x4096x1024_0_0_2048) shapeCasts_S4x4096x1024_S4x4096x8x128) shapeCasts_S4x4096x8x128_S4x32x128x8x128) transposes_S4x32x128x8x128_S32x4x128x8x128_1_0_2_3_4 (ix5 k b s g n)
      = x (ix3 b ⟨k.val * 128 + s.val, by omega⟩ ⟨2048 + (g.val * 128 + n.val), by omega⟩) := by
  pointwise

theorem cC (x : FVec Ideal S4x4096x4096 .f32) (k : Fin 32) (b : Fin 4) (s : Fin 128) (g : Fin 8) (n : Fin 128) :
    transpose S32x4x128x8x128 [1, 0, 2, 3, 4] (shapeCast S4x32x128x8x128 (shapeCast S4x4096x8x128 (extractStridedSlice S4x4096x1024 ![0, 0, 3072] x slices_S4x4096x4096_S4x4096x1024_0_0_3072) shapeCasts_S4x4096x1024_S4x4096x8x128) shapeCasts_S4x4096x8x128_S4x32x128x8x128) transposes_S4x32x128x8x128_S32x4x128x8x128_1_0_2_3_4 (ix5 k b s g n)
      = x (ix3 b ⟨k.val * 128 + s.val, by omega⟩ ⟨3072 + (g.val * 128 + n.val), by omega⟩) := by
  pointwise

theorem cA (x : FVec Ideal S32 .f32) (g : Fin 8) (r : Fin 4) :
    Host.negf (shapeCast S8x4 (Host.exp x) shapeCasts_S32_S8x4) (ix2 g r) = -Ideal.exp (x (ix1 ⟨g.val * 4 + r.val, by omega⟩)) := by
  pointwise

theorem cTri (t s : Fin 128) (z0 : Fin 1) (z1 : Fin 1) (z2 : Fin 1) : (broadcastInDim S1x128x128x1x1 ![1, 2] bcast_S128x128_S1x128x128x1x1_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (ix5 z0 t s z1 z2)
      = if s ≤ t then 1#1 else 0#1 := by
  pointwise
  show Scalar.select (IntOp.cmpi .sge (BitVec.ofNat 32 t.val + 0#32) (BitVec.ofNat 32 s.val)) 1#1 0#1 = _
  have ea : (BitVec.ofNat 32 t.val).toNat = t.val := by rw [BitVec.toNat_ofNat]; omega
  have eb : (BitVec.ofNat 32 s.val).toNat = s.val := by rw [BitVec.toNat_ofNat]; omega
  rw [BitVec.add_zero, WordCmp.cmpi_sge_of_lt (by omega) (by omega), ea, eb]
  by_cases h : s ≤ t
  · have h' : s.val ≤ t.val := h
    simp [Scalar.select, h, h']
  · have h' : ¬ s.val ≤ t.val := h
    simp [Scalar.select, h, h']

section Slice
variable {α : Type} (c : S_.Idx → BitVec 32) (k : Fin 32) (hc : c = fun _ => BitVec.ofNat 32 k.val)
include hc

theorem start_val (h : 0 < S_.numel) : (c (Shape.Idx.first h)).toInt = (k.val : Int) := by
  rw [hc]
  exact WordCmp.toInt_ofNat_of_lt (by omega)

theorem sl6 (X : S32x4x128x8x4x64.Idx → α) (b : Fin 4) (s : Fin 128) (g : Fin 8) (r : Fin 4) (p : Fin 64) :
    shapeCast S4x128x8x4x64 (Host.dynamicSlice S1x4x128x8x4x64 X (fun a => ((![c, constantI S_ 32 0#32, constantI S_ 32 0#32, constantI S_ 32 0#32, constantI S_ 32 0#32, constantI S_ 32 0#32] : Fin 6 → S_.Idx → BitVec 32) a (Shape.Idx.first h_S_)).toInt) sliceFits_S32x4x128x8x4x64_S1x4x128x8x4x64) shapeCasts_S1x4x128x8x4x64_S4x128x8x4x64 (ix5 b s g r p)
      = X (ix6 k b s g r p) := by
  have hk := k.isLt
  rw [WordCmp.dynamicSlice_eq_extract S1x4x128x8x4x64 X _ _ ![k.val, 0, 0, 0, 0, 0] ⟨rfl, fun a => by
    fin_cases a
    · show k.val + 1 ≤ 32
      omega
    all_goals exact Nat.le_of_eq (Nat.zero_add _)⟩ (fun a => by
    fin_cases a
    · exact start_val c k hc _
    all_goals rfl)]
  pointwise

theorem sl5n (X : S32x4x128x8x128.Idx → α) (b : Fin 4) (s : Fin 128) (g : Fin 8) (r : Fin 128) :
    shapeCast S4x128x8x128 (Host.dynamicSlice S1x4x128x8x128 X (fun a => ((![c, constantI S_ 32 0#32, constantI S_ 32 0#32, constantI S_ 32 0#32, constantI S_ 32 0#32] : Fin 5 → S_.Idx → BitVec 32) a (Shape.Idx.first h_S_)).toInt) sliceFits_S32x4x128x8x128_S1x4x128x8x128) shapeCasts_S1x4x128x8x128_S4x128x8x128 (ix4 b s g r)
      = X (ix5 k b s g r) := by
  have hk := k.isLt
  rw [WordCmp.dynamicSlice_eq_extract S1x4x128x8x128 X _ _ ![k.val, 0, 0, 0, 0] ⟨rfl, fun a => by
    fin_cases a
    · show k.val + 1 ≤ 32
      omega
    all_goals exact Nat.le_of_eq (Nat.zero_add _)⟩ (fun a => by
    fin_cases a
    · exact start_val c k hc _
    all_goals rfl)]
  pointwise

theorem sl5 (X : S32x4x128x8x4.Idx → α) (b : Fin 4) (s : Fin 128) (g : Fin 8) (r : Fin 4) :
    shapeCast S4x128x8x4 (Host.dynamicSlice S1x4x128x8x4 X (fun a => ((![c, constantI S_ 32 0#32, constantI S_ 32 0#32, constantI S_ 32 0#32, constantI S_ 32 0#32] : Fin 5 → S_.Idx → BitVec 32) a (Shape.Idx.first h_S_)).toInt) sliceFits_S32x4x128x8x4_S1x4x128x8x4) shapeCasts_S1x4x128x8x4_S4x128x8x4 (ix4 b s g r)
      = X (ix5 k b s g r) := by
  have hk := k.isLt
  rw [WordCmp.dynamicSlice_eq_extract S1x4x128x8x4 X _ _ ![k.val, 0, 0, 0, 0] ⟨rfl, fun a => by
    fin_cases a
    · show k.val + 1 ≤ 32
      omega
    all_goals exact Nat.le_of_eq (Nat.zero_add _)⟩ (fun a => by
    fin_cases a
    · exact start_val c k hc _
    all_goals rfl)]
  pointwise

theorem up6 (X : S32x4x128x8x4x64.Idx → α) (U : S4x128x8x4x64.Idx → α) (k' : Fin 32) (b : Fin 4) (s : Fin 128) (g : Fin 8) (r : Fin 4) (p : Fin 64) :
    Host.dynamicUpdateSlice X (broadcastInDim S1x4x128x8x4x64 ![1, 2, 3, 4, 5] bcast_S4x128x8x4x64_S1x4x128x8x4x64_1_2_3_4_5 U) (fun a => ((![c, constantI S_ 32 0#32, constantI S_ 32 0#32, constantI S_ 32 0#32, constantI S_ 32 0#32, constantI S_ 32 0#32] : Fin 6 → S_.Idx → BitVec 32) a (Shape.Idx.first h_S_)).toInt) updateFits_S32x4x128x8x4x64_S1x4x128x8x4x64 (ix6 k' b s g r p)
      = if k' = k then U (ix5 b s g r p) else X (ix6 k' b s g r p) := by
  have hk := k.isLt
  refine (congrFun (WordCmp.dynamicUpdateSlice_eq_update (u := S1x4x128x8x4x64) X _ _ _ ![k.val, 0, 0, 0, 0, 0] ⟨rfl, fun a => by
    fin_cases a
    · show k.val + 1 ≤ 32
      omega
    all_goals exact Nat.le_of_eq (Nat.zero_add _)⟩ (fun a => by
    fin_cases a
    · exact start_val c k hc _
    all_goals rfl)) _).trans ?_
  pointwise
  by_cases h : k' = k
  · subst h
    rw [if_pos rfl, dif_pos ⟨le_refl _, Nat.lt_succ_self _⟩]
  · rw [if_neg h, dif_neg fun hh => h (Fin.ext (by omega))]
end Slice

end Cert.Ssd.Ref
-- ==== Proof.CumSum.lean ====
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value

theorem foldl_add {ι : Type} (f : ι → EReal) : ∀ (l : List ι) (v : EReal), l.foldl (fun r n => r + f n) v = v + (l.map f).sum
  | [], v => by simp
  | a :: l, v => by
    rw [List.foldl_cons, foldl_add f l, List.map_cons, List.sum_cons, add_assoc]

/-- Rows shifted round the chunk: the rows of the window that lie inside the chunk are those up to `t`. -/
theorem sum_prefix (F : Fin 128 → EReal) (t : Fin 128) :
    (∑ w : Fin 128, if h : 127 ≤ t.val + w.val then F ⟨t.val + w.val - 127, by omega⟩ else 0) = ∑ s : Fin 128, if s ≤ t then F s else 0 := by
  have ht := t.isLt
  refine Fintype.sum_equiv (Equiv.addRight (⟨(t.val + 1) % 128, by omega⟩ : Fin 128)) _ _ fun w => ?_
  have hw := w.isLt
  have ev : (w + (⟨(t.val + 1) % 128, by omega⟩ : Fin 128)).val = (w.val + (t.val + 1) % 128) % 128 := rfl
  show _ = if (w + (⟨(t.val + 1) % 128, by omega⟩ : Fin 128)) ≤ t then F (w + (⟨(t.val + 1) % 128, by omega⟩ : Fin 128)) else 0
  by_cases h : 127 ≤ t.val + w.val
  · have e : (w + (⟨(t.val + 1) % 128, by omega⟩ : Fin 128)) = ⟨t.val + w.val - 127, by omega⟩ := Fin.ext (by rw [ev]; show _ = t.val + w.val - 127; omega)
    rw [dif_pos h, e, if_pos (by show t.val + w.val - 127 ≤ t.val; omega)]
  · rw [dif_neg h, if_neg]
    intro hc
    have hc' : (w + (⟨(t.val + 1) % 128, by omega⟩ : Fin 128)).val ≤ t.val := hc
    rw [ev] at hc'
    omega

/-- A window sum is the sum over the window's positions. -/
theorem window_sum {s t u : Shape} (window strides lo hi : Fin s.rank → ℕ) (x : FVec Ideal s .f32) (init : FVec Ideal u .f32)
    (h : s.ReduceWindows window strides lo hi t) (hu : 0 < u.numel) (hz : init (Shape.Idx.first hu) = 0) (j : t.Idx) :
    Host.reduceWindowAdd window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  let W : Shape := ⟨s.rank, window⟩
  let q : EReal → W.Idx → EReal := fun z w =>
    if hin : ∀ a, lo a ≤ (j (a.cast h.1.symm)).val * strides a + (w a).val ∧ (j (a.cast h.1.symm)).val * strides a + (w a).val - lo a < s.size a
    then x (fun a => ⟨(j (a.cast h.1.symm)).val * strides a + (w a).val - lo a, (hin a).2⟩) else z
  have e1 : Host.reduceWindowAdd window strides lo hi x init h hu j
      = (List.finRange W.numel).foldl (fun r n => r + q (init (Shape.Idx.first hu)) (W.rowMajor.symm n)) (init (Shape.Idx.first hu)) := by
    unfold Host.reduceWindowAdd
    rw [Ideal.hostReduceWindowAdd_def]
    unfold Ideal.hostReduceWindowAdd Host.reduceWindow
    dsimp only [q, W]
    refine congrArg (fun f => List.foldl f _ _) (funext fun r => funext fun n => congrArg (r + ·) ?_)
    split_ifs <;> rfl
  rw [e1, hz, foldl_add (fun n => q 0 (W.rowMajor.symm n)), zero_add, ← Fin.sum_univ_def, Equiv.sum_comp W.rowMajor.symm (q 0)]

/-- The running sum along the rows of a chunk. -/
theorem cumsum_at (x : FVec Ideal S4x128x8x4 .f32) (init : FVec Ideal S_ .f32) (h0 : ∀ i, init i = 0)
    (h : S4x128x8x4.ReduceWindows ![1, 128, 1, 1] ![1, 1, 1, 1] ![0, 127, 0, 0] ![0, 0, 0, 0] S4x128x8x4) (hu : 0 < S_.numel)
    (b : Fin 4) (t : Fin 128) (g : Fin 8) (r : Fin 4) :
    Host.reduceWindowAdd ![1, 128, 1, 1] ![1, 1, 1, 1] ![0, 127, 0, 0] ![0, 0, 0, 0] x init h hu (ix4 b t g r)
      = ∑ s : Fin 128, if s ≤ t then x (ix4 b s g r) else 0 := by
  rw [window_sum _ _ _ _ x init h hu (h0 _), ← sum_prefix (fun s => x (ix4 b s g r)) t]
  refine (sum_idx4 (n0 := 1) (n1 := 128) (n2 := 1) (n3 := 1) _).trans ?_
  let p : (⟨4, ![1, 128, 1, 1]⟩ : Shape).Idx → Fin 4 → ℕ := fun w a => ((ix4 b t g r : S4x128x8x4.Idx) a).val * (![1, 1, 1, 1] : Fin 4 → ℕ) a + (w a).val
  rw [Fin.sum_univ_one]
  refine Finset.sum_congr rfl fun w _ => ?_
  rw [Fin.sum_univ_one, Fin.sum_univ_one]
  have hw := w.isLt
  have ht := t.isLt
  have p0 : p (ix4 0 w 0 0) 0 = b.val := by show b.val * 1 + 0 = _; omega
  have p1 : p (ix4 0 w 0 0) 1 = t.val + w.val := by show t.val * 1 + w.val = _; omega
  have p2 : p (ix4 0 w 0 0) 2 = g.val := by show g.val * 1 + 0 = _; omega
  have p3 : p (ix4 0 w 0 0) 3 = r.val := by show r.val * 1 + 0 = _; omega
  by_cases hc : 127 ≤ t.val + w.val
  · rw [dif_pos hc]
    have hin : ∀ a, (![0, 127, 0, 0] : Fin 4 → ℕ) a ≤ p (ix4 0 w 0 0) a ∧ p (ix4 0 w 0 0) a - (![0, 127, 0, 0] : Fin 4 → ℕ) a < S4x128x8x4.size a := by
      intro a
      fin_cases a
      · show 0 ≤ p (ix4 0 w 0 0) 0 ∧ p (ix4 0 w 0 0) 0 - 0 < 4
        omega
      · show 127 ≤ p (ix4 0 w 0 0) 1 ∧ p (ix4 0 w 0 0) 1 - 127 < 128
        omega
      · show 0 ≤ p (ix4 0 w 0 0) 2 ∧ p (ix4 0 w 0 0) 2 - 0 < 8
        omega
      · show 0 ≤ p (ix4 0 w 0 0) 3 ∧ p (ix4 0 w 0 0) 3 - 0 < 4
        omega
    refine (dif_pos hin).trans (congrArg x (funext fun a => Fin.ext ?_))
    fin_cases a
    · exact p0
    · show p (ix4 0 w 0 0) 1 - 127 = t.val + w.val - 127
      rw [p1]
    · exact p2
    · exact p3
  · rw [dif_neg hc]
    refine dif_neg fun hin => hc ?_
    have := (hin 1).1
    change 127 ≤ p (ix4 0 w 0 0) 1 at this
    omega

end Cert.Ssd.Ref
-- ==== Proof.RefStep.lean ====
module

public import proofs.«01_k».proof.Proof.Spec
public import proofs.«01_k».proof.Proof.Gen.ReferenceIdeal.Run
public import Idealize.ShloMosaic.Lib.Pointwise
public import Idealize.ShloMosaic.Lib.WordCmp
public import proofs.«01_k».proof.Proof.CumSum

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value
open Idealize.ShloMosaic.StableHlo Idealize.ShloMosaic.Tactic

theorem cum_ref (d : FVec Ideal S4x128x8x4 .f32) (A : FVec Ideal S8x4 .f32) (b : Fin 4) (t : Fin 128) (g : Fin 8) (r : Fin 4) :
    Host.reduceWindowAdd ![1, 128, 1, 1] ![1, 1, 1, 1] ![0, 127, 0, 0] ![0, 0, 0, 0] (mulf d (broadcastInDim S4x128x8x4 ![0, 1, 2, 3] bcast_S1x1x8x4_S4x128x8x4_0_1_2_3 (broadcastInDim S1x1x8x4 ![2, 3] bcast_S8x4_S1x1x8x4_2_3 A))) (broadcastInDim S_ ![] bcast_S_S_ (constant (F := Ideal) S_ .f32 0x00000000#32)) reduceWindows_S4x128x8x4_S4x128x8x4_w1s1p0_0_w128s1p127_0_w1s1p0_0_w1s1p0_0 h_S_ (ix4 b t g r)
      = ssdCum (fun s => d (ix4 b s g r)) (A (ix2 g r)) t := by
  refine (cumsum_at _ _ (fun i => ?_) _ _ b t g r).trans ?_
  · pointwise
  · unfold ssdCum
    refine Finset.sum_congr rfl fun s _ => ?_
    split_ifs
    · pointwise
    · rfl

theorem state_ref (cum d : FVec Ideal S4x128x8x4 .f32) (X : FVec Ideal S4x128x8x4x64 .f32) (B : FVec Ideal S4x128x8x128 .f32) (S : FVec Ideal S4x8x4x64x128 .f32)
    (b : Fin 4) (g : Fin 8) (r : Fin 4) (p : Fin 64) (n : Fin 128) :
    (addf (mulf (broadcastInDim S4x8x4x64x128 ![0, 1, 2, 3, 4] bcast_S4x8x4x1x1_S4x8x4x64x128_0_1_2_3_4 (broadcastInDim S4x8x4x1x1 ![0, 1, 2] bcast_S4x8x4_S4x8x4x1x1_0_1_2 (Host.exp (shapeCast S4x8x4 (extractStridedSlice S4x1x8x4 ![0, 127, 0, 0] cum slices_S4x128x8x4_S4x1x8x4_0_127_0_0) shapeCasts_S4x1x8x4_S4x8x4)))) S) (Host.dotGeneral dot_S4x128x8x4x64_S4x128x8x128_S4x8x4x64x128_1_1_34_3_02_02 none (mulf X (broadcastInDim S4x128x8x4x64 ![0, 1, 2, 3, 4] bcast_S4x128x8x4x1_S4x128x8x4x64_0_1_2_3_4 (broadcastInDim S4x128x8x4x1 ![0, 1, 2, 3] bcast_S4x128x8x4_S4x128x8x4x1_0_1_2_3 (mulf (Host.exp (subf (broadcastInDim S4x128x8x4 ![0, 1, 2, 3] bcast_S4x1x8x4_S4x128x8x4_0_1_2_3 (extractStridedSlice S4x1x8x4 ![0, 127, 0, 0] cum slices_S4x128x8x4_S4x1x8x4_0_127_0_0)) cum)) d)))) B)) (ix5 b g r p n)
      = Ideal.exp (cum (ix4 b 127 g r)) * S (ix5 b g r p n)
        + ∑ s : Fin 128, B (ix4 b s g n) * (X (ix5 b s g r p) * (Ideal.exp (cum (ix4 b 127 g r) - cum (ix4 b s g r)) * d (ix4 b s g r))) := by
  pointwise
  refine congrArg (_ + ·) (Finset.sum_congr rfl fun s _ => ?_)
  exact mul_comm _ _

theorem out_ref (cum d : FVec Ideal S4x128x8x4 .f32) (X : FVec Ideal S4x128x8x4x64 .f32) (B C : FVec Ideal S4x128x8x128 .f32) (S : FVec Ideal S4x8x4x64x128 .f32)
    (tri : IVec S1x128x128x1x1 1) (b : Fin 4) (t : Fin 128) (g : Fin 8) (r : Fin 4) (p : Fin 64) :
    (addf (transpose S4x128x8x4x64 [0, 4, 1, 2, 3] (Host.dotGeneral dot_S4x128x8x4x64_S4x128x128x8x4_S4x8x4x64x128_1_2_4_1_023_034 none X (mulf (mulf (broadcastInDim S4x128x128x8x4 ![0, 1, 2, 3, 4] bcast_S4x128x128x8x1_S4x128x128x8x4_0_1_2_3_4 (broadcastInDim S4x128x128x8x1 ![0, 1, 2, 3] bcast_S4x128x128x8_S4x128x128x8x1_0_1_2_3 (transpose S4x128x128x8 [0, 3, 2, 1] (Host.dotGeneral dot_S4x128x8x128_S4x128x8x128_S4x8x128x128_3_3_1_1_02_02 none B C) transposes_S4x8x128x128_S4x128x128x8_0_3_2_1))) (Host.exp (select (broadcastInDim S4x128x128x8x4 ![0, 1, 2, 3, 4] bcast_S1x128x128x1x1_S4x128x128x8x4_0_1_2_3_4 tri) (subf (broadcastInDim S4x128x128x8x4 ![0, 1, 2, 3, 4] bcast_S4x128x1x8x4_S4x128x128x8x4_0_1_2_3_4 (broadcastInDim S4x128x1x8x4 ![0, 1, 3, 4] bcast_S4x128x8x4_S4x128x1x8x4_0_1_3_4 cum)) (broadcastInDim S4x128x128x8x4 ![0, 1, 2, 3, 4] bcast_S4x1x128x8x4_S4x128x128x8x4_0_1_2_3_4 (broadcastInDim S4x1x128x8x4 ![0, 2, 3, 4] bcast_S4x128x8x4_S4x1x128x8x4_0_2_3_4 cum))) (broadcastInDim S4x128x128x8x4 ![] bcast_S_S4x128x128x8x4 (id (constant (F := Ideal) S_ .f32 0xFF800000#32)))))) (broadcastInDim S4x128x128x8x4 ![0, 1, 2, 3, 4] bcast_S4x1x128x8x4_S4x128x128x8x4_0_1_2_3_4 (broadcastInDim S4x1x128x8x4 ![0, 2, 3, 4] bcast_S4x128x8x4_S4x1x128x8x4_0_2_3_4 d)))) transposes_S4x8x4x64x128_S4x128x8x4x64_0_4_1_2_3) (mulf (transpose S4x128x8x4x64 [0, 4, 1, 2, 3] (Host.dotGeneral dot_S4x8x4x64x128_S4x128x8x128_S4x8x4x64x128_4_3_23_1_01_02 none S C) transposes_S4x8x4x64x128_S4x128x8x4x64_0_4_1_2_3) (broadcastInDim S4x128x8x4x64 ![0, 1, 2, 3, 4] bcast_S4x128x8x4x1_S4x128x8x4x64_0_1_2_3_4 (broadcastInDim S4x128x8x4x1 ![0, 1, 2, 3] bcast_S4x128x8x4_S4x128x8x4x1_0_1_2_3 (Host.exp cum))))) (ix5 b t g r p)
      = (∑ n : Fin 128, C (ix4 b t g n) * S (ix5 b g r p n)) * Ideal.exp (cum (ix4 b t g r))
        + ∑ s : Fin 128, (∑ n : Fin 128, C (ix4 b t g n) * B (ix4 b s g n))
          * Ideal.exp (if tri (ix5 0 t s 0 0) = 1#1 then cum (ix4 b t g r) - cum (ix4 b s g r) else Ideal.ofBits FTy.f32 0xFF800000#32)
          * d (ix4 b s g r) * X (ix5 b s g r p) := by
  pointwise
  rw [add_comm]
  have e : ∀ n, S (ix5 b g r p n) * C (ix4 b t g n) = C (ix4 b t g n) * S (ix5 b g r p n) := fun n => mul_comm _ _
  refine congrArg₂ (· + ·) (congrArg (· * _) (Finset.sum_congr rfl fun n _ => e n)) (Finset.sum_congr rfl fun s _ => ?_)
  refine (mul_comm _ _).trans (congrArg (· * _) (congrArg (· * _) ?_))
  exact congrArg (· * _) (Finset.sum_congr rfl fun n _ => mul_comm _ _)

end Cert.Ssd.Ref
-- ==== Proof.RefOut.lean ====
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value
open Idealize.ShloMosaic.StableHlo Idealize.ShloMosaic.Tactic

/-- The outputs before the norm: the scan's outputs and the skip term, times the gate. -/
def gatedRef (Y : FVec Ideal S32x4x128x8x4x64 .f32) (x : FVec Ideal S4x4096x4096 .f32) (z : FVec Ideal S4x4096x2048 .f32) (ds : FVec Ideal S32 .f32) : FVec Ideal S4x4096x2048 .f32 :=
  mulf (shapeCast S4x4096x2048 (addf (shapeCast S4x4096x8x4x64 (transpose S4x32x128x8x4x64 [1, 0, 2, 3, 4, 5] Y transposes_S32x4x128x8x4x64_S4x32x128x8x4x64_1_0_2_3_4_5) shapeCasts_S4x32x128x8x4x64_S4x4096x8x4x64) (mulf (broadcastInDim S4x4096x8x4x64 ![0, 1, 2, 3, 4] bcast_S1x1x8x4x1_S4x4096x8x4x64_0_1_2_3_4 (broadcastInDim S1x1x8x4x1 ![2, 3, 4] bcast_S8x4x1_S1x1x8x4x1_2_3_4 (broadcastInDim S8x4x1 ![0, 1] bcast_S8x4_S8x4x1_0_1 (shapeCast S8x4 ds shapeCasts_S32_S8x4)))) (shapeCast S4x4096x8x4x64 (extractStridedSlice S4x4096x2048 ![0, 0, 0] x slices_S4x4096x4096_S4x4096x2048_0_0_0) shapeCasts_S4x4096x2048_S4x4096x8x4x64))) shapeCasts_S4x4096x8x4x64_S4x4096x2048) (mulf z (Host.divf (broadcastInDim S4x4096x2048 ![] bcast_S_S4x4096x2048 (constant (F := Ideal) S_ .f32 0x3F800000#32)) (addf (broadcastInDim S4x4096x2048 ![] bcast_S_S4x4096x2048 (constant (F := Ideal) S_ .f32 0x3F800000#32)) (Host.exp (Host.negf z)))))

theorem gatedRef_at (Y : FVec Ideal S32x4x128x8x4x64 .f32) (x : FVec Ideal S4x4096x4096 .f32) (z : FVec Ideal S4x4096x2048 .f32) (ds : FVec Ideal S32 .f32)
    (b : Fin 4) (k : Fin 32) (s : Fin 128) (g : Fin 8) (r : Fin 4) (p : Fin 64) :
    gatedRef Y x z ds (ix3 b ⟨k.val * 128 + s.val, by omega⟩ ⟨g.val * 256 + r.val * 64 + p.val, by omega⟩)
      = gated (Y (ix6 k b s g r p) + ds (ix1 ⟨g.val * 4 + r.val, by omega⟩) * x (ix3 b ⟨k.val * 128 + s.val, by omega⟩ ⟨g.val * 256 + r.val * 64 + p.val, by omega⟩))
          (z (ix3 b ⟨k.val * 128 + s.val, by omega⟩ ⟨g.val * 256 + r.val * 64 + p.val, by omega⟩)) := by
  pointwise [gatedRef, gated]

/-- The norm of the rows and the scale. -/
def normRef (U : FVec Ideal S4x4096x2048 .f32) (ng : FVec Ideal S2048 .f32) : FVec Ideal S16384x2048 .bf16 :=
  truncf .bf16 (shapeCast S16384x2048 (mulf (mulf U (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf U U) (constant (F := Ideal) S_ .f32 0x00000000#32) reducesTo_S4x4096x2048_S4x4096_d2 h_S_)) (broadcastInDim S4x4096x1 ![] bcast_S_S4x4096x1 (constant (F := Ideal) S_ .f32 0x45000000#32))) (broadcastInDim S4x4096x1 ![] bcast_S_S4x4096x1 (constant (F := Ideal) S_ .f32 0x3727C5AC#32)))))) (broadcastInDim S4x4096x2048 ![0, 1, 2] bcast_S1x1x2048_S4x4096x2048_0_1_2 (broadcastInDim S1x1x2048 ![2] bcast_S2048_S1x1x2048_2 ng))) shapeCasts_S4x4096x2048_S16384x2048) bitsLt_bf16_f32

theorem normRef_at (U : FVec Ideal S4x4096x2048 .f32) (ng : FVec Ideal S2048 .f32) (b : Fin 4) (l : Fin 4096) (j : Fin 2048) :
    normRef U ng (ix2 ⟨b.val * 4096 + l.val, by omega⟩ j) = U (ix3 b l j) * rmsFactor (fun x => U (ix3 b l x)) * ng (ix1 j) := by
  pointwise [normRef, rmsFactor]

theorem out57 (V : Valuation τ sig (Elt Ideal)) : out_main_v57 V = normRef (gatedRef (V (Proc.devRef .tc main_v23_8)) (V (Proc.devRef .tc main_arg0)) (V (Proc.devRef .tc main_arg2)) (V (Proc.devRef .tc main_arg4))) (V (Proc.devRef .tc main_arg5)) := rfl

theorem cFin (S : FVec Ideal S4x8x4x64x128 .f32) (b : Fin 4) (g : Fin 8) (r : Fin 4) (p : Fin 64) (n : Fin 128) :
    shapeCast S4x32x64x128 S shapeCasts_S4x8x4x64x128_S4x32x64x128 (ix4 b ⟨g.val * 4 + r.val, by omega⟩ p n) = S (ix5 b g r p n) := by
  pointwise

end Cert.Ssd.Ref
-- ==== Proof.RefLoop.lean ====
module

public import proofs.«01_k».proof.Proof.Spec
public import proofs.«01_k».proof.Proof.Gen.ReferenceIdeal.Run
public import Idealize.ShloMosaic.Lib.Pointwise
public import Idealize.ShloMosaic.Lib.WordCmp
public import proofs.«01_k».proof.Proof.RefEntry
public import proofs.«01_k».proof.Proof.RefSlices
public import proofs.«01_k».proof.Proof.RefStep
public import proofs.«01_k».proof.Proof.RefOut

@[expose] public section

set_option maxRecDepth 16384

noncomputable section

namespace Cert.Ssd.Ref
open Idealize.ShloMosaic Idealize.ShloMosaic.TcCoe Idealize.SL.Sem
open Cert.ReferenceIdeal Cert.ReferenceIdeal.Gen Cert.ReferenceIdeal.Value
open Idealize.ShloMosaic.StableHlo Idealize.ShloMosaic.Tactic

variable (m : (ℓ : Loc nD τ sig) → Buf (Elt Ideal) ℓ)

/-! The arguments at coordinates. -/

def rX (c : Dev nD) (b : Fin 4) (l : Fin 4096) (j : Fin 4096) : EReal := m ((c.tc : Thread nD τ).loc main_arg0) (ix3 b l j)
def rDt (c : Dev nD) (b : Fin 4) (l : Fin 4096) (h : Fin 32) : EReal := m ((c.tc : Thread nD τ).loc main_arg1) (ix3 b l h)
def rZ (c : Dev nD) (b : Fin 4) (l : Fin 4096) (j : Fin 2048) : EReal := m ((c.tc : Thread nD τ).loc main_arg2) (ix3 b l j)
def rAl (c : Dev nD) (h : Fin 32) : EReal := m ((c.tc : Thread nD τ).loc main_arg3) (ix1 h)
def rDs (c : Dev nD) (h : Fin 32) : EReal := m ((c.tc : Thread nD τ).loc main_arg4) (ix1 h)
def rNg (c : Dev nD) (j : Fin 2048) : EReal := m ((c.tc : Thread nD τ).loc main_arg5) (ix1 j)

/-- The column of group `g`, head `r` of the group, position `p` of the head. -/
def lane3 (g : Fin 8) (r : Fin 4) (p : Fin 64) : Fin 2048 := ⟨g.val * 256 + r.val * 64 + p.val, by omega⟩

theorem lane3_div (g : Fin 8) (r : Fin 4) (p : Fin 64) : (lane3 g r p).val / 256 = g.val := by
  show (g.val * 256 + r.val * 64 + p.val) / 256 = g.val
  omega

theorem lane3_head (g : Fin 8) (r : Fin 4) (p : Fin 64) : headOf (lane3 g r p) = ⟨g.val * 4 + r.val, by omega⟩ :=
  Fin.ext (by show (g.val * 256 + r.val * 64 + p.val) / 64 = g.val * 4 + r.val; omega)

theorem row_eq (k : Fin 32) (s : Fin 128) (h : k.val * 128 + s.val < 4096) : (⟨k.val * 128 + s.val, h⟩ : Fin 4096) = rowOf k.val s :=
  Fin.ext (by show k.val * 128 + s.val = (128 * k.val + s.val) % 4096; omega)

/-- The buffers after `k` chunks. -/
abbrev VK (c : Dev nD) (k : ℕ) : Valuation τ sig (Elt Ideal) := STEP^[k] (entryContents preI m c)

theorem VK_succ (c : Dev nD) (k : ℕ) : VK m c (k + 1) = STEP (VK m c k) := Function.iterate_succ_apply' _ _ _

theorem keep0 (c : Dev nD) (k : ℕ) : VK m c k (Proc.devRef .tc main_v23_0) = entryContents preI m c (Proc.devRef .tc main_v23_0) := by
  induction k with
  | zero => rfl
  | succ k ih => rw [VK_succ, STEP_main_v23_0, ih]
theorem keep1 (c : Dev nD) (k : ℕ) : VK m c k (Proc.devRef .tc main_v23_1) = entryContents preI m c (Proc.devRef .tc main_v23_1) := by
  induction k with
  | zero => rfl
  | succ k ih => rw [VK_succ, STEP_main_v23_1, ih]
theorem keep2 (c : Dev nD) (k : ℕ) : VK m c k (Proc.devRef .tc main_v23_2) = entryContents preI m c (Proc.devRef .tc main_v23_2) := by
  induction k with
  | zero => rfl
  | succ k ih => rw [VK_succ, STEP_main_v23_2, ih]
theorem keep3 (c : Dev nD) (k : ℕ) : VK m c k (Proc.devRef .tc main_v23_3) = entryContents preI m c (Proc.devRef .tc main_v23_3) := by
  induction k with
  | zero => rfl
  | succ k ih => rw [VK_succ, STEP_main_v23_3, ih]
theorem keep4 (c : Dev nD) (k : ℕ) : VK m c k (Proc.devRef .tc main_v23_4) = entryContents preI m c (Proc.devRef .tc main_v23_4) := by
  induction k with
  | zero => rfl
  | succ k ih => rw [VK_succ, STEP_main_v23_4, ih]
theorem keep5 (c : Dev nD) (k : ℕ) : VK m c k (Proc.devRef .tc main_v23_5) = entryContents preI m c (Proc.devRef .tc main_v23_5) := by
  induction k with
  | zero => rfl
  | succ k ih => rw [VK_succ, STEP_main_v23_5, ih]

theorem ctr (c : Dev nD) (k : ℕ) : VK m c k (Proc.devRef .tc main_v23_6) = fun _ => BitVec.ofNat 32 k := by
  induction k with
  | zero => exact ctr_entry m c
  | succ k ih =>
    rw [VK_succ, STEP_main_v23_6]
    unfold step_main_v23_6
    rw [ih]
    funext i
    show BitVec.ofNat 32 k + 1#32 = BitVec.ofNat 32 (k + 1)
    rw [BitVec.ofNat_add]

theorem x_at (c : Dev nD) (k : Fin 32) (b : Fin 4) (s : Fin 128) (g : Fin 8) (r : Fin 4) (p : Fin 64) :
    res_main_while0b_v59 (VK m c k.val) (ix5 b s g r p) = chX (rX m c) b k.val (lane3 g r p) s := by
  refine (sl6 (VK m c k.val (Proc.devRef .tc main_v23_6)) k (ctr m c k.val) _ b s g r p).trans ?_
  rw [keep0, ent0]
  refine (cX _ k b s g r p).trans ?_
  rw [row_eq]
  rfl

theorem d_at (c : Dev nD) (k : Fin 32) (b : Fin 4) (s : Fin 128) (g : Fin 8) (r : Fin 4) (p : Fin 64) :
    res_main_while0b_v60 (VK m c k.val) (ix4 b s g r) = chD (rDt m c) b k.val (lane3 g r p) s := by
  refine (sl5 (VK m c k.val (Proc.devRef .tc main_v23_6)) k (ctr m c k.val) _ b s g r).trans ?_
  rw [keep1, ent1]
  refine (cD _ k b s g r).trans ?_
  unfold chD
  rw [row_eq, lane3_head]
  rfl

theorem B_at (c : Dev nD) (k : Fin 32) (b : Fin 4) (s : Fin 128) (g : Fin 8) (n : Fin 128) (r : Fin 4) (p : Fin 64) :
    res_main_while0b_v61 (VK m c k.val) (ix4 b s g n) = chB (rX m c) b k.val (lane3 g r p) s n := by
  refine (sl5n (VK m c k.val (Proc.devRef .tc main_v23_6)) k (ctr m c k.val) _ b s g n).trans ?_
  rw [keep2, ent2]
  refine (cB _ k b s g n).trans ?_
  rw [row_eq]
  unfold chB
  refine congrArg (rX m c b _) (Fin.ext ?_)
  show 2048 + (g.val * 128 + n.val) = 2048 + (128 * ((lane3 g r p).val / 256) + n.val)
  rw [lane3_div, Nat.mul_comm]

theorem C_at (c : Dev nD) (k : Fin 32) (b : Fin 4) (s : Fin 128) (g : Fin 8) (n : Fin 128) (r : Fin 4) (p : Fin 64) :
    res_main_while0b_v62 (VK m c k.val) (ix4 b s g n) = chC (rX m c) b k.val (lane3 g r p) s n := by
  refine (sl5n (VK m c k.val (Proc.devRef .tc main_v23_6)) k (ctr m c k.val) _ b s g n).trans ?_
  rw [keep3, ent3]
  refine (cC _ k b s g n).trans ?_
  rw [row_eq]
  unfold chC
  refine congrArg (rX m c b _) (Fin.ext ?_)
  show 3072 + (g.val * 128 + n.val) = 3072 + (128 * ((lane3 g r p).val / 256) + n.val)
  rw [lane3_div, Nat.mul_comm]

theorem A_at (c : Dev nD) (k : ℕ) (g : Fin 8) (r : Fin 4) (p : Fin 64) :
    VK m c k (Proc.devRef .tc main_v23_4) (ix2 g r) = rateOf (rAl m c) (headOf (lane3 g r p)) := by
  rw [keep4, ent4]
  refine (cA _ g r).trans ?_
  rw [lane3_head]
  rfl

theorem cum_at (c : Dev nD) (k : Fin 32) (b : Fin 4) (t : Fin 128) (g : Fin 8) (r : Fin 4) (p : Fin 64) :
    res_main_while0b_v66 (VK m c k.val) (ix4 b t g r)
      = ssdCum (chD (rDt m c) b k.val (lane3 g r p)) (rateOf (rAl m c) (headOf (lane3 g r p))) t := by
  refine (cum_ref (res_main_while0b_v60 (VK m c k.val)) (VK m c k.val (Proc.devRef .tc main_v23_4)) b t g r).trans ?_
  rw [funext fun s => d_at m c k b s g r p]
  exact congrArg (fun a => ssdCum _ a t) (A_at m c k.val g r p)

theorem state_at (c : Dev nD) (k : ℕ) (hk : k ≤ 32) (b : Fin 4) (g : Fin 8) (r : Fin 4) (p : Fin 64) (n : Fin 128) :
    VK m c k (Proc.devRef .tc main_v23_7) (ix5 b g r p n) = stateAt (rX m c) (rDt m c) (rAl m c) b (lane3 g r p) k n := by
  induction k generalizing n with
  | zero =>
    rw [show VK m c 0 = entryContents preI m c from rfl, ent7]
    show _ = (0 : EReal)
    pointwise
  | succ k ih =>
    obtain ⟨kk, rfl⟩ : ∃ kk : Fin 32, k = kk.val := ⟨⟨k, by omega⟩, rfl⟩
    rw [VK_succ, STEP_main_v23_7]
    refine (state_ref (res_main_while0b_v66 (VK m c kk.val)) (res_main_while0b_v60 (VK m c kk.val)) (res_main_while0b_v59 (VK m c kk.val))
      (res_main_while0b_v61 (VK m c kk.val)) (VK m c kk.val (Proc.devRef .tc main_v23_7)) b g r p n).trans ?_
    rw [cum_at m c kk b 127 g r p, ih (by omega)]
    refine congrArg (_ + ·) (Finset.sum_congr rfl fun s _ => ?_)
    rw [B_at m c kk b s g n r p, x_at m c kk b s g r p, cum_at m c kk b s g r p, d_at m c kk b s g r p]

/-- One output of the scan: the carried state read out and the chunk's own inputs. -/
def scanAt (c : Dev nD) (b : Fin 4) (k : ℕ) (t : Fin 128) (j : Fin 2048) : EReal :=
  (∑ n : Fin 128, chC (rX m c) b k j t n * stateAt (rX m c) (rDt m c) (rAl m c) b j k n) * Ideal.exp (ssdCum (chD (rDt m c) b k j) (rateOf (rAl m c) (headOf j)) t)
    + ∑ s : Fin 128, (∑ n : Fin 128, chC (rX m c) b k j t n * chB (rX m c) b k j s n) * ssdDecay (chD (rDt m c) b k j) (rateOf (rAl m c) (headOf j)) t s
        * chD (rDt m c) b k j s * chX (rX m c) b k j s

theorem ys_at (c : Dev nD) (k : ℕ) (hk : k ≤ 32) (k' : Fin 32) (hk' : k'.val < k) (b : Fin 4) (t : Fin 128) (g : Fin 8) (r : Fin 4) (p : Fin 64) :
    VK m c k (Proc.devRef .tc main_v23_8) (ix6 k' b t g r p) = scanAt m c b k'.val t (lane3 g r p) := by
  induction k with
  | zero => exact absurd hk' (Nat.not_lt_zero _)
  | succ k ih =>
    obtain ⟨kk, rfl⟩ : ∃ kk : Fin 32, k = kk.val := ⟨⟨k, by omega⟩, rfl⟩
    rw [VK_succ, STEP_main_v23_8]
    refine (up6 (VK m c kk.val (Proc.devRef .tc main_v23_6)) kk (ctr m c kk.val) _ _ k' b t g r p).trans ?_
    by_cases h : k' = kk
    · subst h
      rw [if_pos rfl]
      refine (out_ref (res_main_while0b_v66 (VK m c k'.val)) (res_main_while0b_v60 (VK m c k'.val)) (res_main_while0b_v59 (VK m c k'.val))
        (res_main_while0b_v61 (VK m c k'.val)) (res_main_while0b_v62 (VK m c k'.val)) (VK m c k'.val (Proc.devRef .tc main_v23_7))
        (VK m c k'.val (Proc.devRef .tc main_v23_5)) b t g r p).trans ?_
      unfold scanAt ssdDecay
      rw [cum_at m c k' b t g r p]
      refine congrArg₂ (· + ·) (congrArg (· * _) (Finset.sum_congr rfl fun n _ => ?_)) (Finset.sum_congr rfl fun s _ => ?_)
      · rw [C_at m c k' b t g n r p, state_at m c k'.val (by omega)]
      · rw [cum_at m c k' b s g r p, d_at m c k' b s g r p, x_at m c k' b s g r p, keep5, ent5, cTri]
        refine congrArg (· * _) (congrArg (· * _) (congrArg₂ (· * ·) (Finset.sum_congr rfl fun n _ => ?_) ?_))
        · rw [C_at m c k' b t g n r p, B_at m c k' b s g n r p]
        by_cases hs : s ≤ t
        · rw [if_pos hs, if_pos hs, if_pos rfl]
        · rw [if_neg hs, if_neg hs, if_neg (by decide)]
    · rw [if_neg h]
      exact ih (by omega) (by have : k'.val ≠ kk.val := fun e => h (Fin.ext e); omega)

/-- A scan's output and the skip term are the output before the gate. -/
theorem scan_skip (c : Dev nD) (b : Fin 4) (k : ℕ) (t : Fin 128) (j : Fin 2048) :
    scanAt m c b k t j + rDs m c (headOf j) * chX (rX m c) b k j t = rawAt (rX m c) (rDt m c) (rAl m c) (rDs m c) b k t j := by
  unfold scanAt rawAt ssdOut
  exact add_right_comm _ _ _

theorem gated_at (c : Dev nD) (b : Fin 4) (k : Fin 32) (s : Fin 128) (j : Fin 2048) :
    gatedRef (VK m c 32 (Proc.devRef .tc main_v23_8)) (m ((c.tc : Thread nD τ).loc main_arg0)) (m ((c.tc : Thread nD τ).loc main_arg2)) (m ((c.tc : Thread nD τ).loc main_arg4))
        (ix3 b (rowOf k.val s) j)
      = gated (rawAt (rX m c) (rDt m c) (rAl m c) (rDs m c) b k.val s j) (rZ m c b (rowOf k.val s) j) := by
  obtain ⟨g, r, p, rfl⟩ : ∃ (g : Fin 8) (r : Fin 4) (p : Fin 64), j = lane3 g r p :=
    ⟨⟨j.val / 256, by omega⟩, ⟨j.val / 64 % 4, by omega⟩, ⟨j.val % 64, by omega⟩, Fin.ext (by show j.val = j.val / 256 * 256 + j.val / 64 % 4 * 64 + j.val % 64; omega)⟩
  rw [← row_eq k s (by omega)]
  refine (gatedRef_at _ _ _ _ b k s g r p).trans ?_
  rw [ys_at m c 32 (le_refl _) k k.isLt, ← scan_skip, lane3_head, row_eq]
  rfl

theorem act_ref (c : Dev nD) (b : Fin 4) (k : Fin 32) (s : Fin 128) (j : Fin 2048) (h : b.val * 4096 + (rowOf k.val s).val < 16384) :
    out_main_v57 (VK m c 32) (ix2 ⟨b.val * 4096 + (rowOf k.val s).val, h⟩ j)
      = actAt (rX m c) (rDt m c) (rZ m c) (rAl m c) (rDs m c) (rNg m c) b k.val s j := by
  have e0 : VK m c 32 (Proc.devRef .tc main_arg0) = m ((c.tc : Thread nD τ).loc main_arg0) := iter_main_arg0 m c 32
  have e2 : VK m c 32 (Proc.devRef .tc main_arg2) = m ((c.tc : Thread nD τ).loc main_arg2) := iter_main_arg2 m c 32
  have e4 : VK m c 32 (Proc.devRef .tc main_arg4) = m ((c.tc : Thread nD τ).loc main_arg4) := iter_main_arg4 m c 32
  have e5 : VK m c 32 (Proc.devRef .tc main_arg5) = m ((c.tc : Thread nD τ).loc main_arg5) := iter_main_arg5 m c 32
  rw [out57, e0, e2, e4, e5]
  refine (normRef_at _ _ b (rowOf k.val s) j).trans ?_
  rw [gated_at m c b k s j, funext fun x => gated_at m c b k s x]
  rfl

theorem fin_ref (c : Dev nD) (b : Fin 4) (g : Fin 8) (r : Fin 4) (p : Fin 64) (n : Fin 128) :
    out_main_v58 (VK m c 32) (ix4 b ⟨g.val * 4 + r.val, by omega⟩ p n) = stateAt (rX m c) (rDt m c) (rAl m c) b (lane3 g r p) 32 n :=
  (cFin _ b g r p n).trans (state_at m c 32 (le_refl _) b g r p n)

end Cert.Ssd.Ref
-- ==== Proof.Equal.lean ====
module

public import proofs.«01_k».proof.Defs
public import proofs.«01_k».proof.Proof.Finite
public import proofs.«01_k».proof.Proof.KernelSide
public import proofs.«01_k».proof.Proof.RefLoop
public import proofs.«01_k».proof.Proof.Gen.KernelIdeal.Value

@[expose] public section

set_option maxRecDepth 16384

noncomputable section

namespace Cert.Ssd
open Idealize.ShloMosaic Idealize.ShloMosaic.TcCoe Idealize.SL.Sem

section
open Cert.KernelIdeal Cert.KernelIdeal.Gen

theorem fin_of_pre (m : (ℓ : Loc nD τ sig) → Buf (Elt Ideal) ℓ) [Cert.Pre_finite_steps.Facts] (h : Cert.Pre_KernelIdeal_finite_steps m) (c : Dev nD) : Fin0 m c :=
  have hr := real_of_pre _ _ _ _ _ _ (h c)
  ⟨fun b l hh => hr.1 (ix3 b l hh), fun hh => hr.2 (ix1 hh)⟩

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same six arrays. -/
structure SameArgs : Prop where
  x : Cert.Ssd.Ref.rX m' c = aX m c
  dt : Cert.Ssd.Ref.rDt m' c = aDt m c
  z : Cert.Ssd.Ref.rZ m' c = aZ m c
  al : Cert.Ssd.Ref.rAl m' c = aAl m c
  ds : Cert.Ssd.Ref.rDs m' c = aDs m c
  ng : Cert.Ssd.Ref.rNg m' c = aNg m c

/-- Both programs' gated outputs are one array. -/
theorem act_equal (hs : SameArgs m m' c) (hf : Fin0 m c) : Cert.ReferenceIdeal.Value.out_main_v57 (Cert.Ssd.Ref.VK m' c 32) = Cert.KernelIdeal.Value.G8 m c := by
  refine funext fun i => ?_
  obtain ⟨r, j, rfl⟩ : ∃ (r : Fin 16384) (j : Fin 2048), i = ix2 r j := ⟨i 0, i 1, by idx_vars i⟩
  have hk : (⟨(seqOf r).val * 4096 + (rowOf (r.val / 128 % 32) ⟨r.val % 128, by omega⟩).val, by
      show r.val / 4096 * 4096 + (128 * (r.val / 128 % 32) + r.val % 128) % 4096 < 16384; omega⟩ : Fin 16384) = r := by
    refine Fin.ext ?_
    show r.val / 4096 * 4096 + (128 * (r.val / 128 % 32) + r.val % 128) % 4096 = r.val
    omega
  refine Eq.trans ?_ (G8_at m c hf r j).symm
  have h := Cert.Ssd.Ref.act_ref m' c (seqOf r) ⟨r.val / 128 % 32, by omega⟩ ⟨r.val % 128, by omega⟩ j (by
      show r.val / 4096 * 4096 + (128 * (r.val / 128 % 32) + r.val % 128) % 4096 < 16384; omega)
  rw [hk, hs.x, hs.dt, hs.z, hs.al, hs.ds, hs.ng] at h
  exact h

/-- Both programs' final states are one array. -/
theorem state_equal (hs : SameArgs m m' c) (hf : Fin0 m c) : Cert.ReferenceIdeal.Value.out_main_v58 (Cert.Ssd.Ref.VK m' c 32) = Cert.KernelIdeal.Value.G9 m c := by
  refine funext fun i => ?_
  obtain ⟨b, h, p, n, rfl⟩ : ∃ (b : Fin 4) (h : Fin 32) (p : Fin 64) (n : Fin 128), i = ix4 b h p n := ⟨i 0, i 1, i 2, i 3, by idx_vars i⟩
  obtain ⟨g, r, rfl⟩ : ∃ (g : Fin 8) (r : Fin 4), h = ⟨g.val * 4 + r.val, by omega⟩ :=
    ⟨⟨h.val / 4, by omega⟩, ⟨h.val % 4, by omega⟩, Fin.ext (by show h.val = h.val / 4 * 4 + h.val % 4; omega)⟩
  refine (Cert.Ssd.Ref.fin_ref m' c b g r p n).trans (Eq.trans ?_ (G9_at m c hf b _ p n).symm)
  rw [hs.x, hs.dt, hs.al]
  refine congrArg (fun e => stateAt _ _ _ b e 32 n) (Fin.ext ?_)
  show g.val * 256 + r.val * 64 + p.val = 64 * (g.val * 4 + r.val) + p.val
  omega

theorem algebraic [Cert.Pre_finite_steps.Facts] : Cert.algebraic_KernelIdeal_ReferenceIdeal_pre_finite_steps (hKernelIdeal := Cert.KernelIdeal.Gen.facts) (hReferenceIdeal := Cert.ReferenceIdeal.Gen.facts) := by
  intro m g m' g' hpre ha
  have hs : ∀ c, SameArgs m m' c := fun c =>
    ⟨funext fun b => funext fun l => funext fun j => congrFun (ha c).1 (ix3 b l j), funext fun b => funext fun l => funext fun j => congrFun (ha c).2.1 (ix3 b l j),
     funext fun b => funext fun l => funext fun j => congrFun (ha c).2.2.1 (ix3 b l j), funext fun j => congrFun (ha c).2.2.2.1 (ix1 j),
     funext fun j => congrFun (ha c).2.2.2.2.1 (ix1 j), funext fun j => congrFun (ha c).2.2.2.2.2 (ix1 j)⟩
  refine ⟨Cert.KernelIdeal.Value.G8 m, Cert.KernelIdeal.Value.G9 m, Cert.KernelIdeal.Value.run m g, ?_⟩
  refine (θ_run Cert.ReferenceIdeal.defs _ _).mono (fun r h c => ?_) (Cert.ReferenceIdeal.Value.run m' g')
  have hc := h c
  exact ⟨hc.1.trans (act_equal m m' c (hs c) (fin_of_pre m hpre c)), hc.2.1.trans (state_equal m m' c (hs c) (fin_of_pre m hpre c)), hc.2.2⟩

end Cert.Ssd
-- ==== Proof.NormSpec.lean ====
module

public import Idealize.ShloMosaic.Lib.Pointwise

@[expose] public section

noncomputable section

namespace Cert.Layer
open Idealize.ShloMosaic

/-- The mean of a row, `N` being its length. -/
def meanOf {n : ℕ} (N : EReal) (y : Fin n → EReal) : EReal := Ideal.div (∑ i : Fin n, y i) N

/-- The layer norm of a row, at one column. -/
def normAt {n : ℕ} (N : EReal) (y g b : Fin n → EReal) (j : Fin n) : EReal :=
  (y j - meanOf N y) * Ideal.rsqrt (meanOf N (fun i => (y i - meanOf N y) * (y i - meanOf N y)) + Ideal.ofBits FTy.f32 0x3727C5AC#32) * g j + b j

/-- The logistic function. -/
def sigm (x : EReal) : EReal := Ideal.div 1 (1 + Ideal.exp (-x))

/-- A layer's residual sum in one column, before its norm: the scaled input and the mixer's output. -/
def resid {K : ℕ} (act : Fin K → EReal) (x : Fin 1024 → EReal) (wo : Fin K → Fin 1024 → EReal) (i : Fin 1024) : EReal :=
  Ideal.ofBits FTy.f32 0x3FD744FD#32 * x i + ∑ k : Fin K, act k * wo k i

/-- A layer's normed row with the gated embedding added, at one column. -/
def gateAt (h : Fin 1024 → EReal) (p : Fin 256 → EReal) (wg : Fin 1024 → Fin 1024 → EReal) (wp : Fin 256 → Fin 1024 → EReal) (j : Fin 1024) : EReal :=
  h j + sigm (∑ i : Fin 1024, h i * wg i j) * ∑ q : Fin 256, p q * wp q j

/-- The sequence and the step that a row of the flattened tokens is. -/
def seq (r : Fin 16384) : Fin 4 := ⟨r.val / 4096, by omega⟩
def step (r : Fin 16384) : Fin 4096 := ⟨r.val % 4096, by omega⟩

theorem seq_step (r : Fin 16384) (h : (seq r).val * 4096 + (step r).val < 16384) : (⟨(seq r).val * 4096 + (step r).val, h⟩ : Fin 16384) = r := by
  refine Fin.ext ?_
  show r.val / 4096 * 4096 + r.val % 4096 = r.val
  omega

end Cert.Layer
-- ==== Proof.GmPay.lean ====
module

public import proofs.«01_k».proof.Proof.NormSpec
public import proofs.«01_k».proof.Proof.Gen.Kernel2Ideal.Skeleton
public import Idealize.ShloMosaic.Lib.Pointwise

@[expose] public section

set_option maxRecDepth 16384

noncomputable section

namespace Cert.Gm
open Idealize.ShloMosaic Idealize.ShloMosaic.TcCoe Idealize.SL.Sem
open Cert.Layer Cert.Kernel2Ideal Cert.Kernel2Ideal.Gen

/-- The GELU in its form with the hyperbolic tangent. -/
def gelu (x : EReal) : EReal :=
  x * (Ideal.ofBits FTy.f32 0x3F000000#32 * (1 + Ideal.tanh (Ideal.ofBits FTy.f32 0x3F4C422A#32 * (x + Ideal.ofBits FTy.f32 0x3D372713#32 * (x * x * x)))))

/-- A number times the logistic function of it. -/
def silu (x : EReal) : EReal := x * sigm x

/-- A projected tile with its bias, at a row and a column. -/
def pr (x : Vec Ideal S512x1024 .bf16) (w : Vec Ideal S1024x512 .bf16) (b : Vec Ideal S1x512 .f32) (s j : Fin 512) : EReal :=
  (∑ k : Fin 1024, x (ix2 s k) * w (ix2 k j)) + b (ix2 0 j)

/-- A mixed and gated tile, at a row and a column. -/
def mx (a : Vec Ideal S1x128x128 .bf16) (v : Vec Ideal S128x512 .f32) (bm : Vec Ideal S128x1 .f32) (u z : Vec Ideal S128x512 .f32) (t : Fin 128) (j : Fin 512) : EReal :=
  u (ix2 t j) * ((∑ k : Fin 128, a (ix3 0 t k) * v (ix2 k j)) + bm (ix2 t 0)) * z (ix2 t j)

section
variable (x : Vec Ideal S512x1024 .f32) (y : Vec Ideal S512x1024 .bf16) (w : Vec Ideal S1024x512 .bf16) (b : Vec Ideal S1x512 .f32) (s j : Fin 512)

theorem pay1_at (k : Fin 1024) : k0_pay1 x (ix2 s k) = x (ix2 s k) := by pointwise [k0_pay1]

theorem u0 : k0_pay2 x w b (ix2 s j) = gelu (pr (k0_pay1 x) w b s j) := by pointwise [k0_pay2, k0_pay1, gelu, pr]
theorem u1 : k0_pay9 (k0_pay7 y w b) (k0_pay8 y w b) (Scalar.ofBits .f32 0x3D372713#32) (ix2 s j) = gelu (pr y w b s j) := by pointwise [k0_pay9, k0_pay8, k0_pay7, gelu, pr]
theorem u2 : k0_pay13 y w b (ix2 s j) = gelu (pr y w b s j) := by pointwise [k0_pay13, gelu, pr]
theorem u3 : k0_pay17 y w b (ix2 s j) = gelu (pr y w b s j) := by pointwise [k0_pay17, gelu, pr]
theorem v0 : k0_pay5 (k0_pay3 x w b) (k0_pay4 x w b) (Scalar.ofBits .f32 0x3F4C422A#32) (ix2 s j) = gelu (pr (k0_pay1 x) w b s j) := by pointwise [k0_pay5, k0_pay4, k0_pay3, k0_pay1, gelu, pr]
theorem v1 : k0_pay10 y w b (ix2 s j) = gelu (pr y w b s j) := by pointwise [k0_pay10, gelu, pr]
theorem v2 : k0_pay14 y w b (ix2 s j) = gelu (pr y w b s j) := by pointwise [k0_pay14, gelu, pr]
theorem v3 : k0_pay20 (k0_pay18 y w b) (k0_pay19 y w b) (ix2 s j) = gelu (pr y w b s j) := by pointwise [k0_pay20, k0_pay19, k0_pay18, gelu, pr]
theorem z0 : k0_pay6 y w b (ix2 s j) = silu (pr y w b s j) := by
  pointwise [k0_pay6, silu, sigm, pr]
  rw [zero_sub]
theorem z1 : k0_pay12 y (k0_pay11 w) (constant S512x512 .f32 0x00000000#32) b (ix2 s j) = silu (pr y w b s j) := by
  pointwise [k0_pay12, k0_pay11, silu, sigm, pr]
  rw [zero_sub]
theorem z2 : k0_pay16 (k0_pay15 y w b) (ix2 s j) = silu (pr y w b s j) := by
  pointwise [k0_pay16, k0_pay15, silu, sigm, pr]
  rw [zero_sub]
theorem z3 : k0_pay21 y w b (ix2 s j) = silu (pr y w b s j) := by
  pointwise [k0_pay21, silu, sigm, pr]
  rw [zero_sub]
end

/-- The normed rows, at a row and a column. -/
theorem norm_at (v : Vec Ideal S32x2048 .f32) (g b : Vec Ideal S1x2048 .f32) (s : Fin 32) (j : Fin 2048) :
    k0_pay22 v g b (ix2 s j) = normAt (Ideal.ofBits FTy.f32 0x45000000#32) (fun i : Fin 2048 => v (ix2 s i)) (fun i => g (ix2 0 i)) (fun i => b (ix2 0 i)) j := by
  pointwise [k0_pay22, normAt, meanOf]

section
variable (a : Vec Ideal S1x128x128 .bf16) (v : Vec Ideal S128x512 .f32) (bm : Vec Ideal S128x1 .f32) (u z : Vec Ideal S128x512 .f32) (t : Fin 128) (j : Fin 512)

theorem mix_split : k0_pay24 (k0_pay23 a v) bm u z (ix2 t j) = mx a v bm u z t j := by pointwise [k0_pay24, k0_pay23, mx]
theorem mix_whole : k0_pay25 a v bm u z (ix2 t j) = mx a v bm u z t j := by pointwise [k0_pay25, mx]
end

end Cert.Gm
-- ==== Proof.GmLoop.lean ====
module

public import proofs.«01_k».proof.Proof.GmPay
public import proofs.«01_k».proof.Proof.Gen.Kernel2Ideal.Value
public import Idealize.ShloMosaic.Lib.Pipeline.ValueKit
public import Idealize.ShloMosaic.Lib.WritesUnit

@[expose] public section

set_option maxRecDepth 16384

noncomputable section

namespace Cert.Gm
open Idealize.ShloMosaic Idealize.ShloMosaic.TcCoe Idealize.SL.Sem
open Cert.Layer Cert.Kernel2Ideal Cert.Kernel2Ideal.Gen

/-- A 512 × 2048 buffer filled by four pieces of 512 columns holds what the pieces hold. -/
theorem cols4 {κ : Kind} {sp : Space} (v : View sig κ sp S512x2048 .f32) (f : v.ty.Contents (Elt Ideal)) (w0 w1 w2 w3 : Vec Ideal S512x512 .f32) (H : Fin 512 → Fin 2048 → EReal)
    (h0 : ∀ s j : Fin 512, w0 (ix2 s j) = H s ⟨0 + j.val, by omega⟩) (h1 : ∀ s j : Fin 512, w1 (ix2 s j) = H s ⟨512 + j.val, by omega⟩)
    (h2 : ∀ s j : Fin 512, w2 (ix2 s j) = H s ⟨1024 + j.val, by omega⟩) (h3 : ∀ s j : Fin 512, w3 (ix2 s j) = H s ⟨1536 + j.val, by omega⟩) (s : Fin 512) (j : Fin 2048) :
    v.read (Elt Ideal) (v.writes (Elt Ideal) f [⟨Rect.unit (s := S512x2048) ![0, 1536] ![512, 512] inb_S512x2048_S512x512_0_1536, w3⟩, ⟨Rect.unit (s := S512x2048) ![0, 1024] ![512, 512] inb_S512x2048_S512x512_0_1024, w2⟩,
      ⟨Rect.unit (s := S512x2048) ![0, 512] ![512, 512] inb_S512x2048_S512x512_0_512, w1⟩, ⟨Rect.unit (s := S512x2048) ![0, 0] ![512, 512] inb_S512x2048_S512x512_0_0, w0⟩]) (ix2 s j) = H s j := by
  have hit : ∀ (o : ℕ) (inb) (w : Vec Ideal S512x512 .f32) (L : List (View.Piece (Elt Ideal) S512x2048 .f32)) (ho : o ≤ j.val) (hj : j.val < o + 512),
      v.read (Elt Ideal) (v.writes (Elt Ideal) f (⟨Rect.unit (s := S512x2048) ![0, o] ![512, 512] inb, w⟩ :: L)) (ix2 s j) = w (ix2 s ⟨j.val - o, by omega⟩) := by
    intro o inb w L ho hj
    exact View.read_writes_cons_unit_of_mem (s := S512x2048) v f inb w L (ix2 s j) (ix2 s (⟨j.val - o, by omega⟩ : Fin 512) : S512x512.Idx) rfl
      (Fin.forall_fin_two.mpr ⟨(Nat.zero_add s.val).symm, (Nat.add_sub_of_le ho).symm⟩)
  have miss : ∀ (o : ℕ) (inb) (w : Vec Ideal S512x512 .f32) (L : List (View.Piece (Elt Ideal) S512x2048 .f32)) (ho : j.val < o),
      v.read (Elt Ideal) (v.writes (Elt Ideal) f (⟨Rect.unit (s := S512x2048) ![0, o] ![512, 512] inb, w⟩ :: L)) (ix2 s j) = v.read (Elt Ideal) (v.writes (Elt Ideal) f L) (ix2 s j) := by
    intro o inb w L ho
    exact View.read_writes_cons_unit_of_not_mem (s := S512x2048) v f inb w L (ix2 s j) rfl (1 : Fin 2) (Or.inl ho)
  by_cases c3 : 1536 ≤ j.val
  · refine (hit 1536 _ w3 _ c3 (by omega)).trans ((h3 _ _).trans (congrArg (H s) (Fin.ext ?_)))
    show 1536 + (j.val - 1536) = j.val; omega
  refine (miss 1536 _ w3 _ (by omega)).trans ?_
  by_cases c2 : 1024 ≤ j.val
  · refine (hit 1024 _ w2 _ c2 (by omega)).trans ((h2 _ _).trans (congrArg (H s) (Fin.ext ?_)))
    show 1024 + (j.val - 1024) = j.val; omega
  refine (miss 1024 _ w2 _ (by omega)).trans ?_
  by_cases c1 : 512 ≤ j.val
  · refine (hit 512 _ w1 _ c1 (by omega)).trans ((h1 _ _).trans (congrArg (H s) (Fin.ext ?_)))
    show 512 + (j.val - 512) = j.val; omega
  refine (miss 512 _ w1 _ (by omega)).trans ?_
  refine (hit 0 _ w0 _ (by omega) (by omega)).trans ((h0 _ _).trans (congrArg (H s) (Fin.ext ?_)))
  show 0 + (j.val - 0) = j.val; omega

/-- A load of 128 rows and 512 columns of a buffer whose contents are known place by place. -/
theorem tile_load {κ : Kind} {sp : Space} (v : View sig κ sp S512x2048 .f32) (L : List (View.Piece (Elt Ideal) S512x2048 .f32)) (H : Fin 512 → Fin 2048 → EReal)
    (hL : ∀ (s : Fin 512) (j : Fin 2048), v.read (Elt Ideal) (v.writes (Elt Ideal) v.junk L) (ix2 s j) = H s j)
    (n g : Fin 4) (ro co : ℕ) (hr : ro = 128 * n.val) (hc : co = 512 * g.val) (inb) (t : Fin 128) (d : Fin 512) :
    v.readCov L (Rect.unit (s := S512x2048) ![ro, co] ![128, 512] inb).toLoadRect (ix2 t d) = H ⟨128 * n.val + t.val, by omega⟩ ⟨512 * g.val + d.val, by omega⟩ := by
  subst hr hc
  refine Eq.trans (congrArg (v.read (Elt Ideal) (v.writes (Elt Ideal) v.junk L)) (funext fun a => ?_)) (hL _ _)
  match a with
  | ⟨0, _⟩ => exact Fin.ext (show 128 * n.val + 1 * t.val = 128 * n.val + t.val by omega)
  | ⟨1, _⟩ => exact Fin.ext (show 512 * g.val + 1 * d.val = 512 * g.val + d.val by omega)

theorem off_eq : ∀ k : Fin k0_t1_loop.trips, k0_off1 k = ![32 * k.val, 0] := by decide +kernel

section
variable (𝒱 : Variants) (c : Dev nD) (bd : Option 𝒱.V) (i : grid0.Coords) (arg1 : Memref sig .tc .vmem S512x1024 .f32) (harg1 : arg1.IsWhole) (arg2 : Memref sig .tc .vmem S1024x6144 .bf16) (harg2 : arg2.IsWhole) (arg3 : Memref sig .tc .vmem S1x6144 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x128 .bf16) (harg6 : arg6.IsWhole) (arg7 : Memref sig .tc .vmem S128x4 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (y : FVec Ideal S512x1024 .bf16) (p q : FVec Ideal S512x512 .f32) (X4 : BufTy.Contents (Elt Ideal) arg4.view.ty) (X5 : BufTy.Contents (Elt Ideal) arg5.view.ty)

/-- One trip of the norm's loop stores the normed rows over the rows it read. -/
theorem trip_pieces (k : Fin k0_t1_loop.trips) (f : BufTy.Contents (Elt Ideal) arg10.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 y p q X4 X5 k f =
      [⟨Rect.unit (s := S512x2048) (k0_off1 k) S32x2048.size (k0_off1_inb k), k0_pay22
          (View.readAt (Elt Ideal) arg10.view (Rect.unit (s := S512x2048) (k0_off1 k) S32x2048.size (k0_off1_inb k)).toLoadRect f)
          (View.readAt (Elt Ideal) arg4.view (Rect.unit (s := S1x2048) ![0, 0] S1x2048.size inb_S1x2048_S1x2048_0_0).toLoadRect X4)
          (View.readAt (Elt Ideal) arg5.view (Rect.unit (s := S1x2048) ![0, 0] S1x2048.size inb_S1x2048_S1x2048_0_0).toLoadRect X5)⟩] := by
  unfold tripL_k0_t1 trip_k0_t1
  rfl

variable (G0 : BufTy.Contents (Elt Ideal) arg10.view.ty)

/-- After the first `k` trips, the first `32 k` rows are normed and the others as before the loop. -/
theorem loop_rows (k : ℕ) (hk : k ≤ k0_t1_loop.trips) (s : Fin 512) (j : Fin 2048) :
    arg10.view.read (Elt Ideal) (arg10.view.writes (Elt Ideal) G0 (pb_k0_t1 (F := Ideal) 𝒱 c bd i arg1 harg1 arg2 harg2 arg3 harg3 arg4 harg4 arg5 harg5 arg6 harg6 arg7 harg7 arg8 harg8 arg9 harg9 arg10 harg10 arg11 harg11 y p q X4 X5 G0 k)) (ix2 s j)
      = if s.val < 32 * k then normAt (Ideal.ofBits FTy.f32 0x45000000#32) (fun l : Fin 2048 => arg10.view.read (Elt Ideal) G0 (ix2 s l))
          (fun j => View.readAt (Elt Ideal) arg4.view (Rect.unit (s := S1x2048) ![0, 0] S1x2048.size inb_S1x2048_S1x2048_0_0).toLoadRect X4 (ix2 0 j))
          (fun j => View.readAt (Elt Ideal) arg5.view (Rect.unit (s := S1x2048) ![0, 0] S1x2048.size inb_S1x2048_S1x2048_0_0).toLoadRect X5 (ix2 0 j)) j
        else arg10.view.read (Elt Ideal) G0 (ix2 s j) := by
  induction k generalizing s j with
  | zero => rw [if_neg (by omega)]; rfl
  | succ k ih =>
    have hk' : k < k0_t1_loop.trips := hk
    have ih := ih (le_of_lt hk')
    rw [show pb_k0_t1 (F := Ideal) 𝒱 c bd i arg1 harg1 arg2 harg2 arg3 harg3 arg4 harg4 arg5 harg5 arg6 harg6 arg7 harg7 arg8 harg8 arg9 harg9 arg10 harg10 arg11 harg11 y p q X4 X5 G0 (k + 1) = _ from pb_k0_t1_succ 𝒱 c bd i arg1 harg1 arg2 harg2 arg3 harg3 arg4 harg4 arg5 harg5 arg6 harg6 arg7 harg7 arg8 harg8 arg9 harg9 arg10 harg10 arg11 harg11 y p q X4 X5 G0 ⟨k, hk'⟩, trip_pieces]
    show arg10.view.read (Elt Ideal) (arg10.view.writes (Elt Ideal) G0 (_ :: _)) _ = _
    have ho : k0_off1 ⟨k, hk'⟩ = ![32 * k, 0] := off_eq ⟨k, hk'⟩
    by_cases h : 32 * k ≤ s.val ∧ s.val < 32 * k + 32
    · rw [if_pos (by omega)]
      refine (View.read_writes_cons_rows_of_mem arg10.view G0 _ _ _ _ (ix2 (⟨s.val - 32 * k, by omega⟩ : Fin 32) j : S32x2048.Idx) ho (show s.val = 32 * k + (s.val - 32 * k) by omega) rfl).trans ?_
      refine (norm_at _ _ _ _ j).trans ?_
      refine congrArg (fun f => normAt _ f _ _ j) (funext fun l => ?_)
      refine Eq.trans (congrArg (arg10.view.read (Elt Ideal) _) (funext fun a => ?_)) ((ih s l).trans (if_neg (by omega)))
      match a with
      | ⟨0, _⟩ => exact Fin.ext (show k0_off1 ⟨k, hk'⟩ 0 + 1 * (s.val - 32 * k) = s.val by rw [ho]; show 32 * k + 1 * (s.val - 32 * k) = s.val; omega)
      | ⟨1, _⟩ => exact Fin.ext (show k0_off1 ⟨k, hk'⟩ 1 + 1 * l.val = l.val by rw [ho]; show 0 + 1 * l.val = l.val; omega)
    · refine (View.read_writes_cons_rows_of_not_mem arg10.view G0 _ _ _ _ ho rfl (show s.val < 32 * k ∨ 32 * k + 32 ≤ s.val by omega)).trans ?_
      refine (ih s j).trans ?_
      by_cases h' : s.val < 32 * k
      · rw [if_pos h', if_pos (by omega)]
      · rw [if_neg h', if_neg (by omega)]

/-- After the loop every row is normed. -/
theorem loop_end (P : List (View.Piece (Elt Ideal) S512x2048 .f32)) (n : ℕ) (hn : n = k0_t1_loop.trips) (H : Fin 512 → Fin 2048 → EReal) (gg bb : Fin 2048 → EReal)
    (hg : ∀ j : Fin 2048, View.readAt (Elt Ideal) arg4.view (Rect.unit (s := S1x2048) ![0, 0] S1x2048.size inb_S1x2048_S1x2048_0_0).toLoadRect X4 (ix2 0 j) = gg j)
    (hb : ∀ j : Fin 2048, View.readAt (Elt Ideal) arg5.view (Rect.unit (s := S1x2048) ![0, 0] S1x2048.size inb_S1x2048_S1x2048_0_0).toLoadRect X5 (ix2 0 j) = bb j)
    (hP : ∀ (s : Fin 512) (j : Fin 2048), arg10.view.read (Elt Ideal) (arg10.view.writes (Elt Ideal) arg10.view.junk P) (ix2 s j) = H s j) (s : Fin 512) (j : Fin 2048) :
    arg10.view.read (Elt Ideal) (arg10.view.writes (Elt Ideal) arg10.view.junk
        (pb_k0_t1 (F := Ideal) 𝒱 c bd i arg1 harg1 arg2 harg2 arg3 harg3 arg4 harg4 arg5 harg5 arg6 harg6 arg7 harg7 arg8 harg8 arg9 harg9 arg10 harg10 arg11 harg11 y p q X4 X5 (arg10.view.writes (Elt Ideal) arg10.view.junk P) n ++ P)) (ix2 s j)
      = normAt (Ideal.ofBits FTy.f32 0x45000000#32) (H s) gg bb j := by
  subst hn
  rw [View.writes_append]
  refine (loop_rows 𝒱 c bd i arg1 harg1 arg2 harg2 arg3 harg3 arg4 harg4 arg5 harg5 arg6 harg6 arg7 harg7 arg8 harg8 arg9 harg9 arg10 harg10 arg11 harg11 y p q X4 X5 (arg10.view.writes (Elt Ideal) arg10.view.junk P) _ le_rfl s j).trans ?_
  rw [if_pos (show s.val < 32 * k0_t1_loop.trips from lt_of_lt_of_eq s.isLt (show 512 = 32 * k0_t1_loop.trips by decide +kernel))]
  rw [show (fun l : Fin 2048 => arg10.view.read (Elt Ideal) (arg10.view.writes (Elt Ideal) arg10.view.junk P) (ix2 s l)) = H s from funext (hP s),
    show (fun j => View.readAt (Elt Ideal) arg4.view (Rect.unit (s := S1x2048) ![0, 0] S1x2048.size inb_S1x2048_S1x2048_0_0).toLoadRect X4 (ix2 0 j)) = gg from funext hg, show (fun j => View.readAt (Elt Ideal) arg5.view (Rect.unit (s := S1x2048) ![0, 0] S1x2048.size inb_S1x2048_S1x2048_0_0).toLoadRect X5 (ix2 0 j)) = bb from funext hb]
end

end Cert.Gm
-- ==== Proof.GmTiles.lean ====
module

public import proofs.«01_k».proof.Proof.GmLoop

@[expose] public section

set_option maxRecDepth 16384

noncomputable section

namespace Cert.Gm
open Idealize.ShloMosaic Idealize.ShloMosaic.TcCoe Idealize.SL.Sem
open Cert.Layer Cert.Kernel2Ideal Cert.Kernel2Ideal.Gen

/-- A row of the projection. -/
def prow (x : Fin 1024 → EReal) (w : Fin 1024 → Fin 6144 → EReal) (b : Fin 6144 → EReal) (q : Fin 6144) : EReal := (∑ k : Fin 1024, x k * w k q) + b q

/-- The middle third of a row of the projection, normed. -/
def vrow (p : Fin 6144 → EReal) (g b : Fin 2048 → EReal) (j : Fin 2048) : EReal :=
  normAt (Ideal.ofBits FTy.f32 0x45000000#32) (fun i : Fin 2048 => gelu (p ⟨2048 + i.val, by omega⟩)) g b j

/-- The mixed and gated block, from what the three scratch buffers hold. -/
def tileAt (X5 : Vec Ideal S4x128x128 .bf16) (X6 : Vec Ideal S128x4 .f32) (HU HV HZ : Fin 512 → Fin 2048 → EReal) (s : Fin 512) (j : Fin 2048) : EReal :=
  HU s j * ((∑ k : Fin 128, X5 (ix3 (⟨j.val / 512, by omega⟩ : Fin 4) (⟨s.val % 128, by omega⟩ : Fin 128) k) * HV ⟨128 * (s.val / 128) + k.val, by omega⟩ j)
    + X6 (ix2 (⟨s.val % 128, by omega⟩ : Fin 128) (⟨j.val / 512, by omega⟩ : Fin 4))) * HZ s j

theorem pr_ld (y : Vec Ideal S512x1024 .bf16) (x1 : Vec Ideal S1024x6144 .bf16) (x2 : Vec Ideal S1x6144 .f32) (o : ℕ) (ho : o + 512 ≤ 6144) (i1) (i2) (s j : Fin 512) :
    pr y (View.ld x1 (Rect.unit (s := S1024x6144) ![0, o] ![1024, 512] i1)) (View.ld x2 (Rect.unit (s := S1x6144) ![0, o] ![1, 512] i2)) s j
      = prow (fun k => y (ix2 s k)) (fun k q => x1 (ix2 k q)) (fun q => x2 (ix2 0 q)) ⟨o + j.val, by omega⟩ := by
  unfold pr prow
  refine congrArg₂ (· + ·) (Finset.sum_congr rfl fun k _ => congrArg (y (ix2 s k) * ·) (congrArg x1 (funext (Fin.forall_fin_two.mpr ⟨Fin.ext ?_, Fin.ext ?_⟩)))) (congrArg x2 (funext (Fin.forall_fin_two.mpr ⟨Fin.ext ?_, Fin.ext ?_⟩)))
  · show 0 + 1 * k.val = k.val; omega
  · show o + 1 * j.val = o + j.val; omega
  · show 0 + 1 * 0 = 0; omega
  · show o + 1 * j.val = o + j.val; omega

section
variable (X5 : Vec Ideal S4x128x128 .bf16) (X6 : Vec Ideal S128x4 .f32) (HU HV HZ : Fin 512 → Fin 2048 → EReal)

/-- One piece of 128 rows and 512 columns. -/
theorem mx_tile (n g : Fin 4) (a : Vec Ideal S1x128x128 .bf16) (v : Vec Ideal S128x512 .f32) (bm : Vec Ideal S128x1 .f32) (u z : Vec Ideal S128x512 .f32)
    (ha : ∀ t k : Fin 128, a (ix3 0 t k) = X5 (ix3 g t k)) (hb : ∀ t : Fin 128, bm (ix2 t 0) = X6 (ix2 t g))
    (hu : ∀ (t : Fin 128) (d : Fin 512), u (ix2 t d) = HU ⟨128 * n.val + t.val, by omega⟩ ⟨512 * g.val + d.val, by omega⟩)
    (hv : ∀ (t : Fin 128) (d : Fin 512), v (ix2 t d) = HV ⟨128 * n.val + t.val, by omega⟩ ⟨512 * g.val + d.val, by omega⟩)
    (hz : ∀ (t : Fin 128) (d : Fin 512), z (ix2 t d) = HZ ⟨128 * n.val + t.val, by omega⟩ ⟨512 * g.val + d.val, by omega⟩) (t : Fin 128) (d : Fin 512) :
    mx a v bm u z t d = tileAt X5 X6 HU HV HZ ⟨128 * n.val + t.val, by omega⟩ ⟨512 * g.val + d.val, by omega⟩ := by
  unfold mx tileAt
  have eg : (⟨(512 * g.val + d.val) / 512, by omega⟩ : Fin 4) = g := Fin.ext (show (512 * g.val + d.val) / 512 = g.val by omega)
  have et : (⟨(128 * n.val + t.val) % 128, by omega⟩ : Fin 128) = t := Fin.ext (show (128 * n.val + t.val) % 128 = t.val by omega)
  have en : ∀ k : Fin 128, (⟨128 * ((128 * n.val + t.val) / 128) + k.val, by omega⟩ : Fin 512) = ⟨128 * n.val + k.val, by omega⟩ :=
    fun k => Fin.ext (show 128 * ((128 * n.val + t.val) / 128) + k.val = 128 * n.val + k.val by omega)
  simp only [eg, et, en, ha, hb, hu, hv, hz]

variable {κ : Kind} {sp : Space} (vU vV vZ : View sig κ sp S512x2048 .f32) (LU LV LZ : List (View.Piece (Elt Ideal) S512x2048 .f32))
variable (hU : ∀ (s : Fin 512) (j : Fin 2048), vU.read (Elt Ideal) (vU.writes (Elt Ideal) vU.junk LU) (ix2 s j) = HU s j)
variable (hV : ∀ (s : Fin 512) (j : Fin 2048), vV.read (Elt Ideal) (vV.writes (Elt Ideal) vV.junk LV) (ix2 s j) = HV s j)
variable (hZ : ∀ (s : Fin 512) (j : Fin 2048), vZ.read (Elt Ideal) (vZ.writes (Elt Ideal) vZ.junk LZ) (ix2 s j) = HZ s j)

include hU hV hZ

theorem piece (n g : Fin 4) (ro co go : ℕ) (hr : ro = 128 * n.val) (hc : co = 512 * g.val) (hg : go = g.val) (i5) (i6) (ib) (t : Fin 128) (d : Fin 512) :
    mx (View.ld X5 (Rect.unit (s := S4x128x128) ![go, 0, 0] ![1, 128, 128] i5)) (vV.readCov LV (Rect.unit (s := S512x2048) ![ro, co] ![128, 512] ib).toLoadRect)
        (View.ld X6 (Rect.unit (s := S128x4) ![0, go] ![128, 1] i6)) (vU.readCov LU (Rect.unit (s := S512x2048) ![ro, co] ![128, 512] ib).toLoadRect)
        (vZ.readCov LZ (Rect.unit (s := S512x2048) ![ro, co] ![128, 512] ib).toLoadRect) t d
      = tileAt X5 X6 HU HV HZ ((Rect.unit (s := S512x2048) ![ro, co] ![128, 512] ib).emb (ix2 t d : S128x512.Idx) 0) ((Rect.unit (s := S512x2048) ![ro, co] ![128, 512] ib).emb (ix2 t d : S128x512.Idx) 1) := by
  refine (mx_tile X5 X6 HU HV HZ n g _ _ _ _ _ ?_ ?_ (fun t d => tile_load vU LU HU hU n g ro co hr hc ib t d) (fun t d => tile_load vV LV HV hV n g ro co hr hc ib t d)
    (fun t d => tile_load vZ LZ HZ hZ n g ro co hr hc ib t d) t d).trans ?_
  · intro t k
    subst hg
    refine congrArg X5 (funext fun a => ?_)
    match a with
    | ⟨0, _⟩ => exact Fin.ext (show g.val + 1 * 0 = g.val by omega)
    | ⟨1, _⟩ => exact Fin.ext (show 0 + 1 * t.val = t.val by omega)
    | ⟨2, _⟩ => exact Fin.ext (show 0 + 1 * k.val = k.val by omega)
  · intro t
    subst hg
    refine congrArg X6 (funext (Fin.forall_fin_two.mpr ⟨Fin.ext ?_, Fin.ext ?_⟩))
    · show 0 + 1 * t.val = t.val; omega
    · show g.val + 1 * 0 = g.val; omega
  · subst hr hc
    refine congrArg₂ (tileAt X5 X6 HU HV HZ) (Fin.ext ?_) (Fin.ext ?_)
    · show 128 * n.val + t.val = 128 * n.val + 1 * t.val; omega
    · show 512 * g.val + d.val = 512 * g.val + 1 * d.val; omega

/-- The sixteen pieces of a block of results. -/
theorem tiles (s : Fin 512) (j : Fin 2048) :
    View.canon (Val := Elt Ideal) (s := S512x2048) (e := .bf16) [
      ⟨Rect.unit (s := S512x2048) ![384, 1536] ![128, 512] inb_S512x2048_S128x512_384_1536, k0_pay46 (View.ld X5 (Rect.unit (s := S4x128x128) ![3, 0, 0] ![1, 128, 128] inb_S4x128x128_S1x128x128_3_0_0)) (vV.readCov LV (Rect.unit (s := S512x2048) ![384, 1536] ![128, 512] inb_S512x2048_S128x512_384_1536).toLoadRect) (View.ld X6 (Rect.unit (s := S128x4) ![0, 3] ![128, 1] inb_S128x4_S128x1_0_3)) (vU.readCov LU (Rect.unit (s := S512x2048) ![384, 1536] ![128, 512] inb_S512x2048_S128x512_384_1536).toLoadRect) (vZ.readCov LZ (Rect.unit (s := S512x2048) ![384, 1536] ![128, 512] inb_S512x2048_S128x512_384_1536).toLoadRect)⟩,
      ⟨Rect.unit (s := S512x2048) ![384, 1024] ![128, 512] inb_S512x2048_S128x512_384_1024, k0_pay45 (k0_pay44 (View.ld X5 (Rect.unit (s := S4x128x128) ![2, 0, 0] ![1, 128, 128] inb_S4x128x128_S1x128x128_2_0_0)) (vV.readCov LV (Rect.unit (s := S512x2048) ![384, 1024] ![128, 512] inb_S512x2048_S128x512_384_1024).toLoadRect)) (View.ld X6 (Rect.unit (s := S128x4) ![0, 2] ![128, 1] inb_S128x4_S128x1_0_2)) (vU.readCov LU (Rect.unit (s := S512x2048) ![384, 1024] ![128, 512] inb_S512x2048_S128x512_384_1024).toLoadRect) (vZ.readCov LZ (Rect.unit (s := S512x2048) ![384, 1024] ![128, 512] inb_S512x2048_S128x512_384_1024).toLoadRect)⟩,
      ⟨Rect.unit (s := S512x2048) ![384, 512] ![128, 512] inb_S512x2048_S128x512_384_512, k0_pay43 (View.ld X5 (Rect.unit (s := S4x128x128) ![1, 0, 0] ![1, 128, 128] inb_S4x128x128_S1x128x128_1_0_0)) (vV.readCov LV (Rect.unit (s := S512x2048) ![384, 512] ![128, 512] inb_S512x2048_S128x512_384_512).toLoadRect) (View.ld X6 (Rect.unit (s := S128x4) ![0, 1] ![128, 1] inb_S128x4_S128x1_0_1)) (vU.readCov LU (Rect.unit (s := S512x2048) ![384, 512] ![128, 512] inb_S512x2048_S128x512_384_512).toLoadRect) (vZ.readCov LZ (Rect.unit (s := S512x2048) ![384, 512] ![128, 512] inb_S512x2048_S128x512_384_512).toLoadRect)⟩,
      ⟨Rect.unit (s := S512x2048) ![384, 0] ![128, 512] inb_S512x2048_S128x512_384_0, k0_pay42 (k0_pay41 (View.ld X5 (Rect.unit (s := S4x128x128) ![0, 0, 0] ![1, 128, 128] inb_S4x128x128_S1x128x128_0_0_0)) (vV.readCov LV (Rect.unit (s := S512x2048) ![384, 0] ![128, 512] inb_S512x2048_S128x512_384_0).toLoadRect)) (View.ld X6 (Rect.unit (s := S128x4) ![0, 0] ![128, 1] inb_S128x4_S128x1_0_0)) (vU.readCov LU (Rect.unit (s := S512x2048) ![384, 0] ![128, 512] inb_S512x2048_S128x512_384_0).toLoadRect) (vZ.readCov LZ (Rect.unit (s := S512x2048) ![384, 0] ![128, 512] inb_S512x2048_S128x512_384_0).toLoadRect)⟩,
      ⟨Rect.unit (s := S512x2048) ![256, 1536] ![128, 512] inb_S512x2048_S128x512_256_1536, k0_pay40 (View.ld X5 (Rect.unit (s := S4x128x128) ![3, 0, 0] ![1, 128, 128] inb_S4x128x128_S1x128x128_3_0_0)) (vV.readCov LV (Rect.unit (s := S512x2048) ![256, 1536] ![128, 512] inb_S512x2048_S128x512_256_1536).toLoadRect) (View.ld X6 (Rect.unit (s := S128x4) ![0, 3] ![128, 1] inb_S128x4_S128x1_0_3)) (vU.readCov LU (Rect.unit (s := S512x2048) ![256, 1536] ![128, 512] inb_S512x2048_S128x512_256_1536).toLoadRect) (vZ.readCov LZ (Rect.unit (s := S512x2048) ![256, 1536] ![128, 512] inb_S512x2048_S128x512_256_1536).toLoadRect)⟩,
      ⟨Rect.unit (s := S512x2048) ![256, 1024] ![128, 512] inb_S512x2048_S128x512_256_1024, k0_pay39 (k0_pay38 (View.ld X5 (Rect.unit (s := S4x128x128) ![2, 0, 0] ![1, 128, 128] inb_S4x128x128_S1x128x128_2_0_0)) (vV.readCov LV (Rect.unit (s := S512x2048) ![256, 1024] ![128, 512] inb_S512x2048_S128x512_256_1024).toLoadRect)) (View.ld X6 (Rect.unit (s := S128x4) ![0, 2] ![128, 1] inb_S128x4_S128x1_0_2)) (vU.readCov LU (Rect.unit (s := S512x2048) ![256, 1024] ![128, 512] inb_S512x2048_S128x512_256_1024).toLoadRect) (vZ.readCov LZ (Rect.unit (s := S512x2048) ![256, 1024] ![128, 512] inb_S512x2048_S128x512_256_1024).toLoadRect)⟩,
      ⟨Rect.unit (s := S512x2048) ![256, 512] ![128, 512] inb_S512x2048_S128x512_256_512, k0_pay37 (View.ld X5 (Rect.unit (s := S4x128x128) ![1, 0, 0] ![1, 128, 128] inb_S4x128x128_S1x128x128_1_0_0)) (vV.readCov LV (Rect.unit (s := S512x2048) ![256, 512] ![128, 512] inb_S512x2048_S128x512_256_512).toLoadRect) (View.ld X6 (Rect.unit (s := S128x4) ![0, 1] ![128, 1] inb_S128x4_S128x1_0_1)) (vU.readCov LU (Rect.unit (s := S512x2048) ![256, 512] ![128, 512] inb_S512x2048_S128x512_256_512).toLoadRect) (vZ.readCov LZ (Rect.unit (s := S512x2048) ![256, 512] ![128, 512] inb_S512x2048_S128x512_256_512).toLoadRect)⟩,
      ⟨Rect.unit (s := S512x2048) ![256, 0] ![128, 512] inb_S512x2048_S128x512_256_0, k0_pay36 (k0_pay35 (View.ld X5 (Rect.unit (s := S4x128x128) ![0, 0, 0] ![1, 128, 128] inb_S4x128x128_S1x128x128_0_0_0)) (vV.readCov LV (Rect.unit (s := S512x2048) ![256, 0] ![128, 512] inb_S512x2048_S128x512_256_0).toLoadRect)) (View.ld X6 (Rect.unit (s := S128x4) ![0, 0] ![128, 1] inb_S128x4_S128x1_0_0)) (vU.readCov LU (Rect.unit (s := S512x2048) ![256, 0] ![128, 512] inb_S512x2048_S128x512_256_0).toLoadRect) (vZ.readCov LZ (Rect.unit (s := S512x2048) ![256, 0] ![128, 512] inb_S512x2048_S128x512_256_0).toLoadRect)⟩,
      ⟨Rect.unit (s := S512x2048) ![128, 1536] ![128, 512] inb_S512x2048_S128x512_128_1536, k0_pay34 (View.ld X5 (Rect.unit (s := S4x128x128) ![3, 0, 0] ![1, 128, 128] inb_S4x128x128_S1x128x128_3_0_0)) (vV.readCov LV (Rect.unit (s := S512x2048) ![128, 1536] ![128, 512] inb_S512x2048_S128x512_128_1536).toLoadRect) (View.ld X6 (Rect.unit (s := S128x4) ![0, 3] ![128, 1] inb_S128x4_S128x1_0_3)) (vU.readCov LU (Rect.unit (s := S512x2048) ![128, 1536] ![128, 512] inb_S512x2048_S128x512_128_1536).toLoadRect) (vZ.readCov LZ (Rect.unit (s := S512x2048) ![128, 1536] ![128, 512] inb_S512x2048_S128x512_128_1536).toLoadRect)⟩,
      ⟨Rect.unit (s := S512x2048) ![128, 1024] ![128, 512] inb_S512x2048_S128x512_128_1024, k0_pay33 (k0_pay32 (View.ld X5 (Rect.unit (s := S4x128x128) ![2, 0, 0] ![1, 128, 128] inb_S4x128x128_S1x128x128_2_0_0)) (vV.readCov LV (Rect.unit (s := S512x2048) ![128, 1024] ![128, 512] inb_S512x2048_S128x512_128_1024).toLoadRect)) (View.ld X6 (Rect.unit (s := S128x4) ![0, 2] ![128, 1] inb_S128x4_S128x1_0_2)) (vU.readCov LU (Rect.unit (s := S512x2048) ![128, 1024] ![128, 512] inb_S512x2048_S128x512_128_1024).toLoadRect) (vZ.readCov LZ (Rect.unit (s := S512x2048) ![128, 1024] ![128, 512] inb_S512x2048_S128x512_128_1024).toLoadRect)⟩,
      ⟨Rect.unit (s := S512x2048) ![128, 512] ![128, 512] inb_S512x2048_S128x512_128_512, k0_pay31 (View.ld X5 (Rect.unit (s := S4x128x128) ![1, 0, 0] ![1, 128, 128] inb_S4x128x128_S1x128x128_1_0_0)) (vV.readCov LV (Rect.unit (s := S512x2048) ![128, 512] ![128, 512] inb_S512x2048_S128x512_128_512).toLoadRect) (View.ld X6 (Rect.unit (s := S128x4) ![0, 1] ![128, 1] inb_S128x4_S128x1_0_1)) (vU.readCov LU (Rect.unit (s := S512x2048) ![128, 512] ![128, 512] inb_S512x2048_S128x512_128_512).toLoadRect) (vZ.readCov LZ (Rect.unit (s := S512x2048) ![128, 512] ![128, 512] inb_S512x2048_S128x512_128_512).toLoadRect)⟩,
      ⟨Rect.unit (s := S512x2048) ![128, 0] ![128, 512] inb_S512x2048_S128x512_128_0, k0_pay30 (k0_pay29 (View.ld X5 (Rect.unit (s := S4x128x128) ![0, 0, 0] ![1, 128, 128] inb_S4x128x128_S1x128x128_0_0_0)) (vV.readCov LV (Rect.unit (s := S512x2048) ![128, 0] ![128, 512] inb_S512x2048_S128x512_128_0).toLoadRect)) (View.ld X6 (Rect.unit (s := S128x4) ![0, 0] ![128, 1] inb_S128x4_S128x1_0_0)) (vU.readCov LU (Rect.unit (s := S512x2048) ![128, 0] ![128, 512] inb_S512x2048_S128x512_128_0).toLoadRect) (vZ.readCov LZ (Rect.unit (s := S512x2048) ![128, 0] ![128, 512] inb_S512x2048_S128x512_128_0).toLoadRect)⟩,
      ⟨Rect.unit (s := S512x2048) ![0, 1536] ![128, 512] inb_S512x2048_S128x512_0_1536, k0_pay28 (View.ld X5 (Rect.unit (s := S4x128x128) ![3, 0, 0] ![1, 128, 128] inb_S4x128x128_S1x128x128_3_0_0)) (vV.readCov LV (Rect.unit (s := S512x2048) ![0, 1536] ![128, 512] inb_S512x2048_S128x512_0_1536).toLoadRect) (View.ld X6 (Rect.unit (s := S128x4) ![0, 3] ![128, 1] inb_S128x4_S128x1_0_3)) (vU.readCov LU (Rect.unit (s := S512x2048) ![0, 1536] ![128, 512] inb_S512x2048_S128x512_0_1536).toLoadRect) (vZ.readCov LZ (Rect.unit (s := S512x2048) ![0, 1536] ![128, 512] inb_S512x2048_S128x512_0_1536).toLoadRect)⟩,
      ⟨Rect.unit (s := S512x2048) ![0, 1024] ![128, 512] inb_S512x2048_S128x512_0_1024, k0_pay27 (k0_pay26 (View.ld X5 (Rect.unit (s := S4x128x128) ![2, 0, 0] ![1, 128, 128] inb_S4x128x128_S1x128x128_2_0_0)) (vV.readCov LV (Rect.unit (s := S512x2048) ![0, 1024] ![128, 512] inb_S512x2048_S128x512_0_1024).toLoadRect)) (View.ld X6 (Rect.unit (s := S128x4) ![0, 2] ![128, 1] inb_S128x4_S128x1_0_2)) (vU.readCov LU (Rect.unit (s := S512x2048) ![0, 1024] ![128, 512] inb_S512x2048_S128x512_0_1024).toLoadRect) (vZ.readCov LZ (Rect.unit (s := S512x2048) ![0, 1024] ![128, 512] inb_S512x2048_S128x512_0_1024).toLoadRect)⟩,
      ⟨Rect.unit (s := S512x2048) ![0, 512] ![128, 512] inb_S512x2048_S128x512_0_512, k0_pay25 (View.ld X5 (Rect.unit (s := S4x128x128) ![1, 0, 0] ![1, 128, 128] inb_S4x128x128_S1x128x128_1_0_0)) (vV.readCov LV (Rect.unit (s := S512x2048) ![0, 512] ![128, 512] inb_S512x2048_S128x512_0_512).toLoadRect) (View.ld X6 (Rect.unit (s := S128x4) ![0, 1] ![128, 1] inb_S128x4_S128x1_0_1)) (vU.readCov LU (Rect.unit (s := S512x2048) ![0, 512] ![128, 512] inb_S512x2048_S128x512_0_512).toLoadRect) (vZ.readCov LZ (Rect.unit (s := S512x2048) ![0, 512] ![128, 512] inb_S512x2048_S128x512_0_512).toLoadRect)⟩,
      ⟨Rect.unit (s := S512x2048) ![0, 0] ![128, 512] inb_S512x2048_S128x512_0_0, k0_pay24 (k0_pay23 (View.ld X5 (Rect.unit (s := S4x128x128) ![0, 0, 0] ![1, 128, 128] inb_S4x128x128_S1x128x128_0_0_0)) (vV.readCov LV (Rect.unit (s := S512x2048) ![0, 0] ![128, 512] inb_S512x2048_S128x512_0_0).toLoadRect)) (View.ld X6 (Rect.unit (s := S128x4) ![0, 0] ![128, 1] inb_S128x4_S128x1_0_0)) (vU.readCov LU (Rect.unit (s := S512x2048) ![0, 0] ![128, 512] inb_S512x2048_S128x512_0_0).toLoadRect) (vZ.readCov LZ (Rect.unit (s := S512x2048) ![0, 0] ![128, 512] inb_S512x2048_S128x512_0_0).toLoadRect)⟩] (ix2 s j) = tileAt X5 X6 HU HV HZ s j := by
  refine View.canon_apply_of_pieces (Val := Elt Ideal) (S := S512x2048) (e := .bf16) (fun y => tileAt X5 X6 HU HV HZ (y 0) (y 1)) _ ?_ _ ?_
  · refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 3 3 384 1536 3 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 3 2 384 1024 2 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 3 1 384 512 1 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 3 0 384 0 0 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 2 3 256 1536 3 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 2 2 256 1024 2 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 2 1 256 512 1 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 2 0 256 0 0 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 1 3 128 1536 3 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 1 2 128 1024 2 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 1 1 128 512 1 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 1 0 128 0 0 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 0 3 0 1536 3 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 0 2 0 1024 2 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_whole _ _ _ _ _ t d).trans (piece X5 X6 HU HV HZ vU vV vZ LU LV LZ hU hV hZ 0 1 0 512 1 rfl rfl rfl _ _ _ t d)
    refine List.forall_mem_cons.mpr ⟨fun x => ?_, ?_⟩
    · obtain ⟨t, d, rfl⟩ : ∃ (t : Fin 128) (d : Fin 512), x = ix2 t d := ⟨x 0, x 1, by idx_vars x⟩
      exact (mix_split _ _ _ _ _ t d).trans (piece X5 X6 HU HV HZ vU vV vZ LU LV LZ hU hV hZ 0 0 0 0 0 rfl rfl rfl _ _ _ t d)
    exact fun p hp => absurd hp List.not_mem_nil
  · exact View.cover_of_tiledL _ ![128, 512] (by rfl) _
end

variable (m : (ℓ : Loc nD τ sig) → Buf (Elt Ideal) ℓ)

/-- The projection of a row of a block. -/
def pB (c : Dev nD) (t : Fin cfg0.N) (s : Fin 512) : Fin 6144 → EReal :=
  prow (fun k => iblk m c 0 t (ix2 s k)) (fun k q => iblk m c 1 t (ix2 k q)) (fun q => iblk m c 2 t (ix2 0 q))

/-- A row that is loaded whole. -/
theorem row_rd {κ : Kind} {sp : Space} (r : Memref sig κ sp S1x2048 .f32) (h : r.IsWhole) (X : Vec Ideal S1x2048 .f32) (j : Fin 2048) :
    View.readAt (Elt Ideal) r.view (Rect.unit (s := S1x2048) ![0, 0] S1x2048.size inb_S1x2048_S1x2048_0_0).toLoadRect (h.unread X) (ix2 0 j) = X (ix2 0 j) :=
  (congrFun (h.read_unread X) _).trans (congrArg X (funext (Fin.forall_fin_two.mpr ⟨rfl, Fin.ext (show 0 + 1 * j.val = j.val by omega)⟩)))

theorem pB_ld (c : Dev nD) (t : Fin cfg0.N) (o : ℕ) (ho : o + 512 ≤ 6144) (i1) (i2) (s j : Fin 512) :
    pr (k0_pay1 (iblk m c 0 t)) (View.ld (iblk m c 1 t : Vec Ideal S1024x6144 .bf16) (Rect.unit (s := S1024x6144) ![0, o] ![1024, 512] i1)) (View.ld (iblk m c 2 t : Vec Ideal S1x6144 .f32) (Rect.unit (s := S1x6144) ![0, o] ![1, 512] i2)) s j
      = pB m c t s ⟨o + j.val, by omega⟩ :=
  (pr_ld (k0_pay1 (iblk m c 0 t)) (iblk m c 1 t) (iblk m c 2 t) o ho i1 i2 s j).trans
    (congrArg (fun x => prow x (fun k q => iblk m c 1 t (ix2 k q)) (fun q => iblk m c 2 t (ix2 0 q)) ⟨o + j.val, by omega⟩) (funext fun k => pay1_at (iblk m c 0 t) s k))

theorem block (c : Dev nD) (t : Fin cfg0.N) (s : Fin 512) (j : Fin 2048) : outsAt0 m c t (ix2 s j)
    = tileAt (iblk m c 5 t) (iblk m c 6 t) (fun s j => gelu (pB m c t s ⟨j.val, by omega⟩)) (fun s j => vrow (pB m c t s) (fun j => iblk m c 3 t (ix2 0 j)) (fun j => iblk m c 4 t (ix2 0 j)) j)
        (fun s j => silu (pB m c t s ⟨4096 + j.val, by omega⟩)) s j := by
  unfold outsAt0 out0_A_7
  frame_out
  refine tiles (iblk m c 5 t) (iblk m c 6 t) _ _ _ _ _ _ _ _ _ ?hu ?hv ?hz s j
  case hu =>
    exact fun s j => cols4 _ _ _ _ _ _ (fun s j => gelu (pB m c t s ⟨j.val, by omega⟩))
      (fun s j => (u0 _ _ _ s j).trans (congrArg gelu (pB_ld m c t 0 (by omega) _ _ s j)))
      (fun s j => (u1 _ _ _ s j).trans (congrArg gelu (pB_ld m c t 512 (by omega) _ _ s j)))
      (fun s j => (u2 _ _ _ s j).trans (congrArg gelu (pB_ld m c t 1024 (by omega) _ _ s j)))
      (fun s j => (u3 _ _ _ s j).trans (congrArg gelu (pB_ld m c t 1536 (by omega) _ _ s j))) s j
  case hz =>
    exact fun s j => cols4 _ _ _ _ _ _ (fun s j => silu (pB m c t s ⟨4096 + j.val, by omega⟩))
      (fun s j => (z0 _ _ _ s j).trans (congrArg silu ((pB_ld m c t 4096 (by omega) _ _ s j).trans (congrArg (pB m c t s) (Fin.ext (show 4096 + j.val = 4096 + (0 + j.val) by omega))))))
      (fun s j => (z1 _ _ _ s j).trans (congrArg silu ((pB_ld m c t 4608 (by omega) _ _ s j).trans (congrArg (pB m c t s) (Fin.ext (show 4608 + j.val = 4096 + (512 + j.val) by omega))))))
      (fun s j => (z2 _ _ _ s j).trans (congrArg silu ((pB_ld m c t 5120 (by omega) _ _ s j).trans (congrArg (pB m c t s) (Fin.ext (show 5120 + j.val = 4096 + (1024 + j.val) by omega))))))
      (fun s j => (z3 _ _ _ s j).trans (congrArg silu ((pB_ld m c t 5632 (by omega) _ _ s j).trans (congrArg (pB m c t s) (Fin.ext (show 5632 + j.val = 4096 + (1536 + j.val) by omega)))))) s j
  case hv =>
    refine fun s j => loop_end _ _ _ _ _ _ _ _ _ _ _ _ _ _ _ _ _ _ _ _ _ _ scM0_1 _ _ _ _ _ _ _ _ _ _ ?hn (fun s j => gelu (pB m c t s ⟨2048 + j.val, by omega⟩)) (fun j => iblk m c 3 t (ix2 0 j)) (fun j => iblk m c 4 t (ix2 0 j))
      (fun j => ?hg) (fun j => ?hb)
      (fun s j => cols4 _ _ _ _ _ _ (fun s j => gelu (pB m c t s ⟨2048 + j.val, by omega⟩))
      (fun s j => (v0 _ _ _ s j).trans (congrArg gelu ((pB_ld m c t 2048 (by omega) _ _ s j).trans (congrArg (pB m c t s) (Fin.ext (show 2048 + j.val = 2048 + (0 + j.val) by omega))))))
      (fun s j => (v1 _ _ _ s j).trans (congrArg gelu ((pB_ld m c t 2560 (by omega) _ _ s j).trans (congrArg (pB m c t s) (Fin.ext (show 2560 + j.val = 2048 + (512 + j.val) by omega))))))
      (fun s j => (v2 _ _ _ s j).trans (congrArg gelu ((pB_ld m c t 3072 (by omega) _ _ s j).trans (congrArg (pB m c t s) (Fin.ext (show 3072 + j.val = 2048 + (1024 + j.val) by omega))))))
      (fun s j => (v3 _ _ _ s j).trans (congrArg gelu ((pB_ld m c t 3584 (by omega) _ _ s j).trans (congrArg (pB m c t s) (Fin.ext (show 3584 + j.val = 2048 + (1536 + j.val) by omega)))))) s j) s j
    case hn => rfl
    case hg => exact row_rd (ms0_3 t) _ (iblk m c 3 t) j
    case hb => exact row_rd (ms0_4 t) _ (iblk m c 4 t) j

end Cert.Gm
-- ==== Proof.GmRef.lean ====
module

public import proofs.«01_k».proof.Proof.GmPay
public import proofs.«01_k».proof.Proof.Gen.Reference2Ideal.Run
public import Idealize.ShloMosaic.Lib.Pointwise

@[expose] public section

set_option maxRecDepth 16384

noncomputable section

namespace Cert.Gm
open Idealize.ShloMosaic Idealize.ShloMosaic.TcCoe Idealize.SL.Sem
open Cert.Layer Cert.Reference2Ideal Cert.Reference2Ideal.Gen

/-- The projection with its bias, as the reference writes it. -/
def projR (x : FVec Ideal S4x4096x1024 .f32) (w : FVec Ideal S1024x6144 .f32) (b : FVec Ideal S6144 .f32) : FVec Ideal S4x4096x6144 .f32 :=
  addf (Host.dotGeneral (φ₁ := .f32) (φ₂ := .f32) dot_S4x4096x1024_S1024x6144_S4x4096x6144_2_0_01_1_n_n none x w)
    (broadcastInDim S4x4096x6144 ![0, 1, 2] bcast_S1x1x6144_S4x4096x6144_0_1_2 (broadcastInDim S1x1x6144 ![2] bcast_S6144_S1x1x6144_2 b))

/-- The three thirds of the projection. -/
def uR (p : FVec Ideal S4x4096x6144 .f32) : FVec Ideal S4x4096x2048 .f32 := extractStridedSlice S4x4096x2048 ![0, 0, 0] p slices_S4x4096x6144_S4x4096x2048_0_0_0
def vR (p : FVec Ideal S4x4096x6144 .f32) : FVec Ideal S4x4096x2048 .f32 := extractStridedSlice S4x4096x2048 ![0, 0, 2048] p slices_S4x4096x6144_S4x4096x2048_0_0_2048
def zR (p : FVec Ideal S4x4096x6144 .f32) : FVec Ideal S4x4096x2048 .f32 := extractStridedSlice S4x4096x2048 ![0, 0, 4096] p slices_S4x4096x6144_S4x4096x2048_0_0_4096

/-- A number at every place. -/
def fillR (w : BitVec 32) : FVec Ideal S4x4096x2048 .f32 := broadcastInDim S4x4096x2048 ![] bcast_S_S4x4096x2048 (constant S_ .f32 w)

/-- The GELU, as the reference writes it. -/
def geluR (x : FVec Ideal S4x4096x2048 .f32) : FVec Ideal S4x4096x2048 .f32 :=
  mulf x (mulf (fillR 0x3F000000#32) (addf (fillR 0x3F800000#32) (Host.tanh (mulf (fillR 0x3F4C422A#32) (addf x (mulf (fillR 0x3D372713#32) (mulf (mulf x x) x)))))))

/-- The gate of the last third, as the reference writes it. -/
def siluR (z : FVec Ideal S4x4096x2048 .f32) : FVec Ideal S4x4096x2048 .f32 :=
  mulf z (Host.divf (fillR 0x3F800000#32) (addf (fillR 0x3F800000#32) (Host.exp (Host.negf z))))

/-- The rows' means, as the reference writes them. -/
def meanR (y : FVec Ideal S4x4096x2048 .f32) : FVec Ideal S4x4096x1 .f32 :=
  Host.divf (broadcastInDim S4x4096x1 ![0, 1] bcast_S4x4096_S4x4096x1_0_1 (Host.reduceAdd y (constant S_ .f32 0x00000000#32) reducesTo_S4x4096x2048_S4x4096_d2 h_S_)) (broadcastInDim S4x4096x1 ![] bcast_S_S4x4096x1 (constant S_ .f32 0x45000000#32))

/-- The rows less their means. -/
def centR (y : FVec Ideal S4x4096x2048 .f32) : FVec Ideal S4x4096x2048 .f32 :=
  subf y (broadcastInDim S4x4096x2048 ![0, 1, 2] bcast_S4x4096x1_S4x4096x2048_0_1_2 (meanR y))

/-- The layer norm of the middle third, as the reference writes it. -/
def normR (y : FVec Ideal S4x4096x2048 .f32) (g b : FVec Ideal S2048 .f32) : FVec Ideal S4x4096x2048 .f32 :=
  addf (mulf (mulf (centR y) (broadcastInDim S4x4096x2048 ![0, 1, 2] bcast_S4x4096x1_S4x4096x2048_0_1_2 (Host.rsqrt (addf (meanR (mulf (centR y) (centR y))) (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))

/-- The lower triangle of each group's mixing matrix. -/
def triR (w : FVec Ideal S4x128x128 .f32) : FVec Ideal S4x128x128 .f32 :=
  select (broadcastInDim S4x128x128 ![1, 2] bcast_S128x128_S4x128x128_1_2 (cmpi .sge (addi (iotaInDim S128x128 32 0) (broadcastInDim S128x128 ![] bcast_S_S128x128 (constantI S_ 32 0#32))) (iotaInDim S128x128 32 1)))
    w (broadcastInDim S4x128x128 ![] bcast_S_S4x128x128 (constant S_ .f32 0x00000000#32))

/-- The mixing along a chunk's rows, as the reference writes it. -/
def mixR (v : FVec Ideal S4x32x128x4x512 .f32) (a : FVec Ideal S4x128x128 .f32) (bs : FVec Ideal S4x128 .f32) : FVec Ideal S4x32x128x4x512 .f32 :=
  addf (transpose S4x32x128x4x512 [1, 2, 4, 0, 3] (Host.dotGeneral (φ₁ := .f32) (φ₂ := .f32) dot_S4x32x128x4x512_S4x128x128_S4x4x32x512x128_2_2_014_1_3_0 none v a) transposes_S4x4x32x512x128_S4x32x128x4x512_1_2_4_0_3)
    (broadcastInDim S4x32x128x4x512 ![0, 1, 2, 3, 4] bcast_S1x1x128x4x1_S4x32x128x4x512_0_1_2_3_4 (broadcastInDim S1x1x128x4x1 ![2, 3] bcast_S128x4_S1x1x128x4x1_2_3 (transpose S128x4 [1, 0] bs transposes_S4x128_S128x4_1_0)))

/-- Rows and columns cut into chunks and groups, and back. -/
def cutR (v : FVec Ideal S4x4096x2048 .f32) : FVec Ideal S4x32x128x4x512 .f32 := shapeCast S4x32x128x4x512 v shapeCasts_S4x4096x2048_S4x32x128x4x512
def joinR (v : FVec Ideal S4x32x128x4x512 .f32) : FVec Ideal S4x4096x2048 .f32 := shapeCast S4x4096x2048 v shapeCasts_S4x32x128x4x512_S4x4096x2048

/-- The rows of all sequences, one below the other. -/
def rowsR (y : FVec Ideal S4x4096x2048 .f32) : FVec Ideal S16384x2048 .bf16 := truncf (F := Ideal) (s := S16384x2048) (φ := .f32) .bf16 (shapeCast S16384x2048 y shapeCasts_S4x4096x2048_S16384x2048) bitsLt_bf16_f32

section
variable (b : Fin 4) (l : Fin 4096) (j : Fin 2048)

theorem projR_at (x : FVec Ideal S4x4096x1024 .f32) (w : FVec Ideal S1024x6144 .f32) (bi : FVec Ideal S6144 .f32) (q : Fin 6144) :
    projR x w bi (ix3 b l q) = (∑ k : Fin 1024, x (ix3 b l k) * w (ix2 k q)) + bi (ix1 q) := by pointwise [projR]
theorem uR_at (p : FVec Ideal S4x4096x6144 .f32) : uR p (ix3 b l j) = p (ix3 b l ⟨j.val, by omega⟩) := by pointwise [uR]
theorem vR_at (p : FVec Ideal S4x4096x6144 .f32) : vR p (ix3 b l j) = p (ix3 b l ⟨2048 + j.val, by omega⟩) := by pointwise [vR]
theorem zR_at (p : FVec Ideal S4x4096x6144 .f32) : zR p (ix3 b l j) = p (ix3 b l ⟨4096 + j.val, by omega⟩) := by pointwise [zR]
theorem geluR_at (x : FVec Ideal S4x4096x2048 .f32) : geluR x (ix3 b l j) = gelu (x (ix3 b l j)) := by pointwise [geluR, fillR, gelu]
theorem siluR_at (x : FVec Ideal S4x4096x2048 .f32) : siluR x (ix3 b l j) = silu (x (ix3 b l j)) := by pointwise [siluR, fillR, silu, sigm]
theorem normR_at (y : FVec Ideal S4x4096x2048 .f32) (g bb : FVec Ideal S2048 .f32) :
    normR y g bb (ix3 b l j) = normAt (Ideal.ofBits FTy.f32 0x45000000#32) (fun i : Fin 2048 => y (ix3 b l i)) (fun i => g (ix1 i)) (fun i => bb (ix1 i)) j := by
  pointwise [normR, centR, meanR, normAt, meanOf]

theorem mixR_at (v : FVec Ideal S4x32x128x4x512 .f32) (a : FVec Ideal S4x128x128 .f32) (bs : FVec Ideal S4x128 .f32) (n : Fin 32) (t : Fin 128) (g : Fin 4) (d : Fin 512) :
    mixR v a bs (ix5 b n t g d) = (∑ k : Fin 128, v (ix5 b n k g d) * a (ix3 g t k)) + bs (ix2 g t) := by
  pointwise [mixR]

theorem joinR_at (v : FVec Ideal S4x32x128x4x512 .f32) :
    joinR v (ix3 b l j) = v (ix5 b ⟨l.val / 128, by omega⟩ ⟨l.val % 128, by omega⟩ ⟨j.val / 512, by omega⟩ ⟨j.val % 512, by omega⟩) := by
  pointwise [joinR]

theorem cutR_at (v : FVec Ideal S4x4096x2048 .f32) (n : Fin 32) (t : Fin 128) (g : Fin 4) (d : Fin 512) :
    cutR v (ix5 b n t g d) = v (ix3 b ⟨n.val * 128 + t.val, by omega⟩ ⟨g.val * 512 + d.val, by omega⟩) := by
  pointwise [cutR]

end

theorem rowsR_at (y : FVec Ideal S4x4096x2048 .f32) (r : Fin 16384) (j : Fin 2048) :
    rowsR y (ix2 r j) = y (ix3 (seq r) (step r) j) := by pointwise [rowsR, seq, step]

variable (m : (ℓ : Loc nD τ sig) → Buf (Elt Ideal) ℓ) (c : Dev nD)

/-- The reference's result over its projection and its parameters. -/
def outR (p : FVec Ideal S4x4096x6144 .f32) (g b : FVec Ideal S2048 .f32) (w : FVec Ideal S4x128x128 .f32) (bs : FVec Ideal S4x128 .f32) : FVec Ideal S16384x2048 .bf16 :=
  rowsR (mulf (mulf (geluR (uR p)) (joinR (mixR (cutR (normR (geluR (vR p)) g b)) (triR w) bs))) (siluR (zR p)))

theorem res_eq : Cert.Reference2Ideal.Value.res_out0 m c =
    outR (projR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6)) := rfl

end Cert.Gm
-- ==== Proof.GmKernel.lean ====
module

public import proofs.«01_k».proof.Proof.GmTiles
public import proofs.«01_k».proof.Proof.GmRef

@[expose] public section

set_option maxRecDepth 16384

noncomputable section

namespace Cert.Gm
open Idealize.ShloMosaic Idealize.ShloMosaic.TcCoe Idealize.SL.Sem
open Cert.Layer

/-- The gated mixing unit at a row and a column, over every row's projection `P`, the norm's weights, the masked mixing matrices and the mixing biases. -/
def outOf (P : Fin 16384 → Fin 6144 → EReal) (g b : Fin 2048 → EReal) (a : Fin 4 → Fin 128 → Fin 128 → EReal) (bs : Fin 4 → Fin 128 → EReal) (r : Fin 16384) (j : Fin 2048) : EReal :=
  gelu (P r ⟨j.val, by omega⟩)
    * ((∑ k : Fin 128, a ⟨j.val / 512, by omega⟩ ⟨r.val % 128, by omega⟩ k * vrow (P ⟨128 * (r.val / 128) + k.val, by omega⟩) g b j) + bs ⟨j.val / 512, by omega⟩ ⟨r.val % 128, by omega⟩)
    * silu (P r ⟨4096 + j.val, by omega⟩)

open Cert.Kernel2Ideal Cert.Kernel2Ideal.Gen

variable (m : (ℓ : Loc nD τ sig) → Buf (Elt Ideal) ℓ)

/-- The windows' index maps, at every grid point. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0, 0] ∧ win0_6.index t = ![0, 0] ∧ win0_7.index t = ![t.val, 0] ∧ t.val < 32 := (by decide +kernel : ∀ t : Fin grid0.N, _)

/-- The launch's arguments, at coordinates. -/
def aP (c : Dev nD) (r : Fin 16384) : Fin 6144 → EReal :=
  prow (fun k => m ((c.tc : Thread nD τ).loc main_arg0) (ix3 (seq r) (step r) k)) (fun k q => m ((c.tc : Thread nD τ).loc main_arg1) (ix2 k q)) (fun q => m ((c.tc : Thread nD τ).loc main_arg2) (ix1 q))
def aG (c : Dev nD) (j : Fin 2048) : EReal := m ((c.tc : Thread nD τ).loc main_arg3) (ix1 j)
def aB (c : Dev nD) (j : Fin 2048) : EReal := m ((c.tc : Thread nD τ).loc main_arg4) (ix1 j)
def aA (c : Dev nD) (g : Fin 4) (t k : Fin 128) : EReal := triR (m ((c.tc : Thread nD τ).loc main_arg5)) (ix3 g t k)
def aS (c : Dev nD) (g : Fin 4) (t : Fin 128) : EReal := m ((c.tc : Thread nD τ).loc main_arg6) (ix2 g t)

theorem V0 (c : Dev nD) : V m c main_v0 = truncf (F := Ideal) (s := S1024x6144) (φ := .f32) .bf16 (m ((c.tc : Thread nD τ).loc main_arg1) : FVec Ideal S1024x6144 .f32) bitsLt_bf16_f32 := by
  entry_read
  rfl
theorem V1 (c : Dev nD) : V m c main_v1 = shapeCast S1x6144 (m ((c.tc : Thread nD τ).loc main_arg2) : FVec Ideal S6144 .f32) shapeCasts_S6144_S1x6144 := by
  entry_read
  rfl
theorem V2 (c : Dev nD) : V m c main_v2 = shapeCast S1x2048 (m ((c.tc : Thread nD τ).loc main_arg3) : FVec Ideal S2048 .f32) shapeCasts_S2048_S1x2048 := by
  entry_read
  rfl
theorem V3 (c : Dev nD) : V m c main_v3 = shapeCast S1x2048 (m ((c.tc : Thread nD τ).loc main_arg4) : FVec Ideal S2048 .f32) shapeCasts_S2048_S1x2048 := by
  entry_read
  rfl
theorem V5 (c : Dev nD) : V m c main_v5 = truncf (F := Ideal) (s := S4x128x128) (φ := .f32) .bf16 (triR (m ((c.tc : Thread nD τ).loc main_arg5))) bitsLt_bf16_f32 := by
  entry_read
  rfl
theorem V6 (c : Dev nD) : V m c main_v6 = transpose S128x4 [1, 0] (m ((c.tc : Thread nD τ).loc main_arg6) : FVec Ideal S4x128 .f32) transposes_S4x128_S128x4_1_0 := by
  entry_read
  rfl
theorem V7 (c : Dev nD) : V m c main_v7 = shapeCast S16384x1024 (m ((c.tc : Thread nD τ).loc main_arg0) : FVec Ideal S4x4096x1024 .f32) shapeCasts_S4x4096x1024_S16384x1024 := by
  entry_read
  rfl

theorem cast_x (x : FVec Ideal S4x4096x1024 .f32) (r : Fin 16384) (k : Fin 1024) : shapeCast S16384x1024 x shapeCasts_S4x4096x1024_S16384x1024 (ix2 r k) = x (ix3 (seq r) (step r) k) := by
  pointwise [seq, step]
theorem cast_b (w : FVec Ideal S6144 .f32) (q : Fin 6144) : shapeCast S1x6144 w shapeCasts_S6144_S1x6144 (ix2 0 q) = w (ix1 q) := by pointwise
theorem cast_g (w : FVec Ideal S2048 .f32) (q : Fin 2048) : shapeCast S1x2048 w shapeCasts_S2048_S1x2048 (ix2 0 q) = w (ix1 q) := by pointwise
theorem swap_s (w : FVec Ideal S4x128 .f32) (t : Fin 128) (g : Fin 4) : transpose S128x4 [1, 0] w transposes_S4x128_S128x4_1_0 (ix2 t g) = w (ix2 g t) := by pointwise

/-- The row that row `s` of point `t`'s tile is. -/
def row (t : Fin cfg0.N) (s : Fin 512) : Fin 16384 := ⟨t.val * 512 + s.val, by have := (idx t).2.2.2.2.2.2.2.2; omega⟩

theorem blk0 (c : Dev nD) (t : Fin cfg0.N) (s : Fin 512) (k : Fin 1024) : iblk m c 0 t (ix2 s k) = m ((c.tc : Thread nD τ).loc main_arg0) (ix3 (seq (row t s)) (step (row t s)) k) := by
  have := (idx t).2.2.2.2.2.2.2.2
  blk_simp [iblk]
  have e : ((cfg0.win 0).blk t).view.emb (ix2 s k) = ix2 (row t s) k := by blk_ext [idx t, row]
  exact (congrArg (V m c main_v7) e).trans ((congrFun (V7 m c) _).trans (cast_x _ _ _))
theorem blk1 (c : Dev nD) (t : Fin cfg0.N) (k : Fin 1024) (q : Fin 6144) : iblk m c 1 t (ix2 k q) = m ((c.tc : Thread nD τ).loc main_arg1) (ix2 k q) := by
  blk_simp [iblk]
  have e : ((cfg0.win 1).blk t).view.emb (ix2 k q) = ix2 k q := by blk_ext [idx t]
  exact (congrArg (V m c main_v0) e).trans (congrFun (V0 m c) _)
theorem blk2 (c : Dev nD) (t : Fin cfg0.N) (q : Fin 6144) : iblk m c 2 t (ix2 0 q) = m ((c.tc : Thread nD τ).loc main_arg2) (ix1 q) := by
  blk_simp [iblk]
  have e : ((cfg0.win 2).blk t).view.emb (ix2 0 q) = ix2 0 q := by blk_ext [idx t]
  exact (congrArg (V m c main_v1) e).trans ((congrFun (V1 m c) _).trans (cast_b _ _))
theorem blk3 (c : Dev nD) (t : Fin cfg0.N) (j : Fin 2048) : iblk m c 3 t (ix2 0 j) = aG m c j := by
  blk_simp [iblk]
  have e : ((cfg0.win 3).blk t).view.emb (ix2 0 j) = ix2 0 j := by blk_ext [idx t]
  exact (congrArg (V m c main_v2) e).trans ((congrFun (V2 m c) _).trans (cast_g _ _))
theorem blk4 (c : Dev nD) (t : Fin cfg0.N) (j : Fin 2048) : iblk m c 4 t (ix2 0 j) = aB m c j := by
  blk_simp [iblk]
  have e : ((cfg0.win 4).blk t).view.emb (ix2 0 j) = ix2 0 j := by blk_ext [idx t]
  exact (congrArg (V m c main_v3) e).trans ((congrFun (V3 m c) _).trans (cast_g _ _))
theorem blk5 (c : Dev nD) (t : Fin cfg0.N) (g : Fin 4) (i k : Fin 128) : iblk m c 5 t (ix3 g i k) = aA m c g i k := by
  blk_simp [iblk]
  have e : ((cfg0.win 5).blk t).view.emb (ix3 g i k) = ix3 g i k := by blk_ext [idx t]
  exact (congrArg (V m c main_v5) e).trans (congrFun (V5 m c) _)
theorem blk6 (c : Dev nD) (t : Fin cfg0.N) (i : Fin 128) (g : Fin 4) : iblk m c 6 t (ix2 i g) = aS m c g i := by
  blk_simp [iblk]
  have e : ((cfg0.win 6).blk t).view.emb (ix2 i g) = ix2 i g := by blk_ext [idx t]
  exact (congrArg (V m c main_v6) e).trans ((congrFun (V6 m c) _).trans (swap_s _ _ _))

/-- The result array. -/
def G (c : Dev nD) : Buf (Elt Ideal) ((c.tc : Thread nD τ).loc main_v8) :=
  fun i => outOf (aP m c) (aG m c) (aB m c) (aA m c) (aS m c) ⟨(i 0).val, (i 0).isLt⟩ ⟨(i 1).val, (i 1).isLt⟩

theorem pB_eq (c : Dev nD) (t : Fin cfg0.N) (s : Fin 512) : pB m c t s = aP m c (row t s) := by
  unfold pB aP
  simp only [blk0, blk1, blk2]

theorem point (c : Dev nD) (t : Fin cfg0.N) (s : Fin 512) (j : Fin 2048) :
    outsAt0 m c t (ix2 s j) = outOf (aP m c) (aG m c) (aB m c) (aA m c) (aS m c) (row t s) j := by
  refine (block m c t s j).trans ?_
  have ht := (idx t).2.2.2.2.2.2.2.2
  have e1 : (⟨(row t s).val % 128, by omega⟩ : Fin 128) = ⟨s.val % 128, by omega⟩ := Fin.ext (show (t.val * 512 + s.val) % 128 = s.val % 128 by omega)
  have e2 : ∀ k : Fin 128, (⟨128 * ((row t s).val / 128) + k.val, by omega⟩ : Fin 16384) = row t ⟨128 * (s.val / 128) + k.val, by omega⟩ :=
    fun k => Fin.ext (show 128 * ((t.val * 512 + s.val) / 128) + k.val = t.val * 512 + (128 * (s.val / 128) + k.val) by omega)
  unfold tileAt outOf
  simp only [e1, e2, pB_eq, blk3, blk4, blk5, blk6]

theorem final (c : Dev nD) : (dats m 0 c).arrAt 7 (cfgs 0).N = G m c := by
  refine (dats m 0 c).arrAt_eq_of_covers 7 _ (by decide +kernel) fun t _ y => ?_
  obtain ⟨s, j, rfl⟩ : ∃ (s : Fin 512) (j : Fin 2048), y = ix2 s j := ⟨y 0, y 1, by idx_vars y⟩
  blk_simp
  rw [after0_7]
  refine (point m c t s j).trans ?_
  have e : ((cfg0.win 7).blk t).view.emb (ix2 s j) = ix2 (row t s) j := by blk_ext [idx t, row]
  exact (congrArg (G m c) e).symm

end Cert.Gm
-- ==== Proof.Gm.lean ====
module

public import proofs.«01_k».proof.Proof.GmKernel
public import proofs.«01_k».proof.Defs

@[expose] public section

set_option maxRecDepth 16384

noncomputable section

namespace Cert.Gm
open Idealize.ShloMosaic Idealize.ShloMosaic.TcCoe Idealize.SL.Sem
open Cert.Layer

section
open Cert.Reference2Ideal Cert.Reference2Ideal.Gen

variable (x : FVec Ideal S4x4096x1024 .f32) (w : FVec Ideal S1024x6144 .f32) (bi : FVec Ideal S6144 .f32) (g b : FVec Ideal S2048 .f32) (a : FVec Ideal S4x128x128 .f32) (bs : FVec Ideal S4x128 .f32)

/-- The normed middle third at a row. -/
theorem v_row (p : FVec Ideal S4x4096x6144 .f32) (bb : Fin 4) (l : Fin 4096) (j : Fin 2048) :
    normR (geluR (vR p)) g b (ix3 bb l j) = vrow (fun q => p (ix3 bb l q)) (fun i => g (ix1 i)) (fun i => b (ix1 i)) j := by
  rw [normR_at]
  simp only [geluR_at, vR_at]
  rfl

/-- The reference's result at a row and a column, over its arguments. -/
theorem ref_at (r : Fin 16384) (j : Fin 2048) :
    outR (projR x w bi) g b a bs (ix2 r j)
      = outOf (fun r => prow (fun k => x (ix3 (seq r) (step r) k)) (fun k q => w (ix2 k q)) (fun q => bi (ix1 q))) (fun i => g (ix1 i)) (fun i => b (ix1 i))
          (fun g t k => triR a (ix3 g t k)) (fun g t => bs (ix2 g t)) r j := by
  unfold outR
  refine (rowsR_at _ r j).trans ?_
  have hr := r.isLt
  have e1 : (⟨(step r).val % 128, by omega⟩ : Fin 128) = ⟨r.val % 128, by omega⟩ := Fin.ext (show (r.val % 4096) % 128 = r.val % 128 by omega)
  have e2 : ∀ k : Fin 128, ix3 (seq r) (⟨(step r).val / 128 * 128 + k.val, by omega⟩ : Fin 4096) (⟨j.val / 512 * 512 + j.val % 512, by omega⟩ : Fin 2048)
      = ix3 (seq (⟨128 * (r.val / 128) + k.val, by omega⟩ : Fin 16384)) (step (⟨128 * (r.val / 128) + k.val, by omega⟩ : Fin 16384)) j := fun k => by
    have h1 : seq r = seq (⟨128 * (r.val / 128) + k.val, by omega⟩ : Fin 16384) := Fin.ext (show r.val / 4096 = (128 * (r.val / 128) + k.val) / 4096 by omega)
    have h2 : (⟨(step r).val / 128 * 128 + k.val, by omega⟩ : Fin 4096) = step (⟨128 * (r.val / 128) + k.val, by omega⟩ : Fin 16384) :=
      Fin.ext (show (r.val % 4096) / 128 * 128 + k.val = (128 * (r.val / 128) + k.val) % 4096 by omega)
    have h3 : (⟨j.val / 512 * 512 + j.val % 512, by omega⟩ : Fin 2048) = j := Fin.ext (show j.val / 512 * 512 + j.val % 512 = j.val by omega)
    rw [← h1, ← h2, h3]
  have pr : ∀ (r : Fin 16384) (q : Fin 6144), projR x w bi (ix3 (seq r) (step r) q) = prow (fun k => x (ix3 (seq r) (step r) k)) (fun k q => w (ix2 k q)) (fun q => bi (ix1 q)) q :=
    fun r q => projR_at (seq r) (step r) x w bi q
  have vr : ∀ k : Fin 128, cutR (normR (geluR (vR (projR x w bi))) g b) (ix5 (seq r) (⟨(step r).val / 128, by omega⟩ : Fin 32) k (⟨j.val / 512, by omega⟩ : Fin 4) (⟨j.val % 512, by omega⟩ : Fin 512))
      = vrow (prow (fun i => x (ix3 (seq (⟨128 * (r.val / 128) + k.val, by omega⟩ : Fin 16384)) (step (⟨128 * (r.val / 128) + k.val, by omega⟩ : Fin 16384)) i)) (fun k q => w (ix2 k q)) (fun q => bi (ix1 q)))
          (fun i => g (ix1 i)) (fun i => b (ix1 i)) j := fun k =>
    (cutR_at (seq r) _ _ k _ _).trans ((congrArg (normR (geluR (vR (projR x w bi))) g b) (e2 k)).trans ((v_row g b _ _ _ j).trans
      (congrArg (fun p => vrow p (fun i => g (ix1 i)) (fun i => b (ix1 i)) j) (funext fun q => pr _ q))))
  show geluR (uR (projR x w bi)) (ix3 (seq r) (step r) j) * joinR (mixR (cutR (normR (geluR (vR (projR x w bi))) g b)) (triR a) bs) (ix3 (seq r) (step r) j)
    * siluR (zR (projR x w bi)) (ix3 (seq r) (step r) j) = _
  rw [geluR_at, uR_at, joinR_at, mixR_at, siluR_at, zR_at, pr, pr, e1]
  simp only [vr, mul_comm (vrow _ _ _ _)]
  rfl

end

theorem algebraic : Cert.algebraic_Kernel2Ideal_Reference2Ideal (hKernel2Ideal := Cert.Kernel2Ideal.Gen.facts) (hReference2Ideal := Cert.Reference2Ideal.Gen.facts) := by
  intro m g m' g' _ ha
  refine ⟨G m, (θ_run Cert.Kernel2Ideal.defs _ _).mono (fun r h c => ⟨(h c).1.trans (final m c), (h c).2⟩) (Cert.Kernel2Ideal.Value.run_blocks m g), ?_⟩
  refine (θ_run Cert.Reference2Ideal.defs _ _).mono (fun r h c => ⟨(h c).1.trans ?_, (h c).2⟩) (Cert.Reference2Ideal.Value.run m' g')
  obtain ⟨h0, h1, h2, h3, h4, h5, h6⟩ := ha c
  refine (res_eq m' c).trans (funext fun i => ?_)
  obtain ⟨r, j, rfl⟩ : ∃ (r : Fin 16384) (j : Fin 2048), i = ix2 r j := ⟨i 0, i 1, by idx_vars i⟩
  rw [h0, h1, h2, h3, h4, h5, h6]
  exact ref_at _ _ _ _ _ _ _ r j

end Cert.Gm
-- ==== Proof.TailRef.lean ====
module

public import proofs.«01_k».proof.Proof.NormSpec
public import proofs.«01_k».proof.Proof.Gen.Reference3Ideal.Run
public import proofs.«01_k».proof.Proof.Gen.Reference4Ideal.Run
public import Idealize.ShloMosaic.Lib.Pointwise

@[expose] public section

set_option maxRecDepth 16384

noncomputable section

namespace Cert.Layer
open Idealize.ShloMosaic Idealize.ShloMosaic.TcCoe Idealize.SL.Sem

section
open Cert.Reference3Ideal Cert.Reference3Ideal.Gen

/-- The rows' means, as the reference writes them. -/
def meanR (y : FVec Ideal S4x4096x1024 .f32) : FVec Ideal S4x4096x1 .f32 :=
  Host.divf (broadcastInDim S4x4096x1 ![0, 1] bcast_S4x4096_S4x4096x1_0_1 (Host.reduceAdd y (constant S_ .f32 0x00000000#32) reducesTo_S4x4096x1024_S4x4096_d2 h_S_)) (broadcastInDim S4x4096x1 ![] bcast_S_S4x4096x1 (constant S_ .f32 0x44800000#32))

/-- The rows less their means. -/
def centR (y : FVec Ideal S4x4096x1024 .f32) : FVec Ideal S4x4096x1024 .f32 :=
  subf y (broadcastInDim S4x4096x1024 ![0, 1, 2] bcast_S4x4096x1_S4x4096x1024_0_1_2 (meanR y))

/-- The layer norm, as the reference writes it. -/
def normR (y : FVec Ideal S4x4096x1024 .f32) (g b : FVec Ideal S1024 .f32) : FVec Ideal S4x4096x1024 .f32 :=
  addf (mulf (mulf (centR y) (broadcastInDim S4x4096x1024 ![0, 1, 2] bcast_S4x4096x1_S4x4096x1024_0_1_2 (Host.rsqrt (addf (meanR (mulf (centR y) (centR y))) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S1x1x1024_S4x4096x1024_0_1_2 (broadcastInDim S1x1x1024 ![2] bcast_S1024_S1x1x1024_2 b))

/-- The gate's and the embedding's part of a layer, as the reference writes it. -/
def gateR (h : FVec Ideal S4x4096x1024 .f32) (wg : FVec Ideal S1024x1024 .f32) (p : FVec Ideal S4x4096x256 .f32) (wp : FVec Ideal S256x1024 .f32) : FVec Ideal S4x4096x1024 .f32 :=
  addf h (mulf (Host.divf (broadcastInDim S4x4096x1024 ![] bcast_S_S4x4096x1024 (constant S_ .f32 0x3F800000#32)) (addf (broadcastInDim S4x4096x1024 ![] bcast_S_S4x4096x1024 (constant S_ .f32 0x3F800000#32))
      (Host.exp (Host.negf (Host.dotGeneral dot_S4x4096x1024_S1024x1024_S4x4096x1024_2_0_01_1_n_n none h wg)))))
    (Host.dotGeneral dot_S4x4096x256_S256x1024_S4x4096x1024_2_0_01_1_n_n none p wp))

/-- The residual sum of a layer whose mixer is 2048 wide, as the reference writes it. -/
def residR (act : FVec Ideal S16384x2048 .bf16) (x : FVec Ideal S4x4096x1024 .f32) (wo : FVec Ideal S2048x1024 .f32) : FVec Ideal S4x4096x1024 .f32 :=
  addf (mulf (broadcastInDim S4x4096x1024 ![] bcast_S_S4x4096x1024 (constant S_ .f32 0x3FD744FD#32)) x)
    (Host.dotGeneral (φ₁ := .f32) (φ₂ := .f32) dot_S4x4096x2048_S2048x1024_S4x4096x1024_2_0_01_1_n_n none (shapeCast S4x4096x2048 (extf .f32 act bitsLt_bf16_f32) shapeCasts_S16384x2048_S4x4096x2048) wo)

theorem meanR_at (y : FVec Ideal S4x4096x1024 .f32) (b : Fin 4) (l : Fin 4096) (u : Fin 1) :
    meanR y (ix3 b l u) = meanOf (Ideal.ofBits FTy.f32 0x44800000#32) (fun i : Fin 1024 => y (ix3 b l i)) := by
  pointwise [meanR, meanOf]

theorem centR_at (y : FVec Ideal S4x4096x1024 .f32) (b : Fin 4) (l : Fin 4096) (j : Fin 1024) :
    centR y (ix3 b l j) = y (ix3 b l j) - meanOf (Ideal.ofBits FTy.f32 0x44800000#32) (fun i : Fin 1024 => y (ix3 b l i)) := by
  pointwise [centR, meanR, meanOf]

theorem normR_at (y : FVec Ideal S4x4096x1024 .f32) (g bb : FVec Ideal S1024 .f32) (b : Fin 4) (l : Fin 4096) (j : Fin 1024) :
    normR y g bb (ix3 b l j) = normAt (Ideal.ofBits FTy.f32 0x44800000#32) (fun i : Fin 1024 => y (ix3 b l i)) (fun i => g (ix1 i)) (fun i => bb (ix1 i)) j := by
  pointwise [normR, centR, meanR, normAt, meanOf]

theorem gateR_at (h : FVec Ideal S4x4096x1024 .f32) (wg : FVec Ideal S1024x1024 .f32) (p : FVec Ideal S4x4096x256 .f32) (wp : FVec Ideal S256x1024 .f32) (b : Fin 4) (l : Fin 4096) (j : Fin 1024) :
    gateR h wg p wp (ix3 b l j) = gateAt (fun i => h (ix3 b l i)) (fun q => p (ix3 b l q)) (fun i j => wg (ix2 i j)) (fun q j => wp (ix2 q j)) j := by
  pointwise [gateR, gateAt, sigm]

theorem residR_at (act : FVec Ideal S16384x2048 .bf16) (x : FVec Ideal S4x4096x1024 .f32) (wo : FVec Ideal S2048x1024 .f32) (b : Fin 4) (l : Fin 4096) (j : Fin 1024) :
    residR act x wo (ix3 b l j) = resid (fun k : Fin 2048 => act (ix2 ⟨b.val * 4096 + l.val, by omega⟩ k)) (fun i => x (ix3 b l i)) (fun k j => wo (ix2 k j)) j := by
  pointwise [residR, resid]

theorem rows_at (y : FVec Ideal S4x4096x1024 .f32) (r : Fin 16384) (j : Fin 1024) :
    shapeCast S16384x1024 y shapeCasts_S4x4096x1024_S16384x1024 (ix2 r j) = y (ix3 (seq r) (step r) j) := by pointwise [seq, step]

end

section
open Cert.Reference4Ideal Cert.Reference4Ideal.Gen

/-- The mixer's output of a layer whose mixer is 1024 wide, as the reference writes it. -/
def mixR (act : FVec Ideal S16384x1024 .bf16) (wo : FVec Ideal S1024x1024 .f32) : FVec Ideal S4x4096x1024 .f32 :=
  Host.dotGeneral (φ₁ := .f32) (φ₂ := .f32) dot_S4x4096x1024_S1024x1024_S4x4096x1024_2_0_01_1_n_n none (shapeCast S4x4096x1024 (extf .f32 act bitsLt_bf16_f32) shapeCasts_S16384x1024_S4x4096x1024) wo

/-- The residual sum of the scaled input and a mixer's output. -/
def sumR (x out : FVec Ideal S4x4096x1024 .f32) : FVec Ideal S4x4096x1024 .f32 :=
  addf (mulf (broadcastInDim S4x4096x1024 ![] bcast_S_S4x4096x1024 (constant S_ .f32 0x3FD744FD#32)) x) out

/-- A mixer's output with its bias. -/
def biasR (out : FVec Ideal S4x4096x1024 .f32) (bo : FVec Ideal S1024 .f32) : FVec Ideal S4x4096x1024 .f32 :=
  addf out (broadcastInDim S4x4096x1024 ![0, 1, 2] bcast_S1x1x1024_S4x4096x1024_0_1_2 (broadcastInDim S1x1x1024 ![2] bcast_S1024_S1x1x1024_2 bo))

theorem narrow_at (act : FVec Ideal S16384x1024 .bf16) (x : FVec Ideal S4x4096x1024 .f32) (wo : FVec Ideal S1024x1024 .f32) (b : Fin 4) (l : Fin 4096) (j : Fin 1024) :
    sumR x (mixR act wo) (ix3 b l j) = resid (fun k : Fin 1024 => act (ix2 ⟨b.val * 4096 + l.val, by omega⟩ k)) (fun i => x (ix3 b l i)) (fun k j => wo (ix2 k j)) j := by
  pointwise [sumR, mixR, resid]

theorem biased_at (act : FVec Ideal S16384x1024 .bf16) (x : FVec Ideal S4x4096x1024 .f32) (wo : FVec Ideal S1024x1024 .f32) (bo : FVec Ideal S1024 .f32) (b : Fin 4) (l : Fin 4096) (j : Fin 1024) :
    sumR x (biasR (mixR act wo) bo) (ix3 b l j) = Ideal.ofBits FTy.f32 0x3FD744FD#32 * x (ix3 b l j) + ((∑ k : Fin 1024, act (ix2 ⟨b.val * 4096 + l.val, by omega⟩ k) * wo (ix2 k j)) + bo (ix1 j)) := by
  pointwise [sumR, mixR, biasR]

end

end Cert.Layer
-- ==== Proof.TailPay.lean ====
module

public import proofs.«01_k».proof.Proof.NormSpec
public import proofs.«01_k».proof.Proof.Gen.Kernel3Ideal.Skeleton
public import proofs.«01_k».proof.Proof.Gen.Kernel4Ideal.Skeleton
public import Idealize.ShloMosaic.Lib.Pointwise

@[expose] public section

set_option maxRecDepth 16384

noncomputable section

namespace Cert.Layer
open Idealize.ShloMosaic Idealize.ShloMosaic.TcCoe Idealize.SL.Sem

section
open Cert.Kernel3Ideal Cert.Kernel3Ideal.Gen

/-- The kernel's normed tile, at a row and a column, for a mixer 2048 wide. -/
theorem norm_pay (v0 : Vec Ideal S512x2048 .bf16) (v1 : Vec Ideal S2048x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 2048, v0 (ix2 s k) * v1 (ix2 k i)) + v4 (ix2 0 i)))
      (fun i => v13 (ix3 0 0 i)) (fun i => v15 (ix3 0 0 i)) j := by
  pointwise [k0_pay2, normAt, meanOf]

/-- The kernel's output tile over its normed tile, at a row and a column. -/
theorem gate_pay (h : FVec Ideal S512x1024 .f32) (v37 : Vec Ideal S1x1024x1024 .bf16) (v48 : Vec Ideal S1x512x256 .f32) (v50 : Vec Ideal S1x256x1024 .bf16) (s : Fin 512) (j : Fin 1024) :
    k0_pay1 h v37 v48 v50 (ix2 s j) = gateAt (fun i => h (ix2 s i)) (fun q => v48 (ix3 0 s q)) (fun i j => v37 (ix3 0 i j)) (fun q j => v50 (ix3 0 q j)) j := by
  pointwise [k0_pay1, gateAt, sigm]
  rw [zero_sub]

theorem cast_x (x : FVec Ideal S4x4096x1024 .f32) (r : Fin 16384) (j : Fin 1024) : shapeCast S16384x1024 x shapeCasts_S4x4096x1024_S16384x1024 (ix2 r j) = x (ix3 (seq r) (step r) j) := by
  pointwise [seq, step]
theorem cast_p (x : FVec Ideal S4x4x4096x256 .f32) (k : Fin 4) (r : Fin 16384) (j : Fin 256) : shapeCast S4x16384x256 x shapeCasts_S4x4x4096x256_S4x16384x256 (ix3 k r j) = x (ix4 k (seq r) (step r) j) := by
  pointwise [seq, step]
theorem cast_v (x : FVec Ideal S4x1024 .f32) (k : Fin 4) (j : Fin 1024) : shapeCast S4x1x1024 x shapeCasts_S4x1024_S4x1x1024 (ix3 k 0 j) = x (ix2 k j) := by
  pointwise []

end

section
open Cert.Kernel4Ideal Cert.Kernel4Ideal.Gen

/-- The kernel's normed tile, at a row and a column, for a mixer 1024 wide. -/
theorem norm_pay_narrow (v0 : Vec Ideal S512x1024 .bf16) (v1 : Vec Ideal S1024x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 1024, v0 (ix2 s k) * v1 (ix2 k i)) + v4 (ix2 0 i)))
      (fun i => v13 (ix3 0 0 i)) (fun i => v15 (ix3 0 0 i)) j := by
  pointwise [k0_pay2, normAt, meanOf]

theorem cast_b (x : FVec Ideal S1024 .f32) (j : Fin 1024) : shapeCast S1x1024 x shapeCasts_S1024_S1x1024 (ix2 0 j) = x (ix1 j) := by
  pointwise []

end

end Cert.Layer
-- ==== Proof.Tail3Kernel.lean ====
module

public import proofs.«01_k».proof.Proof.TailPay
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Layer.T3
open Idealize.ShloMosaic Idealize.ShloMosaic.TcCoe Idealize.SL.Sem
open Cert.Kernel3Ideal Cert.Kernel3Ideal.Gen

variable (m : (ℓ : Loc nD τ sig) → Buf (Elt Ideal) ℓ)

/-- The windows' index maps, at every grid point. -/
theorem idx : ∀ t : Fin cfg0.N, win0_0.index t = ![t.val, 0] ∧ win0_1.index t = ![t.val, 0] ∧ win0_2.index t = ![3, t.val, 0]
    ∧ win0_3.index t = ![0, 0] ∧ win0_4.index t = ![0, 0] ∧ win0_5.index t = ![3, 0, 0] ∧ win0_6.index t = ![3, 0, 0] ∧ win0_7.index t = ![3, 0, 0] ∧ win0_8.index t = ![3, 0, 0]
    ∧ win0_9.index t = ![t.val, 0] ∧ t.val < 32 := (by decide +kernel : ∀ t : Fin grid0.N, _)

/-- The launch's arguments, at coordinates. -/
def aAct (c : Dev nD) (r : Fin 16384) (k : Fin 2048) : EReal := m ((c.tc : Thread nD τ).loc main_arg0) (ix2 r k)
def aX (c : Dev nD) (b : Fin 4) (l : Fin 4096) (j : Fin 1024) : EReal := m ((c.tc : Thread nD τ).loc main_arg1) (ix3 b l j)
def aP (c : Dev nD) (b : Fin 4) (l : Fin 4096) (q : Fin 256) : EReal := m ((c.tc : Thread nD τ).loc main_arg2) (ix4 3 b l q)
def aWo (c : Dev nD) (k : Fin 2048) (j : Fin 1024) : EReal := m ((c.tc : Thread nD τ).loc main_arg3) (ix2 k j)
def aG (c : Dev nD) (j : Fin 1024) : EReal := m ((c.tc : Thread nD τ).loc main_arg4) (ix2 3 j)
def aB (c : Dev nD) (j : Fin 1024) : EReal := m ((c.tc : Thread nD τ).loc main_arg5) (ix2 3 j)
def aWp (c : Dev nD) (q : Fin 256) (j : Fin 1024) : EReal := m ((c.tc : Thread nD τ).loc main_arg6) (ix3 3 q j)
def aWg (c : Dev nD) (i j : Fin 1024) : EReal := m ((c.tc : Thread nD τ).loc main_arg7) (ix3 3 i j)

theorem V4 (c : Dev nD) : V m c main_v4 = shapeCast S16384x1024 (m ((c.tc : Thread nD τ).loc main_arg1) : FVec Ideal S4x4096x1024 .f32) shapeCasts_S4x4096x1024_S16384x1024 := by
  entry_read
  rfl
theorem V3 (c : Dev nD) : V m c main_v3 = shapeCast S4x16384x256 (m ((c.tc : Thread nD τ).loc main_arg2) : FVec Ideal S4x4x4096x256 .f32) shapeCasts_S4x4x4096x256_S4x16384x256 := by
  entry_read
  rfl
theorem V5 (c : Dev nD) : V m c main_v5 = truncf (F := Ideal) (s := S2048x1024) (φ := .f32) .bf16 (m ((c.tc : Thread nD τ).loc main_arg3) : FVec Ideal S2048x1024 .f32) bitsLt_bf16_f32 := by
  entry_read
  rfl
theorem V0 (c : Dev nD) : V m c main_v0 = broadcastInDim S1x1024 ![] bcast_S_S1x1024 (constant (F := Ideal) S_ .f32 0x00000000#32) := by
  entry_read
  rfl
theorem V1 (c : Dev nD) : V m c main_v1 = shapeCast S4x1x1024 (m ((c.tc : Thread nD τ).loc main_arg4) : FVec Ideal S4x1024 .f32) shapeCasts_S4x1024_S4x1x1024 := by
  entry_read
  rfl
theorem V2 (c : Dev nD) : V m c main_v2 = shapeCast S4x1x1024 (m ((c.tc : Thread nD τ).loc main_arg5) : FVec Ideal S4x1024 .f32) shapeCasts_S4x1024_S4x1x1024 := by
  entry_read
  rfl
theorem V6 (c : Dev nD) : V m c main_v6 = truncf (F := Ideal) (s := S4x1024x1024) (φ := .f32) .bf16 (m ((c.tc : Thread nD τ).loc main_arg7) : FVec Ideal S4x1024x1024 .f32) bitsLt_bf16_f32 := by
  entry_read
  rfl
theorem V7 (c : Dev nD) : V m c main_v7 = truncf (F := Ideal) (s := S4x256x1024) (φ := .f32) .bf16 (m ((c.tc : Thread nD τ).loc main_arg6) : FVec Ideal S4x256x1024 .f32) bitsLt_bf16_f32 := by
  entry_read
  rfl

/-- The row that row `s` of point `t`'s tile is. -/
def row (t : Fin cfg0.N) (s : Fin 512) : Fin 16384 := ⟨t.val * 512 + s.val, by have := (idx t).2.2.2.2.2.2.2.2.2.2; omega⟩

theorem blk0 (c : Dev nD) (t : Fin cfg0.N) (s : Fin 512) (k : Fin 2048) : iblk m c 0 t (ix2 s k) = aAct m c (row t s) k := by
  have := (idx t).2.2.2.2.2.2.2.2.2.2
  blk_simp [iblk]
  exact congrArg (m ((c.tc : Thread nD τ).loc main_arg0)) (show ((cfg0.win 0).blk t).view.emb (ix2 s k) = ix2 (row t s) k by blk_ext [idx t, row])
theorem blk1 (c : Dev nD) (t : Fin cfg0.N) (s : Fin 512) (j : Fin 1024) : iblk m c 1 t (ix2 s j) = aX m c (seq (row t s)) (step (row t s)) j := by
  have := (idx t).2.2.2.2.2.2.2.2.2.2
  blk_simp [iblk]
  have e : ((cfg0.win 1).blk t).view.emb (ix2 s j) = ix2 (row t s) j := by blk_ext [idx t, row]
  exact (congrArg (V m c main_v4) e).trans ((congrFun (V4 m c) _).trans (cast_x _ _ _))
theorem blk2 (c : Dev nD) (t : Fin cfg0.N) (s : Fin 512) (q : Fin 256) : iblk m c 2 t (ix3 0 s q) = aP m c (seq (row t s)) (step (row t s)) q := by
  have := (idx t).2.2.2.2.2.2.2.2.2.2
  blk_simp [iblk]
  have e : ((cfg0.win 2).blk t).view.emb (ix3 0 s q) = ix3 3 (row t s) q := by blk_ext [idx t, row]
  exact (congrArg (V m c main_v3) e).trans ((congrFun (V3 m c) _).trans (cast_p _ _ _ _))
theorem blk3 (c : Dev nD) (t : Fin cfg0.N) (k : Fin 2048) (j : Fin 1024) : iblk m c 3 t (ix2 k j) = aWo m c k j := by
  blk_simp [iblk]
  have e : ((cfg0.win 3).blk t).view.emb (ix2 k j) = ix2 k j := by blk_ext [idx t]
  exact (congrArg (V m c main_v5) e).trans (congrFun (V5 m c) _)
theorem blk4 (c : Dev nD) (t : Fin cfg0.N) (j : Fin 1024) : iblk m c 4 t (ix2 0 j) = (0 : EReal) := by
  blk_simp [iblk]
  refine (congrFun (V0 m c) _).trans ?_
  show Ideal.ofBits FTy.f32 0x00000000#32 = 0
  simp [Ideal.ofBits, Ideal.ieee]
theorem blk5 (c : Dev nD) (t : Fin cfg0.N) (j : Fin 1024) : iblk m c 5 t (ix3 0 0 j) = aG m c j := by
  blk_simp [iblk]
  have e : ((cfg0.win 5).blk t).view.emb (ix3 0 0 j) = ix3 3 0 j := by blk_ext [idx t]
  exact (congrArg (V m c main_v1) e).trans ((congrFun (V1 m c) _).trans (cast_v _ _ _))
theorem blk6 (c : Dev nD) (t : Fin cfg0.N) (j : Fin 1024) : iblk m c 6 t (ix3 0 0 j) = aB m c j := by
  blk_simp [iblk]
  have e : ((cfg0.win 6).blk t).view.emb (ix3 0 0 j) = ix3 3 0 j := by blk_ext [idx t]
  exact (congrArg (V m c main_v2) e).trans ((congrFun (V2 m c) _).trans (cast_v _ _ _))
theorem blk7 (c : Dev nD) (t : Fin cfg0.N) (i j : Fin 1024) : iblk m c 7 t (ix3 0 i j) = aWg m c i j := by
  blk_simp [iblk]
  have e : ((cfg0.win 7).blk t).view.emb (ix3 0 i j) = ix3 3 i j := by blk_ext [idx t]
  exact (congrArg (V m c main_v6) e).trans (congrFun (V6 m c) _)
theorem blk8 (c : Dev nD) (t : Fin cfg0.N) (q : Fin 256) (j : Fin 1024) : iblk m c 8 t (ix3 0 q j) = aWp m c q j := by
  blk_simp [iblk]
  have e : ((cfg0.win 8).blk t).view.emb (ix3 0 q j) = ix3 3 q j := by blk_ext [idx t]
  exact (congrArg (V m c main_v7) e).trans (congrFun (V7 m c) _)

/-- The layer's output row at one column, of the launch's arguments. -/
def outAt (c : Dev nD) (r : Fin 16384) (j : Fin 1024) : EReal :=
  gateAt (normAt (Ideal.ofBits FTy.f32 0x44800000#32) (resid (aAct m c r) (aX m c (seq r) (step r)) (aWo m c)) (aG m c) (aB m c)) (aP m c (seq r) (step r)) (aWg m c) (aWp m c) j

/-- The result array. -/
def G (c : Dev nD) : Buf (Elt Ideal) ((c.tc : Thread nD τ).loc main_v8) := fun i => outAt m c ⟨(i 0).val, (i 0).isLt⟩ ⟨(i 1).val, (i 1).isLt⟩

theorem norm_tile (v0 : Vec Ideal S512x2048 .bf16) (v1 : Vec Ideal S2048x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 2048, v0 (ix2 s k) * v1 (ix2 k i)) + v4 (ix2 0 i)))
      (fun i => v13 (ix3 0 0 i)) (fun i => v15 (ix3 0 0 i)) j := norm_pay v0 v1 v4 v8 v13 v15 s j

theorem point (c : Dev nD) (t : Fin cfg0.N) (s : Fin 512) (j : Fin 1024) :
    k0_pay1 (k0_pay2 (iblk m c 0 t) (iblk m c 3 t) (iblk m c 4 t) (iblk m c 1 t) (iblk m c 5 t) (iblk m c 6 t)) (iblk m c 7 t) (iblk m c 2 t) (iblk m c 8 t) (ix2 s j) = outAt m c (row t s) j := by
  refine (gate_pay _ _ _ _ s j).trans ?_
  simp only [norm_tile, blk0, blk1, blk2, blk3, blk4, blk5, blk6, blk7, blk8, add_zero]
  rfl

theorem final (c : Dev nD) : (dats m 0 c).arrAt 9 (cfgs 0).N = G m c := by
  refine (dats m 0 c).arrAt_eq_of_covers 9 _ (by decide +kernel) fun t _ y => ?_
  obtain ⟨s, j, rfl⟩ : ∃ (s : Fin 512) (j : Fin 1024), y = ix2 s j := ⟨y 0, y 1, by idx_vars y⟩
  blk_simp
  rw [after0_9]
  frame_out
  refine (point m c t s j).trans ?_
  have e : ((cfg0.win 9).blk t).view.emb (ix2 s j) = ix2 (row t s) j := by blk_ext [idx t, row]
  exact (congrArg (G m c) e).symm

end Cert.Layer.T3
-- ==== Proof.Tail3.lean ====
module

public import proofs.«01_k».proof.Proof.TailRef
public import proofs.«01_k».proof.Proof.Gen.Reference3Ideal.Run
public import proofs.«01_k».proof.Proof.Tail3Kernel
public import proofs.«01_k».proof.Defs

@[expose] public section

set_option maxRecDepth 16384

noncomputable section

namespace Cert.Layer.T3
open Idealize.ShloMosaic Idealize.ShloMosaic.TcCoe Idealize.SL.Sem

section
open Cert.Reference3Ideal Cert.Reference3Ideal.Gen

/-- This layer's part of the layers' stacked parameters. -/
def vecR (w : FVec Ideal S4x1024 .f32) : FVec Ideal S1024 .f32 := shapeCast S1024 (extractStridedSlice S1x1024 ![3, 0] w slices_S4x1024_S1x1024_3_0) shapeCasts_S1x1024_S1024
def sqR (w : FVec Ideal S4x1024x1024 .f32) : FVec Ideal S1024x1024 .f32 := shapeCast S1024x1024 (extractStridedSlice S1x1024x1024 ![3, 0, 0] w slices_S4x1024x1024_S1x1024x1024_3_0_0) shapeCasts_S1x1024x1024_S1024x1024
def pleR (w : FVec Ideal S4x256x1024 .f32) : FVec Ideal S256x1024 .f32 := shapeCast S256x1024 (extractStridedSlice S1x256x1024 ![3, 0, 0] w slices_S4x256x1024_S1x256x1024_3_0_0) shapeCasts_S1x256x1024_S256x1024
def embR (w : FVec Ideal S4x4x4096x256 .f32) : FVec Ideal S4x4096x256 .f32 := shapeCast S4x4096x256 (extractStridedSlice S1x4x4096x256 ![3, 0, 0, 0] w slices_S4x4x4096x256_S1x4x4096x256_3_0_0_0) shapeCasts_S1x4x4096x256_S4x4096x256

theorem vecR_at (w : FVec Ideal S4x1024 .f32) (j : Fin 1024) : vecR w (ix1 j) = w (ix2 3 j) := by pointwise [vecR]
theorem sqR_at (w : FVec Ideal S4x1024x1024 .f32) (i j : Fin 1024) : sqR w (ix2 i j) = w (ix3 3 i j) := by pointwise [sqR]
theorem pleR_at (w : FVec Ideal S4x256x1024 .f32) (i : Fin 256) (j : Fin 1024) : pleR w (ix2 i j) = w (ix3 3 i j) := by pointwise [pleR]
theorem embR_at (w : FVec Ideal S4x4x4096x256 .f32) (b : Fin 4) (l : Fin 4096) (q : Fin 256) : embR w (ix3 b l q) = w (ix4 3 b l q) := by pointwise [embR]

variable (m : (ℓ : Loc nD τ sig) → Buf (Elt Ideal) ℓ) (c : Dev nD)

/-- The reference's result is the layer's tail of its arguments. -/
theorem res_eq : Cert.Reference3Ideal.Value.res_out0 m c = shapeCast S16384x1024
    (gateR (normR (residR (m ((c.tc : Thread nD τ).loc main_arg0)) (m ((c.tc : Thread nD τ).loc main_arg1)) (m ((c.tc : Thread nD τ).loc main_arg3))) (vecR (m ((c.tc : Thread nD τ).loc main_arg4))) (vecR (m ((c.tc : Thread nD τ).loc main_arg5))))
      (sqR (m ((c.tc : Thread nD τ).loc main_arg7))) (embR (m ((c.tc : Thread nD τ).loc main_arg2))) (pleR (m ((c.tc : Thread nD τ).loc main_arg6)))) shapeCasts_S4x4096x1024_S16384x1024 := rfl

/-- The reference's result at a row and a column, over its arguments. -/
theorem ref_at (act : FVec Ideal S16384x2048 .bf16) (x : FVec Ideal S4x4096x1024 .f32) (p : FVec Ideal S4x4x4096x256 .f32) (wo : FVec Ideal S2048x1024 .f32)
    (g b : FVec Ideal S4x1024 .f32) (wp : FVec Ideal S4x256x1024 .f32) (wg : FVec Ideal S4x1024x1024 .f32) (r : Fin 16384) (j : Fin 1024) :
    shapeCast S16384x1024 (gateR (normR (residR act x wo) (vecR g) (vecR b)) (sqR wg) (embR p) (pleR wp)) shapeCasts_S4x4096x1024_S16384x1024 (ix2 r j)
      = gateAt (normAt (Ideal.ofBits FTy.f32 0x44800000#32) (resid (fun k : Fin 2048 => act (ix2 r k)) (fun i => x (ix3 (seq r) (step r) i)) (fun k j => wo (ix2 k j))) (fun i => g (ix2 3 i)) (fun i => b (ix2 3 i)))
          (fun q => p (ix4 3 (seq r) (step r) q)) (fun i j => wg (ix3 3 i j)) (fun q j => wp (ix3 3 q j)) j := by
  refine (rows_at _ r j).trans ((gateR_at _ _ _ _ _ _ j).trans ?_)
  simp only [normR_at, residR_at, vecR_at, sqR_at, pleR_at, embR_at, seq_step]

end

theorem algebraic : Cert.algebraic_Kernel3Ideal_Reference3Ideal (hKernel3Ideal := Cert.Kernel3Ideal.Gen.facts) (hReference3Ideal := Cert.Reference3Ideal.Gen.facts) := by
  intro m g m' g' _ ha
  refine ⟨G m, (θ_run Cert.Kernel3Ideal.defs _ _).mono (fun r h c => ⟨(h c).1.trans (final m c), (h c).2⟩) (Cert.Kernel3Ideal.Value.run_blocks m g), ?_⟩
  refine (θ_run Cert.Reference3Ideal.defs _ _).mono (fun r h c => ⟨(h c).1.trans ?_, (h c).2⟩) (Cert.Reference3Ideal.Value.run m' g')
  obtain ⟨h0, h1, h2, h3, h4, h5, h6, h7⟩ := ha c
  refine (res_eq m' c).trans (funext fun i => ?_)
  obtain ⟨r, j, rfl⟩ : ∃ (r : Fin 16384) (j : Fin 1024), i = ix2 r j := ⟨i 0, i 1, by idx_vars i⟩
  rw [h0, h1, h2, h3, h4, h5, h6, h7]
  exact ref_at _ _ _ _ _ _ _ _ r j

end Cert.Layer.T3
-- ==== Proof.Tail0Kernel.lean ====
module

public import proofs.«01_k».proof.Proof.TailPay
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Layer.T0
open Idealize.ShloMosaic Idealize.ShloMosaic.TcCoe Idealize.SL.Sem
open Cert.Kernel4Ideal Cert.Kernel4Ideal.Gen

variable (m : (ℓ : Loc nD τ sig) → Buf (Elt Ideal) ℓ)

/-- The windows' index maps, at every grid point. -/
theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![0, 0, 0] ∧ win0_6.index t = ![0, 0, 0] ∧ win0_7.index t = ![0, 0, 0] ∧ win0_8.index t = ![0, 0, 0]
    ∧ win0_9.index t = ![t.val, 0] ∧ t.val < 32 := (by decide +kernel : ∀ t : Fin grid0.N, _)

/-- The launch's arguments, at coordinates. -/
def aAct (c : Dev nD) (r : Fin 16384) (k : Fin 1024) : EReal := m ((c.tc : Thread nD τ).loc main_arg0) (ix2 r k)
def aX (c : Dev nD) (b : Fin 4) (l : Fin 4096) (j : Fin 1024) : EReal := m ((c.tc : Thread nD τ).loc main_arg1) (ix3 b l j)
def aP (c : Dev nD) (b : Fin 4) (l : Fin 4096) (q : Fin 256) : EReal := m ((c.tc : Thread nD τ).loc main_arg2) (ix4 0 b l q)
def aWo (c : Dev nD) (k : Fin 1024) (j : Fin 1024) : EReal := m ((c.tc : Thread nD τ).loc main_arg3) (ix2 k j)
def aBo (c : Dev nD) (j : Fin 1024) : EReal := m ((c.tc : Thread nD τ).loc main_arg4) (ix1 j)
def aG (c : Dev nD) (j : Fin 1024) : EReal := m ((c.tc : Thread nD τ).loc main_arg5) (ix2 0 j)
def aB (c : Dev nD) (j : Fin 1024) : EReal := m ((c.tc : Thread nD τ).loc main_arg6) (ix2 0 j)
def aWp (c : Dev nD) (q : Fin 256) (j : Fin 1024) : EReal := m ((c.tc : Thread nD τ).loc main_arg7) (ix3 0 q j)
def aWg (c : Dev nD) (i j : Fin 1024) : EReal := m ((c.tc : Thread nD τ).loc main_arg8) (ix3 0 i j)

theorem V4 (c : Dev nD) : V m c main_v4 = shapeCast S16384x1024 (m ((c.tc : Thread nD τ).loc main_arg1) : FVec Ideal S4x4096x1024 .f32) shapeCasts_S4x4096x1024_S16384x1024 := by
  entry_read
  rfl
theorem V3 (c : Dev nD) : V m c main_v3 = shapeCast S4x16384x256 (m ((c.tc : Thread nD τ).loc main_arg2) : FVec Ideal S4x4x4096x256 .f32) shapeCasts_S4x4x4096x256_S4x16384x256 := by
  entry_read
  rfl
theorem V5 (c : Dev nD) : V m c main_v5 = truncf (F := Ideal) (s := S1024x1024) (φ := .f32) .bf16 (m ((c.tc : Thread nD τ).loc main_arg3) : FVec Ideal S1024x1024 .f32) bitsLt_bf16_f32 := by
  entry_read
  rfl
theorem V0 (c : Dev nD) : V m c main_v0 = shapeCast S1x1024 (m ((c.tc : Thread nD τ).loc main_arg4) : FVec Ideal S1024 .f32) shapeCasts_S1024_S1x1024 := by
  entry_read
  rfl
theorem V1 (c : Dev nD) : V m c main_v1 = shapeCast S4x1x1024 (m ((c.tc : Thread nD τ).loc main_arg5) : FVec Ideal S4x1024 .f32) shapeCasts_S4x1024_S4x1x1024 := by
  entry_read
  rfl
theorem V2 (c : Dev nD) : V m c main_v2 = shapeCast S4x1x1024 (m ((c.tc : Thread nD τ).loc main_arg6) : FVec Ideal S4x1024 .f32) shapeCasts_S4x1024_S4x1x1024 := by
  entry_read
  rfl
theorem V6 (c : Dev nD) : V m c main_v6 = truncf (F := Ideal) (s := S4x1024x1024) (φ := .f32) .bf16 (m ((c.tc : Thread nD τ).loc main_arg8) : FVec Ideal S4x1024x1024 .f32) bitsLt_bf16_f32 := by
  entry_read
  rfl
theorem V7 (c : Dev nD) : V m c main_v7 = truncf (F := Ideal) (s := S4x256x1024) (φ := .f32) .bf16 (m ((c.tc : Thread nD τ).loc main_arg7) : FVec Ideal S4x256x1024 .f32) bitsLt_bf16_f32 := by
  entry_read
  rfl

/-- The row that row `s` of point `t`'s tile is. -/
def row (t : Fin cfg0.N) (s : Fin 512) : Fin 16384 := ⟨t.val * 512 + s.val, by have := (idx t).2.2.2.2.2.2.2.2.2.2; omega⟩

theorem blk0 (c : Dev nD) (t : Fin cfg0.N) (s : Fin 512) (k : Fin 1024) : iblk m c 0 t (ix2 s k) = aAct m c (row t s) k := by
  have := (idx t).2.2.2.2.2.2.2.2.2.2
  blk_simp [iblk]
  exact congrArg (m ((c.tc : Thread nD τ).loc main_arg0)) (show ((cfg0.win 0).blk t).view.emb (ix2 s k) = ix2 (row t s) k by blk_ext [idx t, row])
theorem blk1 (c : Dev nD) (t : Fin cfg0.N) (s : Fin 512) (j : Fin 1024) : iblk m c 1 t (ix2 s j) = aX m c (seq (row t s)) (step (row t s)) j := by
  have := (idx t).2.2.2.2.2.2.2.2.2.2
  blk_simp [iblk]
  have e : ((cfg0.win 1).blk t).view.emb (ix2 s j) = ix2 (row t s) j := by blk_ext [idx t, row]
  exact (congrArg (V m c main_v4) e).trans ((congrFun (V4 m c) _).trans (cast_x _ _ _))
theorem blk2 (c : Dev nD) (t : Fin cfg0.N) (s : Fin 512) (q : Fin 256) : iblk m c 2 t (ix3 0 s q) = aP m c (seq (row t s)) (step (row t s)) q := by
  have := (idx t).2.2.2.2.2.2.2.2.2.2
  blk_simp [iblk]
  have e : ((cfg0.win 2).blk t).view.emb (ix3 0 s q) = ix3 0 (row t s) q := by blk_ext [idx t, row]
  exact (congrArg (V m c main_v3) e).trans ((congrFun (V3 m c) _).trans (cast_p _ _ _ _))
theorem blk3 (c : Dev nD) (t : Fin cfg0.N) (k : Fin 1024) (j : Fin 1024) : iblk m c 3 t (ix2 k j) = aWo m c k j := by
  blk_simp [iblk]
  have e : ((cfg0.win 3).blk t).view.emb (ix2 k j) = ix2 k j := by blk_ext [idx t]
  exact (congrArg (V m c main_v5) e).trans (congrFun (V5 m c) _)
theorem blk4 (c : Dev nD) (t : Fin cfg0.N) (j : Fin 1024) : iblk m c 4 t (ix2 0 j) = aBo m c j := by
  blk_simp [iblk]
  have e : ((cfg0.win 4).blk t).view.emb (ix2 0 j) = ix2 0 j := by blk_ext [idx t]
  exact (congrArg (V m c main_v0) e).trans ((congrFun (V0 m c) _).trans (cast_b _ _))
theorem blk5 (c : Dev nD) (t : Fin cfg0.N) (j : Fin 1024) : iblk m c 5 t (ix3 0 0 j) = aG m c j := by
  blk_simp [iblk]
  have e : ((cfg0.win 5).blk t).view.emb (ix3 0 0 j) = ix3 0 0 j := by blk_ext [idx t]
  exact (congrArg (V m c main_v1) e).trans ((congrFun (V1 m c) _).trans (cast_v _ _ _))
theorem blk6 (c : Dev nD) (t : Fin cfg0.N) (j : Fin 1024) : iblk m c 6 t (ix3 0 0 j) = aB m c j := by
  blk_simp [iblk]
  have e : ((cfg0.win 6).blk t).view.emb (ix3 0 0 j) = ix3 0 0 j := by blk_ext [idx t]
  exact (congrArg (V m c main_v2) e).trans ((congrFun (V2 m c) _).trans (cast_v _ _ _))
theorem blk7 (c : Dev nD) (t : Fin cfg0.N) (i j : Fin 1024) : iblk m c 7 t (ix3 0 i j) = aWg m c i j := by
  blk_simp [iblk]
  have e : ((cfg0.win 7).blk t).view.emb (ix3 0 i j) = ix3 0 i j := by blk_ext [idx t]
  exact (congrArg (V m c main_v6) e).trans (congrFun (V6 m c) _)
theorem blk8 (c : Dev nD) (t : Fin cfg0.N) (q : Fin 256) (j : Fin 1024) : iblk m c 8 t (ix3 0 q j) = aWp m c q j := by
  blk_simp [iblk]
  have e : ((cfg0.win 8).blk t).view.emb (ix3 0 q j) = ix3 0 q j := by blk_ext [idx t]
  exact (congrArg (V m c main_v7) e).trans (congrFun (V7 m c) _)

/-- The layer's output row at one column, of the launch's arguments. -/
def outAt (c : Dev nD) (r : Fin 16384) (j : Fin 1024) : EReal :=
  gateAt (normAt (Ideal.ofBits FTy.f32 0x44800000#32) (fun i => Ideal.ofBits FTy.f32 0x3FD744FD#32 * aX m c (seq r) (step r) i + ((∑ k : Fin 1024, aAct m c r k * aWo m c k i) + aBo m c i)) (aG m c) (aB m c)) (aP m c (seq r) (step r)) (aWg m c) (aWp m c) j

/-- The result array. -/
def G (c : Dev nD) : Buf (Elt Ideal) ((c.tc : Thread nD τ).loc main_v8) := fun i => outAt m c ⟨(i 0).val, (i 0).isLt⟩ ⟨(i 1).val, (i 1).isLt⟩

theorem norm_tile (v0 : Vec Ideal S512x1024 .bf16) (v1 : Vec Ideal S1024x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 1024, v0 (ix2 s k) * v1 (ix2 k i)) + v4 (ix2 0 i)))
      (fun i => v13 (ix3 0 0 i)) (fun i => v15 (ix3 0 0 i)) j := norm_pay_narrow v0 v1 v4 v8 v13 v15 s j

theorem point (c : Dev nD) (t : Fin cfg0.N) (s : Fin 512) (j : Fin 1024) :
    k0_pay1 (k0_pay2 (iblk m c 0 t) (iblk m c 3 t) (iblk m c 4 t) (iblk m c 1 t) (iblk m c 5 t) (iblk m c 6 t)) (iblk m c 7 t) (iblk m c 2 t) (iblk m c 8 t) (ix2 s j) = outAt m c (row t s) j := by
  refine (gate_pay _ _ _ _ s j).trans ?_
  simp only [norm_tile, blk0, blk1, blk2, blk3, blk4, blk5, blk6, blk7, blk8]
  rfl

theorem final (c : Dev nD) : (dats m 0 c).arrAt 9 (cfgs 0).N = G m c := by
  refine (dats m 0 c).arrAt_eq_of_covers 9 _ (by decide +kernel) fun t _ y => ?_
  obtain ⟨s, j, rfl⟩ : ∃ (s : Fin 512) (j : Fin 1024), y = ix2 s j := ⟨y 0, y 1, by idx_vars y⟩
  blk_simp
  rw [after0_9]
  frame_out
  refine (point m c t s j).trans ?_
  have e : ((cfg0.win 9).blk t).view.emb (ix2 s j) = ix2 (row t s) j := by blk_ext [idx t, row]
  exact (congrArg (G m c) e).symm

end Cert.Layer.T0
-- ==== Proof.Tail0.lean ====
module

public import proofs.«01_k».proof.Proof.TailRef
public import proofs.«01_k».proof.Proof.Gen.Reference4Ideal.Run
public import proofs.«01_k».proof.Proof.Tail0Kernel
public import proofs.«01_k».proof.Defs

@[expose] public section

set_option maxRecDepth 16384

noncomputable section

namespace Cert.Layer.T0
open Idealize.ShloMosaic Idealize.ShloMosaic.TcCoe Idealize.SL.Sem

section
open Cert.Reference4Ideal Cert.Reference4Ideal.Gen

/-- This layer's part of the layers' stacked parameters. -/
def vecR (w : FVec Ideal S4x1024 .f32) : FVec Ideal S1024 .f32 := shapeCast S1024 (extractStridedSlice S1x1024 ![0, 0] w slices_S4x1024_S1x1024_0_0) shapeCasts_S1x1024_S1024
def sqR (w : FVec Ideal S4x1024x1024 .f32) : FVec Ideal S1024x1024 .f32 := shapeCast S1024x1024 (extractStridedSlice S1x1024x1024 ![0, 0, 0] w slices_S4x1024x1024_S1x1024x1024_0_0_0) shapeCasts_S1x1024x1024_S1024x1024
def pleR (w : FVec Ideal S4x256x1024 .f32) : FVec Ideal S256x1024 .f32 := shapeCast S256x1024 (extractStridedSlice S1x256x1024 ![0, 0, 0] w slices_S4x256x1024_S1x256x1024_0_0_0) shapeCasts_S1x256x1024_S256x1024
def embR (w : FVec Ideal S4x4x4096x256 .f32) : FVec Ideal S4x4096x256 .f32 := shapeCast S4x4096x256 (extractStridedSlice S1x4x4096x256 ![0, 0, 0, 0] w slices_S4x4x4096x256_S1x4x4096x256_0_0_0_0) shapeCasts_S1x4x4096x256_S4x4096x256

theorem vecR_at (w : FVec Ideal S4x1024 .f32) (j : Fin 1024) : vecR w (ix1 j) = w (ix2 0 j) := by pointwise [vecR]
theorem sqR_at (w : FVec Ideal S4x1024x1024 .f32) (i j : Fin 1024) : sqR w (ix2 i j) = w (ix3 0 i j) := by pointwise [sqR]
theorem pleR_at (w : FVec Ideal S4x256x1024 .f32) (i : Fin 256) (j : Fin 1024) : pleR w (ix2 i j) = w (ix3 0 i j) := by pointwise [pleR]
theorem embR_at (w : FVec Ideal S4x4x4096x256 .f32) (b : Fin 4) (l : Fin 4096) (q : Fin 256) : embR w (ix3 b l q) = w (ix4 0 b l q) := by pointwise [embR]

variable (m : (ℓ : Loc nD τ sig) → Buf (Elt Ideal) ℓ) (c : Dev nD)

/-- The reference's result is the layer's tail of its arguments. -/
theorem res_eq : Cert.Reference4Ideal.Value.res_out0 m c = shapeCast S16384x1024
    (gateR (normR (sumR (m ((c.tc : Thread nD τ).loc main_arg1)) (biasR (mixR (m ((c.tc : Thread nD τ).loc main_arg0)) (m ((c.tc : Thread nD τ).loc main_arg3))) (m ((c.tc : Thread nD τ).loc main_arg4)))) (vecR (m ((c.tc : Thread nD τ).loc main_arg5))) (vecR (m ((c.tc : Thread nD τ).loc main_arg6))))
      (sqR (m ((c.tc : Thread nD τ).loc main_arg8))) (embR (m ((c.tc : Thread nD τ).loc main_arg2))) (pleR (m ((c.tc : Thread nD τ).loc main_arg7)))) shapeCasts_S4x4096x1024_S16384x1024 := rfl

/-- The reference's result at a row and a column, over its arguments. -/
theorem ref_at (act : FVec Ideal S16384x1024 .bf16) (x : FVec Ideal S4x4096x1024 .f32) (p : FVec Ideal S4x4x4096x256 .f32) (wo : FVec Ideal S1024x1024 .f32) (bo : FVec Ideal S1024 .f32)
    (g b : FVec Ideal S4x1024 .f32) (wp : FVec Ideal S4x256x1024 .f32) (wg : FVec Ideal S4x1024x1024 .f32) (r : Fin 16384) (j : Fin 1024) :
    shapeCast S16384x1024 (gateR (normR (sumR x (biasR (mixR act wo) bo)) (vecR g) (vecR b)) (sqR wg) (embR p) (pleR wp)) shapeCasts_S4x4096x1024_S16384x1024 (ix2 r j)
      = gateAt (normAt (Ideal.ofBits FTy.f32 0x44800000#32) (fun i => Ideal.ofBits FTy.f32 0x3FD744FD#32 * x (ix3 (seq r) (step r) i) + ((∑ k : Fin 1024, act (ix2 r k) * wo (ix2 k i)) + bo (ix1 i))) (fun i => g (ix2 0 i)) (fun i => b (ix2 0 i)))
          (fun q => p (ix4 0 (seq r) (step r) q)) (fun i j => wg (ix3 0 i j)) (fun q j => wp (ix3 0 q j)) j := by
  refine (rows_at _ r j).trans ((gateR_at _ _ _ _ _ _ j).trans ?_)
  simp only [normR_at, biased_at, vecR_at, sqR_at, pleR_at, embR_at, seq_step]

end

theorem algebraic : Cert.algebraic_Kernel4Ideal_Reference4Ideal (hKernel4Ideal := Cert.Kernel4Ideal.Gen.facts) (hReference4Ideal := Cert.Reference4Ideal.Gen.facts) := by
  intro m g m' g' _ ha
  refine ⟨G m, (θ_run Cert.Kernel4Ideal.defs _ _).mono (fun r h c => ⟨(h c).1.trans (final m c), (h c).2⟩) (Cert.Kernel4Ideal.Value.run_blocks m g), ?_⟩
  refine (θ_run Cert.Reference4Ideal.defs _ _).mono (fun r h c => ⟨(h c).1.trans ?_, (h c).2⟩) (Cert.Reference4Ideal.Value.run m' g')
  obtain ⟨h0, h1, h2, h3, h4, h5, h6, h7, h8⟩ := ha c
  refine (res_eq m' c).trans (funext fun i => ?_)
  obtain ⟨r, j, rfl⟩ : ∃ (r : Fin 16384) (j : Fin 1024), i = ix2 r j := ⟨i 0, i 1, by idx_vars i⟩
  rw [h0, h1, h2, h3, h4, h5, h6, h7, h8]
  exact ref_at _ _ _ _ _ _ _ _ _ r j

end Cert.Layer.T0
-- ==== Proof.Tail1Kernel.lean ====
module

public import proofs.«01_k».proof.Proof.TailPay
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Layer.T1
open Idealize.ShloMosaic Idealize.ShloMosaic.TcCoe Idealize.SL.Sem
open Cert.Kernel5Ideal Cert.Kernel5Ideal.Gen

variable (m : (ℓ : Loc nD τ sig) → Buf (Elt Ideal) ℓ)

/-- The windows' index maps, at every grid point. -/
theorem idx : ∀ t : Fin cfg0.N, win0_0.index t = ![t.val, 0] ∧ win0_1.index t = ![t.val, 0] ∧ win0_2.index t = ![1, t.val, 0]
    ∧ win0_3.index t = ![0, 0] ∧ win0_4.index t = ![0, 0] ∧ win0_5.index t = ![1, 0, 0] ∧ win0_6.index t = ![1, 0, 0] ∧ win0_7.index t = ![1, 0, 0] ∧ win0_8.index t = ![1, 0, 0]
    ∧ win0_9.index t = ![t.val, 0] ∧ t.val < 32 := (by decide +kernel : ∀ t : Fin grid0.N, _)

/-- The launch's arguments, at coordinates. -/
def aAct (c : Dev nD) (r : Fin 16384) (k : Fin 2048) : EReal := m ((c.tc : Thread nD τ).loc main_arg0) (ix2 r k)
def aX (c : Dev nD) (b : Fin 4) (l : Fin 4096) (j : Fin 1024) : EReal := m ((c.tc : Thread nD τ).loc main_arg1) (ix3 b l j)
def aP (c : Dev nD) (b : Fin 4) (l : Fin 4096) (q : Fin 256) : EReal := m ((c.tc : Thread nD τ).loc main_arg2) (ix4 1 b l q)
def aWo (c : Dev nD) (k : Fin 2048) (j : Fin 1024) : EReal := m ((c.tc : Thread nD τ).loc main_arg3) (ix2 k j)
def aG (c : Dev nD) (j : Fin 1024) : EReal := m ((c.tc : Thread nD τ).loc main_arg4) (ix2 1 j)
def aB (c : Dev nD) (j : Fin 1024) : EReal := m ((c.tc : Thread nD τ).loc main_arg5) (ix2 1 j)
def aWp (c : Dev nD) (q : Fin 256) (j : Fin 1024) : EReal := m ((c.tc : Thread nD τ).loc main_arg6) (ix3 1 q j)
def aWg (c : Dev nD) (i j : Fin 1024) : EReal := m ((c.tc : Thread nD τ).loc main_arg7) (ix3 1 i j)

theorem V4 (c : Dev nD) : V m c main_v4 = shapeCast S16384x1024 (m ((c.tc : Thread nD τ).loc main_arg1) : FVec Ideal S4x4096x1024 .f32) shapeCasts_S4x4096x1024_S16384x1024 := by
  entry_read
  rfl
theorem V3 (c : Dev nD) : V m c main_v3 = shapeCast S4x16384x256 (m ((c.tc : Thread nD τ).loc main_arg2) : FVec Ideal S4x4x4096x256 .f32) shapeCasts_S4x4x4096x256_S4x16384x256 := by
  entry_read
  rfl
theorem V5 (c : Dev nD) : V m c main_v5 = truncf (F := Ideal) (s := S2048x1024) (φ := .f32) .bf16 (m ((c.tc : Thread nD τ).loc main_arg3) : FVec Ideal S2048x1024 .f32) bitsLt_bf16_f32 := by
  entry_read
  rfl
theorem V0 (c : Dev nD) : V m c main_v0 = broadcastInDim S1x1024 ![] bcast_S_S1x1024 (constant (F := Ideal) S_ .f32 0x00000000#32) := by
  entry_read
  rfl
theorem V1 (c : Dev nD) : V m c main_v1 = shapeCast S4x1x1024 (m ((c.tc : Thread nD τ).loc main_arg4) : FVec Ideal S4x1024 .f32) shapeCasts_S4x1024_S4x1x1024 := by
  entry_read
  rfl
theorem V2 (c : Dev nD) : V m c main_v2 = shapeCast S4x1x1024 (m ((c.tc : Thread nD τ).loc main_arg5) : FVec Ideal S4x1024 .f32) shapeCasts_S4x1024_S4x1x1024 := by
  entry_read
  rfl
theorem V6 (c : Dev nD) : V m c main_v6 = truncf (F := Ideal) (s := S4x1024x1024) (φ := .f32) .bf16 (m ((c.tc : Thread nD τ).loc main_arg7) : FVec Ideal S4x1024x1024 .f32) bitsLt_bf16_f32 := by
  entry_read
  rfl
theorem V7 (c : Dev nD) : V m c main_v7 = truncf (F := Ideal) (s := S4x256x1024) (φ := .f32) .bf16 (m ((c.tc : Thread nD τ).loc main_arg6) : FVec Ideal S4x256x1024 .f32) bitsLt_bf16_f32 := by
  entry_read
  rfl

/-- The row that row `s` of point `t`'s tile is. -/
def row (t : Fin cfg0.N) (s : Fin 512) : Fin 16384 := ⟨t.val * 512 + s.val, by have := (idx t).2.2.2.2.2.2.2.2.2.2; omega⟩

theorem blk0 (c : Dev nD) (t : Fin cfg0.N) (s : Fin 512) (k : Fin 2048) : iblk m c 0 t (ix2 s k) = aAct m c (row t s) k := by
  have := (idx t).2.2.2.2.2.2.2.2.2.2
  blk_simp [iblk]
  exact congrArg (m ((c.tc : Thread nD τ).loc main_arg0)) (show ((cfg0.win 0).blk t).view.emb (ix2 s k) = ix2 (row t s) k by blk_ext [idx t, row])
theorem blk1 (c : Dev nD) (t : Fin cfg0.N) (s : Fin 512) (j : Fin 1024) : iblk m c 1 t (ix2 s j) = aX m c (seq (row t s)) (step (row t s)) j := by
  have := (idx t).2.2.2.2.2.2.2.2.2.2
  blk_simp [iblk]
  have e : ((cfg0.win 1).blk t).view.emb (ix2 s j) = ix2 (row t s) j := by blk_ext [idx t, row]
  exact (congrArg (V m c main_v4) e).trans ((congrFun (V4 m c) _).trans (cast_x _ _ _))
theorem blk2 (c : Dev nD) (t : Fin cfg0.N) (s : Fin 512) (q : Fin 256) : iblk m c 2 t (ix3 0 s q) = aP m c (seq (row t s)) (step (row t s)) q := by
  have := (idx t).2.2.2.2.2.2.2.2.2.2
  blk_simp [iblk]
  have e : ((cfg0.win 2).blk t).view.emb (ix3 0 s q) = ix3 1 (row t s) q := by blk_ext [idx t, row]
  exact (congrArg (V m c main_v3) e).trans ((congrFun (V3 m c) _).trans (cast_p _ _ _ _))
theorem blk3 (c : Dev nD) (t : Fin cfg0.N) (k : Fin 2048) (j : Fin 1024) : iblk m c 3 t (ix2 k j) = aWo m c k j := by
  blk_simp [iblk]
  have e : ((cfg0.win 3).blk t).view.emb (ix2 k j) = ix2 k j := by blk_ext [idx t]
  exact (congrArg (V m c main_v5) e).trans (congrFun (V5 m c) _)
theorem blk4 (c : Dev nD) (t : Fin cfg0.N) (j : Fin 1024) : iblk m c 4 t (ix2 0 j) = (0 : EReal) := by
  blk_simp [iblk]
  refine (congrFun (V0 m c) _).trans ?_
  show Ideal.ofBits FTy.f32 0x00000000#32 = 0
  simp [Ideal.ofBits, Ideal.ieee]
theorem blk5 (c : Dev nD) (t : Fin cfg0.N) (j : Fin 1024) : iblk m c 5 t (ix3 0 0 j) = aG m c j := by
  blk_simp [iblk]
  have e : ((cfg0.win 5).blk t).view.emb (ix3 0 0 j) = ix3 1 0 j := by blk_ext [idx t]
  exact (congrArg (V m c main_v1) e).trans ((congrFun (V1 m c) _).trans (cast_v _ _ _))
theorem blk6 (c : Dev nD) (t : Fin cfg0.N) (j : Fin 1024) : iblk m c 6 t (ix3 0 0 j) = aB m c j := by
  blk_simp [iblk]
  have e : ((cfg0.win 6).blk t).view.emb (ix3 0 0 j) = ix3 1 0 j := by blk_ext [idx t]
  exact (congrArg (V m c main_v2) e).trans ((congrFun (V2 m c) _).trans (cast_v _ _ _))
theorem blk7 (c : Dev nD) (t : Fin cfg0.N) (i j : Fin 1024) : iblk m c 7 t (ix3 0 i j) = aWg m c i j := by
  blk_simp [iblk]
  have e : ((cfg0.win 7).blk t).view.emb (ix3 0 i j) = ix3 1 i j := by blk_ext [idx t]
  exact (congrArg (V m c main_v6) e).trans (congrFun (V6 m c) _)
theorem blk8 (c : Dev nD) (t : Fin cfg0.N) (q : Fin 256) (j : Fin 1024) : iblk m c 8 t (ix3 0 q j) = aWp m c q j := by
  blk_simp [iblk]
  have e : ((cfg0.win 8).blk t).view.emb (ix3 0 q j) = ix3 1 q j := by blk_ext [idx t]
  exact (congrArg (V m c main_v7) e).trans (congrFun (V7 m c) _)

/-- The layer's output row at one column, of the launch's arguments. -/
def outAt (c : Dev nD) (r : Fin 16384) (j : Fin 1024) : EReal :=
  gateAt (normAt (Ideal.ofBits FTy.f32 0x44800000#32) (resid (aAct m c r) (aX m c (seq r) (step r)) (aWo m c)) (aG m c) (aB m c)) (aP m c (seq r) (step r)) (aWg m c) (aWp m c) j

/-- The result array. -/
def G (c : Dev nD) : Buf (Elt Ideal) ((c.tc : Thread nD τ).loc main_v8) := fun i => outAt m c ⟨(i 0).val, (i 0).isLt⟩ ⟨(i 1).val, (i 1).isLt⟩

theorem norm_tile (v0 : Vec Ideal S512x2048 .bf16) (v1 : Vec Ideal S2048x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 2048, v0 (ix2 s k) * v1 (ix2 k i)) + v4 (ix2 0 i)))
      (fun i => v13 (ix3 0 0 i)) (fun i => v15 (ix3 0 0 i)) j := norm_pay v0 v1 v4 v8 v13 v15 s j

theorem point (c : Dev nD) (t : Fin cfg0.N) (s : Fin 512) (j : Fin 1024) :
    k0_pay1 (k0_pay2 (iblk m c 0 t) (iblk m c 3 t) (iblk m c 4 t) (iblk m c 1 t) (iblk m c 5 t) (iblk m c 6 t)) (iblk m c 7 t) (iblk m c 2 t) (iblk m c 8 t) (ix2 s j) = outAt m c (row t s) j := by
  refine (gate_pay _ _ _ _ s j).trans ?_
  simp only [norm_tile, blk0, blk1, blk2, blk3, blk4, blk5, blk6, blk7, blk8, add_zero]
  rfl

theorem final (c : Dev nD) : (dats m 0 c).arrAt 9 (cfgs 0).N = G m c := by
  refine (dats m 0 c).arrAt_eq_of_covers 9 _ (by decide +kernel) fun t _ y => ?_
  obtain ⟨s, j, rfl⟩ : ∃ (s : Fin 512) (j : Fin 1024), y = ix2 s j := ⟨y 0, y 1, by idx_vars y⟩
  blk_simp
  rw [after0_9]
  frame_out
  refine (point m c t s j).trans ?_
  have e : ((cfg0.win 9).blk t).view.emb (ix2 s j) = ix2 (row t s) j := by blk_ext [idx t, row]
  exact (congrArg (G m c) e).symm

end Cert.Layer.T1
-- ==== Proof.Tail1.lean ====
module

public import proofs.«01_k».proof.Proof.TailRef
public import proofs.«01_k».proof.Proof.Gen.Reference5Ideal.Run
public import proofs.«01_k».proof.Proof.Tail1Kernel
public import proofs.«01_k».proof.Defs

@[expose] public section

set_option maxRecDepth 16384

noncomputable section

namespace Cert.Layer.T1
open Idealize.ShloMosaic Idealize.ShloMosaic.TcCoe Idealize.SL.Sem

section
open Cert.Reference5Ideal Cert.Reference5Ideal.Gen

/-- This layer's part of the layers' stacked parameters. -/
def vecR (w : FVec Ideal S4x1024 .f32) : FVec Ideal S1024 .f32 := shapeCast S1024 (extractStridedSlice S1x1024 ![1, 0] w slices_S4x1024_S1x1024_1_0) shapeCasts_S1x1024_S1024
def sqR (w : FVec Ideal S4x1024x1024 .f32) : FVec Ideal S1024x1024 .f32 := shapeCast S1024x1024 (extractStridedSlice S1x1024x1024 ![1, 0, 0] w slices_S4x1024x1024_S1x1024x1024_1_0_0) shapeCasts_S1x1024x1024_S1024x1024
def pleR (w : FVec Ideal S4x256x1024 .f32) : FVec Ideal S256x1024 .f32 := shapeCast S256x1024 (extractStridedSlice S1x256x1024 ![1, 0, 0] w slices_S4x256x1024_S1x256x1024_1_0_0) shapeCasts_S1x256x1024_S256x1024
def embR (w : FVec Ideal S4x4x4096x256 .f32) : FVec Ideal S4x4096x256 .f32 := shapeCast S4x4096x256 (extractStridedSlice S1x4x4096x256 ![1, 0, 0, 0] w slices_S4x4x4096x256_S1x4x4096x256_1_0_0_0) shapeCasts_S1x4x4096x256_S4x4096x256

theorem vecR_at (w : FVec Ideal S4x1024 .f32) (j : Fin 1024) : vecR w (ix1 j) = w (ix2 1 j) := by pointwise [vecR]
theorem sqR_at (w : FVec Ideal S4x1024x1024 .f32) (i j : Fin 1024) : sqR w (ix2 i j) = w (ix3 1 i j) := by pointwise [sqR]
theorem pleR_at (w : FVec Ideal S4x256x1024 .f32) (i : Fin 256) (j : Fin 1024) : pleR w (ix2 i j) = w (ix3 1 i j) := by pointwise [pleR]
theorem embR_at (w : FVec Ideal S4x4x4096x256 .f32) (b : Fin 4) (l : Fin 4096) (q : Fin 256) : embR w (ix3 b l q) = w (ix4 1 b l q) := by pointwise [embR]

variable (m : (ℓ : Loc nD τ sig) → Buf (Elt Ideal) ℓ) (c : Dev nD)

/-- The reference's result is the layer's tail of its arguments. -/
theorem res_eq : Cert.Reference5Ideal.Value.res_out0 m c = shapeCast S16384x1024
    (gateR (normR (residR (m ((c.tc : Thread nD τ).loc main_arg0)) (m ((c.tc : Thread nD τ).loc main_arg1)) (m ((c.tc : Thread nD τ).loc main_arg3))) (vecR (m ((c.tc : Thread nD τ).loc main_arg4))) (vecR (m ((c.tc : Thread nD τ).loc main_arg5))))
      (sqR (m ((c.tc : Thread nD τ).loc main_arg7))) (embR (m ((c.tc : Thread nD τ).loc main_arg2))) (pleR (m ((c.tc : Thread nD τ).loc main_arg6)))) shapeCasts_S4x4096x1024_S16384x1024 := rfl

/-- The reference's result at a row and a column, over its arguments. -/
theorem ref_at (act : FVec Ideal S16384x2048 .bf16) (x : FVec Ideal S4x4096x1024 .f32) (p : FVec Ideal S4x4x4096x256 .f32) (wo : FVec Ideal S2048x1024 .f32)
    (g b : FVec Ideal S4x1024 .f32) (wp : FVec Ideal S4x256x1024 .f32) (wg : FVec Ideal S4x1024x1024 .f32) (r : Fin 16384) (j : Fin 1024) :
    shapeCast S16384x1024 (gateR (normR (residR act x wo) (vecR g) (vecR b)) (sqR wg) (embR p) (pleR wp)) shapeCasts_S4x4096x1024_S16384x1024 (ix2 r j)
      = gateAt (normAt (Ideal.ofBits FTy.f32 0x44800000#32) (resid (fun k : Fin 2048 => act (ix2 r k)) (fun i => x (ix3 (seq r) (step r) i)) (fun k j => wo (ix2 k j))) (fun i => g (ix2 1 i)) (fun i => b (ix2 1 i)))
          (fun q => p (ix4 1 (seq r) (step r) q)) (fun i j => wg (ix3 1 i j)) (fun q j => wp (ix3 1 q j)) j := by
  refine (rows_at _ r j).trans ((gateR_at _ _ _ _ _ _ j).trans ?_)
  simp only [normR_at, residR_at, vecR_at, sqR_at, pleR_at, embR_at, seq_step]

end

theorem algebraic : Cert.algebraic_Kernel5Ideal_Reference5Ideal (hKernel5Ideal := Cert.Kernel5Ideal.Gen.facts) (hReference5Ideal := Cert.Reference5Ideal.Gen.facts) := by
  intro m g m' g' _ ha
  refine ⟨G m, (θ_run Cert.Kernel5Ideal.defs _ _).mono (fun r h c => ⟨(h c).1.trans (final m c), (h c).2⟩) (Cert.Kernel5Ideal.Value.run_blocks m g), ?_⟩
  refine (θ_run Cert.Reference5Ideal.defs _ _).mono (fun r h c => ⟨(h c).1.trans ?_, (h c).2⟩) (Cert.Reference5Ideal.Value.run m' g')
  obtain ⟨h0, h1, h2, h3, h4, h5, h6, h7⟩ := ha c
  refine (res_eq m' c).trans (funext fun i => ?_)
  obtain ⟨r, j, rfl⟩ : ∃ (r : Fin 16384) (j : Fin 1024), i = ix2 r j := ⟨i 0, i 1, by idx_vars i⟩
  rw [h0, h1, h2, h3, h4, h5, h6, h7]
  exact ref_at _ _ _ _ _ _ _ _ r j

end Cert.Layer.T1
-- ==== Proof.Tail2Kernel.lean ====
module

public import proofs.«01_k».proof.Proof.TailPay
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Layer.T2
open Idealize.ShloMosaic Idealize.ShloMosaic.TcCoe Idealize.SL.Sem
open Cert.Kernel6Ideal Cert.Kernel6Ideal.Gen

variable (m : (ℓ : Loc nD τ sig) → Buf (Elt Ideal) ℓ)

/-- The windows' index maps, at every grid point. -/
theorem idx : ∀ t : Fin cfg0.N, win0_0.index t = ![t.val, 0] ∧ win0_1.index t = ![t.val, 0] ∧ win0_2.index t = ![2, t.val, 0]
    ∧ win0_3.index t = ![0, 0] ∧ win0_4.index t = ![0, 0] ∧ win0_5.index t = ![2, 0, 0] ∧ win0_6.index t = ![2, 0, 0] ∧ win0_7.index t = ![2, 0, 0] ∧ win0_8.index t = ![2, 0, 0]
    ∧ win0_9.index t = ![t.val, 0] ∧ t.val < 32 := (by decide +kernel : ∀ t : Fin grid0.N, _)

/-- The launch's arguments, at coordinates. -/
def aAct (c : Dev nD) (r : Fin 16384) (k : Fin 1024) : EReal := m ((c.tc : Thread nD τ).loc main_arg0) (ix2 r k)
def aX (c : Dev nD) (b : Fin 4) (l : Fin 4096) (j : Fin 1024) : EReal := m ((c.tc : Thread nD τ).loc main_arg1) (ix3 b l j)
def aP (c : Dev nD) (b : Fin 4) (l : Fin 4096) (q : Fin 256) : EReal := m ((c.tc : Thread nD τ).loc main_arg2) (ix4 2 b l q)
def aWo (c : Dev nD) (k : Fin 1024) (j : Fin 1024) : EReal := m ((c.tc : Thread nD τ).loc main_arg3) (ix2 k j)
def aG (c : Dev nD) (j : Fin 1024) : EReal := m ((c.tc : Thread nD τ).loc main_arg4) (ix2 2 j)
def aB (c : Dev nD) (j : Fin 1024) : EReal := m ((c.tc : Thread nD τ).loc main_arg5) (ix2 2 j)
def aWp (c : Dev nD) (q : Fin 256) (j : Fin 1024) : EReal := m ((c.tc : Thread nD τ).loc main_arg6) (ix3 2 q j)
def aWg (c : Dev nD) (i j : Fin 1024) : EReal := m ((c.tc : Thread nD τ).loc main_arg7) (ix3 2 i j)

theorem V4 (c : Dev nD) : V m c main_v4 = shapeCast S16384x1024 (m ((c.tc : Thread nD τ).loc main_arg1) : FVec Ideal S4x4096x1024 .f32) shapeCasts_S4x4096x1024_S16384x1024 := by
  entry_read
  rfl
theorem V3 (c : Dev nD) : V m c main_v3 = shapeCast S4x16384x256 (m ((c.tc : Thread nD τ).loc main_arg2) : FVec Ideal S4x4x4096x256 .f32) shapeCasts_S4x4x4096x256_S4x16384x256 := by
  entry_read
  rfl
theorem V5 (c : Dev nD) : V m c main_v5 = truncf (F := Ideal) (s := S1024x1024) (φ := .f32) .bf16 (m ((c.tc : Thread nD τ).loc main_arg3) : FVec Ideal S1024x1024 .f32) bitsLt_bf16_f32 := by
  entry_read
  rfl
theorem V0 (c : Dev nD) : V m c main_v0 = broadcastInDim S1x1024 ![] bcast_S_S1x1024 (constant (F := Ideal) S_ .f32 0x00000000#32) := by
  entry_read
  rfl
theorem V1 (c : Dev nD) : V m c main_v1 = shapeCast S4x1x1024 (m ((c.tc : Thread nD τ).loc main_arg4) : FVec Ideal S4x1024 .f32) shapeCasts_S4x1024_S4x1x1024 := by
  entry_read
  rfl
theorem V2 (c : Dev nD) : V m c main_v2 = shapeCast S4x1x1024 (m ((c.tc : Thread nD τ).loc main_arg5) : FVec Ideal S4x1024 .f32) shapeCasts_S4x1024_S4x1x1024 := by
  entry_read
  rfl
theorem V6 (c : Dev nD) : V m c main_v6 = truncf (F := Ideal) (s := S4x1024x1024) (φ := .f32) .bf16 (m ((c.tc : Thread nD τ).loc main_arg7) : FVec Ideal S4x1024x1024 .f32) bitsLt_bf16_f32 := by
  entry_read
  rfl
theorem V7 (c : Dev nD) : V m c main_v7 = truncf (F := Ideal) (s := S4x256x1024) (φ := .f32) .bf16 (m ((c.tc : Thread nD τ).loc main_arg6) : FVec Ideal S4x256x1024 .f32) bitsLt_bf16_f32 := by
  entry_read
  rfl

/-- The row that row `s` of point `t`'s tile is. -/
def row (t : Fin cfg0.N) (s : Fin 512) : Fin 16384 := ⟨t.val * 512 + s.val, by have := (idx t).2.2.2.2.2.2.2.2.2.2; omega⟩

theorem blk0 (c : Dev nD) (t : Fin cfg0.N) (s : Fin 512) (k : Fin 1024) : iblk m c 0 t (ix2 s k) = aAct m c (row t s) k := by
  have := (idx t).2.2.2.2.2.2.2.2.2.2
  blk_simp [iblk]
  exact congrArg (m ((c.tc : Thread nD τ).loc main_arg0)) (show ((cfg0.win 0).blk t).view.emb (ix2 s k) = ix2 (row t s) k by blk_ext [idx t, row])
theorem blk1 (c : Dev nD) (t : Fin cfg0.N) (s : Fin 512) (j : Fin 1024) : iblk m c 1 t (ix2 s j) = aX m c (seq (row t s)) (step (row t s)) j := by
  have := (idx t).2.2.2.2.2.2.2.2.2.2
  blk_simp [iblk]
  have e : ((cfg0.win 1).blk t).view.emb (ix2 s j) = ix2 (row t s) j := by blk_ext [idx t, row]
  exact (congrArg (V m c main_v4) e).trans ((congrFun (V4 m c) _).trans (cast_x _ _ _))
theorem blk2 (c : Dev nD) (t : Fin cfg0.N) (s : Fin 512) (q : Fin 256) : iblk m c 2 t (ix3 0 s q) = aP m c (seq (row t s)) (step (row t s)) q := by
  have := (idx t).2.2.2.2.2.2.2.2.2.2
  blk_simp [iblk]
  have e : ((cfg0.win 2).blk t).view.emb (ix3 0 s q) = ix3 2 (row t s) q := by blk_ext [idx t, row]
  exact (congrArg (V m c main_v3) e).trans ((congrFun (V3 m c) _).trans (cast_p _ _ _ _))
theorem blk3 (c : Dev nD) (t : Fin cfg0.N) (k : Fin 1024) (j : Fin 1024) : iblk m c 3 t (ix2 k j) = aWo m c k j := by
  blk_simp [iblk]
  have e : ((cfg0.win 3).blk t).view.emb (ix2 k j) = ix2 k j := by blk_ext [idx t]
  exact (congrArg (V m c main_v5) e).trans (congrFun (V5 m c) _)
theorem blk4 (c : Dev nD) (t : Fin cfg0.N) (j : Fin 1024) : iblk m c 4 t (ix2 0 j) = (0 : EReal) := by
  blk_simp [iblk]
  refine (congrFun (V0 m c) _).trans ?_
  show Ideal.ofBits FTy.f32 0x00000000#32 = 0
  simp [Ideal.ofBits, Ideal.ieee]
theorem blk5 (c : Dev nD) (t : Fin cfg0.N) (j : Fin 1024) : iblk m c 5 t (ix3 0 0 j) = aG m c j := by
  blk_simp [iblk]
  have e : ((cfg0.win 5).blk t).view.emb (ix3 0 0 j) = ix3 2 0 j := by blk_ext [idx t]
  exact (congrArg (V m c main_v1) e).trans ((congrFun (V1 m c) _).trans (cast_v _ _ _))
theorem blk6 (c : Dev nD) (t : Fin cfg0.N) (j : Fin 1024) : iblk m c 6 t (ix3 0 0 j) = aB m c j := by
  blk_simp [iblk]
  have e : ((cfg0.win 6).blk t).view.emb (ix3 0 0 j) = ix3 2 0 j := by blk_ext [idx t]
  exact (congrArg (V m c main_v2) e).trans ((congrFun (V2 m c) _).trans (cast_v _ _ _))
theorem blk7 (c : Dev nD) (t : Fin cfg0.N) (i j : Fin 1024) : iblk m c 7 t (ix3 0 i j) = aWg m c i j := by
  blk_simp [iblk]
  have e : ((cfg0.win 7).blk t).view.emb (ix3 0 i j) = ix3 2 i j := by blk_ext [idx t]
  exact (congrArg (V m c main_v6) e).trans (congrFun (V6 m c) _)
theorem blk8 (c : Dev nD) (t : Fin cfg0.N) (q : Fin 256) (j : Fin 1024) : iblk m c 8 t (ix3 0 q j) = aWp m c q j := by
  blk_simp [iblk]
  have e : ((cfg0.win 8).blk t).view.emb (ix3 0 q j) = ix3 2 q j := by blk_ext [idx t]
  exact (congrArg (V m c main_v7) e).trans (congrFun (V7 m c) _)

/-- The layer's output row at one column, of the launch's arguments. -/
def outAt (c : Dev nD) (r : Fin 16384) (j : Fin 1024) : EReal :=
  gateAt (normAt (Ideal.ofBits FTy.f32 0x44800000#32) (resid (aAct m c r) (aX m c (seq r) (step r)) (aWo m c)) (aG m c) (aB m c)) (aP m c (seq r) (step r)) (aWg m c) (aWp m c) j

/-- The result array. -/
def G (c : Dev nD) : Buf (Elt Ideal) ((c.tc : Thread nD τ).loc main_v8) := fun i => outAt m c ⟨(i 0).val, (i 0).isLt⟩ ⟨(i 1).val, (i 1).isLt⟩

theorem norm_tile (v0 : Vec Ideal S512x1024 .bf16) (v1 : Vec Ideal S1024x1024 .bf16) (v4 : Vec Ideal S1x1024 .f32) (v8 : Vec Ideal S512x1024 .f32) (v13 v15 : Vec Ideal S1x1x1024 .f32) (s : Fin 512) (j : Fin 1024) :
    k0_pay2 v0 v1 v4 v8 v13 v15 (ix2 s j) = normAt (Ideal.ofBits FTy.f32 0x44800000#32) (fun i : Fin 1024 => Ideal.ofBits FTy.f32 0x3FD744FD#32 * v8 (ix2 s i) + ((∑ k : Fin 1024, v0 (ix2 s k) * v1 (ix2 k i)) + v4 (ix2 0 i)))
      (fun i => v13 (ix3 0 0 i)) (fun i => v15 (ix3 0 0 i)) j := norm_pay_narrow v0 v1 v4 v8 v13 v15 s j

theorem point (c : Dev nD) (t : Fin cfg0.N) (s : Fin 512) (j : Fin 1024) :
    k0_pay1 (k0_pay2 (iblk m c 0 t) (iblk m c 3 t) (iblk m c 4 t) (iblk m c 1 t) (iblk m c 5 t) (iblk m c 6 t)) (iblk m c 7 t) (iblk m c 2 t) (iblk m c 8 t) (ix2 s j) = outAt m c (row t s) j := by
  refine (gate_pay _ _ _ _ s j).trans ?_
  simp only [norm_tile, blk0, blk1, blk2, blk3, blk4, blk5, blk6, blk7, blk8, add_zero]
  rfl

theorem final (c : Dev nD) : (dats m 0 c).arrAt 9 (cfgs 0).N = G m c := by
  refine (dats m 0 c).arrAt_eq_of_covers 9 _ (by decide +kernel) fun t _ y => ?_
  obtain ⟨s, j, rfl⟩ : ∃ (s : Fin 512) (j : Fin 1024), y = ix2 s j := ⟨y 0, y 1, by idx_vars y⟩
  blk_simp
  rw [after0_9]
  frame_out
  refine (point m c t s j).trans ?_
  have e : ((cfg0.win 9).blk t).view.emb (ix2 s j) = ix2 (row t s) j := by blk_ext [idx t, row]
  exact (congrArg (G m c) e).symm

end Cert.Layer.T2
-- ==== Proof.Tail2.lean ====
module

public import proofs.«01_k».proof.Proof.TailRef
public import proofs.«01_k».proof.Proof.Gen.Reference6Ideal.Run
public import proofs.«01_k».proof.Proof.Tail2Kernel
public import proofs.«01_k».proof.Defs

@[expose] public section

set_option maxRecDepth 16384

noncomputable section

namespace Cert.Layer.T2
open Idealize.ShloMosaic Idealize.ShloMosaic.TcCoe Idealize.SL.Sem

section
open Cert.Reference6Ideal Cert.Reference6Ideal.Gen

/-- This layer's part of the layers' stacked parameters. -/
def vecR (w : FVec Ideal S4x1024 .f32) : FVec Ideal S1024 .f32 := shapeCast S1024 (extractStridedSlice S1x1024 ![2, 0] w slices_S4x1024_S1x1024_2_0) shapeCasts_S1x1024_S1024
def sqR (w : FVec Ideal S4x1024x1024 .f32) : FVec Ideal S1024x1024 .f32 := shapeCast S1024x1024 (extractStridedSlice S1x1024x1024 ![2, 0, 0] w slices_S4x1024x1024_S1x1024x1024_2_0_0) shapeCasts_S1x1024x1024_S1024x1024
def pleR (w : FVec Ideal S4x256x1024 .f32) : FVec Ideal S256x1024 .f32 := shapeCast S256x1024 (extractStridedSlice S1x256x1024 ![2, 0, 0] w slices_S4x256x1024_S1x256x1024_2_0_0) shapeCasts_S1x256x1024_S256x1024
def embR (w : FVec Ideal S4x4x4096x256 .f32) : FVec Ideal S4x4096x256 .f32 := shapeCast S4x4096x256 (extractStridedSlice S1x4x4096x256 ![2, 0, 0, 0] w slices_S4x4x4096x256_S1x4x4096x256_2_0_0_0) shapeCasts_S1x4x4096x256_S4x4096x256

theorem vecR_at (w : FVec Ideal S4x1024 .f32) (j : Fin 1024) : vecR w (ix1 j) = w (ix2 2 j) := by pointwise [vecR]
theorem sqR_at (w : FVec Ideal S4x1024x1024 .f32) (i j : Fin 1024) : sqR w (ix2 i j) = w (ix3 2 i j) := by pointwise [sqR]
theorem pleR_at (w : FVec Ideal S4x256x1024 .f32) (i : Fin 256) (j : Fin 1024) : pleR w (ix2 i j) = w (ix3 2 i j) := by pointwise [pleR]
theorem embR_at (w : FVec Ideal S4x4x4096x256 .f32) (b : Fin 4) (l : Fin 4096) (q : Fin 256) : embR w (ix3 b l q) = w (ix4 2 b l q) := by pointwise [embR]

variable (m : (ℓ : Loc nD τ sig) → Buf (Elt Ideal) ℓ) (c : Dev nD)

/-- The reference's result is the layer's tail of its arguments. -/
theorem res_eq : Cert.Reference6Ideal.Value.res_out0 m c = shapeCast S16384x1024
    (gateR (normR (sumR (m ((c.tc : Thread nD τ).loc main_arg1)) (mixR (m ((c.tc : Thread nD τ).loc main_arg0)) (m ((c.tc : Thread nD τ).loc main_arg3)))) (vecR (m ((c.tc : Thread nD τ).loc main_arg4))) (vecR (m ((c.tc : Thread nD τ).loc main_arg5))))
      (sqR (m ((c.tc : Thread nD τ).loc main_arg7))) (embR (m ((c.tc : Thread nD τ).loc main_arg2))) (pleR (m ((c.tc : Thread nD τ).loc main_arg6)))) shapeCasts_S4x4096x1024_S16384x1024 := rfl

/-- The reference's result at a row and a column, over its arguments. -/
theorem ref_at (act : FVec Ideal S16384x1024 .bf16) (x : FVec Ideal S4x4096x1024 .f32) (p : FVec Ideal S4x4x4096x256 .f32) (wo : FVec Ideal S1024x1024 .f32)
    (g b : FVec Ideal S4x1024 .f32) (wp : FVec Ideal S4x256x1024 .f32) (wg : FVec Ideal S4x1024x1024 .f32) (r : Fin 16384) (j : Fin 1024) :
    shapeCast S16384x1024 (gateR (normR (sumR x (mixR act wo)) (vecR g) (vecR b)) (sqR wg) (embR p) (pleR wp)) shapeCasts_S4x4096x1024_S16384x1024 (ix2 r j)
      = gateAt (normAt (Ideal.ofBits FTy.f32 0x44800000#32) (resid (fun k : Fin 1024 => act (ix2 r k)) (fun i => x (ix3 (seq r) (step r) i)) (fun k j => wo (ix2 k j))) (fun i => g (ix2 2 i)) (fun i => b (ix2 2 i)))
          (fun q => p (ix4 2 (seq r) (step r) q)) (fun i j => wg (ix3 2 i j)) (fun q j => wp (ix3 2 q j)) j := by
  refine (rows_at _ r j).trans ((gateR_at _ _ _ _ _ _ j).trans ?_)
  simp only [normR_at, narrow_at, vecR_at, sqR_at, pleR_at, embR_at, seq_step]

end

theorem algebraic : Cert.algebraic_Kernel6Ideal_Reference6Ideal (hKernel6Ideal := Cert.Kernel6Ideal.Gen.facts) (hReference6Ideal := Cert.Reference6Ideal.Gen.facts) := by
  intro m g m' g' _ ha
  refine ⟨G m, (θ_run Cert.Kernel6Ideal.defs _ _).mono (fun r h c => ⟨(h c).1.trans (final m c), (h c).2⟩) (Cert.Kernel6Ideal.Value.run_blocks m g), ?_⟩
  refine (θ_run Cert.Reference6Ideal.defs _ _).mono (fun r h c => ⟨(h c).1.trans ?_, (h c).2⟩) (Cert.Reference6Ideal.Value.run m' g')
  obtain ⟨h0, h1, h2, h3, h4, h5, h6, h7⟩ := ha c
  refine (res_eq m' c).trans (funext fun i => ?_)
  obtain ⟨r, j, rfl⟩ : ∃ (r : Fin 16384) (j : Fin 1024), i = ix2 r j := ⟨i 0, i 1, by idx_vars i⟩
  rw [h0, h1, h2, h3, h4, h5, h6, h7]
  exact ref_at _ _ _ _ _ _ _ _ r j

end Cert.Layer.T2
-- ==== Proof.AtInKernel.lean ====
module

public import proofs.«01_k».proof.Proof.NormSpec
public import proofs.«01_k».proof.Proof.Gen.Kernel7Ideal.Value
public import Idealize.ShloMosaic.Lib.Pointwise
public import Idealize.ShloMosaic.Lib.KernelVsHost
public import Idealize.ShloMosaic.Lib.Pipeline.ValueKit

@[expose] public section

set_option maxRecDepth 16384

noncomputable section

namespace Cert.AtIn
open Idealize.ShloMosaic Idealize.ShloMosaic.TcCoe Idealize.SL.Sem Cert.Layer

/-- One column of a row's projection. -/
def projAt (x : Fin 1024 → EReal) (w : Fin 1024 → Fin 3144 → EReal) (q : Fin 3144) : EReal := ∑ k : Fin 1024, x k * w k q

/-- The indexer's key of a row: a layer norm of 64 columns of its projection. -/
def keyAt (x : Fin 1024 → EReal) (w : Fin 1024 → Fin 3144 → EReal) (g b : Fin 64 → EReal) (d : Fin 64) : EReal :=
  normAt (Ideal.ofBits FTy.f32 0x42800000#32) (fun i : Fin 64 => projAt x w ⟨2048 + i.val, by omega⟩) g b d

/-- The indexer's head weights of a row, in 128 lanes of which eight are in use. -/
def headAt (x : Fin 1024 → EReal) (w : Fin 1024 → Fin 3144 → EReal) (q : Fin 128) : EReal :=
  if h : q.val < 8 then projAt x w ⟨2112 + q.val, by omega⟩ * Ideal.ofBits FTy.f32 0x3EB504F3#32 else 0

/-- The gate of a row. -/
def gatedAt (x : Fin 1024 → EReal) (w : Fin 1024 → Fin 3144 → EReal) (q : Fin 1024) : EReal :=
  projAt x w ⟨2120 + q.val, by omega⟩ * sigm (projAt x w ⟨2120 + q.val, by omega⟩)

/-- The scaled query of a row in slots of 128 lanes, the upper half of a slot holding the position columns alone. -/
def slotAt (x : Fin 1024 → EReal) (w : Fin 1024 → Fin 3144 → EReal) (col : Fin 2048 → EReal) (q : Fin 2048) : EReal :=
  (if h : q.val % 128 < 64 then projAt x w ⟨q.val / 128 * 64 + q.val % 128, by omega⟩ * Ideal.ofBits FTy.f32 0x3E38AA3B#32 else 0) + col q

open Cert.Kernel7Ideal Cert.Kernel7Ideal.Gen

variable (m : (ℓ : Loc nD τ sig) → Buf (Elt Ideal) ℓ)

/-- The windows' index maps, at every grid point. -/
theorem idx : ∀ t : Fin cfg0.N, win0_0.index t = ![t.val, 0] ∧ win0_1.index t = ![0, 0] ∧ win0_2.index t = ![0, 0] ∧ win0_3.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val / 8, 0, t.val % 8] ∧ win0_14.index t = ![t.val / 8, 0, t.val % 8] ∧ win0_15.index t = ![t.val / 8, 0, t.val % 8] ∧ win0_16.index t = ![t.val / 8, t.val % 8, 0, 0] ∧ win0_17.index t = ![t.val, 0] ∧ win0_18.index t = ![t.val, 0] ∧ win0_19.index t = ![t.val, 0] ∧ win0_20.index t = ![t.val, 0] ∧ t.val < 32 := (by decide +kernel : ∀ t : Fin grid0.N, _)

theorem point_lt (t : Fin cfg0.N) : t.val < 32 := (idx t).2.2.2.2.2.2.2.2.2.2.2.2.2.2.2.2.2.2.2

/-- The launch's arguments, at coordinates. -/
def aX (c : Dev nD) (b : Fin 4) (l : Fin 4096) (j : Fin 1024) : EReal := m ((c.tc : Thread nD τ).loc main_arg0) (ix3 b l j)
def aW (c : Dev nD) (k : Fin 1024) (q : Fin 3144) : EReal := m ((c.tc : Thread nD τ).loc main_arg1) (ix2 k q)
def aG (c : Dev nD) (j : Fin 64) : EReal := m ((c.tc : Thread nD τ).loc main_arg2) (ix1 j)
def aB (c : Dev nD) (j : Fin 64) : EReal := m ((c.tc : Thread nD τ).loc main_arg3) (ix1 j)
def aC (c : Dev nD) (q : Fin 2048) : EReal := m ((c.tc : Thread nD τ).loc main_arg4) (ix2 0 q)

/-- Weights of 16 heads spread over slots of 128 columns, the upper half of each slot zero. -/
def slotPad (w : FVec Ideal S1024x1024 .bf16) : FVec Ideal S1024x2048 .bf16 :=
  shapeCast S1024x2048 (pad S1024x16x128 ![0, 0, 0] ![0, 0, 64] ![0, 0, 0] (shapeCast S1024x16x64 w shapeCasts_S1024x1024_S1024x16x64) (sitofp (F := Ideal) .bf16 (constantI S_ 32 0#32)) pads_S1024x16x64_S1024x16x128_000_000_0640 h_S_) shapeCasts_S1024x16x128_S1024x2048

theorem slot_cast (y : FVec Ideal S1024x16x128 .bf16) (k : Fin 1024) (q : Fin 2048) :
    shapeCast S1024x2048 y shapeCasts_S1024x16x128_S1024x2048 (ix2 k q) = y (ix3 k ⟨q.val / 128, by omega⟩ ⟨q.val % 128, by omega⟩) := by pointwise []
theorem slot_in (x : FVec Ideal S1024x1024 .bf16) (v : FVec Ideal S_ .bf16) (k : Fin 1024) (h : Fin 16) (d : Fin 64) :
    pad S1024x16x128 ![0, 0, 0] ![0, 0, 64] ![0, 0, 0] (shapeCast S1024x16x64 x shapeCasts_S1024x1024_S1024x16x64) v pads_S1024x16x64_S1024x16x128_000_000_0640 h_S_ (ix3 k h (⟨d.val, by omega⟩ : Fin 128)) = x (ix2 k ⟨h.val * 64 + d.val, by omega⟩) := by
  pointwise
  try rfl
theorem slot_out (x : FVec Ideal S1024x16x64 .bf16) (v : FVec Ideal S_ .bf16) (k : Fin 1024) (h : Fin 16) (d : Fin 128) (hd : ¬ d.val < 64) :
    pad S1024x16x128 ![0, 0, 0] ![0, 0, 64] ![0, 0, 0] x v pads_S1024x16x64_S1024x16x128_000_000_0640 h_S_ (ix3 k h d) = v (Shape.Idx.first h_S_) :=
  pad_apply_of_not_inside _ _ _ _ _ _ _ _ 2 (by
    show ¬ (0 ≤ d.val ∧ (d.val - 0) % 1 = 0 ∧ (d.val - 0) / 1 < 64)
    omega)
theorem slotPad_at (w : FVec Ideal S1024x1024 .bf16) (k : Fin 1024) (q : Fin 2048) :
    slotPad w (ix2 k q) = if h : q.val % 128 < 64 then w (ix2 k ⟨q.val / 128 * 64 + q.val % 128, by omega⟩) else 0 := by
  refine (slot_cast _ k q).trans ?_
  by_cases h : q.val % 128 < 64
  · rw [dif_pos h]
    exact slot_in w _ k ⟨q.val / 128, by omega⟩ ⟨q.val % 128, h⟩
  · rw [dif_neg h]
    refine (slot_out _ _ k _ _ h).trans ?_
    show ((((0#32 : BitVec 32).toInt : ℤ) : ℝ) : EReal) = 0
    simp
theorem lane_in (x : FVec Ideal S1024x8 .f32) (v : FVec Ideal S_ .f32) (k : Fin 1024) (d : Fin 8) :
    pad S1024x128 ![0, 0] ![0, 120] ![0, 0] x v pads_S1024x8_S1024x128_000_01200 h_S_ (ix2 k (⟨d.val, by omega⟩ : Fin 128)) = x (ix2 k d) := by
  pointwise
  try rfl
theorem lane_out (x : FVec Ideal S1024x8 .f32) (v : FVec Ideal S_ .f32) (k : Fin 1024) (d : Fin 128) (hd : ¬ d.val < 8) :
    pad S1024x128 ![0, 0] ![0, 120] ![0, 0] x v pads_S1024x8_S1024x128_000_01200 h_S_ (ix2 k d) = v (Shape.Idx.first h_S_) :=
  pad_apply_of_not_inside _ _ _ _ _ _ _ _ 1 (by
    show ¬ (0 ≤ d.val ∧ (d.val - 0) % 1 = 0 ∧ (d.val - 0) / 1 < 8)
    omega)

theorem V29 (c : Dev nD) : V m c main_v29 = shapeCast S16384x1024 (m ((c.tc : Thread nD τ).loc main_arg0) : FVec Ideal S4x4096x1024 .f32) shapeCasts_S4x4096x1024_S16384x1024 := by
  entry_read
  rfl
theorem V17 (c : Dev nD) : V m c main_v17 = slotPad (truncf (F := Ideal) (s := S1024x1024) (φ := .f32) .bf16 (extractStridedSlice S1024x1024 ![0, 0] (m ((c.tc : Thread nD τ).loc main_arg1) : FVec Ideal S1024x3144 .f32) slices_S1024x3144_S1024x1024_0_0) bitsLt_bf16_f32) := by
  entry_read
  rfl
theorem V18 (c : Dev nD) : V m c main_v18 = transpose S256x1024 [1, 0] (truncf (F := Ideal) (s := S1024x256) (φ := .f32) .bf16 (extractStridedSlice S1024x256 ![0, 1024] (m ((c.tc : Thread nD τ).loc main_arg1) : FVec Ideal S1024x3144 .f32) slices_S1024x3144_S1024x256_0_1024) bitsLt_bf16_f32) transposes_S1024x256_S256x1024_1_0 := by
  entry_read
  rfl
theorem V19 (c : Dev nD) : V m c main_v19 = transpose S256x1024 [1, 0] (truncf (F := Ideal) (s := S1024x256) (φ := .f32) .bf16 (extractStridedSlice S1024x256 ![0, 1280] (m ((c.tc : Thread nD τ).loc main_arg1) : FVec Ideal S1024x3144 .f32) slices_S1024x3144_S1024x256_0_1280) bitsLt_bf16_f32) transposes_S1024x256_S256x1024_1_0 := by
  entry_read
  rfl
theorem V11 (c : Dev nD) : V m c main_v11 = (truncf (F := Ideal) (s := S1024x512) (φ := .f32) .bf16 (extractStridedSlice S1024x512 ![0, 1536] (m ((c.tc : Thread nD τ).loc main_arg1) : FVec Ideal S1024x3144 .f32) slices_S1024x3144_S1024x512_0_1536) bitsLt_bf16_f32) := by
  entry_read
  rfl
theorem V26 (c : Dev nD) : V m c main_v26 = transpose S64x1024 [1, 0] (truncf (F := Ideal) (s := S1024x64) (φ := .f32) .bf16 (extractStridedSlice S1024x64 ![0, 2048] (m ((c.tc : Thread nD τ).loc main_arg1) : FVec Ideal S1024x3144 .f32) slices_S1024x3144_S1024x64_0_2048) bitsLt_bf16_f32) transposes_S1024x64_S64x1024_1_0 := by
  entry_read
  rfl
theorem V13 (c : Dev nD) : V m c main_v13 = (truncf (F := Ideal) (s := S1024x128) (φ := .f32) .bf16 (pad S1024x128 ![0, 0] ![0, 120] ![0, 0] (extractStridedSlice S1024x8 ![0, 2112] (m ((c.tc : Thread nD τ).loc main_arg1) : FVec Ideal S1024x3144 .f32) slices_S1024x3144_S1024x8_0_2112) (sitofp (F := Ideal) .f32 (constantI S_ 32 0#32)) pads_S1024x8_S1024x128_000_01200 h_S_) bitsLt_bf16_f32) := by
  entry_read
  rfl
theorem V14 (c : Dev nD) : V m c main_v14 = (truncf (F := Ideal) (s := S1024x1024) (φ := .f32) .bf16 (extractStridedSlice S1024x1024 ![0, 2120] (m ((c.tc : Thread nD τ).loc main_arg1) : FVec Ideal S1024x3144 .f32) slices_S1024x3144_S1024x1024_0_2120) bitsLt_bf16_f32) := by
  entry_read
  rfl
theorem V27 (c : Dev nD) : V m c main_v27 = shapeCast S64x1 (m ((c.tc : Thread nD τ).loc main_arg2) : FVec Ideal S64 .f32) shapeCasts_S64_S64x1 := by
  entry_read
  rfl
theorem V28 (c : Dev nD) : V m c main_v28 = shapeCast S64x1 (m ((c.tc : Thread nD τ).loc main_arg3) : FVec Ideal S64 .f32) shapeCasts_S64_S64x1 := by
  entry_read
  rfl
theorem slice_1024 (x : FVec Ideal S1024x3144 .f32) (k : Fin 1024) (j : Fin 256) : extractStridedSlice S1024x256 ![0, 1024] x slices_S1024x3144_S1024x256_0_1024 (ix2 k j) = x (ix2 k ⟨1024 + j.val, by omega⟩) := by pointwise []
theorem slice_1280 (x : FVec Ideal S1024x3144 .f32) (k : Fin 1024) (j : Fin 256) : extractStridedSlice S1024x256 ![0, 1280] x slices_S1024x3144_S1024x256_0_1280 (ix2 k j) = x (ix2 k ⟨1280 + j.val, by omega⟩) := by pointwise []
theorem slice_1536 (x : FVec Ideal S1024x3144 .f32) (k : Fin 1024) (j : Fin 512) : extractStridedSlice S1024x512 ![0, 1536] x slices_S1024x3144_S1024x512_0_1536 (ix2 k j) = x (ix2 k ⟨1536 + j.val, by omega⟩) := by pointwise []
theorem slice_2048 (x : FVec Ideal S1024x3144 .f32) (k : Fin 1024) (j : Fin 64) : extractStridedSlice S1024x64 ![0, 2048] x slices_S1024x3144_S1024x64_0_2048 (ix2 k j) = x (ix2 k ⟨2048 + j.val, by omega⟩) := by pointwise []
theorem slice_2112 (x : FVec Ideal S1024x3144 .f32) (k : Fin 1024) (j : Fin 8) : extractStridedSlice S1024x8 ![0, 2112] x slices_S1024x3144_S1024x8_0_2112 (ix2 k j) = x (ix2 k ⟨2112 + j.val, by omega⟩) := by pointwise []
theorem slice_2120 (x : FVec Ideal S1024x3144 .f32) (k : Fin 1024) (j : Fin 1024) : extractStridedSlice S1024x1024 ![0, 2120] x slices_S1024x3144_S1024x1024_0_2120 (ix2 k j) = x (ix2 k ⟨2120 + j.val, by omega⟩) := by pointwise []
theorem slice_0 (x : FVec Ideal S1024x3144 .f32) (k : Fin 1024) (j : Fin 1024) : extractStridedSlice S1024x1024 ![0, 0] x slices_S1024x3144_S1024x1024_0_0 (ix2 k j) = x (ix2 k ⟨0 + j.val, by omega⟩) := by pointwise []
theorem turn_256 (x : FVec Ideal S1024x256 .bf16) (k : Fin 1024) (j : Fin 256) : transpose S256x1024 [1, 0] x transposes_S1024x256_S256x1024_1_0 (ix2 j k) = x (ix2 k j) := by pointwise []
theorem turn_64 (x : FVec Ideal S1024x64 .bf16) (k : Fin 1024) (j : Fin 64) : transpose S64x1024 [1, 0] x transposes_S1024x64_S64x1024_1_0 (ix2 j k) = x (ix2 k j) := by pointwise []
theorem cast_x (x : FVec Ideal S4x4096x1024 .f32) (r : Fin 16384) (j : Fin 1024) : shapeCast S16384x1024 x shapeCasts_S4x4096x1024_S16384x1024 (ix2 r j) = x (ix3 (seq r) (step r) j) := by
  pointwise [seq, step]
theorem cast_g (x : FVec Ideal S64 .f32) (d : Fin 64) : shapeCast S64x1 x shapeCasts_S64_S64x1 (ix2 d 0) = x (ix1 d) := by pointwise []

/-- The row that row `s` of point `t`'s tile is. -/
def row (t : Fin cfg0.N) (s : Fin 512) : Fin 16384 := ⟨t.val * 512 + s.val, by have := point_lt t; omega⟩
def xRow (c : Dev nD) (r : Fin 16384) (k : Fin 1024) : EReal := aX m c (seq r) (step r) k

theorem blk0 (c : Dev nD) (t : Fin cfg0.N) (s : Fin 512) (k : Fin 1024) : iblk m c 0 t (ix2 s k) = xRow m c (row t s) k := by
  have := point_lt t
  blk_simp [iblk]
  have e : ((cfg0.win 0).blk t).view.emb (ix2 s k) = ix2 (row t s) k := by blk_ext [idx t, row]
  exact (congrArg (V m c main_v29) e).trans ((congrFun (V29 m c) _).trans (cast_x _ _ _))
theorem blk12 (c : Dev nD) (t : Fin cfg0.N) (q : Fin 2048) : iblk m c 12 t (ix2 0 q) = aC m c q := by
  blk_simp [iblk]
  exact congrArg (m ((c.tc : Thread nD τ).loc main_arg4)) (show ((cfg0.win 12).blk t).view.emb (ix2 0 q) = ix2 0 q by blk_ext [idx t])
theorem blk2 (c : Dev nD) (t : Fin cfg0.N) (j : Fin 256) (k : Fin 1024) : iblk m c 2 t (ix2 j k) = aW m c k ⟨1024 + j.val, by omega⟩ := by
  blk_simp [iblk]
  have e : ((cfg0.win 2).blk t).view.emb (ix2 j k) = ix2 j k := by blk_ext [idx t]
  exact (congrArg (V m c main_v18) e).trans ((congrFun (V18 m c) _).trans ((turn_256 _ k j).trans (slice_1024 _ k j)))
theorem blk3 (c : Dev nD) (t : Fin cfg0.N) (j : Fin 256) (k : Fin 1024) : iblk m c 3 t (ix2 j k) = aW m c k ⟨1280 + j.val, by omega⟩ := by
  blk_simp [iblk]
  have e : ((cfg0.win 3).blk t).view.emb (ix2 j k) = ix2 j k := by blk_ext [idx t]
  exact (congrArg (V m c main_v19) e).trans ((congrFun (V19 m c) _).trans ((turn_256 _ k j).trans (slice_1280 _ k j)))
theorem blk6 (c : Dev nD) (t : Fin cfg0.N) (k : Fin 1024) (j : Fin 512) : iblk m c 6 t (ix2 k j) = aW m c k ⟨1536 + j.val, by omega⟩ := by
  blk_simp [iblk]
  have e : ((cfg0.win 6).blk t).view.emb (ix2 k j) = ix2 k j := by blk_ext [idx t]
  exact (congrArg (V m c main_v11) e).trans ((congrFun (V11 m c) _).trans (slice_1536 _ k j))
theorem blk7 (c : Dev nD) (t : Fin cfg0.N) (j : Fin 64) (k : Fin 1024) : iblk m c 7 t (ix2 j k) = aW m c k ⟨2048 + j.val, by omega⟩ := by
  blk_simp [iblk]
  have e : ((cfg0.win 7).blk t).view.emb (ix2 j k) = ix2 j k := by blk_ext [idx t]
  exact (congrArg (V m c main_v26) e).trans ((congrFun (V26 m c) _).trans ((turn_64 _ k j).trans (slice_2048 _ k j)))
theorem blk9 (c : Dev nD) (t : Fin cfg0.N) (k : Fin 1024) (j : Fin 1024) : iblk m c 9 t (ix2 k j) = aW m c k ⟨2120 + j.val, by omega⟩ := by
  blk_simp [iblk]
  have e : ((cfg0.win 9).blk t).view.emb (ix2 k j) = ix2 k j := by blk_ext [idx t]
  exact (congrArg (V m c main_v14) e).trans ((congrFun (V14 m c) _).trans (slice_2120 _ k j))
theorem blk10 (c : Dev nD) (t : Fin cfg0.N) (j : Fin 64) : iblk m c 10 t (ix2 j 0) = aG m c j := by
  blk_simp [iblk]
  have e : ((cfg0.win 10).blk t).view.emb (ix2 j 0) = ix2 j 0 := by blk_ext [idx t]
  exact (congrArg (V m c main_v27) e).trans ((congrFun (V27 m c) _).trans (cast_g _ j))
theorem blk11 (c : Dev nD) (t : Fin cfg0.N) (j : Fin 64) : iblk m c 11 t (ix2 j 0) = aB m c j := by
  blk_simp [iblk]
  have e : ((cfg0.win 11).blk t).view.emb (ix2 j 0) = ix2 j 0 := by blk_ext [idx t]
  exact (congrArg (V m c main_v28) e).trans ((congrFun (V28 m c) _).trans (cast_g _ j))
theorem blk8 (c : Dev nD) (t : Fin cfg0.N) (k : Fin 1024) (q : Fin 128) : iblk m c 8 t (ix2 k q) = if h : q.val < 8 then aW m c k ⟨2112 + q.val, by omega⟩ else 0 := by
  blk_simp [iblk]
  have e : ((cfg0.win 8).blk t).view.emb (ix2 k q) = ix2 k q := by blk_ext [idx t]
  refine (congrArg (V m c main_v13) e).trans ((congrFun (V13 m c) _).trans ?_)
  by_cases h : q.val < 8
  · rw [dif_pos h]
    exact (lane_in _ _ k ⟨q.val, h⟩).trans (slice_2112 _ k ⟨q.val, h⟩)
  · rw [dif_neg h]
    refine (lane_out _ _ k q h).trans ?_
    show ((((0#32 : BitVec 32).toInt : ℤ) : ℝ) : EReal) = 0
    simp
theorem blk1 (c : Dev nD) (t : Fin cfg0.N) (k : Fin 1024) (q : Fin 2048) : iblk m c 1 t (ix2 k q) = if h : q.val % 128 < 64 then aW m c k ⟨q.val / 128 * 64 + q.val % 128, by omega⟩ else 0 := by
  blk_simp [iblk]
  have e : ((cfg0.win 1).blk t).view.emb (ix2 k q) = ix2 k q := by blk_ext [idx t]
  refine (congrArg (V m c main_v17) e).trans ((congrFun (V17 m c) _).trans ((slotPad_at _ k q).trans ?_))
  by_cases h : q.val % 128 < 64
  · rw [dif_pos h, dif_pos h]
    refine (slice_0 _ k _).trans ?_
    exact congrArg (fun z => aW m c k z) (Fin.ext (Nat.zero_add _))
  · rw [dif_neg h, dif_neg h]

theorem pay_kt (x : Vec Ideal S512x1024 .f32) (w : Vec Ideal S256x1024 .bf16) (j : Fin 256) (s : Fin 512) :
    k0_pay2 x w (ix3 0 j s) = ∑ k : Fin 1024, w (ix2 j k) * x (ix2 s k) := by pointwise [k0_pay2, k0_pay1]
theorem pay_vt (x : Vec Ideal S512x1024 .f32) (w : Vec Ideal S256x1024 .bf16) (j : Fin 256) (s : Fin 512) :
    k0_pay3 x w (ix3 0 j s) = ∑ k : Fin 1024, w (ix2 j k) * x (ix2 s k) := by pointwise [k0_pay3, k0_pay1]
theorem pay_key (x : Vec Ideal S512x1024 .f32) (w : Vec Ideal S64x1024 .bf16) (g b : Vec Ideal S64x1 .f32) (d : Fin 64) (s : Fin 512) :
    k0_pay6 (k0_pay4 x w) g b (ix3 0 d s) = normAt (Ideal.ofBits FTy.f32 0x42800000#32) (fun i : Fin 64 => ∑ k : Fin 1024, w (ix2 i k) * x (ix2 s k)) (fun i => g (ix2 i 0)) (fun i => b (ix2 i 0)) d := by
  pointwise [k0_pay6, k0_pay5, k0_pay4, k0_pay1, normAt, meanOf]
theorem pay_keys (v : FVec Ideal S64x512 .f32) (g b : Vec Ideal S64x1 .f32) (d : Fin 64) (s : Fin 512) :
    k0_pay7 v g b (ix4 0 0 d s) = k0_pay6 v g b (ix3 0 d s) := by pointwise [k0_pay6, k0_pay7]
theorem pay_qi (x : Vec Ideal S512x1024 .f32) (w : Vec Ideal S1024x512 .bf16) (s : Fin 512) (q : Fin 512) :
    k0_pay8 (k0_pay1 x) w (ix2 s q) = (∑ k : Fin 1024, x (ix2 s k) * w (ix2 k q)) * Ideal.ofBits FTy.f32 0x3E000000#32 := by pointwise [k0_pay8, k0_pay1]
theorem pay_wi (x : Vec Ideal S512x1024 .f32) (w : Vec Ideal S1024x128 .bf16) (s : Fin 512) (q : Fin 128) :
    k0_pay9 (k0_pay1 x) w (ix2 s q) = (∑ k : Fin 1024, x (ix2 s k) * w (ix2 k q)) * Ideal.ofBits FTy.f32 0x3EB504F3#32 := by pointwise [k0_pay9, k0_pay1]
theorem pay_z (x : Vec Ideal S512x1024 .f32) (w : Vec Ideal S1024x1024 .bf16) (s : Fin 512) (q : Fin 1024) :
    k0_pay12 (k0_pay10 (k0_pay1 x) w) k0_pay11 (ix2 s q) = (∑ k : Fin 1024, x (ix2 s k) * w (ix2 k q)) * sigm (∑ k : Fin 1024, x (ix2 s k) * w (ix2 k q)) := by
  pointwise [k0_pay12, k0_pay11, k0_pay10, k0_pay1, sigm]
  try rw [zero_sub]
theorem pay_slot (x : Vec Ideal S512x1024 .f32) (w : Vec Ideal S1024x2048 .bf16) (col : Vec Ideal S1x2048 .f32) (s : Fin 512) (q : Fin 2048) :
    k0_pay13 (k0_pay1 x) w col (ix2 s q) = (∑ k : Fin 1024, x (ix2 s k) * w (ix2 k q)) * Ideal.ofBits FTy.f32 0x3E38AA3B#32 + col (ix2 0 q) := by pointwise [k0_pay13, k0_pay1]

/-- A projection written with its factors in the other order. -/
theorem proj_comm (x : Fin 1024 → EReal) (w : Fin 1024 → Fin 3144 → EReal) (q : Fin 3144) : (∑ k : Fin 1024, w k q * x k) = projAt x w q :=
  Finset.sum_congr rfl fun _ _ => mul_comm _ _

/-- A projection whose weights are there only under a condition. -/
theorem proj_if (p : Prop) [Decidable p] (x : Fin 1024 → EReal) (w : Fin 1024 → Fin 3144 → EReal) (q : p → Fin 3144) (a : EReal) :
    (∑ k : Fin 1024, x k * (if h : p then w k (q h) else 0)) * a = if h : p then projAt x w (q h) * a else 0 := by
  by_cases h : p
  · simp only [dif_pos h]
    rfl
  · simp only [dif_neg h, mul_zero, Finset.sum_const_zero, zero_mul]

/-- The results' values. -/
def kAt (c : Dev nD) (b : Fin 4) (j : Fin 256) (l : Fin 4096) : EReal := projAt (aX m c b l) (aW m c) ⟨1024 + j.val, by omega⟩
def vAt (c : Dev nD) (b : Fin 4) (j : Fin 256) (l : Fin 4096) : EReal := projAt (aX m c b l) (aW m c) ⟨1280 + j.val, by omega⟩
def kiAt (c : Dev nD) (b : Fin 4) (j : Fin 64) (l : Fin 4096) : EReal := keyAt (aX m c b l) (aW m c) (aG m c) (aB m c) j
def kibAt (c : Dev nD) (b : Fin 4) (n : Fin 8) (j : Fin 64) (l : Fin 512) : EReal := kiAt m c b j ⟨n.val * 512 + l.val, by omega⟩
def qiAt (c : Dev nD) (r : Fin 16384) (q : Fin 512) : EReal := projAt (xRow m c r) (aW m c) ⟨1536 + q.val, by omega⟩ * Ideal.ofBits FTy.f32 0x3E000000#32
def wiAt (c : Dev nD) (r : Fin 16384) (q : Fin 128) : EReal := headAt (xRow m c r) (aW m c) q
def zAt (c : Dev nD) (r : Fin 16384) (q : Fin 1024) : EReal := gatedAt (xRow m c r) (aW m c) q
def quAt (c : Dev nD) (r : Fin 16384) (q : Fin 2048) : EReal := slotAt (xRow m c r) (aW m c) (aC m c) q

def G13 (c : Dev nD) : Buf (Elt Ideal) ((c.tc : Thread nD τ).loc main_v30_0) := fun i => kAt m c ⟨(i 0).val, (i 0).isLt⟩ ⟨(i 1).val, (i 1).isLt⟩ ⟨(i 2).val, (i 2).isLt⟩
def G14 (c : Dev nD) : Buf (Elt Ideal) ((c.tc : Thread nD τ).loc main_v30_1) := fun i => vAt m c ⟨(i 0).val, (i 0).isLt⟩ ⟨(i 1).val, (i 1).isLt⟩ ⟨(i 2).val, (i 2).isLt⟩
def G15 (c : Dev nD) : Buf (Elt Ideal) ((c.tc : Thread nD τ).loc main_v30_2) := fun i => kiAt m c ⟨(i 0).val, (i 0).isLt⟩ ⟨(i 1).val, (i 1).isLt⟩ ⟨(i 2).val, (i 2).isLt⟩
def G16 (c : Dev nD) : Buf (Elt Ideal) ((c.tc : Thread nD τ).loc main_v30_3) := fun i => kibAt m c ⟨(i 0).val, (i 0).isLt⟩ ⟨(i 1).val, (i 1).isLt⟩ ⟨(i 2).val, (i 2).isLt⟩ ⟨(i 3).val, (i 3).isLt⟩
def G17 (c : Dev nD) : Buf (Elt Ideal) ((c.tc : Thread nD τ).loc main_v30_4) := fun i => qiAt m c ⟨(i 0).val, (i 0).isLt⟩ ⟨(i 1).val, (i 1).isLt⟩
def G18 (c : Dev nD) : Buf (Elt Ideal) ((c.tc : Thread nD τ).loc main_v30_5) := fun i => wiAt m c ⟨(i 0).val, (i 0).isLt⟩ ⟨(i 1).val, (i 1).isLt⟩
def G19 (c : Dev nD) : Buf (Elt Ideal) ((c.tc : Thread nD τ).loc main_v30_6) := fun i => zAt m c ⟨(i 0).val, (i 0).isLt⟩ ⟨(i 1).val, (i 1).isLt⟩
def G20 (c : Dev nD) : Buf (Elt Ideal) ((c.tc : Thread nD τ).loc main_v30_7) := fun i => quAt m c ⟨(i 0).val, (i 0).isLt⟩ ⟨(i 1).val, (i 1).isLt⟩

/-- The sequence, and the step in it, of row `s` of point `t`'s tile. -/
def sq (t : Fin cfg0.N) : Fin 4 := ⟨t.val / 8, by have := point_lt t; omega⟩
def st (t : Fin cfg0.N) (s : Fin 512) : Fin 4096 := ⟨t.val % 8 * 512 + s.val, by omega⟩
theorem row_seq (t : Fin cfg0.N) (s : Fin 512) : seq (row t s) = sq t := Fin.ext (by show (t.val * 512 + s.val) / 4096 = t.val / 8; omega)
theorem row_step (t : Fin cfg0.N) (s : Fin 512) : step (row t s) = st t s := Fin.ext (by show (t.val * 512 + s.val) % 4096 = t.val % 8 * 512 + s.val; omega)
theorem xRow_eq (c : Dev nD) (t : Fin cfg0.N) (s : Fin 512) : xRow m c (row t s) = aX m c (sq t) (st t s) := by
  unfold xRow
  rw [row_seq, row_step]

theorem point13 (c : Dev nD) (t : Fin cfg0.N) (j : Fin 256) (s : Fin 512) : k0_pay2 (iblk m c 0 t) (iblk m c 2 t) (ix3 0 j s) = kAt m c (sq t) j (st t s) := by
  refine (pay_kt _ _ j s).trans ?_
  simp only [blk0, blk2, xRow_eq]
  exact proj_comm _ _ _
theorem point14 (c : Dev nD) (t : Fin cfg0.N) (j : Fin 256) (s : Fin 512) : k0_pay3 (iblk m c 0 t) (iblk m c 3 t) (ix3 0 j s) = vAt m c (sq t) j (st t s) := by
  refine (pay_vt _ _ j s).trans ?_
  simp only [blk0, blk3, xRow_eq]
  exact proj_comm _ _ _
theorem point15 (c : Dev nD) (t : Fin cfg0.N) (j : Fin 64) (s : Fin 512) : k0_pay6 (k0_pay4 (iblk m c 0 t) (iblk m c 7 t)) (iblk m c 10 t) (iblk m c 11 t) (ix3 0 j s) = kiAt m c (sq t) j (st t s) := by
  refine (pay_key _ _ _ _ j s).trans ?_
  simp only [blk0, blk7, blk10, blk11, xRow_eq, proj_comm]
  rfl
theorem point16 (c : Dev nD) (t : Fin cfg0.N) (j : Fin 64) (s : Fin 512) : k0_pay7 (k0_pay4 (iblk m c 0 t) (iblk m c 7 t)) (iblk m c 10 t) (iblk m c 11 t) (ix4 0 0 j s) = kiAt m c (sq t) j (st t s) := by
  exact (pay_keys _ _ _ j s).trans (point15 m c t j s)
theorem point17 (c : Dev nD) (t : Fin cfg0.N) (s : Fin 512) (q : Fin 512) : k0_pay8 (k0_pay1 (iblk m c 0 t)) (iblk m c 6 t) (ix2 s q) = qiAt m c (row t s) q := by
  refine (pay_qi _ _ s q).trans ?_
  simp only [blk0, blk6]
  rfl
theorem point18 (c : Dev nD) (t : Fin cfg0.N) (s : Fin 512) (q : Fin 128) : k0_pay9 (k0_pay1 (iblk m c 0 t)) (iblk m c 8 t) (ix2 s q) = wiAt m c (row t s) q := by
  refine (pay_wi _ _ s q).trans ?_
  simp only [blk0, blk8]
  exact proj_if _ _ _ (fun h => ⟨2112 + q.val, by omega⟩) _
theorem point19 (c : Dev nD) (t : Fin cfg0.N) (s : Fin 512) (q : Fin 1024) : k0_pay12 (k0_pay10 (k0_pay1 (iblk m c 0 t)) (iblk m c 9 t)) k0_pay11 (ix2 s q) = zAt m c (row t s) q := by
  refine (pay_z _ _ s q).trans ?_
  simp only [blk0, blk9]
  rfl
theorem point20 (c : Dev nD) (t : Fin cfg0.N) (s : Fin 512) (q : Fin 2048) : k0_pay13 (k0_pay1 (iblk m c 0 t)) (iblk m c 1 t) (iblk m c 12 t) (ix2 s q) = quAt m c (row t s) q := by
  refine (pay_slot _ _ _ s q).trans ?_
  simp only [blk0, blk1, blk12]
  exact congrArg (· + aC m c q) (proj_if _ _ _ (fun h => ⟨q.val / 128 * 64 + q.val % 128, by omega⟩) _)

theorem final13 (c : Dev nD) : (dats m 0 c).arrAt 13 (cfgs 0).N = G13 m c := by
  refine (dats m 0 c).arrAt_eq_of_covers 13 _ (by decide +kernel) fun t _ y => ?_
  obtain ⟨u, j, s, rfl⟩ : ∃ (u : Fin 1) (j : Fin 256) (s : Fin 512), y = ix3 u j s := ⟨y 0, y 1, y 2, by idx_vars y⟩
  obtain rfl : u = 0 := Subsingleton.elim _ _
  blk_simp
  rw [after0_13]
  frame_out [k0_pay20, k0_pay21]
  have := point_lt t
  refine (point13 m c t j s).trans ?_
  have e : ((cfg0.win 13).blk t).view.emb (ix3 0 j s) = ix3 (sq t) j (st t s) := by blk_ext [idx t, row, sq, st]
  exact (congrArg (G13 m c) e).symm
theorem final14 (c : Dev nD) : (dats m 0 c).arrAt 14 (cfgs 0).N = G14 m c := by
  refine (dats m 0 c).arrAt_eq_of_covers 14 _ (by decide +kernel) fun t _ y => ?_
  obtain ⟨u, j, s, rfl⟩ : ∃ (u : Fin 1) (j : Fin 256) (s : Fin 512), y = ix3 u j s := ⟨y 0, y 1, y 2, by idx_vars y⟩
  obtain rfl : u = 0 := Subsingleton.elim _ _
  blk_simp
  rw [after0_14]
  frame_out [k0_pay20, k0_pay21]
  have := point_lt t
  refine (point14 m c t j s).trans ?_
  have e : ((cfg0.win 14).blk t).view.emb (ix3 0 j s) = ix3 (sq t) j (st t s) := by blk_ext [idx t, row, sq, st]
  exact (congrArg (G14 m c) e).symm
theorem final15 (c : Dev nD) : (dats m 0 c).arrAt 15 (cfgs 0).N = G15 m c := by
  refine (dats m 0 c).arrAt_eq_of_covers 15 _ (by decide +kernel) fun t _ y => ?_
  obtain ⟨u, j, s, rfl⟩ : ∃ (u : Fin 1) (j : Fin 64) (s : Fin 512), y = ix3 u j s := ⟨y 0, y 1, y 2, by idx_vars y⟩
  obtain rfl : u = 0 := Subsingleton.elim _ _
  blk_simp
  rw [after0_15]
  frame_out [k0_pay20, k0_pay21]
  have := point_lt t
  refine (point15 m c t j s).trans ?_
  have e : ((cfg0.win 15).blk t).view.emb (ix3 0 j s) = ix3 (sq t) j (st t s) := by blk_ext [idx t, row, sq, st]
  exact (congrArg (G15 m c) e).symm
theorem final16 (c : Dev nD) : (dats m 0 c).arrAt 16 (cfgs 0).N = G16 m c := by
  refine (dats m 0 c).arrAt_eq_of_covers 16 _ (by decide +kernel) fun t _ y => ?_
  obtain ⟨u, v, j, s, rfl⟩ : ∃ (u v : Fin 1) (j : Fin 64) (s : Fin 512), y = ix4 u v j s := ⟨y 0, y 1, y 2, y 3, by idx_vars y⟩
  obtain rfl : u = 0 := Subsingleton.elim _ _
  obtain rfl : v = 0 := Subsingleton.elim _ _
  blk_simp
  rw [after0_16]
  frame_out [k0_pay20, k0_pay21]
  have := point_lt t
  refine (point16 m c t j s).trans ?_
  have e : ((cfg0.win 16).blk t).view.emb (ix4 0 0 j s) = ix4 (sq t) (⟨t.val % 8, by omega⟩ : Fin 8) j s := by blk_ext [idx t, row, sq, st]
  exact (congrArg (G16 m c) e).symm
theorem final17 (c : Dev nD) : (dats m 0 c).arrAt 17 (cfgs 0).N = G17 m c := by
  refine (dats m 0 c).arrAt_eq_of_covers 17 _ (by decide +kernel) fun t _ y => ?_
  obtain ⟨s, q, rfl⟩ : ∃ (s : Fin 512) (q : Fin 512), y = ix2 s q := ⟨y 0, y 1, by idx_vars y⟩
  blk_simp
  rw [after0_17]
  frame_out [k0_pay20, k0_pay21]
  have := point_lt t
  refine (point17 m c t s q).trans ?_
  have e : ((cfg0.win 17).blk t).view.emb (ix2 s q) = ix2 (row t s) q := by blk_ext [idx t, row, sq, st]
  exact (congrArg (G17 m c) e).symm
theorem final18 (c : Dev nD) : (dats m 0 c).arrAt 18 (cfgs 0).N = G18 m c := by
  refine (dats m 0 c).arrAt_eq_of_covers 18 _ (by decide +kernel) fun t _ y => ?_
  obtain ⟨s, q, rfl⟩ : ∃ (s : Fin 512) (q : Fin 128), y = ix2 s q := ⟨y 0, y 1, by idx_vars y⟩
  blk_simp
  rw [after0_18]
  frame_out [k0_pay20, k0_pay21]
  have := point_lt t
  refine (point18 m c t s q).trans ?_
  have e : ((cfg0.win 18).blk t).view.emb (ix2 s q) = ix2 (row t s) q := by blk_ext [idx t, row, sq, st]
  exact (congrArg (G18 m c) e).symm
theorem final19 (c : Dev nD) : (dats m 0 c).arrAt 19 (cfgs 0).N = G19 m c := by
  refine (dats m 0 c).arrAt_eq_of_covers 19 _ (by decide +kernel) fun t _ y => ?_
  obtain ⟨s, q, rfl⟩ : ∃ (s : Fin 512) (q : Fin 1024), y = ix2 s q := ⟨y 0, y 1, by idx_vars y⟩
  blk_simp
  rw [after0_19]
  frame_out [k0_pay20, k0_pay21]
  have := point_lt t
  refine (point19 m c t s q).trans ?_
  have e : ((cfg0.win 19).blk t).view.emb (ix2 s q) = ix2 (row t s) q := by blk_ext [idx t, row, sq, st]
  exact (congrArg (G19 m c) e).symm
theorem final20 (c : Dev nD) : (dats m 0 c).arrAt 20 (cfgs 0).N = G20 m c := by
  refine (dats m 0 c).arrAt_eq_of_covers 20 _ (by decide +kernel) fun t _ y => ?_
  obtain ⟨s, q, rfl⟩ : ∃ (s : Fin 512) (q : Fin 2048), y = ix2 s q := ⟨y 0, y 1, by idx_vars y⟩
  blk_simp
  rw [after0_20]
  frame_out [k0_pay20, k0_pay21]
  have := point_lt t
  refine (point20 m c t s q).trans ?_
  have e : ((cfg0.win 20).blk t).view.emb (ix2 s q) = ix2 (row t s) q := by blk_ext [idx t, row, sq, st]
  exact (congrArg (G20 m c) e).symm

end Cert.AtIn
-- ==== Proof.AtIn.lean ====
module

public import proofs.«01_k».proof.Proof.AtInKernel
public import proofs.«01_k».proof.Proof.Gen.Reference7Ideal.Run
public import proofs.«01_k».proof.Defs

@[expose] public section

set_option maxRecDepth 16384

noncomputable section

namespace Cert.AtIn
open Idealize.ShloMosaic Idealize.ShloMosaic.TcCoe Idealize.SL.Sem Cert.Layer

section
open Cert.Reference7Ideal Cert.Reference7Ideal.Gen

/-- The projection of every row, as the reference writes it. -/
def projR (x : FVec Ideal S4x4096x1024 .f32) (w : FVec Ideal S1024x3144 .f32) : FVec Ideal S4x4096x3144 .f32 :=
  Host.dotGeneral (φ₁ := .f32) (φ₂ := .f32) dot_S4x4096x1024_S1024x3144_S4x4096x3144_2_0_01_1_n_n none x w

theorem projR_at (x : FVec Ideal S4x4096x1024 .f32) (w : FVec Ideal S1024x3144 .f32) (b : Fin 4) (l : Fin 4096) (q : Fin 3144) :
    projR x w (ix3 b l q) = projAt (fun k => x (ix3 b l k)) (fun k q => w (ix2 k q)) q := by pointwise [projR, projAt]

def kR (y : FVec Ideal S4x4096x3144 .f32) : FVec Ideal S4x256x4096 .f32 := transpose S4x256x4096 [0, 2, 1] (extractStridedSlice S4x4096x256 ![0, 0, 1024] y slices_S4x4096x3144_S4x4096x256_0_0_1024) transposes_S4x4096x256_S4x256x4096_0_2_1
def vR (y : FVec Ideal S4x4096x3144 .f32) : FVec Ideal S4x256x4096 .f32 := transpose S4x256x4096 [0, 2, 1] (extractStridedSlice S4x4096x256 ![0, 0, 1280] y slices_S4x4096x3144_S4x4096x256_0_0_1280) transposes_S4x4096x256_S4x256x4096_0_2_1

/-- The layer norm of the indexer's keys, as the reference writes it. -/
def meanR (y : FVec Ideal S4x4096x64 .f32) : FVec Ideal S4x4096x1 .f32 :=
  Host.divf (broadcastInDim S4x4096x1 ![0, 1] bcast_S4x4096_S4x4096x1_0_1 (Host.reduceAdd y (constant S_ .f32 0x00000000#32) reducesTo_S4x4096x64_S4x4096_d2 h_S_)) (broadcastInDim S4x4096x1 ![] bcast_S_S4x4096x1 (constant S_ .f32 0x42800000#32))
def centR (y : FVec Ideal S4x4096x64 .f32) : FVec Ideal S4x4096x64 .f32 :=
  subf y (broadcastInDim S4x4096x64 ![0, 1, 2] bcast_S4x4096x1_S4x4096x64_0_1_2 (meanR y))
def normR (y : FVec Ideal S4x4096x64 .f32) (g b : FVec Ideal S64 .f32) : FVec Ideal S4x4096x64 .f32 :=
  addf (mulf (mulf (centR y) (broadcastInDim S4x4096x64 ![0, 1, 2] bcast_S4x4096x1_S4x4096x64_0_1_2 (Host.rsqrt (addf (meanR (mulf (centR y) (centR y))) (broadcastInDim S4x4096x1 ![] bcast_S_S4x4096x1 (constant S_ .f32 0x3727C5AC#32))))))
    (broadcastInDim S4x4096x64 ![0, 1, 2] bcast_S1x1x64_S4x4096x64_0_1_2 (broadcastInDim S1x1x64 ![2] bcast_S64_S1x1x64_2 g)))
    (broadcastInDim S4x4096x64 ![0, 1, 2] bcast_S1x1x64_S4x4096x64_0_1_2 (broadcastInDim S1x1x64 ![2] bcast_S64_S1x1x64_2 b))
def keyR (y : FVec Ideal S4x4096x3144 .f32) (g b : FVec Ideal S64 .f32) : FVec Ideal S4x4096x64 .f32 :=
  normR (extractStridedSlice S4x4096x64 ![0, 0, 2048] y slices_S4x4096x3144_S4x4096x64_0_0_2048) g b

theorem normR_at (y : FVec Ideal S4x4096x64 .f32) (g bb : FVec Ideal S64 .f32) (b : Fin 4) (l : Fin 4096) (j : Fin 64) :
    normR y g bb (ix3 b l j) = normAt (Ideal.ofBits FTy.f32 0x42800000#32) (fun i : Fin 64 => y (ix3 b l i)) (fun i => g (ix1 i)) (fun i => bb (ix1 i)) j := by
  pointwise [normR, centR, meanR, normAt, meanOf]
theorem slice_at (y : FVec Ideal S4x4096x3144 .f32) (b : Fin 4) (l : Fin 4096) (j : Fin 64) :
    extractStridedSlice S4x4096x64 ![0, 0, 2048] y slices_S4x4096x3144_S4x4096x64_0_0_2048 (ix3 b l j) = y (ix3 b l ⟨2048 + j.val, by omega⟩) := by pointwise []
theorem keyR_at (y : FVec Ideal S4x4096x3144 .f32) (g bb : FVec Ideal S64 .f32) (b : Fin 4) (l : Fin 4096) (j : Fin 64) :
    keyR y g bb (ix3 b l j) = normAt (Ideal.ofBits FTy.f32 0x42800000#32) (fun i : Fin 64 => y (ix3 b l ⟨2048 + i.val, by omega⟩)) (fun i => g (ix1 i)) (fun i => bb (ix1 i)) j := by
  refine (normR_at _ _ _ b l j).trans ?_
  simp only [slice_at]

def qiR (y : FVec Ideal S4x4096x3144 .f32) : FVec Ideal S16384x512 .f32 :=
  shapeCast S16384x512 (mulf (extractStridedSlice S4x4096x512 ![0, 0, 1536] y slices_S4x4096x3144_S4x4096x512_0_0_1536) (broadcastInDim S4x4096x512 ![] bcast_S_S4x4096x512 (constant S_ .f32 0x3E000000#32))) shapeCasts_S4x4096x512_S16384x512
def headR (y : FVec Ideal S4x4096x3144 .f32) : FVec Ideal S16384x8 .f32 :=
  shapeCast S16384x8 (mulf (extractStridedSlice S4x4096x8 ![0, 0, 2112] y slices_S4x4096x3144_S4x4096x8_0_0_2112) (broadcastInDim S4x4096x8 ![] bcast_S_S4x4096x8 (constant S_ .f32 0x3EB504F3#32))) shapeCasts_S4x4096x8_S16384x8
def wiR (y : FVec Ideal S4x4096x3144 .f32) : FVec Ideal S16384x128 .f32 :=
  pad S16384x128 ![0, 0] ![0, 120] ![0, 0] (headR y) (sitofp (F := Ideal) .f32 (constantI S_ 32 0#32)) pads_S16384x8_S16384x128_000_01200 h_S_
def zR (y : FVec Ideal S4x4096x3144 .f32) : FVec Ideal S16384x1024 .f32 :=
  shapeCast S16384x1024 (mulf (extractStridedSlice S4x4096x1024 ![0, 0, 2120] y slices_S4x4096x3144_S4x4096x1024_0_0_2120) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 2120] y slices_S4x4096x3144_S4x4096x1024_0_0_2120)))))) shapeCasts_S4x4096x1024_S16384x1024
def quR (y : FVec Ideal S4x4096x3144 .f32) : FVec Ideal S16384x16x64 .f32 :=
  shapeCast S16384x16x64 (mulf (extractStridedSlice S4x4096x1024 ![0, 0, 0] y slices_S4x4096x3144_S4x4096x1024_0_0_0) (broadcastInDim S4x4096x1024 ![] bcast_S_S4x4096x1024 (constant S_ .f32 0x3E38AA3B#32))) shapeCasts_S4x4096x1024_S16384x16x64
def padR (y : FVec Ideal S16384x16x64 .f32) : FVec Ideal S16384x16x128 .f32 :=
  pad S16384x16x128 ![0, 0, 0] ![0, 0, 64] ![0, 0, 0] y (sitofp (F := Ideal) .f32 (constantI S_ 32 0#32)) pads_S16384x16x64_S16384x16x128_000_000_0640 h_S_
def slotR (y : FVec Ideal S16384x16x128 .f32) (col : FVec Ideal S1x2048 .f32) : FVec Ideal S16384x2048 .bf16 :=
  truncf (F := Ideal) (s := S16384x2048) (φ := .f32) .bf16 (addf (shapeCast S16384x2048 y shapeCasts_S16384x16x128_S16384x2048) (broadcastInDim S16384x2048 ![0, 1] bcast_S1x2048_S16384x2048_0_1 col)) bitsLt_bf16_f32

theorem kR_at (y : FVec Ideal S4x4096x3144 .f32) (b : Fin 4) (j : Fin 256) (l : Fin 4096) : kR y (ix3 b j l) = y (ix3 b l ⟨1024 + j.val, by omega⟩) := by pointwise [kR]
theorem vR_at (y : FVec Ideal S4x4096x3144 .f32) (b : Fin 4) (j : Fin 256) (l : Fin 4096) : vR y (ix3 b j l) = y (ix3 b l ⟨1280 + j.val, by omega⟩) := by pointwise [vR]
theorem turn_at (y : FVec Ideal S4x4096x64 .f32) (b : Fin 4) (j : Fin 64) (l : Fin 4096) :
    transpose S4x64x4096 [0, 2, 1] y transposes_S4x4096x64_S4x64x4096_0_2_1 (ix3 b j l) = y (ix3 b l j) := by pointwise []
theorem tile_at (y : FVec Ideal S4x4096x64 .f32) (b : Fin 4) (n : Fin 8) (j : Fin 64) (l : Fin 512) :
    transpose S4x8x64x512 [0, 1, 3, 2] (shapeCast S4x8x512x64 y shapeCasts_S4x4096x64_S4x8x512x64) transposes_S4x8x512x64_S4x8x64x512_0_1_3_2 (ix4 b n j l) = y (ix3 b ⟨n.val * 512 + l.val, by omega⟩ j) := by pointwise []
theorem qiR_at (y : FVec Ideal S4x4096x3144 .f32) (r : Fin 16384) (q : Fin 512) :
    qiR y (ix2 r q) = y (ix3 (seq r) (step r) ⟨1536 + q.val, by omega⟩) * Ideal.ofBits FTy.f32 0x3E000000#32 := by pointwise [qiR, seq, step]
theorem headR_at (y : FVec Ideal S4x4096x3144 .f32) (r : Fin 16384) (q : Fin 8) :
    headR y (ix2 r q) = y (ix3 (seq r) (step r) ⟨2112 + q.val, by omega⟩) * Ideal.ofBits FTy.f32 0x3EB504F3#32 := by pointwise [headR, seq, step]
theorem zR_at (y : FVec Ideal S4x4096x3144 .f32) (r : Fin 16384) (q : Fin 1024) :
    zR y (ix2 r q) = y (ix3 (seq r) (step r) ⟨2120 + q.val, by omega⟩) * sigm (y (ix3 (seq r) (step r) ⟨2120 + q.val, by omega⟩)) := by pointwise [zR, seq, step, sigm]
theorem quR_at (y : FVec Ideal S4x4096x3144 .f32) (r : Fin 16384) (h : Fin 16) (d : Fin 64) :
    quR y (ix3 r h d) = y (ix3 (seq r) (step r) ⟨h.val * 64 + d.val, by omega⟩) * Ideal.ofBits FTy.f32 0x3E38AA3B#32 := by pointwise [quR, seq, step]
theorem slotR_at (y : FVec Ideal S16384x16x128 .f32) (col : FVec Ideal S1x2048 .f32) (r : Fin 16384) (q : Fin 2048) :
    slotR y col (ix2 r q) = y (ix3 r ⟨q.val / 128, by omega⟩ ⟨q.val % 128, by omega⟩) + col (ix2 0 q) := by pointwise [slotR]

theorem wi_in (x : FVec Ideal S16384x8 .f32) (v : FVec Ideal S_ .f32) (k : Fin 16384) (d : Fin 8) :
    pad S16384x128 ![0, 0] ![0, 120] ![0, 0] x v pads_S16384x8_S16384x128_000_01200 h_S_ (ix2 k (⟨d.val, by omega⟩ : Fin 128)) = x (ix2 k d) := by
  pointwise
  try rfl
theorem wi_out (x : FVec Ideal S16384x8 .f32) (v : FVec Ideal S_ .f32) (k : Fin 16384) (d : Fin 128) (hd : ¬ d.val < 8) :
    pad S16384x128 ![0, 0] ![0, 120] ![0, 0] x v pads_S16384x8_S16384x128_000_01200 h_S_ (ix2 k d) = v (Shape.Idx.first h_S_) :=
  pad_apply_of_not_inside _ _ _ _ _ _ _ _ 1 (by
    show ¬ (0 ≤ d.val ∧ (d.val - 0) % 1 = 0 ∧ (d.val - 0) / 1 < 8)
    omega)
theorem wiR_at (y : FVec Ideal S4x4096x3144 .f32) (r : Fin 16384) (q : Fin 128) :
    wiR y (ix2 r q) = if h : q.val < 8 then y (ix3 (seq r) (step r) ⟨2112 + q.val, by omega⟩) * Ideal.ofBits FTy.f32 0x3EB504F3#32 else 0 := by
  by_cases h : q.val < 8
  · rw [dif_pos h]
    exact (wi_in _ _ r ⟨q.val, h⟩).trans (headR_at y r ⟨q.val, h⟩)
  · rw [dif_neg h]
    refine (wi_out _ _ r q h).trans ?_
    show ((((0#32 : BitVec 32).toInt : ℤ) : ℝ) : EReal) = 0
    simp
theorem pad_in (x : FVec Ideal S16384x16x64 .f32) (v : FVec Ideal S_ .f32) (k : Fin 16384) (h : Fin 16) (d : Fin 64) :
    pad S16384x16x128 ![0, 0, 0] ![0, 0, 64] ![0, 0, 0] x v pads_S16384x16x64_S16384x16x128_000_000_0640 h_S_ (ix3 k h (⟨d.val, by omega⟩ : Fin 128)) = x (ix3 k h d) := by
  pointwise
  try rfl
theorem pad_out (x : FVec Ideal S16384x16x64 .f32) (v : FVec Ideal S_ .f32) (k : Fin 16384) (h : Fin 16) (d : Fin 128) (hd : ¬ d.val < 64) :
    pad S16384x16x128 ![0, 0, 0] ![0, 0, 64] ![0, 0, 0] x v pads_S16384x16x64_S16384x16x128_000_000_0640 h_S_ (ix3 k h d) = v (Shape.Idx.first h_S_) :=
  pad_apply_of_not_inside _ _ _ _ _ _ _ _ 2 (by
    show ¬ (0 ≤ d.val ∧ (d.val - 0) % 1 = 0 ∧ (d.val - 0) / 1 < 64)
    omega)
theorem slots_at (y : FVec Ideal S4x4096x3144 .f32) (col : FVec Ideal S1x2048 .f32) (r : Fin 16384) (q : Fin 2048) :
    slotR (padR (quR y)) col (ix2 r q) = (if h : q.val % 128 < 64 then y (ix3 (seq r) (step r) ⟨q.val / 128 * 64 + q.val % 128, by omega⟩) * Ideal.ofBits FTy.f32 0x3E38AA3B#32 else 0) + col (ix2 0 q) := by
  refine (slotR_at _ _ r q).trans (congrArg (· + col (ix2 0 q)) ?_)
  by_cases h : q.val % 128 < 64
  · rw [dif_pos h]
    exact (pad_in _ _ r ⟨q.val / 128, by omega⟩ ⟨q.val % 128, h⟩).trans (quR_at y r ⟨q.val / 128, by omega⟩ ⟨q.val % 128, h⟩)
  · rw [dif_neg h]
    refine (pad_out _ _ r _ _ h).trans ?_
    show ((((0#32 : BitVec 32).toInt : ℤ) : ℝ) : EReal) = 0
    simp

end

open Cert.Kernel7Ideal in
/-- The reference's results are the kernel's, over the same arguments. -/
theorem ref_all (m : (ℓ : Loc nD τ sig) → Buf (Elt Ideal) ℓ) (c : Dev nD) (x : FVec Ideal S4x4096x1024 .f32) (w : FVec Ideal S1024x3144 .f32) (g b : FVec Ideal S64 .f32) (col : FVec Ideal S1x2048 .f32)
    (hx : x = m ((c.tc : Thread nD τ).loc main_arg0)) (hw : w = m ((c.tc : Thread nD τ).loc main_arg1)) (hg : g = m ((c.tc : Thread nD τ).loc main_arg2)) (hb : b = m ((c.tc : Thread nD τ).loc main_arg3)) (hc : col = m ((c.tc : Thread nD τ).loc main_arg4)) :
    kR (projR x w) = G13 m c ∧ vR (projR x w) = G14 m c
    ∧ transpose Cert.Reference7Ideal.S4x64x4096 [0, 2, 1] (keyR (projR x w) g b) Cert.Reference7Ideal.Gen.transposes_S4x4096x64_S4x64x4096_0_2_1 = G15 m c
    ∧ transpose Cert.Reference7Ideal.S4x8x64x512 [0, 1, 3, 2] (shapeCast Cert.Reference7Ideal.S4x8x512x64 (keyR (projR x w) g b) Cert.Reference7Ideal.Gen.shapeCasts_S4x4096x64_S4x8x512x64) Cert.Reference7Ideal.Gen.transposes_S4x8x512x64_S4x8x64x512_0_1_3_2 = G16 m c
    ∧ qiR (projR x w) = G17 m c ∧ wiR (projR x w) = G18 m c ∧ zR (projR x w) = G19 m c ∧ slotR (padR (quR (projR x w))) col = G20 m c := by
  subst hx hw hg hb hc
  refine ⟨funext fun i => ?_, funext fun i => ?_, funext fun i => ?_, funext fun i => ?_, funext fun i => ?_, funext fun i => ?_, funext fun i => ?_, funext fun i => ?_⟩
  · obtain ⟨b, j, l, rfl⟩ : ∃ (b : Fin 4) (j : Fin 256) (l : Fin 4096), i = ix3 b j l := ⟨i 0, i 1, i 2, by idx_vars i⟩
    exact (kR_at _ b j l).trans (projR_at _ _ _ _ _)
  · obtain ⟨b, j, l, rfl⟩ : ∃ (b : Fin 4) (j : Fin 256) (l : Fin 4096), i = ix3 b j l := ⟨i 0, i 1, i 2, by idx_vars i⟩
    exact (vR_at _ b j l).trans (projR_at _ _ _ _ _)
  · obtain ⟨b, j, l, rfl⟩ : ∃ (b : Fin 4) (j : Fin 64) (l : Fin 4096), i = ix3 b j l := ⟨i 0, i 1, i 2, by idx_vars i⟩
    refine (turn_at _ b j l).trans ((keyR_at _ _ _ b l j).trans ?_)
    simp only [projR_at]
    rfl
  · obtain ⟨b, n, j, l, rfl⟩ : ∃ (b : Fin 4) (n : Fin 8) (j : Fin 64) (l : Fin 512), i = ix4 b n j l := ⟨i 0, i 1, i 2, i 3, by idx_vars i⟩
    refine (tile_at _ b n j l).trans ((keyR_at _ _ _ b _ j).trans ?_)
    simp only [projR_at]
    rfl
  · obtain ⟨r, q, rfl⟩ : ∃ (r : Fin 16384) (q : Fin 512), i = ix2 r q := ⟨i 0, i 1, by idx_vars i⟩
    refine (qiR_at _ r q).trans ?_
    rw [projR_at]
    rfl
  · obtain ⟨r, q, rfl⟩ : ∃ (r : Fin 16384) (q : Fin 128), i = ix2 r q := ⟨i 0, i 1, by idx_vars i⟩
    refine (wiR_at _ r q).trans ?_
    simp only [projR_at]
    rfl
  · obtain ⟨r, q, rfl⟩ : ∃ (r : Fin 16384) (q : Fin 1024), i = ix2 r q := ⟨i 0, i 1, by idx_vars i⟩
    refine (zR_at _ r q).trans ?_
    rw [projR_at]
    rfl
  · obtain ⟨r, q, rfl⟩ : ∃ (r : Fin 16384) (q : Fin 2048), i = ix2 r q := ⟨i 0, i 1, by idx_vars i⟩
    refine (slots_at _ _ r q).trans ?_
    simp only [projR_at]
    rfl

theorem algebraic : Cert.algebraic_Kernel7Ideal_Reference7Ideal (hKernel7Ideal := Cert.Kernel7Ideal.Gen.facts) (hReference7Ideal := Cert.Reference7Ideal.Gen.facts) := by
  intro m g m' g' _ ha
  refine ⟨G13 m, G14 m, G15 m, G16 m, G17 m, G18 m, G19 m, G20 m, (θ_run Cert.Kernel7Ideal.defs _ _).mono (fun r h c => ?_) (Cert.Kernel7Ideal.Value.run_blocks m g), ?_⟩
  · obtain ⟨h0, h1, h2, h3, h4, h5, h6, h7, h8, h9, h10⟩ := h c
    exact ⟨h0.trans (final13 m c), h1.trans (final14 m c), h2.trans (final15 m c), h3.trans (final16 m c), h4.trans (final17 m c), h5.trans (final18 m c), h6.trans (final19 m c), h7.trans (final20 m c), h10⟩
  refine (θ_run Cert.Reference7Ideal.defs _ _).mono (fun r h c => ?_) (Cert.Reference7Ideal.Value.run m' g')
  obtain ⟨h0, h1, h2, h3, h4, h5, h6, h7, h8⟩ := h c
  obtain ⟨a0, a1, a2, a3, a4⟩ := ha c
  obtain ⟨e0, e1, e2, e3, e4, e5, e6, e7⟩ := ref_all m c _ _ _ _ _ a0 a1 a2 a3 a4
  exact ⟨h0.trans e0, h1.trans e1, h2.trans e2, h3.trans e3, h4.trans e4, h5.trans e5, h6.trans e6, h7.trans e7, h8⟩

end Cert.AtIn
-- ==== Proof.MbInPay.lean ====
module

public import proofs.«01_k».proof.Proof.NormSpec
public import proofs.«01_k».proof.Proof.Gen.Kernel8Ideal.Skeleton
public import Idealize.ShloMosaic.Lib.Pointwise

@[expose] public section

set_option maxRecDepth 16384

noncomputable section

namespace Cert.MbIn
open Idealize.ShloMosaic Idealize.ShloMosaic.TcCoe Idealize.SL.Sem
open Cert.Layer Cert.Kernel8Ideal Cert.Kernel8Ideal.Gen

/-- A number times the logistic function of it. -/
def act (z : EReal) : EReal := z * sigm z

/-- The softplus of a number. -/
def soft (z : EReal) : EReal := max z 0 + Ideal.log1p (Ideal.exp (-(FloatOps.absf (F := Ideal) (φ := .f32) z : EReal)))

/-- Four taps and a bias. -/
def taps (b w0 w1 w2 w3 h0 h1 h2 h3 : EReal) : EReal := b + w0 * h0 + w1 * h1 + w2 * h2 + w3 * h3

theorem conv_at (win : Vec Ideal S136x128 .f32) (b w0 w1 w2 w3 : Vec Ideal S1x128 .f32) (t d : Fin 128) :
    k0_pay14 win b w0 w1 w2 w3 (ix2 t d) = act (taps (b (ix2 0 d)) (w0 (ix2 0 d)) (w1 (ix2 0 d)) (w2 (ix2 0 d)) (w3 (ix2 0 d))
      (win (ix2 (⟨5 + t.val, by omega⟩ : Fin 136) d)) (win (ix2 (⟨6 + t.val, by omega⟩ : Fin 136) d)) (win (ix2 (⟨7 + t.val, by omega⟩ : Fin 136) d)) (win (ix2 (⟨8 + t.val, by omega⟩ : Fin 136) d))) := by
  pointwise [k0_pay14, act, sigm, taps]
  rw [zero_sub]

section
variable (x : Vec Ideal S512x1024 .f32) (s : Fin 512)

theorem z_at (w : Vec Ideal S1024x2048 .bf16) (j : Fin 2048) : k0_pay5 x w (ix2 s j) = ∑ k : Fin 1024, x (ix2 s k) * w (ix2 k j) := by pointwise [k0_pay5, k0_pay4]
theorem dt_at (w : Vec Ideal S1024x128 .bf16) (b : Vec Ideal S1x128 .f32) (j : Fin 128) :
    k0_pay9 (k0_pay7 x w b) (k0_pay8 x w b) (ix2 s j) = soft ((∑ k : Fin 1024, x (ix2 s k) * w (ix2 k j)) + b (ix2 0 j)) := by
  pointwise [k0_pay9, k0_pay8, k0_pay7, k0_pay6, k0_pay4, soft]
  rw [zero_sub]
variable (w : Vec Ideal S1024x1024 .bf16) (j : Fin 1024)
theorem p0_at : k0_pay10 (k0_pay4 x) w (ix2 s j) = ∑ k : Fin 1024, x (ix2 s k) * w (ix2 k j) := by pointwise [k0_pay10, k0_pay4]
theorem p1_at : k0_pay11 (k0_pay4 x) w (ix2 s j) = ∑ k : Fin 1024, x (ix2 s k) * w (ix2 k j) := by pointwise [k0_pay11, k0_pay4]
theorem p2_at : k0_pay12 (k0_pay4 x) w (ix2 s j) = ∑ k : Fin 1024, x (ix2 s k) * w (ix2 k j) := by pointwise [k0_pay12, k0_pay4]
theorem p3_at : k0_pay13 (k0_pay4 x) w (ix2 s j) = ∑ k : Fin 1024, x (ix2 s k) * w (ix2 k j) := by pointwise [k0_pay13, k0_pay4]
end

theorem head0_at (p : Fin 8) (j : Fin 4096) : k0_pay2 (F := Ideal) (ix2 p j) = (0 : EReal) := by pointwise [k0_pay2]
theorem head1_at (v : Vec Ideal S8x4096 .f32) (p : Fin 8) (j : Fin 4096) : k0_pay3 v (ix2 p j) = v (ix2 p j) := by pointwise [k0_pay3]
theorem last_at (v : Vec Ideal S3x4096 .f32) (p : Fin 3) (j : Fin 4096) : k0_pay1 v (ix3 0 p j) = v (ix2 p j) := by pointwise [k0_pay1]

end Cert.MbIn
-- ==== Proof.MbInTiles.lean ====
module

public import proofs.«01_k».proof.Proof.MbInPay
public import proofs.«01_k».proof.Proof.Gen.Kernel8Ideal.Value
public import Idealize.ShloMosaic.Lib.Pipeline.ValueKit
public import Idealize.ShloMosaic.Lib.WritesUnit

@[expose] public section

set_option maxRecDepth 16384

noncomputable section

namespace Cert.MbIn
open Idealize.ShloMosaic Idealize.ShloMosaic.TcCoe Idealize.SL.Sem
open Cert.Layer Cert.Kernel8Ideal Cert.Kernel8Ideal.Gen

/-- What the buffer of a tile's columns holds: eight rows `hd` from before the tile, then the tile's projection. -/
def scr (hd : Fin 8 → Fin 4096 → EReal) (x0 : Vec Ideal S512x1024 .f32) (x2 : Vec Ideal S1024x4096 .bf16) (y : S520x4096.Idx) : EReal :=
  if h : (y 0).val < 8 then hd ⟨(y 0).val, h⟩ ⟨(y 1).val, (y 1).isLt⟩
  else ∑ k : Fin 1024, x0 (ix2 (⟨(y 0).val - 8, by have : (y 0).val < 520 := (y 0).isLt; omega⟩ : Fin 512) k) * x2 (ix2 k (⟨(y 1).val, (y 1).isLt⟩ : Fin 4096))

theorem proj_piece (hd : Fin 8 → Fin 4096 → EReal) (x0 : Vec Ideal S512x1024 .f32) (x2 : Vec Ideal S1024x4096 .bf16) (co : ℕ) (io) (ib) (p : Vec Ideal S512x1024 .f32)
    (hp : ∀ s j : Fin 1024, ∀ s : Fin 512, p (ix2 s j) = ∑ k : Fin 1024, x0 (ix2 s k) * (View.ld x2 (Rect.unit (s := S1024x4096) ![0, co] ![1024, 1024] ib) (ix2 k j) : EReal)) (x : S512x1024.Idx) :
    p x = scr hd x0 x2 ((Rect.unit (s := S520x4096) ![8, co] ![512, 1024] io).emb x) := by
  obtain ⟨s, j, rfl⟩ : ∃ (s : Fin 512) (j : Fin 1024), x = ix2 s j := ⟨x 0, x 1, by idx_vars x⟩
  refine (hp 0 j s).trans ?_
  unfold scr
  refine Eq.trans ?_ (dif_neg (show ¬ (8 + 1 * s.val < 8) by omega)).symm
  refine Finset.sum_congr rfl fun k _ => congrArg₂ (· * ·) (congrArg x0 (funext (Fin.forall_fin_two.mpr ⟨Fin.ext ?_, rfl⟩))) (congrArg x2 (funext (Fin.forall_fin_two.mpr ⟨Fin.ext ?_, Fin.ext ?_⟩)))
  · show s.val = 8 + 1 * s.val - 8; omega
  · show 0 + 1 * k.val = k.val; omega
  · show co + 1 * j.val = co + 1 * j.val; rfl

theorem head_piece (hd : Fin 8 → Fin 4096 → EReal) (x0 : Vec Ideal S512x1024 .f32) (x2 : Vec Ideal S1024x4096 .bf16) (io) (p : Vec Ideal S8x4096 .f32) (hp : ∀ (r : Fin 8) (j : Fin 4096), p (ix2 r j) = hd r j) (x : S8x4096.Idx) :
    p x = scr hd x0 x2 ((Rect.unit (s := S520x4096) ![0, 0] ![8, 4096] io).emb x) := by
  obtain ⟨s, j, rfl⟩ : ∃ (s : Fin 8) (j : Fin 4096), x = ix2 s j := ⟨x 0, x 1, by idx_vars x⟩
  refine (hp s j).trans ?_
  unfold scr
  refine Eq.trans ?_ (dif_pos (show 0 + 1 * s.val < 8 by omega)).symm
  refine congrArg₂ hd (Fin.ext ?_) (Fin.ext ?_)
  · show s.val = 0 + 1 * s.val; omega
  · show j.val = 0 + 1 * j.val; omega

/-- The buffer after its five stores. -/
theorem scr_eq (hd : Fin 8 → Fin 4096 → EReal) (x0 : Vec Ideal S512x1024 .f32) (x2 : Vec Ideal S1024x4096 .bf16) (p : Vec Ideal S8x4096 .f32) (hp : ∀ (r : Fin 8) (j : Fin 4096), p (ix2 r j) = hd r j) (y : S520x4096.Idx) :
    View.canon (Val := Elt Ideal) (s := S520x4096) (e := .f32) [
      ⟨Rect.unit (s := S520x4096) ![8, 3072] ![512, 1024] inb_S520x4096_S512x1024_8_3072, k0_pay13 (k0_pay4 x0) (View.ld x2 (Rect.unit (s := S1024x4096) ![0, 3072] ![1024, 1024] inb_S1024x4096_S1024x1024_0_3072))⟩,
      ⟨Rect.unit (s := S520x4096) ![8, 2048] ![512, 1024] inb_S520x4096_S512x1024_8_2048, k0_pay12 (k0_pay4 x0) (View.ld x2 (Rect.unit (s := S1024x4096) ![0, 2048] ![1024, 1024] inb_S1024x4096_S1024x1024_0_2048))⟩,
      ⟨Rect.unit (s := S520x4096) ![8, 1024] ![512, 1024] inb_S520x4096_S512x1024_8_1024, k0_pay11 (k0_pay4 x0) (View.ld x2 (Rect.unit (s := S1024x4096) ![0, 1024] ![1024, 1024] inb_S1024x4096_S1024x1024_0_1024))⟩,
      ⟨Rect.unit (s := S520x4096) ![8, 0] ![512, 1024] inb_S520x4096_S512x1024_8_0, k0_pay10 (k0_pay4 x0) (View.ld x2 (Rect.unit (s := S1024x4096) ![0, 0] ![1024, 1024] inb_S1024x4096_S1024x1024_0_0))⟩,
      ⟨Rect.unit (s := S520x4096) ![0, 0] ![8, 4096] inb_S520x4096_S8x4096_0_0, p⟩] y = scr hd x0 x2 y := by
  refine View.canon_apply_of_pieces (Val := Elt Ideal) (S := S520x4096) (e := .f32) (scr hd x0 x2) _ ?_ _ ?_
  · refine List.forall_mem_cons.mpr ⟨fun x => proj_piece hd x0 x2 3072 inb_S520x4096_S512x1024_8_3072 inb_S1024x4096_S1024x1024_0_3072 _ (fun _ j s => p3_at x0 s _ j) x, ?_⟩
    refine List.forall_mem_cons.mpr ⟨fun x => proj_piece hd x0 x2 2048 inb_S520x4096_S512x1024_8_2048 inb_S1024x4096_S1024x1024_0_2048 _ (fun _ j s => p2_at x0 s _ j) x, ?_⟩
    refine List.forall_mem_cons.mpr ⟨fun x => proj_piece hd x0 x2 1024 inb_S520x4096_S512x1024_8_1024 inb_S1024x4096_S1024x1024_0_1024 _ (fun _ j s => p1_at x0 s _ j) x, ?_⟩
    refine List.forall_mem_cons.mpr ⟨fun x => proj_piece hd x0 x2 0 inb_S520x4096_S512x1024_8_0 inb_S1024x4096_S1024x1024_0_0 _ (fun _ j s => p0_at x0 s _ j) x, ?_⟩
    refine List.forall_mem_cons.mpr ⟨fun x => head_piece hd x0 x2 inb_S520x4096_S8x4096_0_0 _ hp x, ?_⟩
    exact fun _ h => absurd h List.not_mem_nil
  · exact View.cover_of_tiledBy _ ![8, 1024] (by sl_kernel_rfl) y

/-- The activated convolution of the buffer, at a place of the tile. -/
def convG (H : S520x4096.Idx → EReal) (x5 : Vec Ideal S4x4096 .f32) (x6 : Vec Ideal S1x4096 .f32) (y : S512x4096.Idx) : EReal :=
  have h : (y 0).val < 512 := (y 0).isLt
  act (taps (x6 (ix2 0 (y 1 : Fin 4096))) (x5 (ix2 0 (y 1 : Fin 4096))) (x5 (ix2 1 (y 1 : Fin 4096))) (x5 (ix2 2 (y 1 : Fin 4096))) (x5 (ix2 3 (y 1 : Fin 4096)))
    (H (ix2 (⟨5 + (y 0).val, by omega⟩ : Fin 520) (y 1 : Fin 4096))) (H (ix2 (⟨6 + (y 0).val, by omega⟩ : Fin 520) (y 1 : Fin 4096)))
    (H (ix2 (⟨7 + (y 0).val, by omega⟩ : Fin 520) (y 1 : Fin 4096))) (H (ix2 (⟨8 + (y 0).val, by omega⟩ : Fin 520) (y 1 : Fin 4096))))

theorem win_load {κ : Kind} {sp : Space} (v : View sig κ sp S520x4096 .f32) (L : List (View.Piece (Elt Ideal) S520x4096 .f32)) (H : S520x4096.Idx → EReal) (hL : ∀ y, View.canon L y = H y)
    (ro co : ℕ) (iw) (p : Fin 136) (d : Fin 128) (z : S520x4096.Idx) (h0 : (z 0).val = ro + p.val) (h1 : (z 1).val = co + d.val) :
    v.readCov L (Rect.unit (s := S520x4096) ![ro, co] ![136, 128] iw).toLoadRect (ix2 p d) = H z := by
  rw [View.readCov_eq_canon']
  refine (hL _).trans (congrArg H (funext (Fin.forall_fin_two.mpr ⟨Fin.ext ?_, Fin.ext ?_⟩)))
  · show ro + 1 * p.val = (z 0).val; omega
  · show co + 1 * d.val = (z 1).val; omega

theorem w_load (x5 : Vec Ideal S4x4096 .f32) (ro co : ℕ) (ib) (d : Fin 128) (r : Fin 4) (j : Fin 4096) (h0 : ro = r.val) (h1 : j.val = co + 1 * d.val) :
    View.ld x5 (Rect.unit (s := S4x4096) ![ro, co] ![1, 128] ib) (ix2 0 d) = x5 (ix2 r j) := by
  refine congrArg x5 (funext (Fin.forall_fin_two.mpr ⟨Fin.ext ?_, Fin.ext ?_⟩))
  · show ro + 1 * 0 = r.val; omega
  · show co + 1 * d.val = j.val; omega
theorem b_load (x6 : Vec Ideal S1x4096 .f32) (co : ℕ) (ib) (d : Fin 128) (j : Fin 4096) (h1 : j.val = co + 1 * d.val) :
    View.ld x6 (Rect.unit (s := S1x4096) ![0, co] ![1, 128] ib) (ix2 0 d) = x6 (ix2 0 j) := by
  refine congrArg x6 (funext (Fin.forall_fin_two.mpr ⟨Fin.ext ?_, Fin.ext ?_⟩))
  · show 0 + 1 * 0 = 0; omega
  · show co + 1 * d.val = j.val; omega

/-- One piece of 128 rows and 128 columns. -/
theorem piece {κ : Kind} {sp : Space} (v : View sig κ sp S520x4096 .f32) (L : List (View.Piece (Elt Ideal) S520x4096 .f32)) (H : S520x4096.Idx → EReal) (hL : ∀ y, View.canon L y = H y)
    (x5 : Vec Ideal S4x4096 .f32) (x6 : Vec Ideal S1x4096 .f32) (ro co : ℕ) (iw) (ib) (i0) (i1) (i2) (i3) (io) (x : S128x128.Idx) :
    k0_pay14 (v.readCov L (Rect.unit (s := S520x4096) ![ro, co] ![136, 128] iw).toLoadRect) (View.ld x6 (Rect.unit (s := S1x4096) ![0, co] ![1, 128] ib))
        (View.ld x5 (Rect.unit (s := S4x4096) ![0, co] ![1, 128] i0)) (View.ld x5 (Rect.unit (s := S4x4096) ![1, co] ![1, 128] i1))
        (View.ld x5 (Rect.unit (s := S4x4096) ![2, co] ![1, 128] i2)) (View.ld x5 (Rect.unit (s := S4x4096) ![3, co] ![1, 128] i3)) x
      = convG H x5 x6 ((Rect.unit (s := S512x4096) ![ro, co] ![128, 128] io).emb x) := by
  obtain ⟨t, d, rfl⟩ : ∃ (t : Fin 128) (d : Fin 128), x = ix2 t d := ⟨x 0, x 1, by idx_vars x⟩
  refine (conv_at _ _ _ _ _ _ t d).trans ?_
  unfold convG
  have e : (((Rect.unit (s := S512x4096) ![ro, co] ![128, 128] io).emb (ix2 t d : S128x128.Idx) 1 : Fin 4096)).val = co + 1 * d.val := rfl
  have e0 : (((Rect.unit (s := S512x4096) ![ro, co] ![128, 128] io).emb (ix2 t d : S128x128.Idx) 0 : Fin 512)).val = ro + 1 * t.val := rfl
  rw [b_load x6 co ib d _ e, w_load x5 0 co i0 d 0 _ rfl e, w_load x5 1 co i1 d 1 _ rfl e, w_load x5 2 co i2 d 2 _ rfl e, w_load x5 3 co i3 d 3 _ rfl e]
  refine congrArg act ?_
  unfold taps
  refine congrArg₂ (· + ·) (congrArg₂ (· + ·) (congrArg₂ (· + ·) (congrArg₂ (· + ·) rfl (congrArg (_ * ·) ?_)) (congrArg (_ * ·) ?_)) (congrArg (_ * ·) ?_)) (congrArg (_ * ·) ?_)
  · exact win_load v L H hL ro co iw _ d _ (show 5 + (ro + 1 * t.val) = ro + (5 + t.val) by omega) (show co + 1 * d.val = co + d.val by omega)
  · exact win_load v L H hL ro co iw _ d _ (show 6 + (ro + 1 * t.val) = ro + (6 + t.val) by omega) (show co + 1 * d.val = co + d.val by omega)
  · exact win_load v L H hL ro co iw _ d _ (show 7 + (ro + 1 * t.val) = ro + (7 + t.val) by omega) (show co + 1 * d.val = co + d.val by omega)
  · exact win_load v L H hL ro co iw _ d _ (show 8 + (ro + 1 * t.val) = ro + (8 + t.val) by omega) (show co + 1 * d.val = co + d.val by omega)

end Cert.MbIn
-- ==== Proof.MbInFirst.lean ====
module

public import proofs.«01_k».proof.Proof.MbInTiles
public import proofs.«01_k».proof.Proof.Gen.Kernel8Ideal.Value
public import Idealize.ShloMosaic.Lib.Pipeline.ValueKit
public import Idealize.ShloMosaic.Lib.WritesUnit

@[expose] public section

set_option maxRecDepth 16384

noncomputable section

namespace Cert.MbIn
open Idealize.ShloMosaic Idealize.ShloMosaic.TcCoe Idealize.SL.Sem
open Cert.Layer Cert.Kernel8Ideal Cert.Kernel8Ideal.Gen

/-- The eight rows before a sequence: zero. -/
def zeroHd (_ : Fin 8) (_ : Fin 4096) : EReal := 0

theorem hd_zero (r : Fin 8) (j : Fin 4096) : k0_pay2 (F := Ideal) (ix2 r j) = zeroHd r j := head0_at r j

theorem scr_A (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : cond0_0 i) (hc1 : ¬cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (y : S520x4096.Idx) :
    sout0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 y = scr zeroHd x0 x2 y := by
  frame_open
  frame_out
  exact scr_eq zeroHd x0 x2 _ hd_zero y

theorem z_A (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : cond0_0 i) (hc1 : ¬cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (s : Fin 512) (j : Fin 2048) :
    out0_A_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 s j) = ∑ k : Fin 1024, x0 (ix2 s k) * x1 (ix2 k j) := by
  frame_open
  frame_out
  exact z_at x0 s x1 j

theorem dt_A (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : cond0_0 i) (hc1 : ¬cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (s : Fin 512) (j : Fin 128) :
    out0_A_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 (ix2 s j) = soft ((∑ k : Fin 1024, x0 (ix2 s k) * x3 (ix2 k j)) + x4 (ix2 0 j)) := by
  frame_open
  frame_out
  exact dt_at x0 s x3 x4 j

theorem xbc_A (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : cond0_0 i) (hc1 : ¬cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (y : S512x4096.Idx) :
    out0_A_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 y = convG (scr zeroHd x0 x2) x5 x6 y := by
  frame_open
  frame_out
  have hL := fun y => scr_eq zeroHd x0 x2 _ hd_zero y
  refine View.canon_apply_of_pieces (Val := Elt Ideal) (S := S512x4096) (e := .f32) (convG (scr zeroHd x0 x2) x5 x6) _ ?_ _ (View.cover_of_tiledL _ ![128, 128] (by sl_kernel_rfl) y)
  refine List.forall_mem_cons.mpr ⟨fun x => piece arg12.view _ _ hL x5 x6 384 3968 inb_S520x4096_S136x128_384_3968 inb_S1x4096_S1x128_0_3968 inb_S4x4096_S1x128_0_3968 inb_S4x4096_S1x128_1_3968 inb_S4x4096_S1x128_2_3968 inb_S4x4096_S1x128_3_3968 inb_S512x4096_S128x128_384_3968 x, ?_⟩
  refine List.forall_mem_cons.mpr ⟨fun x => piece arg12.view _ _ hL x5 x6 384 3840 inb_S520x4096_S136x128_384_3840 inb_S1x4096_S1x128_0_3840 inb_S4x4096_S1x128_0_3840 inb_S4x4096_S1x128_1_3840 inb_S4x4096_S1x128_2_3840 inb_S4x4096_S1x128_3_3840 inb_S512x4096_S128x128_384_3840 x, ?_⟩
  refine List.forall_mem_cons.mpr ⟨fun x => piece arg12.view _ _ hL x5 x6 384 3712 inb_S520x4096_S136x128_384_3712 inb_S1x4096_S1x128_0_3712 inb_S4x4096_S1x128_0_3712 inb_S4x4096_S1x128_1_3712 inb_S4x4096_S1x128_2_3712 inb_S4x4096_S1x128_3_3712 inb_S512x4096_S128x128_384_3712 x, ?_⟩
  refine List.forall_mem_cons.mpr ⟨fun x => piece arg12.view _ _ hL x5 x6 384 3584 inb_S520x4096_S136x128_384_3584 inb_S1x4096_S1x128_0_3584 inb_S4x4096_S1x128_0_3584 inb_S4x4096_S1x128_1_3584 inb_S4x4096_S1x128_2_3584 inb_S4x4096_S1x128_3_3584 inb_S512x4096_S128x128_384_3584 x, ?_⟩
  refine List.forall_mem_cons.mpr ⟨fun x => piece arg12.view _ _ hL x5 x6 384 3456 inb_S520x4096_S136x128_384_3456 inb_S1x4096_S1x128_0_3456 inb_S4x4096_S1x128_0_3456 inb_S4x4096_S1x128_1_3456 inb_S4x4096_S1x128_2_3456 inb_S4x4096_S1x128_3_3456 inb_S512x4096_S128x128_384_3456 x, ?_⟩
  refine List.forall_mem_cons.mpr ⟨fun x => piece arg12.view _ _ hL x5 x6 384 3328 inb_S520x4096_S136x128_384_3328 inb_S1x4096_S1x128_0_3328 inb_S4x4096_S1x128_0_3328 inb_S4x4096_S1x128_1_3328 inb_S4x4096_S1x128_2_3328 inb_S4x4096_S1x128_3_3328 inb_S512x4096_S128x128_384_3328 x, ?_⟩
  refine List.forall_mem_cons.mpr ⟨fun x => piece arg12.view _ _ hL x5 x6 384 3200 inb_S520x4096_S136x128_384_3200 inb_S1x4096_S1x128_0_3200 inb_S4x4096_S1x128_0_3200 inb_S4x4096_S1x128_1_3200 inb_S4x4096_S1x128_2_3200 inb_S4x4096_S1x128_3_3200 inb_S512x4096_S128x128_384_3200 x, ?_⟩
  refine List.forall_mem_cons.mpr ⟨fun x => piece arg12.view _ _ hL x5 x6 384 3072 inb_S520x4096_S136x128_384_3072 inb_S1x4096_S1x128_0_3072 inb_S4x4096_S1x128_0_3072 inb_S4x4096_S1x128_1_3072 inb_S4x4096_S1x128_2_3072 inb_S4x4096_S1x128_3_3072 inb_S512x4096_S128x128_384_3072 x, ?_⟩
  refine List.forall_mem_cons.mpr ⟨fun x => piece arg12.view _ _ hL x5 x6 384 2944 inb_S520x4096_S136x128_384_2944 inb_S1x4096_S1x128_0_2944 inb_S4x4096_S1x128_0_2944 inb_S4x4096_S1x128_1_2944 inb_S4x4096_S1x128_2_2944 inb_S4x4096_S1x128_3_2944 inb_S512x4096_S128x128_384_2944 x, ?_⟩
  refine List.forall_mem_cons.mpr ⟨fun x => piece arg12.view _ _ hL x5 x6 384 2816 inb_S520x4096_S136x128_384_2816 inb_S1x4096_S1x128_0_2816 inb_S4x4096_S1x128_0_2816 inb_S4x4096_S1x128_1_2816 inb_S4x4096_S1x128_2_2816 inb_S4x4096_S1x128_3_2816 inb_S512x4096_S128x128_384_2816 x, ?_⟩
  refine List.forall_mem_cons.mpr ⟨fun x => piece arg12.view _ _ hL x5 x6 384 2688 inb_S520x4096_S136x128_384_2688 inb_S1x4096_S1x128_0_2688 inb_S4x4096_S1x128_0_2688 inb_S4x4096_S1x128_1_2688 inb_S4x4096_S1x128_2_2688 inb_S4x4096_S1x128_3_2688 inb_S512x4096_S128x128_384_2688 x, ?_⟩
  refine List.forall_mem_cons.mpr ⟨fun x => piece arg12.view _ _ hL x5 x6 384 2560 inb_S520x4096_S136x128_384_2560 inb_S1x4096_S1x128_0_2560 inb_S4x4096_S1x128_0_2560 inb_S4x4096_S1x128_1_2560 inb_S4x4096_S1x128_2_2560 inb_S4x4096_S1x128_3_2560 inb_S512x4096_S128x128_384_2560 x, ?_⟩
  refine List.forall_mem_cons.mpr ⟨fun x => piece arg12.view _ _ hL x5 x6 384 2432 inb_S520x4096_S136x128_384_2432 inb_S1x4096_S1x128_0_2432 inb_S4x4096_S1x128_0_2432 inb_S4x4096_S1x128_1_2432 inb_S4x4096_S1x128_2_2432 inb_S4x4096_S1x128_3_2432 inb_S512x4096_S128x128_384_2432 x, ?_⟩
  refine List.forall_mem_cons.mpr ⟨fun x => piece arg12.view _ _ hL x5 x6 384 2304 inb_S520x4096_S136x128_384_2304 inb_S1x4096_S1x128_0_2304 inb_S4x4096_S1x128_0_2304 inb_S4x4096_S1x128_1_2304 inb_S4x4096_S1x128_2_2304 inb_S4x4096_S1x128_3_2304 inb_S512x4096_S128x128_384_2304 x, ?_⟩
  refine List.forall_mem_cons.mpr ⟨fun x => piece arg12.view _ _ hL x5 x6 384 2176 inb_S520x4096_S136x128_384_2176 inb_S1x4096_S1x128_0_2176 inb_S4x4096_S1x128_0_2176 inb_S4x4096_S1x128_1_2176 inb_S4x4096_S1x128_2_2176 inb_S4x4096_S1x128_3_2176 inb_S512x4096_S128x128_384_2176 x, ?_⟩
  refine List.forall_mem_cons.mpr ⟨fun x => piece arg12.view _ _ hL x5 x6 384 2048 inb_S520x4096_S136x128_384_2048 inb_S1x4096_S1x128_0_2048 inb_S4x4096_S1x128_0_2048 inb_S4x4096_S1x128_1_2048 inb_S4x4096_S1x128_2_2048 inb_S4x4096_S1x128_3_2048 inb_S512x4096_S128x128_384_2048 x, ?_⟩
  refine List.forall_mem_cons.mpr ⟨fun x => piece arg12.view _ _ hL x5 x6 384 1920 inb_S520x4096_S136x128_384_1920 inb_S1x4096_S1x128_0_1920 inb_S4x4096_S1x128_0_1920 inb_S4x4096_S1x128_1_1920 inb_S4x4096_S1x128_2_1920 inb_S4x4096_S1x128_3_1920 inb_S512x4096_S128x128_384_1920 x, ?_⟩
  refine List.forall_mem_cons.mpr ⟨fun x => piece arg12.view _ _ hL x5 x6 384 1792 inb_S520x4096_S136x128_384_1792 inb_S1x4096_S1x128_0_1792 inb_S4x4096_S1x128_0_1792 inb_S4x4096_S1x128_1_1792 inb_S4x4096_S1x128_2_1792 inb_S4x4096_S1x128_3_1792 inb_S512x4096_S128x128_384_1792 x, ?_⟩
  refine List.forall_mem_cons.mpr ⟨fun x => piece arg12.view _ _ hL x5 x6 384 1664 inb_S520x4096_S136x128_384_1664 inb_S1x4096_S1x128_0_1664 inb_S4x4096_S1x128_0_1664 inb_S4x4096_S1x128_1_1664 inb_S4x4096_S1x128_2_1664 inb_S4x4096_S1x128_3_1664 inb_S512x4096_S128x128_384_1664 x, ?_⟩
  refine List.forall_mem_cons.mpr ⟨fun x => piece arg12.view _ _ hL x5 x6 384 1536 inb_S520x4096_S136x128_384_1536 inb_S1x4096_S1x128_0_1536 inb_S4x4096_S1x128_0_1536 inb_S4x4096_S1x128_1_1536 inb_S4x4096_S1x128_2_1536 inb_S4x4096_S1x128_3_1536 inb_S512x4096_S128x128_384_1536 x, ?_⟩
  refine List.forall_mem_cons.mpr ⟨fun x => piece arg12.view _ _ hL x5 x6 384 1408 inb_S520x4096_S136x128_384_1408 inb_S1x4096_S1x128_0_1408 inb_S4x4096_S1x128_0_1408 inb_S4x4096_S1x128_1_1408 inb_S4x4096_S1x128_2_1408 inb_S4x4096_S1x128_3_1408 inb_S512x4096_S128x128_384_1408 x, ?_⟩
  refine List.forall_mem_cons.mpr ⟨fun x => piece arg12.view _ _ hL x5 x6 384 1280 inb_S520x4096_S136x128_384_1280 inb_S1x4096_S1x128_0_1280 inb_S4x4096_S1x128_0_1280 inb_S4x4096_S1x128_1_1280 inb_S4x4096_S1x128_2_1280 inb_S4x4096_S1x128_3_1280 inb_S512x4096_S128x128_384_1280 x, ?_⟩
  refine List.forall_mem_cons.mpr ⟨fun x => piece arg12.view _ _ hL x5 x6 384 1152 inb_S520x4096_S136x128_384_1152 inb_S1x4096_S1x128_0_1152 inb_S4x4096_S1x128_0_1152 inb_S4x4096_S1x128_1_1152 inb_S4x4096_S1x128_2_1152 inb_S4x4096_S1x128_3_1152 inb_S512x4096_S128x128_384_1152 x, ?_⟩
  refine List.forall_mem_cons.mpr ⟨fun x => piece arg12.view _ _ hL x5 x6 384 1024 inb_S520x4096_S136x128_384_1024 inb_S1x4096_S1x128_0_1024 inb_S4x4096_S1x128_0_1024 inb_S4x4096_S1x128_1_1024 inb_S4x4096_S1x128_2_1024 inb_S4x4096_S1x128_3_1024 inb_S512x4096_S128x128_384_1024 x, ?_⟩
  refine List.forall_mem_cons.mpr ⟨fun x => piece arg12.view _ _ hL x5 x6 384 896 inb_S520x4096_S136x128_384_896 inb_S1x4096_S1x128_0_896 inb_S4x4096_S1x128_0_896 inb_S4x4096_S1x128_1_896 inb_S4x4096_S1x128_2_896 inb_S4x4096_S1x128_3_896 inb_S512x4096_S128x128_384_896 x, ?_⟩
  refine List.forall_mem_cons.mpr ⟨fun x => piece arg12.view _ _ hL x5 x6 384 768 inb_S520x4096_S136x128_384_768 inb_S1x4096_S1x128_0_768 inb_S4x4096_S1x128_0_768 inb_S4x4096_S1x128_1_768 inb_S4x4096_S1x128_2_768 inb_S4x4096_S1x128_3_768 inb_S512x4096_S128x128_384_768 x, ?_⟩
  refine List.forall_mem_cons.mpr ⟨fun x => piece arg12.view _ _ hL x5 x6 384 640 inb_S520x4096_S136x128_384_640 inb_S1x4096_S1x128_0_640 inb_S4x4096_S1x128_0_640 inb_S4x4096_S1x128_1_640 inb_S4x4096_S1x128_2_640 inb_S4x4096_S1x128_3_640 inb_S512x4096_S128x128_384_640 x, ?_⟩
  refine List.forall_mem_cons.mpr ⟨fun x => piece arg12.view _ _ hL x5 x6 384 512 inb_S520x4096_S136x128_384_512 inb_S1x4096_S1x128_0_512 inb_S4x4096_S1x128_0_512 inb_S4x4096_S1x128_1_512 inb_S4x4096_S1x128_2_512 inb_S4x4096_S1x128_3_512 inb_S512x4096_S128x128_384_512 x, ?_⟩
  refine List.forall_mem_cons.mpr ⟨fun x => piece arg12.view _ _ hL x5 x6 384 384 inb_S520x4096_S136x128_384_384 inb_S1x4096_S1x128_0_384 inb_S4x4096_S1x128_0_384 inb_S4x4096_S1x128_1_384 inb_S4x4096_S1x128_2_384 inb_S4x4096_S1x128_3_384 inb_S512x4096_S128x128_384_384 x, ?_⟩
  refine List.forall_mem_cons.mpr ⟨fun x => piece arg12.view _ _ hL x5 x6 384 256 inb_S520x4096_S136x128_384_256 inb_S1x4096_S1x128_0_256 inb_S4x4096_S1x128_0_256 inb_S4x4096_S1x128_1_256 inb_S4x4096_S1x128_2_256 inb_S4x4096_S1x128_3_256 inb_S512x4096_S128x128_384_256 x, ?_⟩
  refine List.forall_mem_cons.mpr ⟨fun x => piece arg12.view _ _ hL x5 x6 384 128 inb_S520x4096_S136x128_384_128 inb_S1x4096_S1x128_0_128 inb_S4x4096_S1x128_0_128 inb_S4x4096_S1x128_1_128 inb_S4x4096_S1x128_2_128 inb_S4x4096_S1x128_3_128 inb_S512x4096_S128x128_384_128 x, ?_⟩
  refine List.forall_mem_cons.mpr ⟨fun x => piece arg12.view _ _ hL x5 x6 384 0 inb_S520x4096_S136x128_384_0 inb_S1x4096_S1x128_0_0 inb_S4x4096_S1x128_0_0 inb_S4x4096_S1x128_1_0 inb_S4x4096_S1x128_2_0 inb_S4x4096_S1x128_3_0 inb_S512x4096_S128x128_384_0 x, ?_⟩
  refine List.forall_mem_cons.mpr ⟨fun x => piece arg12.view _ _ hL x5 x6 256 3968 inb_S520x4096_S136x128_256_3968 inb_S1x4096_S1x128_0_3968 inb_S4x4096_S1x128_0_3968 inb_S4x4096_S1x128_1_3968 inb_S4x4096_S1x128_2_3968 inb_S4x4096_S1x128_3_3968 inb_S512x4096_S128x128_256_3968 x, ?_⟩
  refine List.forall_mem_cons.mpr ⟨fun x => piece arg12.view _ _ hL x5 x6 256 3840 inb_S520x4096_S136x128_256_3840 inb_S1x4096_S1x128_0_3840 inb_S4x4096_S1x128_0_3840 inb_S4x4096_S1x128_1_3840 inb_S4x4096_S1x128_2_3840 inb_S4x4096_S1x128_3_3840 inb_S512x4096_S128x128_256_3840 x, ?_⟩
  refine List.forall_mem_cons.mpr ⟨fun x => piece arg12.view _ _ hL x5 x6 256 3712 inb_S520x4096_S136x128_256_3712 inb_S1x4096_S1x128_0_3712 inb_S4x4096_S1x128_0_3712 inb_S4x4096_S1x128_1_3712 inb_S4x4096_S1x128_2_3712 inb_S4x4096_S1x128_3_3712 inb_S512x4096_S128x128_256_3712 x, ?_⟩
  refine List.forall_mem_cons.mpr ⟨fun x => piece arg12.view _ _ hL x5 x6 256 3584 inb_S520x4096_S136x128_256_3584 inb_S1x4096_S1x128_0_3584 inb_S4x4096_S1x128_0_3584 inb_S4x4096_S1x128_1_3584 inb_S4x4096_S1x128_2_3584 inb_S4x4096_S1x128_3_3584 inb_S512x4096_S128x128_256_3584 x, ?_⟩
  refine List.forall_mem_cons.mpr ⟨fun x => piece arg12.view _ _ hL x5 x6 256 3456 inb_S520x4096_S136x128_256_3456 inb_S1x4096_S1x128_0_3456 inb_S4x4096_S1x128_0_3456 inb_S4x4096_S1x128_1_3456 inb_S4x4096_S1x128_2_3456 inb_S4x4096_S1x128_3_3456 inb_S512x4096_S128x128_256_3456 x, ?_⟩
  refine List.forall_mem_cons.mpr ⟨fun x => piece arg12.view _ _ hL x5 x6 256 3328 inb_S520x4096_S136x128_256_3328 inb_S1x4096_S1x128_0_3328 inb_S4x4096_S1x128_0_3328 inb_S4x4096_S1x128_1_3328 inb_S4x4096_S1x128_2_3328 inb_S4x4096_S1x128_3_3328 inb_S512x4096_S128x128_256_3328 x, ?_⟩
  refine List.forall_mem_cons.mpr ⟨fun x => piece arg12.view _ _ hL x5 x6 256 3200 inb_S520x4096_S136x128_256_3200 inb_S1x4096_S1x128_0_3200 inb_S4x4096_S1x128_0_3200 inb_S4x4096_S1x128_1_3200 inb_S4x4096_S1x128_2_3200 inb_S4x4096_S1x128_3_3200 inb_S512x4096_S128x128_256_3200 x, ?_⟩
  refine List.forall_mem_cons.mpr ⟨fun x => piece arg12.view _ _ hL x5 x6 256 3072 inb_S520x4096_S136x128_256_3072 inb_S1x4096_S1x128_0_3072 inb_S4x4096_S1x128_0_3072 inb_S4x4096_S1x128_1_3072 inb_S4x4096_S1x128_2_3072 inb_S4x4096_S1x128_3_3072 inb_S512x4096_S128x128_256_3072 x, ?_⟩
  refine List.forall_mem_cons.mpr ⟨fun x => piece arg12.view _ _ hL x5 x6 256 2944 inb_S520x4096_S136x128_256_2944 inb_S1x4096_S1x128_0_2944 inb_S4x4096_S1x128_0_2944 inb_S4x4096_S1x128_1_2944 inb_S4x4096_S1x128_2_2944 inb_S4x4096_S1x128_3_2944 inb_S512x4096_S128x128_256_2944 x, ?_⟩
  refine List.forall_mem_cons.mpr ⟨fun x => piece arg12.view _ _ hL x5 x6 256 2816 inb_S520x4096_S136x128_256_2816 inb_S1x4096_S1x128_0_2816 inb_S4x4096_S1x128_0_2816 inb_S4x4096_S1x128_1_2816 inb_S4x4096_S1x128_2_2816 inb_S4x4096_S1x128_3_2816 inb_S512x4096_S128x128_256_2816 x, ?_⟩
  refine List.forall_mem_cons.mpr ⟨fun x => piece arg12.view _ _ hL x5 x6 256 2688 inb_S520x4096_S136x128_256_2688 inb_S1x4096_S1x128_0_2688 inb_S4x4096_S1x128_0_2688 inb_S4x4096_S1x128_1_2688 inb_S4x4096_S1x128_2_2688 inb_S4x4096_S1x128_3_2688 inb_S512x4096_S128x128_256_2688 x, ?_⟩
  refine List.forall_mem_cons.mpr ⟨fun x => piece arg12.view _ _ hL x5 x6 256 2560 inb_S520x4096_S136x128_256_2560 inb_S1x4096_S1x128_0_2560 inb_S4x4096_S1x128_0_2560 inb_S4x4096_S1x128_1_2560 inb_S4x4096_S1x128_2_2560 inb_S4x4096_S1x128_3_2560 inb_S512x4096_S128x128_256_2560 x, ?_⟩
  refine List.forall_mem_cons.mpr ⟨fun x => piece arg12.view _ _ hL x5 x6 256 2432 inb_S520x4096_S136x128_256_2432 inb_S1x4096_S1x128_0_2432 inb_S4x4096_S1x128_0_2432 inb_S4x4096_S1x128_1_2432 inb_S4x4096_S1x128_2_2432 inb_S4x4096_S1x128_3_2432 inb_S512x4096_S128x128_256_2432 x, ?_⟩
  refine List.forall_mem_cons.mpr ⟨fun x => piece arg12.view _ _ hL x5 x6 256 2304 inb_S520x4096_S136x128_256_2304 inb_S1x4096_S1x128_0_2304 inb_S4x4096_S1x128_0_2304 inb_S4x4096_S1x128_1_2304 inb_S4x4096_S1x128_2_2304 inb_S4x4096_S1x128_3_2304 inb_S512x4096_S128x128_256_2304 x, ?_⟩
  refine List.forall_mem_cons.mpr ⟨fun x => piece arg12.view _ _ hL x5 x6 256 2176 inb_S520x4096_S136x128_256_2176 inb_S1x4096_S1x128_0_2176 inb_S4x4096_S1x128_0_2176 inb_S4x4096_S1x128_1_2176 inb_S4x4096_S1x128_2_2176 inb_S4x4096_S1x128_3_2176 inb_S512x4096_S128x128_256_2176 x, ?_⟩
  refine List.forall_mem_cons.mpr ⟨fun x => piece arg12.view _ _ hL x5 x6 256 2048 inb_S520x4096_S136x128_256_2048 inb_S1x4096_S1x128_0_2048 inb_S4x4096_S1x128_0_2048 inb_S4x4096_S1x128_1_2048 inb_S4x4096_S1x128_2_2048 inb_S4x4096_S1x128_3_2048 inb_S512x4096_S128x128_256_2048 x, ?_⟩
  refine List.forall_mem_cons.mpr ⟨fun x => piece arg12.view _ _ hL x5 x6 256 1920 inb_S520x4096_S136x128_256_1920 inb_S1x4096_S1x128_0_1920 inb_S4x4096_S1x128_0_1920 inb_S4x4096_S1x128_1_1920 inb_S4x4096_S1x128_2_1920 inb_S4x4096_S1x128_3_1920 inb_S512x4096_S128x128_256_1920 x, ?_⟩
  refine List.forall_mem_cons.mpr ⟨fun x => piece arg12.view _ _ hL x5 x6 256 1792 inb_S520x4096_S136x128_256_1792 inb_S1x4096_S1x128_0_1792 inb_S4x4096_S1x128_0_1792 inb_S4x4096_S1x128_1_1792 inb_S4x4096_S1x128_2_1792 inb_S4x4096_S1x128_3_1792 inb_S512x4096_S128x128_256_1792 x, ?_⟩
  refine List.forall_mem_cons.mpr ⟨fun x => piece arg12.view _ _ hL x5 x6 256 1664 inb_S520x4096_S136x128_256_1664 inb_S1x4096_S1x128_0_1664 inb_S4x4096_S1x128_0_1664 inb_S4x4096_S1x128_1_1664 inb_S4x4096_S1x128_2_1664 inb_S4x4096_S1x128_3_1664 inb_S512x4096_S128x128_256_1664 x, ?_⟩
  refine List.forall_mem_cons.mpr ⟨fun x => piece arg12.view _ _ hL x5 x6 256 1536 inb_S520x4096_S136x128_256_1536 inb_S1x4096_S1x128_0_1536 inb_S4x4096_S1x128_0_1536 inb_S4x4096_S1x128_1_1536 inb_S4x4096_S1x128_2_1536 inb_S4x4096_S1x128_3_1536 inb_S512x4096_S128x128_256_1536 x, ?_⟩
  refine List.forall_mem_cons.mpr ⟨fun x => piece arg12.view _ _ hL x5 x6 256 1408 inb_S520x4096_S136x128_256_1408 inb_S1x4096_S1x128_0_1408 inb_S4x4096_S1x128_0_1408 inb_S4x4096_S1x128_1_1408 inb_S4x4096_S1x128_2_1408 inb_S4x4096_S1x128_3_1408 inb_S512x4096_S128x128_256_1408 x, ?_⟩
  refine List.forall_mem_cons.mpr ⟨fun x => piece arg12.view _ _ hL x5 x6 256 1280 inb_S520x4096_S136x128_256_1280 inb_S1x4096_S1x128_0_1280 inb_S4x4096_S1x128_0_1280 inb_S4x4096_S1x128_1_1280 inb_S4x4096_S1x128_2_1280 inb_S4x4096_S1x128_3_1280 inb_S512x4096_S128x128_256_1280 x, ?_⟩
  refine List.forall_mem_cons.mpr ⟨fun x => piece arg12.view _ _ hL x5 x6 256 1152 inb_S520x4096_S136x128_256_1152 inb_S1x4096_S1x128_0_1152 inb_S4x4096_S1x128_0_1152 inb_S4x4096_S1x128_1_1152 inb_S4x4096_S1x128_2_1152 inb_S4x4096_S1x128_3_1152 inb_S512x4096_S128x128_256_1152 x, ?_⟩
  refine List.forall_mem_cons.mpr ⟨fun x => piece arg12.view _ _ hL x5 x6 256 1024 inb_S520x4096_S136x128_256_1024 inb_S1x4096_S1x128_0_1024 inb_S4x4096_S1x128_0_1024 inb_S4x4096_S1x128_1_1024 inb_S4x4096_S1x128_2_1024 inb_S4x4096_S1x128_3_1024 inb_S512x4096_S128x128_256_1024 x, ?_⟩
  refine List.forall_mem_cons.mpr ⟨fun x => piece arg12.view _ _ hL x5 x6 256 896 inb_S520x4096_S136x128_256_896 inb_S1x4096_S1x128_0_896 inb_S4x4096_S1x128_0_896 inb_S4x4096_S1x128_1_896 inb_S4x4096_S1x128_2_896 inb_S4x4096_S1x128_3_896 inb_S512x4096_S128x128_256_896 x, ?_⟩
  refine List.forall_mem_cons.mpr ⟨fun x => piece arg12.view _ _ hL x5 x6 256 768 inb_S520x4096_S136x128_256_768 inb_S1x4096_S1x128_0_768 inb_S4x4096_S1x128_0_768 inb_S4x4096_S1x128_1_768 inb_S4x4096_S1x128_2_768 inb_S4x4096_S1x128_3_768 inb_S512x4096_S128x128_256_768 x, ?_⟩
  refine List.forall_mem_cons.mpr ⟨fun x => piece arg12.view _ _ hL x5 x6 256 640 inb_S520x4096_S136x128_256_640 inb_S1x4096_S1x128_0_640 inb_S4x4096_S1x128_0_640 inb_S4x4096_S1x128_1_640 inb_S4x4096_S1x128_2_640 inb_S4x4096_S1x128_3_640 inb_S512x4096_S128x128_256_640 x, ?_⟩
  refine List.forall_mem_cons.mpr ⟨fun x => piece arg12.view _ _ hL x5 x6 256 512 inb_S520x4096_S136x128_256_512 inb_S1x4096_S1x128_0_512 inb_S4x4096_S1x128_0_512 inb_S4x4096_S1x128_1_512 inb_S4x4096_S1x128_2_512 inb_S4x4096_S1x128_3_512 inb_S512x4096_S128x128_256_512 x, ?_⟩
  refine List.forall_mem_cons.mpr ⟨fun x => piece arg12.view _ _ hL x5 x6 256 384 inb_S520x4096_S136x128_256_384 inb_S1x4096_S1x128_0_384 inb_S4x4096_S1x128_0_384 inb_S4x4096_S1x128_1_384 inb_S4x4096_S1x128_2_384 inb_S4x4096_S1x128_3_384 inb_S512x4096_S128x128_256_384 x, ?_⟩
  refine List.forall_mem_cons.mpr ⟨fun x => piece arg12.view _ _ hL x5 x6 256 256 inb_S520x4096_S136x128_256_256 inb_S1x4096_S1x128_0_256 inb_S4x4096_S1x128_0_256 inb_S4x4096_S1x128_1_256 inb_S4x4096_S1x128_2_256 inb_S4x4096_S1x128_3_256 inb_S512x4096_S128x128_256_256 x, ?_⟩
  refine List.forall_mem_cons.mpr ⟨fun x => piece arg12.view _ _ hL x5 x6 256 128 inb_S520x4096_S136x128_256_128 inb_S1x4096_S1x128_0_128 inb_S4x4096_S1x128_0_128 inb_S4x4096_S1x128_1_128 inb_S4x4096_S1x128_2_128 inb_S4x4096_S1x128_3_128 inb_S512x4096_S128x128_256_128 x, ?_⟩
  refine List.forall_mem_cons.mpr ⟨fun x => piece arg12.view _ _ hL x5 x6 256 0 inb_S520x4096_S136x128_256_0 inb_S1x4096_S1x128_0_0 inb_S4x4096_S1x128_0_0 inb_S4x4096_S1x128_1_0 inb_S4x4096_S1x128_2_0 inb_S4x4096_S1x128_3_0 inb_S512x4096_S128x128_256_0 x, ?_⟩
  refine List.forall_mem_cons.mpr ⟨fun x => piece arg12.view _ _ hL x5 x6 128 3968 inb_S520x4096_S136x128_128_3968 inb_S1x4096_S1x128_0_3968 inb_S4x4096_S1x128_0_3968 inb_S4x4096_S1x128_1_3968 inb_S4x4096_S1x128_2_3968 inb_S4x4096_S1x128_3_3968 inb_S512x4096_S128x128_128_3968 x, ?_⟩
  refine List.forall_mem_cons.mpr ⟨fun x => piece arg12.view _ _ hL x5 x6 128 3840 inb_S520x4096_S136x128_128_3840 inb_S1x4096_S1x128_0_3840 inb_S4x4096_S1x128_0_3840 inb_S4x4096_S1x128_1_3840 inb_S4x4096_S1x128_2_3840 inb_S4x4096_S1x128_3_3840 inb_S512x4096_S128x128_128_3840 x, ?_⟩
  refine List.forall_mem_cons.mpr ⟨fun x => piece arg12.view _ _ hL x5 x6 128 3712 inb_S520x4096_S136x128_128_3712 inb_S1x4096_S1x128_0_3712 inb_S4x4096_S1x128_0_3712 inb_S4x4096_S1x128_1_3712 inb_S4x4096_S1x128_2_3712 inb_S4x4096_S1x128_3_3712 inb_S512x4096_S128x128_128_3712 x, ?_⟩
  refine List.forall_mem_cons.mpr ⟨fun x => piece arg12.view _ _ hL x5 x6 128 3584 inb_S520x4096_S136x128_128_3584 inb_S1x4096_S1x128_0_3584 inb_S4x4096_S1x128_0_3584 inb_S4x4096_S1x128_1_3584 inb_S4x4096_S1x128_2_3584 inb_S4x4096_S1x128_3_3584 inb_S512x4096_S128x128_128_3584 x, ?_⟩
  refine List.forall_mem_cons.mpr ⟨fun x => piece arg12.view _ _ hL x5 x6 128 3456 inb_S520x4096_S136x128_128_3456 inb_S1x4096_S1x128_0_3456 inb_S4x4096_S1x128_0_3456 inb_S4x4096_S1x128_1_3456 inb_S4x4096_S1x128_2_3456 inb_S4x4096_S1x128_3_3456 inb_S512x4096_S128x128_128_3456 x, ?_⟩
  refine List.forall_mem_cons.mpr ⟨fun x => piece arg12.view _ _ hL x5 x6 128 3328 inb_S520x4096_S136x128_128_3328 inb_S1x4096_S1x128_0_3328 inb_S4x4096_S1x128_0_3328 inb_S4x4096_S1x128_1_3328 inb_S4x4096_S1x128_2_3328 inb_S4x4096_S1x128_3_3328 inb_S512x4096_S128x128_128_3328 x, ?_⟩
  refine List.forall_mem_cons.mpr ⟨fun x => piece arg12.view _ _ hL x5 x6 128 3200 inb_S520x4096_S136x128_128_3200 inb_S1x4096_S1x128_0_3200 inb_S4x4096_S1x128_0_3200 inb_S4x4096_S1x128_1_3200 inb_S4x4096_S1x128_2_3200 inb_S4x4096_S1x128_3_3200 inb_S512x4096_S128x128_128_3200 x, ?_⟩
  refine List.forall_mem_cons.mpr ⟨fun x => piece arg12.view _ _ hL x5 x6 128 3072 inb_S520x4096_S136x128_128_3072 inb_S1x4096_S1x128_0_3072 inb_S4x4096_S1x128_0_3072 inb_S4x4096_S1x128_1_3072 inb_S4x4096_S1x128_2_3072 inb_S4x4096_S1x128_3_3072 inb_S512x4096_S128x128_128_3072 x, ?_⟩
  refine List.forall_mem_cons.mpr ⟨fun x => piece arg12.view _ _ hL x5 x6 128 2944 inb_S520x4096_S136x128_128_2944 inb_S1x4096_S1x128_0_2944 inb_S4x4096_S1x128_0_2944 inb_S4x4096_S1x128_1_2944 inb_S4x4096_S1x128_2_2944 inb_S4x4096_S1x128_3_2944 inb_S512x4096_S128x128_128_2944 x, ?_⟩
  refine List.forall_mem_cons.mpr ⟨fun x => piece arg12.view _ _ hL x5 x6 128 2816 inb_S520x4096_S136x128_128_2816 inb_S1x4096_S1x128_0_2816 inb_S4x4096_S1x128_0_2816 inb_S4x4096_S1x128_1_2816 inb_S4x4096_S1x128_2_2816 inb_S4x4096_S1x128_3_2816 inb_S512x4096_S128x128_128_2816 x, ?_⟩
  refine List.forall_mem_cons.mpr ⟨fun x => piece arg12.view _ _ hL x5 x6 128 2688 inb_S520x4096_S136x128_128_2688 inb_S1x4096_S1x128_0_2688 inb_S4x4096_S1x128_0_2688 inb_S4x4096_S1x128_1_2688 inb_S4x4096_S1x128_2_2688 inb_S4x4096_S1x128_3_2688 inb_S512x4096_S128x128_128_2688 x, ?_⟩
  refine List.forall_mem_cons.mpr ⟨fun x => piece arg12.view _ _ hL x5 x6 128 2560 inb_S520x4096_S136x128_128_2560 inb_S1x4096_S1x128_0_2560 inb_S4x4096_S1x128_0_2560 inb_S4x4096_S1x128_1_2560 inb_S4x4096_S1x128_2_2560 inb_S4x4096_S1x128_3_2560 inb_S512x4096_S128x128_128_2560 x, ?_⟩
  refine List.forall_mem_cons.mpr ⟨fun x => piece arg12.view _ _ hL x5 x6 128 2432 inb_S520x4096_S136x128_128_2432 inb_S1x4096_S1x128_0_2432 inb_S4x4096_S1x128_0_2432 inb_S4x4096_S1x128_1_2432 inb_S4x4096_S1x128_2_2432 inb_S4x4096_S1x128_3_2432 inb_S512x4096_S128x128_128_2432 x, ?_⟩
  refine List.forall_mem_cons.mpr ⟨fun x => piece arg12.view _ _ hL x5 x6 128 2304 inb_S520x4096_S136x128_128_2304 inb_S1x4096_S1x128_0_2304 inb_S4x4096_S1x128_0_2304 inb_S4x4096_S1x128_1_2304 inb_S4x4096_S1x128_2_2304 inb_S4x4096_S1x128_3_2304 inb_S512x4096_S128x128_128_2304 x, ?_⟩
  refine List.forall_mem_cons.mpr ⟨fun x => piece arg12.view _ _ hL x5 x6 128 2176 inb_S520x4096_S136x128_128_2176 inb_S1x4096_S1x128_0_2176 inb_S4x4096_S1x128_0_2176 inb_S4x4096_S1x128_1_2176 inb_S4x4096_S1x128_2_2176 inb_S4x4096_S1x128_3_2176 inb_S512x4096_S128x128_128_2176 x, ?_⟩
  refine List.forall_mem_cons.mpr ⟨fun x => piece arg12.view _ _ hL x5 x6 128 2048 inb_S520x4096_S136x128_128_2048 inb_S1x4096_S1x128_0_2048 inb_S4x4096_S1x128_0_2048 inb_S4x4096_S1x128_1_2048 inb_S4x4096_S1x128_2_2048 inb_S4x4096_S1x128_3_2048 inb_S512x4096_S128x128_128_2048 x, ?_⟩
  refine List.forall_mem_cons.mpr ⟨fun x => piece arg12.view _ _ hL x5 x6 128 1920 inb_S520x4096_S136x128_128_1920 inb_S1x4096_S1x128_0_1920 inb_S4x4096_S1x128_0_1920 inb_S4x4096_S1x128_1_1920 inb_S4x4096_S1x128_2_1920 inb_S4x4096_S1x128_3_1920 inb_S512x4096_S128x128_128_1920 x, ?_⟩
  refine List.forall_mem_cons.mpr ⟨fun x => piece arg12.view _ _ hL x5 x6 128 1792 inb_S520x4096_S136x128_128_1792 inb_S1x4096_S1x128_0_1792 inb_S4x4096_S1x128_0_1792 inb_S4x4096_S1x128_1_1792 inb_S4x4096_S1x128_2_1792 inb_S4x4096_S1x128_3_1792 inb_S512x4096_S128x128_128_1792 x, ?_⟩
  refine List.forall_mem_cons.mpr ⟨fun x => piece arg12.view _ _ hL x5 x6 128 1664 inb_S520x4096_S136x128_128_1664 inb_S1x4096_S1x128_0_1664 inb_S4x4096_S1x128_0_1664 inb_S4x4096_S1x128_1_1664 inb_S4x4096_S1x128_2_1664 inb_S4x4096_S1x128_3_1664 inb_S512x4096_S128x128_128_1664 x, ?_⟩
  refine List.forall_mem_cons.mpr ⟨fun x => piece arg12.view _ _ hL x5 x6 128 1536 inb_S520x4096_S136x128_128_1536 inb_S1x4096_S1x128_0_1536 inb_S4x4096_S1x128_0_1536 inb_S4x4096_S1x128_1_1536 inb_S4x4096_S1x128_2_1536 inb_S4x4096_S1x128_3_1536 inb_S512x4096_S128x128_128_1536 x, ?_⟩
  refine List.forall_mem_cons.mpr ⟨fun x => piece arg12.view _ _ hL x5 x6 128 1408 inb_S520x4096_S136x128_128_1408 inb_S1x4096_S1x128_0_1408 inb_S4x4096_S1x128_0_1408 inb_S4x4096_S1x128_1_1408 inb_S4x4096_S1x128_2_1408 inb_S4x4096_S1x128_3_1408 inb_S512x4096_S128x128_128_1408 x, ?_⟩
  refine List.forall_mem_cons.mpr ⟨fun x => piece arg12.view _ _ hL x5 x6 128 1280 inb_S520x4096_S136x128_128_1280 inb_S1x4096_S1x128_0_1280 inb_S4x4096_S1x128_0_1280 inb_S4x4096_S1x128_1_1280 inb_S4x4096_S1x128_2_1280 inb_S4x4096_S1x128_3_1280 inb_S512x4096_S128x128_128_1280 x, ?_⟩
  refine List.forall_mem_cons.mpr ⟨fun x => piece arg12.view _ _ hL x5 x6 128 1152 inb_S520x4096_S136x128_128_1152 inb_S1x4096_S1x128_0_1152 inb_S4x4096_S1x128_0_1152 inb_S4x4096_S1x128_1_1152 inb_S4x4096_S1x128_2_1152 inb_S4x4096_S1x128_3_1152 inb_S512x4096_S128x128_128_1152 x, ?_⟩
  refine List.forall_mem_cons.mpr ⟨fun x => piece arg12.view _ _ hL x5 x6 128 1024 inb_S520x4096_S136x128_128_1024 inb_S1x4096_S1x128_0_1024 inb_S4x4096_S1x128_0_1024 inb_S4x4096_S1x128_1_1024 inb_S4x4096_S1x128_2_1024 inb_S4x4096_S1x128_3_1024 inb_S512x4096_S128x128_128_1024 x, ?_⟩
  refine List.forall_mem_cons.mpr ⟨fun x => piece arg12.view _ _ hL x5 x6 128 896 inb_S520x4096_S136x128_128_896 inb_S1x4096_S1x128_0_896 inb_S4x4096_S1x128_0_896 inb_S4x4096_S1x128_1_896 inb_S4x4096_S1x128_2_896 inb_S4x4096_S1x128_3_896 inb_S512x4096_S128x128_128_896 x, ?_⟩
  refine List.forall_mem_cons.mpr ⟨fun x => piece arg12.view _ _ hL x5 x6 128 768 inb_S520x4096_S136x128_128_768 inb_S1x4096_S1x128_0_768 inb_S4x4096_S1x128_0_768 inb_S4x4096_S1x128_1_768 inb_S4x4096_S1x128_2_768 inb_S4x4096_S1x128_3_768 inb_S512x4096_S128x128_128_768 x, ?_⟩
  refine List.forall_mem_cons.mpr ⟨fun x => piece arg12.view _ _ hL x5 x6 128 640 inb_S520x4096_S136x128_128_640 inb_S1x4096_S1x128_0_640 inb_S4x4096_S1x128_0_640 inb_S4x4096_S1x128_1_640 inb_S4x4096_S1x128_2_640 inb_S4x4096_S1x128_3_640 inb_S512x4096_S128x128_128_640 x, ?_⟩
  refine List.forall_mem_cons.mpr ⟨fun x => piece arg12.view _ _ hL x5 x6 128 512 inb_S520x4096_S136x128_128_512 inb_S1x4096_S1x128_0_512 inb_S4x4096_S1x128_0_512 inb_S4x4096_S1x128_1_512 inb_S4x4096_S1x128_2_512 inb_S4x4096_S1x128_3_512 inb_S512x4096_S128x128_128_512 x, ?_⟩
  refine List.forall_mem_cons.mpr ⟨fun x => piece arg12.view _ _ hL x5 x6 128 384 inb_S520x4096_S136x128_128_384 inb_S1x4096_S1x128_0_384 inb_S4x4096_S1x128_0_384 inb_S4x4096_S1x128_1_384 inb_S4x4096_S1x128_2_384 inb_S4x4096_S1x128_3_384 inb_S512x4096_S128x128_128_384 x, ?_⟩
  refine List.forall_mem_cons.mpr ⟨fun x => piece arg12.view _ _ hL x5 x6 128 256 inb_S520x4096_S136x128_128_256 inb_S1x4096_S1x128_0_256 inb_S4x4096_S1x128_0_256 inb_S4x4096_S1x128_1_256 inb_S4x4096_S1x128_2_256 inb_S4x4096_S1x128_3_256 inb_S512x4096_S128x128_128_256 x, ?_⟩
  refine List.forall_mem_cons.mpr ⟨fun x => piece arg12.view _ _ hL x5 x6 128 128 inb_S520x4096_S136x128_128_128 inb_S1x4096_S1x128_0_128 inb_S4x4096_S1x128_0_128 inb_S4x4096_S1x128_1_128 inb_S4x4096_S1x128_2_128 inb_S4x4096_S1x128_3_128 inb_S512x4096_S128x128_128_128 x, ?_⟩
  refine List.forall_mem_cons.mpr ⟨fun x => piece arg12.view _ _ hL x5 x6 128 0 inb_S520x4096_S136x128_128_0 inb_S1x4096_S1x128_0_0 inb_S4x4096_S1x128_0_0 inb_S4x4096_S1x128_1_0 inb_S4x4096_S1x128_2_0 inb_S4x4096_S1x128_3_0 inb_S512x4096_S128x128_128_0 x, ?_⟩
  refine List.forall_mem_cons.mpr ⟨fun x => piece arg12.view _ _ hL x5 x6 0 3968 inb_S520x4096_S136x128_0_3968 inb_S1x4096_S1x128_0_3968 inb_S4x4096_S1x128_0_3968 inb_S4x4096_S1x128_1_3968 inb_S4x4096_S1x128_2_3968 inb_S4x4096_S1x128_3_3968 inb_S512x4096_S128x128_0_3968 x, ?_⟩
  refine List.forall_mem_cons.mpr ⟨fun x => piece arg12.view _ _ hL x5 x6 0 3840 inb_S520x4096_S136x128_0_3840 inb_S1x4096_S1x128_0_3840 inb_S4x4096_S1x128_0_3840 inb_S4x4096_S1x128_1_3840 inb_S4x4096_S1x128_2_3840 inb_S4x4096_S1x128_3_3840 inb_S512x4096_S128x128_0_3840 x, ?_⟩
  refine List.forall_mem_cons.mpr ⟨fun x => piece arg12.view _ _ hL x5 x6 0 3712 inb_S520x4096_S136x128_0_3712 inb_S1x4096_S1x128_0_3712 inb_S4x4096_S1x128_0_3712 inb_S4x4096_S1x128_1_3712 inb_S4x4096_S1x128_2_3712 inb_S4x4096_S1x128_3_3712 inb_S512x4096_S128x128_0_3712 x, ?_⟩
  refine List.forall_mem_cons.mpr ⟨fun x => piece arg12.view _ _ hL x5 x6 0 3584 inb_S520x4096_S136x128_0_3584 inb_S1x4096_S1x128_0_3584 inb_S4x4096_S1x128_0_3584 inb_S4x4096_S1x128_1_3584 inb_S4x4096_S1x128_2_3584 inb_S4x4096_S1x128_3_3584 inb_S512x4096_S128x128_0_3584 x, ?_⟩
  refine List.forall_mem_cons.mpr ⟨fun x => piece arg12.view _ _ hL x5 x6 0 3456 inb_S520x4096_S136x128_0_3456 inb_S1x4096_S1x128_0_3456 inb_S4x4096_S1x128_0_3456 inb_S4x4096_S1x128_1_3456 inb_S4x4096_S1x128_2_3456 inb_S4x4096_S1x128_3_3456 inb_S512x4096_S128x128_0_3456 x, ?_⟩
  refine List.forall_mem_cons.mpr ⟨fun x => piece arg12.view _ _ hL x5 x6 0 3328 inb_S520x4096_S136x128_0_3328 inb_S1x4096_S1x128_0_3328 inb_S4x4096_S1x128_0_3328 inb_S4x4096_S1x128_1_3328 inb_S4x4096_S1x128_2_3328 inb_S4x4096_S1x128_3_3328 inb_S512x4096_S128x128_0_3328 x, ?_⟩
  refine List.forall_mem_cons.mpr ⟨fun x => piece arg12.view _ _ hL x5 x6 0 3200 inb_S520x4096_S136x128_0_3200 inb_S1x4096_S1x128_0_3200 inb_S4x4096_S1x128_0_3200 inb_S4x4096_S1x128_1_3200 inb_S4x4096_S1x128_2_3200 inb_S4x4096_S1x128_3_3200 inb_S512x4096_S128x128_0_3200 x, ?_⟩
  refine List.forall_mem_cons.mpr ⟨fun x => piece arg12.view _ _ hL x5 x6 0 3072 inb_S520x4096_S136x128_0_3072 inb_S1x4096_S1x128_0_3072 inb_S4x4096_S1x128_0_3072 inb_S4x4096_S1x128_1_3072 inb_S4x4096_S1x128_2_3072 inb_S4x4096_S1x128_3_3072 inb_S512x4096_S128x128_0_3072 x, ?_⟩
  refine List.forall_mem_cons.mpr ⟨fun x => piece arg12.view _ _ hL x5 x6 0 2944 inb_S520x4096_S136x128_0_2944 inb_S1x4096_S1x128_0_2944 inb_S4x4096_S1x128_0_2944 inb_S4x4096_S1x128_1_2944 inb_S4x4096_S1x128_2_2944 inb_S4x4096_S1x128_3_2944 inb_S512x4096_S128x128_0_2944 x, ?_⟩
  refine List.forall_mem_cons.mpr ⟨fun x => piece arg12.view _ _ hL x5 x6 0 2816 inb_S520x4096_S136x128_0_2816 inb_S1x4096_S1x128_0_2816 inb_S4x4096_S1x128_0_2816 inb_S4x4096_S1x128_1_2816 inb_S4x4096_S1x128_2_2816 inb_S4x4096_S1x128_3_2816 inb_S512x4096_S128x128_0_2816 x, ?_⟩
  refine List.forall_mem_cons.mpr ⟨fun x => piece arg12.view _ _ hL x5 x6 0 2688 inb_S520x4096_S136x128_0_2688 inb_S1x4096_S1x128_0_2688 inb_S4x4096_S1x128_0_2688 inb_S4x4096_S1x128_1_2688 inb_S4x4096_S1x128_2_2688 inb_S4x4096_S1x128_3_2688 inb_S512x4096_S128x128_0_2688 x, ?_⟩
  refine List.forall_mem_cons.mpr ⟨fun x => piece arg12.view _ _ hL x5 x6 0 2560 inb_S520x4096_S136x128_0_2560 inb_S1x4096_S1x128_0_2560 inb_S4x4096_S1x128_0_2560 inb_S4x4096_S1x128_1_2560 inb_S4x4096_S1x128_2_2560 inb_S4x4096_S1x128_3_2560 inb_S512x4096_S128x128_0_2560 x, ?_⟩
  refine List.forall_mem_cons.mpr ⟨fun x => piece arg12.view _ _ hL x5 x6 0 2432 inb_S520x4096_S136x128_0_2432 inb_S1x4096_S1x128_0_2432 inb_S4x4096_S1x128_0_2432 inb_S4x4096_S1x128_1_2432 inb_S4x4096_S1x128_2_2432 inb_S4x4096_S1x128_3_2432 inb_S512x4096_S128x128_0_2432 x, ?_⟩
  refine List.forall_mem_cons.mpr ⟨fun x => piece arg12.view _ _ hL x5 x6 0 2304 inb_S520x4096_S136x128_0_2304 inb_S1x4096_S1x128_0_2304 inb_S4x4096_S1x128_0_2304 inb_S4x4096_S1x128_1_2304 inb_S4x4096_S1x128_2_2304 inb_S4x4096_S1x128_3_2304 inb_S512x4096_S128x128_0_2304 x, ?_⟩
  refine List.forall_mem_cons.mpr ⟨fun x => piece arg12.view _ _ hL x5 x6 0 2176 inb_S520x4096_S136x128_0_2176 inb_S1x4096_S1x128_0_2176 inb_S4x4096_S1x128_0_2176 inb_S4x4096_S1x128_1_2176 inb_S4x4096_S1x128_2_2176 inb_S4x4096_S1x128_3_2176 inb_S512x4096_S128x128_0_2176 x, ?_⟩
  refine List.forall_mem_cons.mpr ⟨fun x => piece arg12.view _ _ hL x5 x6 0 2048 inb_S520x4096_S136x128_0_2048 inb_S1x4096_S1x128_0_2048 inb_S4x4096_S1x128_0_2048 inb_S4x4096_S1x128_1_2048 inb_S4x4096_S1x128_2_2048 inb_S4x4096_S1x128_3_2048 inb_S512x4096_S128x128_0_2048 x, ?_⟩
  refine List.forall_mem_cons.mpr ⟨fun x => piece arg12.view _ _ hL x5 x6 0 1920 inb_S520x4096_S136x128_0_1920 inb_S1x4096_S1x128_0_1920 inb_S4x4096_S1x128_0_1920 inb_S4x4096_S1x128_1_1920 inb_S4x4096_S1x128_2_1920 inb_S4x4096_S1x128_3_1920 inb_S512x4096_S128x128_0_1920 x, ?_⟩
  refine List.forall_mem_cons.mpr ⟨fun x => piece arg12.view _ _ hL x5 x6 0 1792 inb_S520x4096_S136x128_0_1792 inb_S1x4096_S1x128_0_1792 inb_S4x4096_S1x128_0_1792 inb_S4x4096_S1x128_1_1792 inb_S4x4096_S1x128_2_1792 inb_S4x4096_S1x128_3_1792 inb_S512x4096_S128x128_0_1792 x, ?_⟩
  refine List.forall_mem_cons.mpr ⟨fun x => piece arg12.view _ _ hL x5 x6 0 1664 inb_S520x4096_S136x128_0_1664 inb_S1x4096_S1x128_0_1664 inb_S4x4096_S1x128_0_1664 inb_S4x4096_S1x128_1_1664 inb_S4x4096_S1x128_2_1664 inb_S4x4096_S1x128_3_1664 inb_S512x4096_S128x128_0_1664 x, ?_⟩
  refine List.forall_mem_cons.mpr ⟨fun x => piece arg12.view _ _ hL x5 x6 0 1536 inb_S520x4096_S136x128_0_1536 inb_S1x4096_S1x128_0_1536 inb_S4x4096_S1x128_0_1536 inb_S4x4096_S1x128_1_1536 inb_S4x4096_S1x128_2_1536 inb_S4x4096_S1x128_3_1536 inb_S512x4096_S128x128_0_1536 x, ?_⟩
  refine List.forall_mem_cons.mpr ⟨fun x => piece arg12.view _ _ hL x5 x6 0 1408 inb_S520x4096_S136x128_0_1408 inb_S1x4096_S1x128_0_1408 inb_S4x4096_S1x128_0_1408 inb_S4x4096_S1x128_1_1408 inb_S4x4096_S1x128_2_1408 inb_S4x4096_S1x128_3_1408 inb_S512x4096_S128x128_0_1408 x, ?_⟩
  refine List.forall_mem_cons.mpr ⟨fun x => piece arg12.view _ _ hL x5 x6 0 1280 inb_S520x4096_S136x128_0_1280 inb_S1x4096_S1x128_0_1280 inb_S4x4096_S1x128_0_1280 inb_S4x4096_S1x128_1_1280 inb_S4x4096_S1x128_2_1280 inb_S4x4096_S1x128_3_1280 inb_S512x4096_S128x128_0_1280 x, ?_⟩
  refine List.forall_mem_cons.mpr ⟨fun x => piece arg12.view _ _ hL x5 x6 0 1152 inb_S520x4096_S136x128_0_1152 inb_S1x4096_S1x128_0_1152 inb_S4x4096_S1x128_0_1152 inb_S4x4096_S1x128_1_1152 inb_S4x4096_S1x128_2_1152 inb_S4x4096_S1x128_3_1152 inb_S512x4096_S128x128_0_1152 x, ?_⟩
  refine List.forall_mem_cons.mpr ⟨fun x => piece arg12.view _ _ hL x5 x6 0 1024 inb_S520x4096_S136x128_0_1024 inb_S1x4096_S1x128_0_1024 inb_S4x4096_S1x128_0_1024 inb_S4x4096_S1x128_1_1024 inb_S4x4096_S1x128_2_1024 inb_S4x4096_S1x128_3_1024 inb_S512x4096_S128x128_0_1024 x, ?_⟩
  refine List.forall_mem_cons.mpr ⟨fun x => piece arg12.view _ _ hL x5 x6 0 896 inb_S520x4096_S136x128_0_896 inb_S1x4096_S1x128_0_896 inb_S4x4096_S1x128_0_896 inb_S4x4096_S1x128_1_896 inb_S4x4096_S1x128_2_896 inb_S4x4096_S1x128_3_896 inb_S512x4096_S128x128_0_896 x, ?_⟩
  refine List.forall_mem_cons.mpr ⟨fun x => piece arg12.view _ _ hL x5 x6 0 768 inb_S520x4096_S136x128_0_768 inb_S1x4096_S1x128_0_768 inb_S4x4096_S1x128_0_768 inb_S4x4096_S1x128_1_768 inb_S4x4096_S1x128_2_768 inb_S4x4096_S1x128_3_768 inb_S512x4096_S128x128_0_768 x, ?_⟩
  refine List.forall_mem_cons.mpr ⟨fun x => piece arg12.view _ _ hL x5 x6 0 640 inb_S520x4096_S136x128_0_640 inb_S1x4096_S1x128_0_640 inb_S4x4096_S1x128_0_640 inb_S4x4096_S1x128_1_640 inb_S4x4096_S1x128_2_640 inb_S4x4096_S1x128_3_640 inb_S512x4096_S128x128_0_640 x, ?_⟩
  refine List.forall_mem_cons.mpr ⟨fun x => piece arg12.view _ _ hL x5 x6 0 512 inb_S520x4096_S136x128_0_512 inb_S1x4096_S1x128_0_512 inb_S4x4096_S1x128_0_512 inb_S4x4096_S1x128_1_512 inb_S4x4096_S1x128_2_512 inb_S4x4096_S1x128_3_512 inb_S512x4096_S128x128_0_512 x, ?_⟩
  refine List.forall_mem_cons.mpr ⟨fun x => piece arg12.view _ _ hL x5 x6 0 384 inb_S520x4096_S136x128_0_384 inb_S1x4096_S1x128_0_384 inb_S4x4096_S1x128_0_384 inb_S4x4096_S1x128_1_384 inb_S4x4096_S1x128_2_384 inb_S4x4096_S1x128_3_384 inb_S512x4096_S128x128_0_384 x, ?_⟩
  refine List.forall_mem_cons.mpr ⟨fun x => piece arg12.view _ _ hL x5 x6 0 256 inb_S520x4096_S136x128_0_256 inb_S1x4096_S1x128_0_256 inb_S4x4096_S1x128_0_256 inb_S4x4096_S1x128_1_256 inb_S4x4096_S1x128_2_256 inb_S4x4096_S1x128_3_256 inb_S512x4096_S128x128_0_256 x, ?_⟩
  refine List.forall_mem_cons.mpr ⟨fun x => piece arg12.view _ _ hL x5 x6 0 128 inb_S520x4096_S136x128_0_128 inb_S1x4096_S1x128_0_128 inb_S4x4096_S1x128_0_128 inb_S4x4096_S1x128_1_128 inb_S4x4096_S1x128_2_128 inb_S4x4096_S1x128_3_128 inb_S512x4096_S128x128_0_128 x, ?_⟩
  refine List.forall_mem_cons.mpr ⟨fun x => piece arg12.view _ _ hL x5 x6 0 0 inb_S520x4096_S136x128_0_0 inb_S1x4096_S1x128_0_0 inb_S4x4096_S1x128_0_0 inb_S4x4096_S1x128_1_0 inb_S4x4096_S1x128_2_0 inb_S4x4096_S1x128_3_0 inb_S512x4096_S128x128_0_0 x, ?_⟩
  exact fun _ h => absurd h List.not_mem_nil

end Cert.MbIn
-- ==== Proof.MbInLater.lean ====
module

public import proofs.«01_k».proof.Proof.MbInTiles
public import proofs.«01_k».proof.Proof.Gen.Kernel8Ideal.Value
public import Idealize.ShloMosaic.Lib.Pipeline.ValueKit
public import Idealize.ShloMosaic.Lib.WritesUnit

@[expose] public section

set_option maxRecDepth 16384

noncomputable section

namespace Cert.MbIn
open Idealize.ShloMosaic Idealize.ShloMosaic.TcCoe Idealize.SL.Sem
open Cert.Layer Cert.Kernel8Ideal Cert.Kernel8Ideal.Gen

/-- The last eight rows of the buffer before. -/
def prevHd (xs : Vec Ideal S520x4096 .f32) (r : Fin 8) (j : Fin 4096) : EReal := xs (ix2 (⟨512 + r.val, by omega⟩ : Fin 520) j)

theorem hd_prev (xs : Vec Ideal S520x4096 .f32) (i) (r : Fin 8) (j : Fin 4096) : k0_pay3 (View.ld xs (Rect.unit (s := S520x4096) ![512, 0] ![8, 4096] i)) (ix2 r j) = prevHd xs r j := by
  refine (head1_at _ r j).trans (congrArg xs (funext (Fin.forall_fin_two.mpr ⟨Fin.ext ?_, Fin.ext ?_⟩)))
  · show 512 + 1 * r.val = 512 + r.val; omega
  · show 0 + 1 * j.val = j.val; omega

theorem scr_B (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (y : S520x4096.Idx) :
    sout0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 y = scr (prevHd xs0) x0 x2 y := by
  frame_open
  frame_out
  exact scr_eq (prevHd xs0) x0 x2 _ (hd_prev xs0 _) y

theorem z_B (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (s : Fin 512) (j : Fin 2048) :
    out0_B_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix2 s j) = ∑ k : Fin 1024, x0 (ix2 s k) * x1 (ix2 k j) := by
  frame_open
  frame_out
  exact z_at x0 s x1 j

theorem dt_B (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (s : Fin 512) (j : Fin 128) :
    out0_B_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix2 s j) = soft ((∑ k : Fin 1024, x0 (ix2 s k) * x3 (ix2 k j)) + x4 (ix2 0 j)) := by
  frame_open
  frame_out
  exact dt_at x0 s x3 x4 j

theorem xbc_B (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : ¬cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (y : S512x4096.Idx) :
    out0_B_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 y = convG (scr (prevHd xs0) x0 x2) x5 x6 y := by
  frame_open
  frame_out
  have hL := fun y => scr_eq (prevHd xs0) x0 x2 _ (hd_prev xs0 inb_S520x4096_S8x4096_512_0) y
  refine View.canon_apply_of_pieces (Val := Elt Ideal) (S := S512x4096) (e := .f32) (convG (scr (prevHd xs0) x0 x2) x5 x6) _ ?_ _ (View.cover_of_tiledL _ ![128, 128] (by sl_kernel_rfl) y)
  refine List.forall_mem_cons.mpr ⟨fun x => piece arg12.view _ _ hL x5 x6 384 3968 inb_S520x4096_S136x128_384_3968 inb_S1x4096_S1x128_0_3968 inb_S4x4096_S1x128_0_3968 inb_S4x4096_S1x128_1_3968 inb_S4x4096_S1x128_2_3968 inb_S4x4096_S1x128_3_3968 inb_S512x4096_S128x128_384_3968 x, ?_⟩
  refine List.forall_mem_cons.mpr ⟨fun x => piece arg12.view _ _ hL x5 x6 384 3840 inb_S520x4096_S136x128_384_3840 inb_S1x4096_S1x128_0_3840 inb_S4x4096_S1x128_0_3840 inb_S4x4096_S1x128_1_3840 inb_S4x4096_S1x128_2_3840 inb_S4x4096_S1x128_3_3840 inb_S512x4096_S128x128_384_3840 x, ?_⟩
  refine List.forall_mem_cons.mpr ⟨fun x => piece arg12.view _ _ hL x5 x6 384 3712 inb_S520x4096_S136x128_384_3712 inb_S1x4096_S1x128_0_3712 inb_S4x4096_S1x128_0_3712 inb_S4x4096_S1x128_1_3712 inb_S4x4096_S1x128_2_3712 inb_S4x4096_S1x128_3_3712 inb_S512x4096_S128x128_384_3712 x, ?_⟩
  refine List.forall_mem_cons.mpr ⟨fun x => piece arg12.view _ _ hL x5 x6 384 3584 inb_S520x4096_S136x128_384_3584 inb_S1x4096_S1x128_0_3584 inb_S4x4096_S1x128_0_3584 inb_S4x4096_S1x128_1_3584 inb_S4x4096_S1x128_2_3584 inb_S4x4096_S1x128_3_3584 inb_S512x4096_S128x128_384_3584 x, ?_⟩
  refine List.forall_mem_cons.mpr ⟨fun x => piece arg12.view _ _ hL x5 x6 384 3456 inb_S520x4096_S136x128_384_3456 inb_S1x4096_S1x128_0_3456 inb_S4x4096_S1x128_0_3456 inb_S4x4096_S1x128_1_3456 inb_S4x4096_S1x128_2_3456 inb_S4x4096_S1x128_3_3456 inb_S512x4096_S128x128_384_3456 x, ?_⟩
  refine List.forall_mem_cons.mpr ⟨fun x => piece arg12.view _ _ hL x5 x6 384 3328 inb_S520x4096_S136x128_384_3328 inb_S1x4096_S1x128_0_3328 inb_S4x4096_S1x128_0_3328 inb_S4x4096_S1x128_1_3328 inb_S4x4096_S1x128_2_3328 inb_S4x4096_S1x128_3_3328 inb_S512x4096_S128x128_384_3328 x, ?_⟩
  refine List.forall_mem_cons.mpr ⟨fun x => piece arg12.view _ _ hL x5 x6 384 3200 inb_S520x4096_S136x128_384_3200 inb_S1x4096_S1x128_0_3200 inb_S4x4096_S1x128_0_3200 inb_S4x4096_S1x128_1_3200 inb_S4x4096_S1x128_2_3200 inb_S4x4096_S1x128_3_3200 inb_S512x4096_S128x128_384_3200 x, ?_⟩
  refine List.forall_mem_cons.mpr ⟨fun x => piece arg12.view _ _ hL x5 x6 384 3072 inb_S520x4096_S136x128_384_3072 inb_S1x4096_S1x128_0_3072 inb_S4x4096_S1x128_0_3072 inb_S4x4096_S1x128_1_3072 inb_S4x4096_S1x128_2_3072 inb_S4x4096_S1x128_3_3072 inb_S512x4096_S128x128_384_3072 x, ?_⟩
  refine List.forall_mem_cons.mpr ⟨fun x => piece arg12.view _ _ hL x5 x6 384 2944 inb_S520x4096_S136x128_384_2944 inb_S1x4096_S1x128_0_2944 inb_S4x4096_S1x128_0_2944 inb_S4x4096_S1x128_1_2944 inb_S4x4096_S1x128_2_2944 inb_S4x4096_S1x128_3_2944 inb_S512x4096_S128x128_384_2944 x, ?_⟩
  refine List.forall_mem_cons.mpr ⟨fun x => piece arg12.view _ _ hL x5 x6 384 2816 inb_S520x4096_S136x128_384_2816 inb_S1x4096_S1x128_0_2816 inb_S4x4096_S1x128_0_2816 inb_S4x4096_S1x128_1_2816 inb_S4x4096_S1x128_2_2816 inb_S4x4096_S1x128_3_2816 inb_S512x4096_S128x128_384_2816 x, ?_⟩
  refine List.forall_mem_cons.mpr ⟨fun x => piece arg12.view _ _ hL x5 x6 384 2688 inb_S520x4096_S136x128_384_2688 inb_S1x4096_S1x128_0_2688 inb_S4x4096_S1x128_0_2688 inb_S4x4096_S1x128_1_2688 inb_S4x4096_S1x128_2_2688 inb_S4x4096_S1x128_3_2688 inb_S512x4096_S128x128_384_2688 x, ?_⟩
  refine List.forall_mem_cons.mpr ⟨fun x => piece arg12.view _ _ hL x5 x6 384 2560 inb_S520x4096_S136x128_384_2560 inb_S1x4096_S1x128_0_2560 inb_S4x4096_S1x128_0_2560 inb_S4x4096_S1x128_1_2560 inb_S4x4096_S1x128_2_2560 inb_S4x4096_S1x128_3_2560 inb_S512x4096_S128x128_384_2560 x, ?_⟩
  refine List.forall_mem_cons.mpr ⟨fun x => piece arg12.view _ _ hL x5 x6 384 2432 inb_S520x4096_S136x128_384_2432 inb_S1x4096_S1x128_0_2432 inb_S4x4096_S1x128_0_2432 inb_S4x4096_S1x128_1_2432 inb_S4x4096_S1x128_2_2432 inb_S4x4096_S1x128_3_2432 inb_S512x4096_S128x128_384_2432 x, ?_⟩
  refine List.forall_mem_cons.mpr ⟨fun x => piece arg12.view _ _ hL x5 x6 384 2304 inb_S520x4096_S136x128_384_2304 inb_S1x4096_S1x128_0_2304 inb_S4x4096_S1x128_0_2304 inb_S4x4096_S1x128_1_2304 inb_S4x4096_S1x128_2_2304 inb_S4x4096_S1x128_3_2304 inb_S512x4096_S128x128_384_2304 x, ?_⟩
  refine List.forall_mem_cons.mpr ⟨fun x => piece arg12.view _ _ hL x5 x6 384 2176 inb_S520x4096_S136x128_384_2176 inb_S1x4096_S1x128_0_2176 inb_S4x4096_S1x128_0_2176 inb_S4x4096_S1x128_1_2176 inb_S4x4096_S1x128_2_2176 inb_S4x4096_S1x128_3_2176 inb_S512x4096_S128x128_384_2176 x, ?_⟩
  refine List.forall_mem_cons.mpr ⟨fun x => piece arg12.view _ _ hL x5 x6 384 2048 inb_S520x4096_S136x128_384_2048 inb_S1x4096_S1x128_0_2048 inb_S4x4096_S1x128_0_2048 inb_S4x4096_S1x128_1_2048 inb_S4x4096_S1x128_2_2048 inb_S4x4096_S1x128_3_2048 inb_S512x4096_S128x128_384_2048 x, ?_⟩
  refine List.forall_mem_cons.mpr ⟨fun x => piece arg12.view _ _ hL x5 x6 384 1920 inb_S520x4096_S136x128_384_1920 inb_S1x4096_S1x128_0_1920 inb_S4x4096_S1x128_0_1920 inb_S4x4096_S1x128_1_1920 inb_S4x4096_S1x128_2_1920 inb_S4x4096_S1x128_3_1920 inb_S512x4096_S128x128_384_1920 x, ?_⟩
  refine List.forall_mem_cons.mpr ⟨fun x => piece arg12.view _ _ hL x5 x6 384 1792 inb_S520x4096_S136x128_384_1792 inb_S1x4096_S1x128_0_1792 inb_S4x4096_S1x128_0_1792 inb_S4x4096_S1x128_1_1792 inb_S4x4096_S1x128_2_1792 inb_S4x4096_S1x128_3_1792 inb_S512x4096_S128x128_384_1792 x, ?_⟩
  refine List.forall_mem_cons.mpr ⟨fun x => piece arg12.view _ _ hL x5 x6 384 1664 inb_S520x4096_S136x128_384_1664 inb_S1x4096_S1x128_0_1664 inb_S4x4096_S1x128_0_1664 inb_S4x4096_S1x128_1_1664 inb_S4x4096_S1x128_2_1664 inb_S4x4096_S1x128_3_1664 inb_S512x4096_S128x128_384_1664 x, ?_⟩
  refine List.forall_mem_cons.mpr ⟨fun x => piece arg12.view _ _ hL x5 x6 384 1536 inb_S520x4096_S136x128_384_1536 inb_S1x4096_S1x128_0_1536 inb_S4x4096_S1x128_0_1536 inb_S4x4096_S1x128_1_1536 inb_S4x4096_S1x128_2_1536 inb_S4x4096_S1x128_3_1536 inb_S512x4096_S128x128_384_1536 x, ?_⟩
  refine List.forall_mem_cons.mpr ⟨fun x => piece arg12.view _ _ hL x5 x6 384 1408 inb_S520x4096_S136x128_384_1408 inb_S1x4096_S1x128_0_1408 inb_S4x4096_S1x128_0_1408 inb_S4x4096_S1x128_1_1408 inb_S4x4096_S1x128_2_1408 inb_S4x4096_S1x128_3_1408 inb_S512x4096_S128x128_384_1408 x, ?_⟩
  refine List.forall_mem_cons.mpr ⟨fun x => piece arg12.view _ _ hL x5 x6 384 1280 inb_S520x4096_S136x128_384_1280 inb_S1x4096_S1x128_0_1280 inb_S4x4096_S1x128_0_1280 inb_S4x4096_S1x128_1_1280 inb_S4x4096_S1x128_2_1280 inb_S4x4096_S1x128_3_1280 inb_S512x4096_S128x128_384_1280 x, ?_⟩
  refine List.forall_mem_cons.mpr ⟨fun x => piece arg12.view _ _ hL x5 x6 384 1152 inb_S520x4096_S136x128_384_1152 inb_S1x4096_S1x128_0_1152 inb_S4x4096_S1x128_0_1152 inb_S4x4096_S1x128_1_1152 inb_S4x4096_S1x128_2_1152 inb_S4x4096_S1x128_3_1152 inb_S512x4096_S128x128_384_1152 x, ?_⟩
  refine List.forall_mem_cons.mpr ⟨fun x => piece arg12.view _ _ hL x5 x6 384 1024 inb_S520x4096_S136x128_384_1024 inb_S1x4096_S1x128_0_1024 inb_S4x4096_S1x128_0_1024 inb_S4x4096_S1x128_1_1024 inb_S4x4096_S1x128_2_1024 inb_S4x4096_S1x128_3_1024 inb_S512x4096_S128x128_384_1024 x, ?_⟩
  refine List.forall_mem_cons.mpr ⟨fun x => piece arg12.view _ _ hL x5 x6 384 896 inb_S520x4096_S136x128_384_896 inb_S1x4096_S1x128_0_896 inb_S4x4096_S1x128_0_896 inb_S4x4096_S1x128_1_896 inb_S4x4096_S1x128_2_896 inb_S4x4096_S1x128_3_896 inb_S512x4096_S128x128_384_896 x, ?_⟩
  refine List.forall_mem_cons.mpr ⟨fun x => piece arg12.view _ _ hL x5 x6 384 768 inb_S520x4096_S136x128_384_768 inb_S1x4096_S1x128_0_768 inb_S4x4096_S1x128_0_768 inb_S4x4096_S1x128_1_768 inb_S4x4096_S1x128_2_768 inb_S4x4096_S1x128_3_768 inb_S512x4096_S128x128_384_768 x, ?_⟩
  refine List.forall_mem_cons.mpr ⟨fun x => piece arg12.view _ _ hL x5 x6 384 640 inb_S520x4096_S136x128_384_640 inb_S1x4096_S1x128_0_640 inb_S4x4096_S1x128_0_640 inb_S4x4096_S1x128_1_640 inb_S4x4096_S1x128_2_640 inb_S4x4096_S1x128_3_640 inb_S512x4096_S128x128_384_640 x, ?_⟩
  refine List.forall_mem_cons.mpr ⟨fun x => piece arg12.view _ _ hL x5 x6 384 512 inb_S520x4096_S136x128_384_512 inb_S1x4096_S1x128_0_512 inb_S4x4096_S1x128_0_512 inb_S4x4096_S1x128_1_512 inb_S4x4096_S1x128_2_512 inb_S4x4096_S1x128_3_512 inb_S512x4096_S128x128_384_512 x, ?_⟩
  refine List.forall_mem_cons.mpr ⟨fun x => piece arg12.view _ _ hL x5 x6 384 384 inb_S520x4096_S136x128_384_384 inb_S1x4096_S1x128_0_384 inb_S4x4096_S1x128_0_384 inb_S4x4096_S1x128_1_384 inb_S4x4096_S1x128_2_384 inb_S4x4096_S1x128_3_384 inb_S512x4096_S128x128_384_384 x, ?_⟩
  refine List.forall_mem_cons.mpr ⟨fun x => piece arg12.view _ _ hL x5 x6 384 256 inb_S520x4096_S136x128_384_256 inb_S1x4096_S1x128_0_256 inb_S4x4096_S1x128_0_256 inb_S4x4096_S1x128_1_256 inb_S4x4096_S1x128_2_256 inb_S4x4096_S1x128_3_256 inb_S512x4096_S128x128_384_256 x, ?_⟩
  refine List.forall_mem_cons.mpr ⟨fun x => piece arg12.view _ _ hL x5 x6 384 128 inb_S520x4096_S136x128_384_128 inb_S1x4096_S1x128_0_128 inb_S4x4096_S1x128_0_128 inb_S4x4096_S1x128_1_128 inb_S4x4096_S1x128_2_128 inb_S4x4096_S1x128_3_128 inb_S512x4096_S128x128_384_128 x, ?_⟩
  refine List.forall_mem_cons.mpr ⟨fun x => piece arg12.view _ _ hL x5 x6 384 0 inb_S520x4096_S136x128_384_0 inb_S1x4096_S1x128_0_0 inb_S4x4096_S1x128_0_0 inb_S4x4096_S1x128_1_0 inb_S4x4096_S1x128_2_0 inb_S4x4096_S1x128_3_0 inb_S512x4096_S128x128_384_0 x, ?_⟩
  refine List.forall_mem_cons.mpr ⟨fun x => piece arg12.view _ _ hL x5 x6 256 3968 inb_S520x4096_S136x128_256_3968 inb_S1x4096_S1x128_0_3968 inb_S4x4096_S1x128_0_3968 inb_S4x4096_S1x128_1_3968 inb_S4x4096_S1x128_2_3968 inb_S4x4096_S1x128_3_3968 inb_S512x4096_S128x128_256_3968 x, ?_⟩
  refine List.forall_mem_cons.mpr ⟨fun x => piece arg12.view _ _ hL x5 x6 256 3840 inb_S520x4096_S136x128_256_3840 inb_S1x4096_S1x128_0_3840 inb_S4x4096_S1x128_0_3840 inb_S4x4096_S1x128_1_3840 inb_S4x4096_S1x128_2_3840 inb_S4x4096_S1x128_3_3840 inb_S512x4096_S128x128_256_3840 x, ?_⟩
  refine List.forall_mem_cons.mpr ⟨fun x => piece arg12.view _ _ hL x5 x6 256 3712 inb_S520x4096_S136x128_256_3712 inb_S1x4096_S1x128_0_3712 inb_S4x4096_S1x128_0_3712 inb_S4x4096_S1x128_1_3712 inb_S4x4096_S1x128_2_3712 inb_S4x4096_S1x128_3_3712 inb_S512x4096_S128x128_256_3712 x, ?_⟩
  refine List.forall_mem_cons.mpr ⟨fun x => piece arg12.view _ _ hL x5 x6 256 3584 inb_S520x4096_S136x128_256_3584 inb_S1x4096_S1x128_0_3584 inb_S4x4096_S1x128_0_3584 inb_S4x4096_S1x128_1_3584 inb_S4x4096_S1x128_2_3584 inb_S4x4096_S1x128_3_3584 inb_S512x4096_S128x128_256_3584 x, ?_⟩
  refine List.forall_mem_cons.mpr ⟨fun x => piece arg12.view _ _ hL x5 x6 256 3456 inb_S520x4096_S136x128_256_3456 inb_S1x4096_S1x128_0_3456 inb_S4x4096_S1x128_0_3456 inb_S4x4096_S1x128_1_3456 inb_S4x4096_S1x128_2_3456 inb_S4x4096_S1x128_3_3456 inb_S512x4096_S128x128_256_3456 x, ?_⟩
  refine List.forall_mem_cons.mpr ⟨fun x => piece arg12.view _ _ hL x5 x6 256 3328 inb_S520x4096_S136x128_256_3328 inb_S1x4096_S1x128_0_3328 inb_S4x4096_S1x128_0_3328 inb_S4x4096_S1x128_1_3328 inb_S4x4096_S1x128_2_3328 inb_S4x4096_S1x128_3_3328 inb_S512x4096_S128x128_256_3328 x, ?_⟩
  refine List.forall_mem_cons.mpr ⟨fun x => piece arg12.view _ _ hL x5 x6 256 3200 inb_S520x4096_S136x128_256_3200 inb_S1x4096_S1x128_0_3200 inb_S4x4096_S1x128_0_3200 inb_S4x4096_S1x128_1_3200 inb_S4x4096_S1x128_2_3200 inb_S4x4096_S1x128_3_3200 inb_S512x4096_S128x128_256_3200 x, ?_⟩
  refine List.forall_mem_cons.mpr ⟨fun x => piece arg12.view _ _ hL x5 x6 256 3072 inb_S520x4096_S136x128_256_3072 inb_S1x4096_S1x128_0_3072 inb_S4x4096_S1x128_0_3072 inb_S4x4096_S1x128_1_3072 inb_S4x4096_S1x128_2_3072 inb_S4x4096_S1x128_3_3072 inb_S512x4096_S128x128_256_3072 x, ?_⟩
  refine List.forall_mem_cons.mpr ⟨fun x => piece arg12.view _ _ hL x5 x6 256 2944 inb_S520x4096_S136x128_256_2944 inb_S1x4096_S1x128_0_2944 inb_S4x4096_S1x128_0_2944 inb_S4x4096_S1x128_1_2944 inb_S4x4096_S1x128_2_2944 inb_S4x4096_S1x128_3_2944 inb_S512x4096_S128x128_256_2944 x, ?_⟩
  refine List.forall_mem_cons.mpr ⟨fun x => piece arg12.view _ _ hL x5 x6 256 2816 inb_S520x4096_S136x128_256_2816 inb_S1x4096_S1x128_0_2816 inb_S4x4096_S1x128_0_2816 inb_S4x4096_S1x128_1_2816 inb_S4x4096_S1x128_2_2816 inb_S4x4096_S1x128_3_2816 inb_S512x4096_S128x128_256_2816 x, ?_⟩
  refine List.forall_mem_cons.mpr ⟨fun x => piece arg12.view _ _ hL x5 x6 256 2688 inb_S520x4096_S136x128_256_2688 inb_S1x4096_S1x128_0_2688 inb_S4x4096_S1x128_0_2688 inb_S4x4096_S1x128_1_2688 inb_S4x4096_S1x128_2_2688 inb_S4x4096_S1x128_3_2688 inb_S512x4096_S128x128_256_2688 x, ?_⟩
  refine List.forall_mem_cons.mpr ⟨fun x => piece arg12.view _ _ hL x5 x6 256 2560 inb_S520x4096_S136x128_256_2560 inb_S1x4096_S1x128_0_2560 inb_S4x4096_S1x128_0_2560 inb_S4x4096_S1x128_1_2560 inb_S4x4096_S1x128_2_2560 inb_S4x4096_S1x128_3_2560 inb_S512x4096_S128x128_256_2560 x, ?_⟩
  refine List.forall_mem_cons.mpr ⟨fun x => piece arg12.view _ _ hL x5 x6 256 2432 inb_S520x4096_S136x128_256_2432 inb_S1x4096_S1x128_0_2432 inb_S4x4096_S1x128_0_2432 inb_S4x4096_S1x128_1_2432 inb_S4x4096_S1x128_2_2432 inb_S4x4096_S1x128_3_2432 inb_S512x4096_S128x128_256_2432 x, ?_⟩
  refine List.forall_mem_cons.mpr ⟨fun x => piece arg12.view _ _ hL x5 x6 256 2304 inb_S520x4096_S136x128_256_2304 inb_S1x4096_S1x128_0_2304 inb_S4x4096_S1x128_0_2304 inb_S4x4096_S1x128_1_2304 inb_S4x4096_S1x128_2_2304 inb_S4x4096_S1x128_3_2304 inb_S512x4096_S128x128_256_2304 x, ?_⟩
  refine List.forall_mem_cons.mpr ⟨fun x => piece arg12.view _ _ hL x5 x6 256 2176 inb_S520x4096_S136x128_256_2176 inb_S1x4096_S1x128_0_2176 inb_S4x4096_S1x128_0_2176 inb_S4x4096_S1x128_1_2176 inb_S4x4096_S1x128_2_2176 inb_S4x4096_S1x128_3_2176 inb_S512x4096_S128x128_256_2176 x, ?_⟩
  refine List.forall_mem_cons.mpr ⟨fun x => piece arg12.view _ _ hL x5 x6 256 2048 inb_S520x4096_S136x128_256_2048 inb_S1x4096_S1x128_0_2048 inb_S4x4096_S1x128_0_2048 inb_S4x4096_S1x128_1_2048 inb_S4x4096_S1x128_2_2048 inb_S4x4096_S1x128_3_2048 inb_S512x4096_S128x128_256_2048 x, ?_⟩
  refine List.forall_mem_cons.mpr ⟨fun x => piece arg12.view _ _ hL x5 x6 256 1920 inb_S520x4096_S136x128_256_1920 inb_S1x4096_S1x128_0_1920 inb_S4x4096_S1x128_0_1920 inb_S4x4096_S1x128_1_1920 inb_S4x4096_S1x128_2_1920 inb_S4x4096_S1x128_3_1920 inb_S512x4096_S128x128_256_1920 x, ?_⟩
  refine List.forall_mem_cons.mpr ⟨fun x => piece arg12.view _ _ hL x5 x6 256 1792 inb_S520x4096_S136x128_256_1792 inb_S1x4096_S1x128_0_1792 inb_S4x4096_S1x128_0_1792 inb_S4x4096_S1x128_1_1792 inb_S4x4096_S1x128_2_1792 inb_S4x4096_S1x128_3_1792 inb_S512x4096_S128x128_256_1792 x, ?_⟩
  refine List.forall_mem_cons.mpr ⟨fun x => piece arg12.view _ _ hL x5 x6 256 1664 inb_S520x4096_S136x128_256_1664 inb_S1x4096_S1x128_0_1664 inb_S4x4096_S1x128_0_1664 inb_S4x4096_S1x128_1_1664 inb_S4x4096_S1x128_2_1664 inb_S4x4096_S1x128_3_1664 inb_S512x4096_S128x128_256_1664 x, ?_⟩
  refine List.forall_mem_cons.mpr ⟨fun x => piece arg12.view _ _ hL x5 x6 256 1536 inb_S520x4096_S136x128_256_1536 inb_S1x4096_S1x128_0_1536 inb_S4x4096_S1x128_0_1536 inb_S4x4096_S1x128_1_1536 inb_S4x4096_S1x128_2_1536 inb_S4x4096_S1x128_3_1536 inb_S512x4096_S128x128_256_1536 x, ?_⟩
  refine List.forall_mem_cons.mpr ⟨fun x => piece arg12.view _ _ hL x5 x6 256 1408 inb_S520x4096_S136x128_256_1408 inb_S1x4096_S1x128_0_1408 inb_S4x4096_S1x128_0_1408 inb_S4x4096_S1x128_1_1408 inb_S4x4096_S1x128_2_1408 inb_S4x4096_S1x128_3_1408 inb_S512x4096_S128x128_256_1408 x, ?_⟩
  refine List.forall_mem_cons.mpr ⟨fun x => piece arg12.view _ _ hL x5 x6 256 1280 inb_S520x4096_S136x128_256_1280 inb_S1x4096_S1x128_0_1280 inb_S4x4096_S1x128_0_1280 inb_S4x4096_S1x128_1_1280 inb_S4x4096_S1x128_2_1280 inb_S4x4096_S1x128_3_1280 inb_S512x4096_S128x128_256_1280 x, ?_⟩
  refine List.forall_mem_cons.mpr ⟨fun x => piece arg12.view _ _ hL x5 x6 256 1152 inb_S520x4096_S136x128_256_1152 inb_S1x4096_S1x128_0_1152 inb_S4x4096_S1x128_0_1152 inb_S4x4096_S1x128_1_1152 inb_S4x4096_S1x128_2_1152 inb_S4x4096_S1x128_3_1152 inb_S512x4096_S128x128_256_1152 x, ?_⟩
  refine List.forall_mem_cons.mpr ⟨fun x => piece arg12.view _ _ hL x5 x6 256 1024 inb_S520x4096_S136x128_256_1024 inb_S1x4096_S1x128_0_1024 inb_S4x4096_S1x128_0_1024 inb_S4x4096_S1x128_1_1024 inb_S4x4096_S1x128_2_1024 inb_S4x4096_S1x128_3_1024 inb_S512x4096_S128x128_256_1024 x, ?_⟩
  refine List.forall_mem_cons.mpr ⟨fun x => piece arg12.view _ _ hL x5 x6 256 896 inb_S520x4096_S136x128_256_896 inb_S1x4096_S1x128_0_896 inb_S4x4096_S1x128_0_896 inb_S4x4096_S1x128_1_896 inb_S4x4096_S1x128_2_896 inb_S4x4096_S1x128_3_896 inb_S512x4096_S128x128_256_896 x, ?_⟩
  refine List.forall_mem_cons.mpr ⟨fun x => piece arg12.view _ _ hL x5 x6 256 768 inb_S520x4096_S136x128_256_768 inb_S1x4096_S1x128_0_768 inb_S4x4096_S1x128_0_768 inb_S4x4096_S1x128_1_768 inb_S4x4096_S1x128_2_768 inb_S4x4096_S1x128_3_768 inb_S512x4096_S128x128_256_768 x, ?_⟩
  refine List.forall_mem_cons.mpr ⟨fun x => piece arg12.view _ _ hL x5 x6 256 640 inb_S520x4096_S136x128_256_640 inb_S1x4096_S1x128_0_640 inb_S4x4096_S1x128_0_640 inb_S4x4096_S1x128_1_640 inb_S4x4096_S1x128_2_640 inb_S4x4096_S1x128_3_640 inb_S512x4096_S128x128_256_640 x, ?_⟩
  refine List.forall_mem_cons.mpr ⟨fun x => piece arg12.view _ _ hL x5 x6 256 512 inb_S520x4096_S136x128_256_512 inb_S1x4096_S1x128_0_512 inb_S4x4096_S1x128_0_512 inb_S4x4096_S1x128_1_512 inb_S4x4096_S1x128_2_512 inb_S4x4096_S1x128_3_512 inb_S512x4096_S128x128_256_512 x, ?_⟩
  refine List.forall_mem_cons.mpr ⟨fun x => piece arg12.view _ _ hL x5 x6 256 384 inb_S520x4096_S136x128_256_384 inb_S1x4096_S1x128_0_384 inb_S4x4096_S1x128_0_384 inb_S4x4096_S1x128_1_384 inb_S4x4096_S1x128_2_384 inb_S4x4096_S1x128_3_384 inb_S512x4096_S128x128_256_384 x, ?_⟩
  refine List.forall_mem_cons.mpr ⟨fun x => piece arg12.view _ _ hL x5 x6 256 256 inb_S520x4096_S136x128_256_256 inb_S1x4096_S1x128_0_256 inb_S4x4096_S1x128_0_256 inb_S4x4096_S1x128_1_256 inb_S4x4096_S1x128_2_256 inb_S4x4096_S1x128_3_256 inb_S512x4096_S128x128_256_256 x, ?_⟩
  refine List.forall_mem_cons.mpr ⟨fun x => piece arg12.view _ _ hL x5 x6 256 128 inb_S520x4096_S136x128_256_128 inb_S1x4096_S1x128_0_128 inb_S4x4096_S1x128_0_128 inb_S4x4096_S1x128_1_128 inb_S4x4096_S1x128_2_128 inb_S4x4096_S1x128_3_128 inb_S512x4096_S128x128_256_128 x, ?_⟩
  refine List.forall_mem_cons.mpr ⟨fun x => piece arg12.view _ _ hL x5 x6 256 0 inb_S520x4096_S136x128_256_0 inb_S1x4096_S1x128_0_0 inb_S4x4096_S1x128_0_0 inb_S4x4096_S1x128_1_0 inb_S4x4096_S1x128_2_0 inb_S4x4096_S1x128_3_0 inb_S512x4096_S128x128_256_0 x, ?_⟩
  refine List.forall_mem_cons.mpr ⟨fun x => piece arg12.view _ _ hL x5 x6 128 3968 inb_S520x4096_S136x128_128_3968 inb_S1x4096_S1x128_0_3968 inb_S4x4096_S1x128_0_3968 inb_S4x4096_S1x128_1_3968 inb_S4x4096_S1x128_2_3968 inb_S4x4096_S1x128_3_3968 inb_S512x4096_S128x128_128_3968 x, ?_⟩
  refine List.forall_mem_cons.mpr ⟨fun x => piece arg12.view _ _ hL x5 x6 128 3840 inb_S520x4096_S136x128_128_3840 inb_S1x4096_S1x128_0_3840 inb_S4x4096_S1x128_0_3840 inb_S4x4096_S1x128_1_3840 inb_S4x4096_S1x128_2_3840 inb_S4x4096_S1x128_3_3840 inb_S512x4096_S128x128_128_3840 x, ?_⟩
  refine List.forall_mem_cons.mpr ⟨fun x => piece arg12.view _ _ hL x5 x6 128 3712 inb_S520x4096_S136x128_128_3712 inb_S1x4096_S1x128_0_3712 inb_S4x4096_S1x128_0_3712 inb_S4x4096_S1x128_1_3712 inb_S4x4096_S1x128_2_3712 inb_S4x4096_S1x128_3_3712 inb_S512x4096_S128x128_128_3712 x, ?_⟩
  refine List.forall_mem_cons.mpr ⟨fun x => piece arg12.view _ _ hL x5 x6 128 3584 inb_S520x4096_S136x128_128_3584 inb_S1x4096_S1x128_0_3584 inb_S4x4096_S1x128_0_3584 inb_S4x4096_S1x128_1_3584 inb_S4x4096_S1x128_2_3584 inb_S4x4096_S1x128_3_3584 inb_S512x4096_S128x128_128_3584 x, ?_⟩
  refine List.forall_mem_cons.mpr ⟨fun x => piece arg12.view _ _ hL x5 x6 128 3456 inb_S520x4096_S136x128_128_3456 inb_S1x4096_S1x128_0_3456 inb_S4x4096_S1x128_0_3456 inb_S4x4096_S1x128_1_3456 inb_S4x4096_S1x128_2_3456 inb_S4x4096_S1x128_3_3456 inb_S512x4096_S128x128_128_3456 x, ?_⟩
  refine List.forall_mem_cons.mpr ⟨fun x => piece arg12.view _ _ hL x5 x6 128 3328 inb_S520x4096_S136x128_128_3328 inb_S1x4096_S1x128_0_3328 inb_S4x4096_S1x128_0_3328 inb_S4x4096_S1x128_1_3328 inb_S4x4096_S1x128_2_3328 inb_S4x4096_S1x128_3_3328 inb_S512x4096_S128x128_128_3328 x, ?_⟩
  refine List.forall_mem_cons.mpr ⟨fun x => piece arg12.view _ _ hL x5 x6 128 3200 inb_S520x4096_S136x128_128_3200 inb_S1x4096_S1x128_0_3200 inb_S4x4096_S1x128_0_3200 inb_S4x4096_S1x128_1_3200 inb_S4x4096_S1x128_2_3200 inb_S4x4096_S1x128_3_3200 inb_S512x4096_S128x128_128_3200 x, ?_⟩
  refine List.forall_mem_cons.mpr ⟨fun x => piece arg12.view _ _ hL x5 x6 128 3072 inb_S520x4096_S136x128_128_3072 inb_S1x4096_S1x128_0_3072 inb_S4x4096_S1x128_0_3072 inb_S4x4096_S1x128_1_3072 inb_S4x4096_S1x128_2_3072 inb_S4x4096_S1x128_3_3072 inb_S512x4096_S128x128_128_3072 x, ?_⟩
  refine List.forall_mem_cons.mpr ⟨fun x => piece arg12.view _ _ hL x5 x6 128 2944 inb_S520x4096_S136x128_128_2944 inb_S1x4096_S1x128_0_2944 inb_S4x4096_S1x128_0_2944 inb_S4x4096_S1x128_1_2944 inb_S4x4096_S1x128_2_2944 inb_S4x4096_S1x128_3_2944 inb_S512x4096_S128x128_128_2944 x, ?_⟩
  refine List.forall_mem_cons.mpr ⟨fun x => piece arg12.view _ _ hL x5 x6 128 2816 inb_S520x4096_S136x128_128_2816 inb_S1x4096_S1x128_0_2816 inb_S4x4096_S1x128_0_2816 inb_S4x4096_S1x128_1_2816 inb_S4x4096_S1x128_2_2816 inb_S4x4096_S1x128_3_2816 inb_S512x4096_S128x128_128_2816 x, ?_⟩
  refine List.forall_mem_cons.mpr ⟨fun x => piece arg12.view _ _ hL x5 x6 128 2688 inb_S520x4096_S136x128_128_2688 inb_S1x4096_S1x128_0_2688 inb_S4x4096_S1x128_0_2688 inb_S4x4096_S1x128_1_2688 inb_S4x4096_S1x128_2_2688 inb_S4x4096_S1x128_3_2688 inb_S512x4096_S128x128_128_2688 x, ?_⟩
  refine List.forall_mem_cons.mpr ⟨fun x => piece arg12.view _ _ hL x5 x6 128 2560 inb_S520x4096_S136x128_128_2560 inb_S1x4096_S1x128_0_2560 inb_S4x4096_S1x128_0_2560 inb_S4x4096_S1x128_1_2560 inb_S4x4096_S1x128_2_2560 inb_S4x4096_S1x128_3_2560 inb_S512x4096_S128x128_128_2560 x, ?_⟩
  refine List.forall_mem_cons.mpr ⟨fun x => piece arg12.view _ _ hL x5 x6 128 2432 inb_S520x4096_S136x128_128_2432 inb_S1x4096_S1x128_0_2432 inb_S4x4096_S1x128_0_2432 inb_S4x4096_S1x128_1_2432 inb_S4x4096_S1x128_2_2432 inb_S4x4096_S1x128_3_2432 inb_S512x4096_S128x128_128_2432 x, ?_⟩
  refine List.forall_mem_cons.mpr ⟨fun x => piece arg12.view _ _ hL x5 x6 128 2304 inb_S520x4096_S136x128_128_2304 inb_S1x4096_S1x128_0_2304 inb_S4x4096_S1x128_0_2304 inb_S4x4096_S1x128_1_2304 inb_S4x4096_S1x128_2_2304 inb_S4x4096_S1x128_3_2304 inb_S512x4096_S128x128_128_2304 x, ?_⟩
  refine List.forall_mem_cons.mpr ⟨fun x => piece arg12.view _ _ hL x5 x6 128 2176 inb_S520x4096_S136x128_128_2176 inb_S1x4096_S1x128_0_2176 inb_S4x4096_S1x128_0_2176 inb_S4x4096_S1x128_1_2176 inb_S4x4096_S1x128_2_2176 inb_S4x4096_S1x128_3_2176 inb_S512x4096_S128x128_128_2176 x, ?_⟩
  refine List.forall_mem_cons.mpr ⟨fun x => piece arg12.view _ _ hL x5 x6 128 2048 inb_S520x4096_S136x128_128_2048 inb_S1x4096_S1x128_0_2048 inb_S4x4096_S1x128_0_2048 inb_S4x4096_S1x128_1_2048 inb_S4x4096_S1x128_2_2048 inb_S4x4096_S1x128_3_2048 inb_S512x4096_S128x128_128_2048 x, ?_⟩
  refine List.forall_mem_cons.mpr ⟨fun x => piece arg12.view _ _ hL x5 x6 128 1920 inb_S520x4096_S136x128_128_1920 inb_S1x4096_S1x128_0_1920 inb_S4x4096_S1x128_0_1920 inb_S4x4096_S1x128_1_1920 inb_S4x4096_S1x128_2_1920 inb_S4x4096_S1x128_3_1920 inb_S512x4096_S128x128_128_1920 x, ?_⟩
  refine List.forall_mem_cons.mpr ⟨fun x => piece arg12.view _ _ hL x5 x6 128 1792 inb_S520x4096_S136x128_128_1792 inb_S1x4096_S1x128_0_1792 inb_S4x4096_S1x128_0_1792 inb_S4x4096_S1x128_1_1792 inb_S4x4096_S1x128_2_1792 inb_S4x4096_S1x128_3_1792 inb_S512x4096_S128x128_128_1792 x, ?_⟩
  refine List.forall_mem_cons.mpr ⟨fun x => piece arg12.view _ _ hL x5 x6 128 1664 inb_S520x4096_S136x128_128_1664 inb_S1x4096_S1x128_0_1664 inb_S4x4096_S1x128_0_1664 inb_S4x4096_S1x128_1_1664 inb_S4x4096_S1x128_2_1664 inb_S4x4096_S1x128_3_1664 inb_S512x4096_S128x128_128_1664 x, ?_⟩
  refine List.forall_mem_cons.mpr ⟨fun x => piece arg12.view _ _ hL x5 x6 128 1536 inb_S520x4096_S136x128_128_1536 inb_S1x4096_S1x128_0_1536 inb_S4x4096_S1x128_0_1536 inb_S4x4096_S1x128_1_1536 inb_S4x4096_S1x128_2_1536 inb_S4x4096_S1x128_3_1536 inb_S512x4096_S128x128_128_1536 x, ?_⟩
  refine List.forall_mem_cons.mpr ⟨fun x => piece arg12.view _ _ hL x5 x6 128 1408 inb_S520x4096_S136x128_128_1408 inb_S1x4096_S1x128_0_1408 inb_S4x4096_S1x128_0_1408 inb_S4x4096_S1x128_1_1408 inb_S4x4096_S1x128_2_1408 inb_S4x4096_S1x128_3_1408 inb_S512x4096_S128x128_128_1408 x, ?_⟩
  refine List.forall_mem_cons.mpr ⟨fun x => piece arg12.view _ _ hL x5 x6 128 1280 inb_S520x4096_S136x128_128_1280 inb_S1x4096_S1x128_0_1280 inb_S4x4096_S1x128_0_1280 inb_S4x4096_S1x128_1_1280 inb_S4x4096_S1x128_2_1280 inb_S4x4096_S1x128_3_1280 inb_S512x4096_S128x128_128_1280 x, ?_⟩
  refine List.forall_mem_cons.mpr ⟨fun x => piece arg12.view _ _ hL x5 x6 128 1152 inb_S520x4096_S136x128_128_1152 inb_S1x4096_S1x128_0_1152 inb_S4x4096_S1x128_0_1152 inb_S4x4096_S1x128_1_1152 inb_S4x4096_S1x128_2_1152 inb_S4x4096_S1x128_3_1152 inb_S512x4096_S128x128_128_1152 x, ?_⟩
  refine List.forall_mem_cons.mpr ⟨fun x => piece arg12.view _ _ hL x5 x6 128 1024 inb_S520x4096_S136x128_128_1024 inb_S1x4096_S1x128_0_1024 inb_S4x4096_S1x128_0_1024 inb_S4x4096_S1x128_1_1024 inb_S4x4096_S1x128_2_1024 inb_S4x4096_S1x128_3_1024 inb_S512x4096_S128x128_128_1024 x, ?_⟩
  refine List.forall_mem_cons.mpr ⟨fun x => piece arg12.view _ _ hL x5 x6 128 896 inb_S520x4096_S136x128_128_896 inb_S1x4096_S1x128_0_896 inb_S4x4096_S1x128_0_896 inb_S4x4096_S1x128_1_896 inb_S4x4096_S1x128_2_896 inb_S4x4096_S1x128_3_896 inb_S512x4096_S128x128_128_896 x, ?_⟩
  refine List.forall_mem_cons.mpr ⟨fun x => piece arg12.view _ _ hL x5 x6 128 768 inb_S520x4096_S136x128_128_768 inb_S1x4096_S1x128_0_768 inb_S4x4096_S1x128_0_768 inb_S4x4096_S1x128_1_768 inb_S4x4096_S1x128_2_768 inb_S4x4096_S1x128_3_768 inb_S512x4096_S128x128_128_768 x, ?_⟩
  refine List.forall_mem_cons.mpr ⟨fun x => piece arg12.view _ _ hL x5 x6 128 640 inb_S520x4096_S136x128_128_640 inb_S1x4096_S1x128_0_640 inb_S4x4096_S1x128_0_640 inb_S4x4096_S1x128_1_640 inb_S4x4096_S1x128_2_640 inb_S4x4096_S1x128_3_640 inb_S512x4096_S128x128_128_640 x, ?_⟩
  refine List.forall_mem_cons.mpr ⟨fun x => piece arg12.view _ _ hL x5 x6 128 512 inb_S520x4096_S136x128_128_512 inb_S1x4096_S1x128_0_512 inb_S4x4096_S1x128_0_512 inb_S4x4096_S1x128_1_512 inb_S4x4096_S1x128_2_512 inb_S4x4096_S1x128_3_512 inb_S512x4096_S128x128_128_512 x, ?_⟩
  refine List.forall_mem_cons.mpr ⟨fun x => piece arg12.view _ _ hL x5 x6 128 384 inb_S520x4096_S136x128_128_384 inb_S1x4096_S1x128_0_384 inb_S4x4096_S1x128_0_384 inb_S4x4096_S1x128_1_384 inb_S4x4096_S1x128_2_384 inb_S4x4096_S1x128_3_384 inb_S512x4096_S128x128_128_384 x, ?_⟩
  refine List.forall_mem_cons.mpr ⟨fun x => piece arg12.view _ _ hL x5 x6 128 256 inb_S520x4096_S136x128_128_256 inb_S1x4096_S1x128_0_256 inb_S4x4096_S1x128_0_256 inb_S4x4096_S1x128_1_256 inb_S4x4096_S1x128_2_256 inb_S4x4096_S1x128_3_256 inb_S512x4096_S128x128_128_256 x, ?_⟩
  refine List.forall_mem_cons.mpr ⟨fun x => piece arg12.view _ _ hL x5 x6 128 128 inb_S520x4096_S136x128_128_128 inb_S1x4096_S1x128_0_128 inb_S4x4096_S1x128_0_128 inb_S4x4096_S1x128_1_128 inb_S4x4096_S1x128_2_128 inb_S4x4096_S1x128_3_128 inb_S512x4096_S128x128_128_128 x, ?_⟩
  refine List.forall_mem_cons.mpr ⟨fun x => piece arg12.view _ _ hL x5 x6 128 0 inb_S520x4096_S136x128_128_0 inb_S1x4096_S1x128_0_0 inb_S4x4096_S1x128_0_0 inb_S4x4096_S1x128_1_0 inb_S4x4096_S1x128_2_0 inb_S4x4096_S1x128_3_0 inb_S512x4096_S128x128_128_0 x, ?_⟩
  refine List.forall_mem_cons.mpr ⟨fun x => piece arg12.view _ _ hL x5 x6 0 3968 inb_S520x4096_S136x128_0_3968 inb_S1x4096_S1x128_0_3968 inb_S4x4096_S1x128_0_3968 inb_S4x4096_S1x128_1_3968 inb_S4x4096_S1x128_2_3968 inb_S4x4096_S1x128_3_3968 inb_S512x4096_S128x128_0_3968 x, ?_⟩
  refine List.forall_mem_cons.mpr ⟨fun x => piece arg12.view _ _ hL x5 x6 0 3840 inb_S520x4096_S136x128_0_3840 inb_S1x4096_S1x128_0_3840 inb_S4x4096_S1x128_0_3840 inb_S4x4096_S1x128_1_3840 inb_S4x4096_S1x128_2_3840 inb_S4x4096_S1x128_3_3840 inb_S512x4096_S128x128_0_3840 x, ?_⟩
  refine List.forall_mem_cons.mpr ⟨fun x => piece arg12.view _ _ hL x5 x6 0 3712 inb_S520x4096_S136x128_0_3712 inb_S1x4096_S1x128_0_3712 inb_S4x4096_S1x128_0_3712 inb_S4x4096_S1x128_1_3712 inb_S4x4096_S1x128_2_3712 inb_S4x4096_S1x128_3_3712 inb_S512x4096_S128x128_0_3712 x, ?_⟩
  refine List.forall_mem_cons.mpr ⟨fun x => piece arg12.view _ _ hL x5 x6 0 3584 inb_S520x4096_S136x128_0_3584 inb_S1x4096_S1x128_0_3584 inb_S4x4096_S1x128_0_3584 inb_S4x4096_S1x128_1_3584 inb_S4x4096_S1x128_2_3584 inb_S4x4096_S1x128_3_3584 inb_S512x4096_S128x128_0_3584 x, ?_⟩
  refine List.forall_mem_cons.mpr ⟨fun x => piece arg12.view _ _ hL x5 x6 0 3456 inb_S520x4096_S136x128_0_3456 inb_S1x4096_S1x128_0_3456 inb_S4x4096_S1x128_0_3456 inb_S4x4096_S1x128_1_3456 inb_S4x4096_S1x128_2_3456 inb_S4x4096_S1x128_3_3456 inb_S512x4096_S128x128_0_3456 x, ?_⟩
  refine List.forall_mem_cons.mpr ⟨fun x => piece arg12.view _ _ hL x5 x6 0 3328 inb_S520x4096_S136x128_0_3328 inb_S1x4096_S1x128_0_3328 inb_S4x4096_S1x128_0_3328 inb_S4x4096_S1x128_1_3328 inb_S4x4096_S1x128_2_3328 inb_S4x4096_S1x128_3_3328 inb_S512x4096_S128x128_0_3328 x, ?_⟩
  refine List.forall_mem_cons.mpr ⟨fun x => piece arg12.view _ _ hL x5 x6 0 3200 inb_S520x4096_S136x128_0_3200 inb_S1x4096_S1x128_0_3200 inb_S4x4096_S1x128_0_3200 inb_S4x4096_S1x128_1_3200 inb_S4x4096_S1x128_2_3200 inb_S4x4096_S1x128_3_3200 inb_S512x4096_S128x128_0_3200 x, ?_⟩
  refine List.forall_mem_cons.mpr ⟨fun x => piece arg12.view _ _ hL x5 x6 0 3072 inb_S520x4096_S136x128_0_3072 inb_S1x4096_S1x128_0_3072 inb_S4x4096_S1x128_0_3072 inb_S4x4096_S1x128_1_3072 inb_S4x4096_S1x128_2_3072 inb_S4x4096_S1x128_3_3072 inb_S512x4096_S128x128_0_3072 x, ?_⟩
  refine List.forall_mem_cons.mpr ⟨fun x => piece arg12.view _ _ hL x5 x6 0 2944 inb_S520x4096_S136x128_0_2944 inb_S1x4096_S1x128_0_2944 inb_S4x4096_S1x128_0_2944 inb_S4x4096_S1x128_1_2944 inb_S4x4096_S1x128_2_2944 inb_S4x4096_S1x128_3_2944 inb_S512x4096_S128x128_0_2944 x, ?_⟩
  refine List.forall_mem_cons.mpr ⟨fun x => piece arg12.view _ _ hL x5 x6 0 2816 inb_S520x4096_S136x128_0_2816 inb_S1x4096_S1x128_0_2816 inb_S4x4096_S1x128_0_2816 inb_S4x4096_S1x128_1_2816 inb_S4x4096_S1x128_2_2816 inb_S4x4096_S1x128_3_2816 inb_S512x4096_S128x128_0_2816 x, ?_⟩
  refine List.forall_mem_cons.mpr ⟨fun x => piece arg12.view _ _ hL x5 x6 0 2688 inb_S520x4096_S136x128_0_2688 inb_S1x4096_S1x128_0_2688 inb_S4x4096_S1x128_0_2688 inb_S4x4096_S1x128_1_2688 inb_S4x4096_S1x128_2_2688 inb_S4x4096_S1x128_3_2688 inb_S512x4096_S128x128_0_2688 x, ?_⟩
  refine List.forall_mem_cons.mpr ⟨fun x => piece arg12.view _ _ hL x5 x6 0 2560 inb_S520x4096_S136x128_0_2560 inb_S1x4096_S1x128_0_2560 inb_S4x4096_S1x128_0_2560 inb_S4x4096_S1x128_1_2560 inb_S4x4096_S1x128_2_2560 inb_S4x4096_S1x128_3_2560 inb_S512x4096_S128x128_0_2560 x, ?_⟩
  refine List.forall_mem_cons.mpr ⟨fun x => piece arg12.view _ _ hL x5 x6 0 2432 inb_S520x4096_S136x128_0_2432 inb_S1x4096_S1x128_0_2432 inb_S4x4096_S1x128_0_2432 inb_S4x4096_S1x128_1_2432 inb_S4x4096_S1x128_2_2432 inb_S4x4096_S1x128_3_2432 inb_S512x4096_S128x128_0_2432 x, ?_⟩
  refine List.forall_mem_cons.mpr ⟨fun x => piece arg12.view _ _ hL x5 x6 0 2304 inb_S520x4096_S136x128_0_2304 inb_S1x4096_S1x128_0_2304 inb_S4x4096_S1x128_0_2304 inb_S4x4096_S1x128_1_2304 inb_S4x4096_S1x128_2_2304 inb_S4x4096_S1x128_3_2304 inb_S512x4096_S128x128_0_2304 x, ?_⟩
  refine List.forall_mem_cons.mpr ⟨fun x => piece arg12.view _ _ hL x5 x6 0 2176 inb_S520x4096_S136x128_0_2176 inb_S1x4096_S1x128_0_2176 inb_S4x4096_S1x128_0_2176 inb_S4x4096_S1x128_1_2176 inb_S4x4096_S1x128_2_2176 inb_S4x4096_S1x128_3_2176 inb_S512x4096_S128x128_0_2176 x, ?_⟩
  refine List.forall_mem_cons.mpr ⟨fun x => piece arg12.view _ _ hL x5 x6 0 2048 inb_S520x4096_S136x128_0_2048 inb_S1x4096_S1x128_0_2048 inb_S4x4096_S1x128_0_2048 inb_S4x4096_S1x128_1_2048 inb_S4x4096_S1x128_2_2048 inb_S4x4096_S1x128_3_2048 inb_S512x4096_S128x128_0_2048 x, ?_⟩
  refine List.forall_mem_cons.mpr ⟨fun x => piece arg12.view _ _ hL x5 x6 0 1920 inb_S520x4096_S136x128_0_1920 inb_S1x4096_S1x128_0_1920 inb_S4x4096_S1x128_0_1920 inb_S4x4096_S1x128_1_1920 inb_S4x4096_S1x128_2_1920 inb_S4x4096_S1x128_3_1920 inb_S512x4096_S128x128_0_1920 x, ?_⟩
  refine List.forall_mem_cons.mpr ⟨fun x => piece arg12.view _ _ hL x5 x6 0 1792 inb_S520x4096_S136x128_0_1792 inb_S1x4096_S1x128_0_1792 inb_S4x4096_S1x128_0_1792 inb_S4x4096_S1x128_1_1792 inb_S4x4096_S1x128_2_1792 inb_S4x4096_S1x128_3_1792 inb_S512x4096_S128x128_0_1792 x, ?_⟩
  refine List.forall_mem_cons.mpr ⟨fun x => piece arg12.view _ _ hL x5 x6 0 1664 inb_S520x4096_S136x128_0_1664 inb_S1x4096_S1x128_0_1664 inb_S4x4096_S1x128_0_1664 inb_S4x4096_S1x128_1_1664 inb_S4x4096_S1x128_2_1664 inb_S4x4096_S1x128_3_1664 inb_S512x4096_S128x128_0_1664 x, ?_⟩
  refine List.forall_mem_cons.mpr ⟨fun x => piece arg12.view _ _ hL x5 x6 0 1536 inb_S520x4096_S136x128_0_1536 inb_S1x4096_S1x128_0_1536 inb_S4x4096_S1x128_0_1536 inb_S4x4096_S1x128_1_1536 inb_S4x4096_S1x128_2_1536 inb_S4x4096_S1x128_3_1536 inb_S512x4096_S128x128_0_1536 x, ?_⟩
  refine List.forall_mem_cons.mpr ⟨fun x => piece arg12.view _ _ hL x5 x6 0 1408 inb_S520x4096_S136x128_0_1408 inb_S1x4096_S1x128_0_1408 inb_S4x4096_S1x128_0_1408 inb_S4x4096_S1x128_1_1408 inb_S4x4096_S1x128_2_1408 inb_S4x4096_S1x128_3_1408 inb_S512x4096_S128x128_0_1408 x, ?_⟩
  refine List.forall_mem_cons.mpr ⟨fun x => piece arg12.view _ _ hL x5 x6 0 1280 inb_S520x4096_S136x128_0_1280 inb_S1x4096_S1x128_0_1280 inb_S4x4096_S1x128_0_1280 inb_S4x4096_S1x128_1_1280 inb_S4x4096_S1x128_2_1280 inb_S4x4096_S1x128_3_1280 inb_S512x4096_S128x128_0_1280 x, ?_⟩
  refine List.forall_mem_cons.mpr ⟨fun x => piece arg12.view _ _ hL x5 x6 0 1152 inb_S520x4096_S136x128_0_1152 inb_S1x4096_S1x128_0_1152 inb_S4x4096_S1x128_0_1152 inb_S4x4096_S1x128_1_1152 inb_S4x4096_S1x128_2_1152 inb_S4x4096_S1x128_3_1152 inb_S512x4096_S128x128_0_1152 x, ?_⟩
  refine List.forall_mem_cons.mpr ⟨fun x => piece arg12.view _ _ hL x5 x6 0 1024 inb_S520x4096_S136x128_0_1024 inb_S1x4096_S1x128_0_1024 inb_S4x4096_S1x128_0_1024 inb_S4x4096_S1x128_1_1024 inb_S4x4096_S1x128_2_1024 inb_S4x4096_S1x128_3_1024 inb_S512x4096_S128x128_0_1024 x, ?_⟩
  refine List.forall_mem_cons.mpr ⟨fun x => piece arg12.view _ _ hL x5 x6 0 896 inb_S520x4096_S136x128_0_896 inb_S1x4096_S1x128_0_896 inb_S4x4096_S1x128_0_896 inb_S4x4096_S1x128_1_896 inb_S4x4096_S1x128_2_896 inb_S4x4096_S1x128_3_896 inb_S512x4096_S128x128_0_896 x, ?_⟩
  refine List.forall_mem_cons.mpr ⟨fun x => piece arg12.view _ _ hL x5 x6 0 768 inb_S520x4096_S136x128_0_768 inb_S1x4096_S1x128_0_768 inb_S4x4096_S1x128_0_768 inb_S4x4096_S1x128_1_768 inb_S4x4096_S1x128_2_768 inb_S4x4096_S1x128_3_768 inb_S512x4096_S128x128_0_768 x, ?_⟩
  refine List.forall_mem_cons.mpr ⟨fun x => piece arg12.view _ _ hL x5 x6 0 640 inb_S520x4096_S136x128_0_640 inb_S1x4096_S1x128_0_640 inb_S4x4096_S1x128_0_640 inb_S4x4096_S1x128_1_640 inb_S4x4096_S1x128_2_640 inb_S4x4096_S1x128_3_640 inb_S512x4096_S128x128_0_640 x, ?_⟩
  refine List.forall_mem_cons.mpr ⟨fun x => piece arg12.view _ _ hL x5 x6 0 512 inb_S520x4096_S136x128_0_512 inb_S1x4096_S1x128_0_512 inb_S4x4096_S1x128_0_512 inb_S4x4096_S1x128_1_512 inb_S4x4096_S1x128_2_512 inb_S4x4096_S1x128_3_512 inb_S512x4096_S128x128_0_512 x, ?_⟩
  refine List.forall_mem_cons.mpr ⟨fun x => piece arg12.view _ _ hL x5 x6 0 384 inb_S520x4096_S136x128_0_384 inb_S1x4096_S1x128_0_384 inb_S4x4096_S1x128_0_384 inb_S4x4096_S1x128_1_384 inb_S4x4096_S1x128_2_384 inb_S4x4096_S1x128_3_384 inb_S512x4096_S128x128_0_384 x, ?_⟩
  refine List.forall_mem_cons.mpr ⟨fun x => piece arg12.view _ _ hL x5 x6 0 256 inb_S520x4096_S136x128_0_256 inb_S1x4096_S1x128_0_256 inb_S4x4096_S1x128_0_256 inb_S4x4096_S1x128_1_256 inb_S4x4096_S1x128_2_256 inb_S4x4096_S1x128_3_256 inb_S512x4096_S128x128_0_256 x, ?_⟩
  refine List.forall_mem_cons.mpr ⟨fun x => piece arg12.view _ _ hL x5 x6 0 128 inb_S520x4096_S136x128_0_128 inb_S1x4096_S1x128_0_128 inb_S4x4096_S1x128_0_128 inb_S4x4096_S1x128_1_128 inb_S4x4096_S1x128_2_128 inb_S4x4096_S1x128_3_128 inb_S512x4096_S128x128_0_128 x, ?_⟩
  refine List.forall_mem_cons.mpr ⟨fun x => piece arg12.view _ _ hL x5 x6 0 0 inb_S520x4096_S136x128_0_0 inb_S1x4096_S1x128_0_0 inb_S4x4096_S1x128_0_0 inb_S4x4096_S1x128_1_0 inb_S4x4096_S1x128_2_0 inb_S4x4096_S1x128_3_0 inb_S512x4096_S128x128_0_0 x, ?_⟩
  exact fun _ h => absurd h List.not_mem_nil

theorem scr_C (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (y : S520x4096.Idx) :
    sout0_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 y = scr (prevHd xs0) x0 x2 y := by
  frame_open
  frame_out
  exact scr_eq (prevHd xs0) x0 x2 _ (hd_prev xs0 _) y

theorem z_C (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (s : Fin 512) (j : Fin 2048) :
    out0_C_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix2 s j) = ∑ k : Fin 1024, x0 (ix2 s k) * x1 (ix2 k j) := by
  frame_open
  frame_out
  exact z_at x0 s x1 j

theorem dt_C (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (s : Fin 512) (j : Fin 128) :
    out0_C_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix2 s j) = soft ((∑ k : Fin 1024, x0 (ix2 s k) * x3 (ix2 k j)) + x4 (ix2 0 j)) := by
  frame_open
  frame_out
  exact dt_at x0 s x3 x4 j

theorem xbc_C (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (y : S512x4096.Idx) :
    out0_C_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 y = convG (scr (prevHd xs0) x0 x2) x5 x6 y := by
  frame_open
  frame_out
  have hL := fun y => scr_eq (prevHd xs0) x0 x2 _ (hd_prev xs0 inb_S520x4096_S8x4096_512_0) y
  refine View.canon_apply_of_pieces (Val := Elt Ideal) (S := S512x4096) (e := .f32) (convG (scr (prevHd xs0) x0 x2) x5 x6) _ ?_ _ (View.cover_of_tiledL _ ![128, 128] (by sl_kernel_rfl) y)
  refine List.forall_mem_cons.mpr ⟨fun x => piece arg12.view _ _ hL x5 x6 384 3968 inb_S520x4096_S136x128_384_3968 inb_S1x4096_S1x128_0_3968 inb_S4x4096_S1x128_0_3968 inb_S4x4096_S1x128_1_3968 inb_S4x4096_S1x128_2_3968 inb_S4x4096_S1x128_3_3968 inb_S512x4096_S128x128_384_3968 x, ?_⟩
  refine List.forall_mem_cons.mpr ⟨fun x => piece arg12.view _ _ hL x5 x6 384 3840 inb_S520x4096_S136x128_384_3840 inb_S1x4096_S1x128_0_3840 inb_S4x4096_S1x128_0_3840 inb_S4x4096_S1x128_1_3840 inb_S4x4096_S1x128_2_3840 inb_S4x4096_S1x128_3_3840 inb_S512x4096_S128x128_384_3840 x, ?_⟩
  refine List.forall_mem_cons.mpr ⟨fun x => piece arg12.view _ _ hL x5 x6 384 3712 inb_S520x4096_S136x128_384_3712 inb_S1x4096_S1x128_0_3712 inb_S4x4096_S1x128_0_3712 inb_S4x4096_S1x128_1_3712 inb_S4x4096_S1x128_2_3712 inb_S4x4096_S1x128_3_3712 inb_S512x4096_S128x128_384_3712 x, ?_⟩
  refine List.forall_mem_cons.mpr ⟨fun x => piece arg12.view _ _ hL x5 x6 384 3584 inb_S520x4096_S136x128_384_3584 inb_S1x4096_S1x128_0_3584 inb_S4x4096_S1x128_0_3584 inb_S4x4096_S1x128_1_3584 inb_S4x4096_S1x128_2_3584 inb_S4x4096_S1x128_3_3584 inb_S512x4096_S128x128_384_3584 x, ?_⟩
  refine List.forall_mem_cons.mpr ⟨fun x => piece arg12.view _ _ hL x5 x6 384 3456 inb_S520x4096_S136x128_384_3456 inb_S1x4096_S1x128_0_3456 inb_S4x4096_S1x128_0_3456 inb_S4x4096_S1x128_1_3456 inb_S4x4096_S1x128_2_3456 inb_S4x4096_S1x128_3_3456 inb_S512x4096_S128x128_384_3456 x, ?_⟩
  refine List.forall_mem_cons.mpr ⟨fun x => piece arg12.view _ _ hL x5 x6 384 3328 inb_S520x4096_S136x128_384_3328 inb_S1x4096_S1x128_0_3328 inb_S4x4096_S1x128_0_3328 inb_S4x4096_S1x128_1_3328 inb_S4x4096_S1x128_2_3328 inb_S4x4096_S1x128_3_3328 inb_S512x4096_S128x128_384_3328 x, ?_⟩
  refine List.forall_mem_cons.mpr ⟨fun x => piece arg12.view _ _ hL x5 x6 384 3200 inb_S520x4096_S136x128_384_3200 inb_S1x4096_S1x128_0_3200 inb_S4x4096_S1x128_0_3200 inb_S4x4096_S1x128_1_3200 inb_S4x4096_S1x128_2_3200 inb_S4x4096_S1x128_3_3200 inb_S512x4096_S128x128_384_3200 x, ?_⟩
  refine List.forall_mem_cons.mpr ⟨fun x => piece arg12.view _ _ hL x5 x6 384 3072 inb_S520x4096_S136x128_384_3072 inb_S1x4096_S1x128_0_3072 inb_S4x4096_S1x128_0_3072 inb_S4x4096_S1x128_1_3072 inb_S4x4096_S1x128_2_3072 inb_S4x4096_S1x128_3_3072 inb_S512x4096_S128x128_384_3072 x, ?_⟩
  refine List.forall_mem_cons.mpr ⟨fun x => piece arg12.view _ _ hL x5 x6 384 2944 inb_S520x4096_S136x128_384_2944 inb_S1x4096_S1x128_0_2944 inb_S4x4096_S1x128_0_2944 inb_S4x4096_S1x128_1_2944 inb_S4x4096_S1x128_2_2944 inb_S4x4096_S1x128_3_2944 inb_S512x4096_S128x128_384_2944 x, ?_⟩
  refine List.forall_mem_cons.mpr ⟨fun x => piece arg12.view _ _ hL x5 x6 384 2816 inb_S520x4096_S136x128_384_2816 inb_S1x4096_S1x128_0_2816 inb_S4x4096_S1x128_0_2816 inb_S4x4096_S1x128_1_2816 inb_S4x4096_S1x128_2_2816 inb_S4x4096_S1x128_3_2816 inb_S512x4096_S128x128_384_2816 x, ?_⟩
  refine List.forall_mem_cons.mpr ⟨fun x => piece arg12.view _ _ hL x5 x6 384 2688 inb_S520x4096_S136x128_384_2688 inb_S1x4096_S1x128_0_2688 inb_S4x4096_S1x128_0_2688 inb_S4x4096_S1x128_1_2688 inb_S4x4096_S1x128_2_2688 inb_S4x4096_S1x128_3_2688 inb_S512x4096_S128x128_384_2688 x, ?_⟩
  refine List.forall_mem_cons.mpr ⟨fun x => piece arg12.view _ _ hL x5 x6 384 2560 inb_S520x4096_S136x128_384_2560 inb_S1x4096_S1x128_0_2560 inb_S4x4096_S1x128_0_2560 inb_S4x4096_S1x128_1_2560 inb_S4x4096_S1x128_2_2560 inb_S4x4096_S1x128_3_2560 inb_S512x4096_S128x128_384_2560 x, ?_⟩
  refine List.forall_mem_cons.mpr ⟨fun x => piece arg12.view _ _ hL x5 x6 384 2432 inb_S520x4096_S136x128_384_2432 inb_S1x4096_S1x128_0_2432 inb_S4x4096_S1x128_0_2432 inb_S4x4096_S1x128_1_2432 inb_S4x4096_S1x128_2_2432 inb_S4x4096_S1x128_3_2432 inb_S512x4096_S128x128_384_2432 x, ?_⟩
  refine List.forall_mem_cons.mpr ⟨fun x => piece arg12.view _ _ hL x5 x6 384 2304 inb_S520x4096_S136x128_384_2304 inb_S1x4096_S1x128_0_2304 inb_S4x4096_S1x128_0_2304 inb_S4x4096_S1x128_1_2304 inb_S4x4096_S1x128_2_2304 inb_S4x4096_S1x128_3_2304 inb_S512x4096_S128x128_384_2304 x, ?_⟩
  refine List.forall_mem_cons.mpr ⟨fun x => piece arg12.view _ _ hL x5 x6 384 2176 inb_S520x4096_S136x128_384_2176 inb_S1x4096_S1x128_0_2176 inb_S4x4096_S1x128_0_2176 inb_S4x4096_S1x128_1_2176 inb_S4x4096_S1x128_2_2176 inb_S4x4096_S1x128_3_2176 inb_S512x4096_S128x128_384_2176 x, ?_⟩
  refine List.forall_mem_cons.mpr ⟨fun x => piece arg12.view _ _ hL x5 x6 384 2048 inb_S520x4096_S136x128_384_2048 inb_S1x4096_S1x128_0_2048 inb_S4x4096_S1x128_0_2048 inb_S4x4096_S1x128_1_2048 inb_S4x4096_S1x128_2_2048 inb_S4x4096_S1x128_3_2048 inb_S512x4096_S128x128_384_2048 x, ?_⟩
  refine List.forall_mem_cons.mpr ⟨fun x => piece arg12.view _ _ hL x5 x6 384 1920 inb_S520x4096_S136x128_384_1920 inb_S1x4096_S1x128_0_1920 inb_S4x4096_S1x128_0_1920 inb_S4x4096_S1x128_1_1920 inb_S4x4096_S1x128_2_1920 inb_S4x4096_S1x128_3_1920 inb_S512x4096_S128x128_384_1920 x, ?_⟩
  refine List.forall_mem_cons.mpr ⟨fun x => piece arg12.view _ _ hL x5 x6 384 1792 inb_S520x4096_S136x128_384_1792 inb_S1x4096_S1x128_0_1792 inb_S4x4096_S1x128_0_1792 inb_S4x4096_S1x128_1_1792 inb_S4x4096_S1x128_2_1792 inb_S4x4096_S1x128_3_1792 inb_S512x4096_S128x128_384_1792 x, ?_⟩
  refine List.forall_mem_cons.mpr ⟨fun x => piece arg12.view _ _ hL x5 x6 384 1664 inb_S520x4096_S136x128_384_1664 inb_S1x4096_S1x128_0_1664 inb_S4x4096_S1x128_0_1664 inb_S4x4096_S1x128_1_1664 inb_S4x4096_S1x128_2_1664 inb_S4x4096_S1x128_3_1664 inb_S512x4096_S128x128_384_1664 x, ?_⟩
  refine List.forall_mem_cons.mpr ⟨fun x => piece arg12.view _ _ hL x5 x6 384 1536 inb_S520x4096_S136x128_384_1536 inb_S1x4096_S1x128_0_1536 inb_S4x4096_S1x128_0_1536 inb_S4x4096_S1x128_1_1536 inb_S4x4096_S1x128_2_1536 inb_S4x4096_S1x128_3_1536 inb_S512x4096_S128x128_384_1536 x, ?_⟩
  refine List.forall_mem_cons.mpr ⟨fun x => piece arg12.view _ _ hL x5 x6 384 1408 inb_S520x4096_S136x128_384_1408 inb_S1x4096_S1x128_0_1408 inb_S4x4096_S1x128_0_1408 inb_S4x4096_S1x128_1_1408 inb_S4x4096_S1x128_2_1408 inb_S4x4096_S1x128_3_1408 inb_S512x4096_S128x128_384_1408 x, ?_⟩
  refine List.forall_mem_cons.mpr ⟨fun x => piece arg12.view _ _ hL x5 x6 384 1280 inb_S520x4096_S136x128_384_1280 inb_S1x4096_S1x128_0_1280 inb_S4x4096_S1x128_0_1280 inb_S4x4096_S1x128_1_1280 inb_S4x4096_S1x128_2_1280 inb_S4x4096_S1x128_3_1280 inb_S512x4096_S128x128_384_1280 x, ?_⟩
  refine List.forall_mem_cons.mpr ⟨fun x => piece arg12.view _ _ hL x5 x6 384 1152 inb_S520x4096_S136x128_384_1152 inb_S1x4096_S1x128_0_1152 inb_S4x4096_S1x128_0_1152 inb_S4x4096_S1x128_1_1152 inb_S4x4096_S1x128_2_1152 inb_S4x4096_S1x128_3_1152 inb_S512x4096_S128x128_384_1152 x, ?_⟩
  refine List.forall_mem_cons.mpr ⟨fun x => piece arg12.view _ _ hL x5 x6 384 1024 inb_S520x4096_S136x128_384_1024 inb_S1x4096_S1x128_0_1024 inb_S4x4096_S1x128_0_1024 inb_S4x4096_S1x128_1_1024 inb_S4x4096_S1x128_2_1024 inb_S4x4096_S1x128_3_1024 inb_S512x4096_S128x128_384_1024 x, ?_⟩
  refine List.forall_mem_cons.mpr ⟨fun x => piece arg12.view _ _ hL x5 x6 384 896 inb_S520x4096_S136x128_384_896 inb_S1x4096_S1x128_0_896 inb_S4x4096_S1x128_0_896 inb_S4x4096_S1x128_1_896 inb_S4x4096_S1x128_2_896 inb_S4x4096_S1x128_3_896 inb_S512x4096_S128x128_384_896 x, ?_⟩
  refine List.forall_mem_cons.mpr ⟨fun x => piece arg12.view _ _ hL x5 x6 384 768 inb_S520x4096_S136x128_384_768 inb_S1x4096_S1x128_0_768 inb_S4x4096_S1x128_0_768 inb_S4x4096_S1x128_1_768 inb_S4x4096_S1x128_2_768 inb_S4x4096_S1x128_3_768 inb_S512x4096_S128x128_384_768 x, ?_⟩
  refine List.forall_mem_cons.mpr ⟨fun x => piece arg12.view _ _ hL x5 x6 384 640 inb_S520x4096_S136x128_384_640 inb_S1x4096_S1x128_0_640 inb_S4x4096_S1x128_0_640 inb_S4x4096_S1x128_1_640 inb_S4x4096_S1x128_2_640 inb_S4x4096_S1x128_3_640 inb_S512x4096_S128x128_384_640 x, ?_⟩
  refine List.forall_mem_cons.mpr ⟨fun x => piece arg12.view _ _ hL x5 x6 384 512 inb_S520x4096_S136x128_384_512 inb_S1x4096_S1x128_0_512 inb_S4x4096_S1x128_0_512 inb_S4x4096_S1x128_1_512 inb_S4x4096_S1x128_2_512 inb_S4x4096_S1x128_3_512 inb_S512x4096_S128x128_384_512 x, ?_⟩
  refine List.forall_mem_cons.mpr ⟨fun x => piece arg12.view _ _ hL x5 x6 384 384 inb_S520x4096_S136x128_384_384 inb_S1x4096_S1x128_0_384 inb_S4x4096_S1x128_0_384 inb_S4x4096_S1x128_1_384 inb_S4x4096_S1x128_2_384 inb_S4x4096_S1x128_3_384 inb_S512x4096_S128x128_384_384 x, ?_⟩
  refine List.forall_mem_cons.mpr ⟨fun x => piece arg12.view _ _ hL x5 x6 384 256 inb_S520x4096_S136x128_384_256 inb_S1x4096_S1x128_0_256 inb_S4x4096_S1x128_0_256 inb_S4x4096_S1x128_1_256 inb_S4x4096_S1x128_2_256 inb_S4x4096_S1x128_3_256 inb_S512x4096_S128x128_384_256 x, ?_⟩
  refine List.forall_mem_cons.mpr ⟨fun x => piece arg12.view _ _ hL x5 x6 384 128 inb_S520x4096_S136x128_384_128 inb_S1x4096_S1x128_0_128 inb_S4x4096_S1x128_0_128 inb_S4x4096_S1x128_1_128 inb_S4x4096_S1x128_2_128 inb_S4x4096_S1x128_3_128 inb_S512x4096_S128x128_384_128 x, ?_⟩
  refine List.forall_mem_cons.mpr ⟨fun x => piece arg12.view _ _ hL x5 x6 384 0 inb_S520x4096_S136x128_384_0 inb_S1x4096_S1x128_0_0 inb_S4x4096_S1x128_0_0 inb_S4x4096_S1x128_1_0 inb_S4x4096_S1x128_2_0 inb_S4x4096_S1x128_3_0 inb_S512x4096_S128x128_384_0 x, ?_⟩
  refine List.forall_mem_cons.mpr ⟨fun x => piece arg12.view _ _ hL x5 x6 256 3968 inb_S520x4096_S136x128_256_3968 inb_S1x4096_S1x128_0_3968 inb_S4x4096_S1x128_0_3968 inb_S4x4096_S1x128_1_3968 inb_S4x4096_S1x128_2_3968 inb_S4x4096_S1x128_3_3968 inb_S512x4096_S128x128_256_3968 x, ?_⟩
  refine List.forall_mem_cons.mpr ⟨fun x => piece arg12.view _ _ hL x5 x6 256 3840 inb_S520x4096_S136x128_256_3840 inb_S1x4096_S1x128_0_3840 inb_S4x4096_S1x128_0_3840 inb_S4x4096_S1x128_1_3840 inb_S4x4096_S1x128_2_3840 inb_S4x4096_S1x128_3_3840 inb_S512x4096_S128x128_256_3840 x, ?_⟩
  refine List.forall_mem_cons.mpr ⟨fun x => piece arg12.view _ _ hL x5 x6 256 3712 inb_S520x4096_S136x128_256_3712 inb_S1x4096_S1x128_0_3712 inb_S4x4096_S1x128_0_3712 inb_S4x4096_S1x128_1_3712 inb_S4x4096_S1x128_2_3712 inb_S4x4096_S1x128_3_3712 inb_S512x4096_S128x128_256_3712 x, ?_⟩
  refine List.forall_mem_cons.mpr ⟨fun x => piece arg12.view _ _ hL x5 x6 256 3584 inb_S520x4096_S136x128_256_3584 inb_S1x4096_S1x128_0_3584 inb_S4x4096_S1x128_0_3584 inb_S4x4096_S1x128_1_3584 inb_S4x4096_S1x128_2_3584 inb_S4x4096_S1x128_3_3584 inb_S512x4096_S128x128_256_3584 x, ?_⟩
  refine List.forall_mem_cons.mpr ⟨fun x => piece arg12.view _ _ hL x5 x6 256 3456 inb_S520x4096_S136x128_256_3456 inb_S1x4096_S1x128_0_3456 inb_S4x4096_S1x128_0_3456 inb_S4x4096_S1x128_1_3456 inb_S4x4096_S1x128_2_3456 inb_S4x4096_S1x128_3_3456 inb_S512x4096_S128x128_256_3456 x, ?_⟩
  refine List.forall_mem_cons.mpr ⟨fun x => piece arg12.view _ _ hL x5 x6 256 3328 inb_S520x4096_S136x128_256_3328 inb_S1x4096_S1x128_0_3328 inb_S4x4096_S1x128_0_3328 inb_S4x4096_S1x128_1_3328 inb_S4x4096_S1x128_2_3328 inb_S4x4096_S1x128_3_3328 inb_S512x4096_S128x128_256_3328 x, ?_⟩
  refine List.forall_mem_cons.mpr ⟨fun x => piece arg12.view _ _ hL x5 x6 256 3200 inb_S520x4096_S136x128_256_3200 inb_S1x4096_S1x128_0_3200 inb_S4x4096_S1x128_0_3200 inb_S4x4096_S1x128_1_3200 inb_S4x4096_S1x128_2_3200 inb_S4x4096_S1x128_3_3200 inb_S512x4096_S128x128_256_3200 x, ?_⟩
  refine List.forall_mem_cons.mpr ⟨fun x => piece arg12.view _ _ hL x5 x6 256 3072 inb_S520x4096_S136x128_256_3072 inb_S1x4096_S1x128_0_3072 inb_S4x4096_S1x128_0_3072 inb_S4x4096_S1x128_1_3072 inb_S4x4096_S1x128_2_3072 inb_S4x4096_S1x128_3_3072 inb_S512x4096_S128x128_256_3072 x, ?_⟩
  refine List.forall_mem_cons.mpr ⟨fun x => piece arg12.view _ _ hL x5 x6 256 2944 inb_S520x4096_S136x128_256_2944 inb_S1x4096_S1x128_0_2944 inb_S4x4096_S1x128_0_2944 inb_S4x4096_S1x128_1_2944 inb_S4x4096_S1x128_2_2944 inb_S4x4096_S1x128_3_2944 inb_S512x4096_S128x128_256_2944 x, ?_⟩
  refine List.forall_mem_cons.mpr ⟨fun x => piece arg12.view _ _ hL x5 x6 256 2816 inb_S520x4096_S136x128_256_2816 inb_S1x4096_S1x128_0_2816 inb_S4x4096_S1x128_0_2816 inb_S4x4096_S1x128_1_2816 inb_S4x4096_S1x128_2_2816 inb_S4x4096_S1x128_3_2816 inb_S512x4096_S128x128_256_2816 x, ?_⟩
  refine List.forall_mem_cons.mpr ⟨fun x => piece arg12.view _ _ hL x5 x6 256 2688 inb_S520x4096_S136x128_256_2688 inb_S1x4096_S1x128_0_2688 inb_S4x4096_S1x128_0_2688 inb_S4x4096_S1x128_1_2688 inb_S4x4096_S1x128_2_2688 inb_S4x4096_S1x128_3_2688 inb_S512x4096_S128x128_256_2688 x, ?_⟩
  refine List.forall_mem_cons.mpr ⟨fun x => piece arg12.view _ _ hL x5 x6 256 2560 inb_S520x4096_S136x128_256_2560 inb_S1x4096_S1x128_0_2560 inb_S4x4096_S1x128_0_2560 inb_S4x4096_S1x128_1_2560 inb_S4x4096_S1x128_2_2560 inb_S4x4096_S1x128_3_2560 inb_S512x4096_S128x128_256_2560 x, ?_⟩
  refine List.forall_mem_cons.mpr ⟨fun x => piece arg12.view _ _ hL x5 x6 256 2432 inb_S520x4096_S136x128_256_2432 inb_S1x4096_S1x128_0_2432 inb_S4x4096_S1x128_0_2432 inb_S4x4096_S1x128_1_2432 inb_S4x4096_S1x128_2_2432 inb_S4x4096_S1x128_3_2432 inb_S512x4096_S128x128_256_2432 x, ?_⟩
  refine List.forall_mem_cons.mpr ⟨fun x => piece arg12.view _ _ hL x5 x6 256 2304 inb_S520x4096_S136x128_256_2304 inb_S1x4096_S1x128_0_2304 inb_S4x4096_S1x128_0_2304 inb_S4x4096_S1x128_1_2304 inb_S4x4096_S1x128_2_2304 inb_S4x4096_S1x128_3_2304 inb_S512x4096_S128x128_256_2304 x, ?_⟩
  refine List.forall_mem_cons.mpr ⟨fun x => piece arg12.view _ _ hL x5 x6 256 2176 inb_S520x4096_S136x128_256_2176 inb_S1x4096_S1x128_0_2176 inb_S4x4096_S1x128_0_2176 inb_S4x4096_S1x128_1_2176 inb_S4x4096_S1x128_2_2176 inb_S4x4096_S1x128_3_2176 inb_S512x4096_S128x128_256_2176 x, ?_⟩
  refine List.forall_mem_cons.mpr ⟨fun x => piece arg12.view _ _ hL x5 x6 256 2048 inb_S520x4096_S136x128_256_2048 inb_S1x4096_S1x128_0_2048 inb_S4x4096_S1x128_0_2048 inb_S4x4096_S1x128_1_2048 inb_S4x4096_S1x128_2_2048 inb_S4x4096_S1x128_3_2048 inb_S512x4096_S128x128_256_2048 x, ?_⟩
  refine List.forall_mem_cons.mpr ⟨fun x => piece arg12.view _ _ hL x5 x6 256 1920 inb_S520x4096_S136x128_256_1920 inb_S1x4096_S1x128_0_1920 inb_S4x4096_S1x128_0_1920 inb_S4x4096_S1x128_1_1920 inb_S4x4096_S1x128_2_1920 inb_S4x4096_S1x128_3_1920 inb_S512x4096_S128x128_256_1920 x, ?_⟩
  refine List.forall_mem_cons.mpr ⟨fun x => piece arg12.view _ _ hL x5 x6 256 1792 inb_S520x4096_S136x128_256_1792 inb_S1x4096_S1x128_0_1792 inb_S4x4096_S1x128_0_1792 inb_S4x4096_S1x128_1_1792 inb_S4x4096_S1x128_2_1792 inb_S4x4096_S1x128_3_1792 inb_S512x4096_S128x128_256_1792 x, ?_⟩
  refine List.forall_mem_cons.mpr ⟨fun x => piece arg12.view _ _ hL x5 x6 256 1664 inb_S520x4096_S136x128_256_1664 inb_S1x4096_S1x128_0_1664 inb_S4x4096_S1x128_0_1664 inb_S4x4096_S1x128_1_1664 inb_S4x4096_S1x128_2_1664 inb_S4x4096_S1x128_3_1664 inb_S512x4096_S128x128_256_1664 x, ?_⟩
  refine List.forall_mem_cons.mpr ⟨fun x => piece arg12.view _ _ hL x5 x6 256 1536 inb_S520x4096_S136x128_256_1536 inb_S1x4096_S1x128_0_1536 inb_S4x4096_S1x128_0_1536 inb_S4x4096_S1x128_1_1536 inb_S4x4096_S1x128_2_1536 inb_S4x4096_S1x128_3_1536 inb_S512x4096_S128x128_256_1536 x, ?_⟩
  refine List.forall_mem_cons.mpr ⟨fun x => piece arg12.view _ _ hL x5 x6 256 1408 inb_S520x4096_S136x128_256_1408 inb_S1x4096_S1x128_0_1408 inb_S4x4096_S1x128_0_1408 inb_S4x4096_S1x128_1_1408 inb_S4x4096_S1x128_2_1408 inb_S4x4096_S1x128_3_1408 inb_S512x4096_S128x128_256_1408 x, ?_⟩
  refine List.forall_mem_cons.mpr ⟨fun x => piece arg12.view _ _ hL x5 x6 256 1280 inb_S520x4096_S136x128_256_1280 inb_S1x4096_S1x128_0_1280 inb_S4x4096_S1x128_0_1280 inb_S4x4096_S1x128_1_1280 inb_S4x4096_S1x128_2_1280 inb_S4x4096_S1x128_3_1280 inb_S512x4096_S128x128_256_1280 x, ?_⟩
  refine List.forall_mem_cons.mpr ⟨fun x => piece arg12.view _ _ hL x5 x6 256 1152 inb_S520x4096_S136x128_256_1152 inb_S1x4096_S1x128_0_1152 inb_S4x4096_S1x128_0_1152 inb_S4x4096_S1x128_1_1152 inb_S4x4096_S1x128_2_1152 inb_S4x4096_S1x128_3_1152 inb_S512x4096_S128x128_256_1152 x, ?_⟩
  refine List.forall_mem_cons.mpr ⟨fun x => piece arg12.view _ _ hL x5 x6 256 1024 inb_S520x4096_S136x128_256_1024 inb_S1x4096_S1x128_0_1024 inb_S4x4096_S1x128_0_1024 inb_S4x4096_S1x128_1_1024 inb_S4x4096_S1x128_2_1024 inb_S4x4096_S1x128_3_1024 inb_S512x4096_S128x128_256_1024 x, ?_⟩
  refine List.forall_mem_cons.mpr ⟨fun x => piece arg12.view _ _ hL x5 x6 256 896 inb_S520x4096_S136x128_256_896 inb_S1x4096_S1x128_0_896 inb_S4x4096_S1x128_0_896 inb_S4x4096_S1x128_1_896 inb_S4x4096_S1x128_2_896 inb_S4x4096_S1x128_3_896 inb_S512x4096_S128x128_256_896 x, ?_⟩
  refine List.forall_mem_cons.mpr ⟨fun x => piece arg12.view _ _ hL x5 x6 256 768 inb_S520x4096_S136x128_256_768 inb_S1x4096_S1x128_0_768 inb_S4x4096_S1x128_0_768 inb_S4x4096_S1x128_1_768 inb_S4x4096_S1x128_2_768 inb_S4x4096_S1x128_3_768 inb_S512x4096_S128x128_256_768 x, ?_⟩
  refine List.forall_mem_cons.mpr ⟨fun x => piece arg12.view _ _ hL x5 x6 256 640 inb_S520x4096_S136x128_256_640 inb_S1x4096_S1x128_0_640 inb_S4x4096_S1x128_0_640 inb_S4x4096_S1x128_1_640 inb_S4x4096_S1x128_2_640 inb_S4x4096_S1x128_3_640 inb_S512x4096_S128x128_256_640 x, ?_⟩
  refine List.forall_mem_cons.mpr ⟨fun x => piece arg12.view _ _ hL x5 x6 256 512 inb_S520x4096_S136x128_256_512 inb_S1x4096_S1x128_0_512 inb_S4x4096_S1x128_0_512 inb_S4x4096_S1x128_1_512 inb_S4x4096_S1x128_2_512 inb_S4x4096_S1x128_3_512 inb_S512x4096_S128x128_256_512 x, ?_⟩
  refine List.forall_mem_cons.mpr ⟨fun x => piece arg12.view _ _ hL x5 x6 256 384 inb_S520x4096_S136x128_256_384 inb_S1x4096_S1x128_0_384 inb_S4x4096_S1x128_0_384 inb_S4x4096_S1x128_1_384 inb_S4x4096_S1x128_2_384 inb_S4x4096_S1x128_3_384 inb_S512x4096_S128x128_256_384 x, ?_⟩
  refine List.forall_mem_cons.mpr ⟨fun x => piece arg12.view _ _ hL x5 x6 256 256 inb_S520x4096_S136x128_256_256 inb_S1x4096_S1x128_0_256 inb_S4x4096_S1x128_0_256 inb_S4x4096_S1x128_1_256 inb_S4x4096_S1x128_2_256 inb_S4x4096_S1x128_3_256 inb_S512x4096_S128x128_256_256 x, ?_⟩
  refine List.forall_mem_cons.mpr ⟨fun x => piece arg12.view _ _ hL x5 x6 256 128 inb_S520x4096_S136x128_256_128 inb_S1x4096_S1x128_0_128 inb_S4x4096_S1x128_0_128 inb_S4x4096_S1x128_1_128 inb_S4x4096_S1x128_2_128 inb_S4x4096_S1x128_3_128 inb_S512x4096_S128x128_256_128 x, ?_⟩
  refine List.forall_mem_cons.mpr ⟨fun x => piece arg12.view _ _ hL x5 x6 256 0 inb_S520x4096_S136x128_256_0 inb_S1x4096_S1x128_0_0 inb_S4x4096_S1x128_0_0 inb_S4x4096_S1x128_1_0 inb_S4x4096_S1x128_2_0 inb_S4x4096_S1x128_3_0 inb_S512x4096_S128x128_256_0 x, ?_⟩
  refine List.forall_mem_cons.mpr ⟨fun x => piece arg12.view _ _ hL x5 x6 128 3968 inb_S520x4096_S136x128_128_3968 inb_S1x4096_S1x128_0_3968 inb_S4x4096_S1x128_0_3968 inb_S4x4096_S1x128_1_3968 inb_S4x4096_S1x128_2_3968 inb_S4x4096_S1x128_3_3968 inb_S512x4096_S128x128_128_3968 x, ?_⟩
  refine List.forall_mem_cons.mpr ⟨fun x => piece arg12.view _ _ hL x5 x6 128 3840 inb_S520x4096_S136x128_128_3840 inb_S1x4096_S1x128_0_3840 inb_S4x4096_S1x128_0_3840 inb_S4x4096_S1x128_1_3840 inb_S4x4096_S1x128_2_3840 inb_S4x4096_S1x128_3_3840 inb_S512x4096_S128x128_128_3840 x, ?_⟩
  refine List.forall_mem_cons.mpr ⟨fun x => piece arg12.view _ _ hL x5 x6 128 3712 inb_S520x4096_S136x128_128_3712 inb_S1x4096_S1x128_0_3712 inb_S4x4096_S1x128_0_3712 inb_S4x4096_S1x128_1_3712 inb_S4x4096_S1x128_2_3712 inb_S4x4096_S1x128_3_3712 inb_S512x4096_S128x128_128_3712 x, ?_⟩
  refine List.forall_mem_cons.mpr ⟨fun x => piece arg12.view _ _ hL x5 x6 128 3584 inb_S520x4096_S136x128_128_3584 inb_S1x4096_S1x128_0_3584 inb_S4x4096_S1x128_0_3584 inb_S4x4096_S1x128_1_3584 inb_S4x4096_S1x128_2_3584 inb_S4x4096_S1x128_3_3584 inb_S512x4096_S128x128_128_3584 x, ?_⟩
  refine List.forall_mem_cons.mpr ⟨fun x => piece arg12.view _ _ hL x5 x6 128 3456 inb_S520x4096_S136x128_128_3456 inb_S1x4096_S1x128_0_3456 inb_S4x4096_S1x128_0_3456 inb_S4x4096_S1x128_1_3456 inb_S4x4096_S1x128_2_3456 inb_S4x4096_S1x128_3_3456 inb_S512x4096_S128x128_128_3456 x, ?_⟩
  refine List.forall_mem_cons.mpr ⟨fun x => piece arg12.view _ _ hL x5 x6 128 3328 inb_S520x4096_S136x128_128_3328 inb_S1x4096_S1x128_0_3328 inb_S4x4096_S1x128_0_3328 inb_S4x4096_S1x128_1_3328 inb_S4x4096_S1x128_2_3328 inb_S4x4096_S1x128_3_3328 inb_S512x4096_S128x128_128_3328 x, ?_⟩
  refine List.forall_mem_cons.mpr ⟨fun x => piece arg12.view _ _ hL x5 x6 128 3200 inb_S520x4096_S136x128_128_3200 inb_S1x4096_S1x128_0_3200 inb_S4x4096_S1x128_0_3200 inb_S4x4096_S1x128_1_3200 inb_S4x4096_S1x128_2_3200 inb_S4x4096_S1x128_3_3200 inb_S512x4096_S128x128_128_3200 x, ?_⟩
  refine List.forall_mem_cons.mpr ⟨fun x => piece arg12.view _ _ hL x5 x6 128 3072 inb_S520x4096_S136x128_128_3072 inb_S1x4096_S1x128_0_3072 inb_S4x4096_S1x128_0_3072 inb_S4x4096_S1x128_1_3072 inb_S4x4096_S1x128_2_3072 inb_S4x4096_S1x128_3_3072 inb_S512x4096_S128x128_128_3072 x, ?_⟩
  refine List.forall_mem_cons.mpr ⟨fun x => piece arg12.view _ _ hL x5 x6 128 2944 inb_S520x4096_S136x128_128_2944 inb_S1x4096_S1x128_0_2944 inb_S4x4096_S1x128_0_2944 inb_S4x4096_S1x128_1_2944 inb_S4x4096_S1x128_2_2944 inb_S4x4096_S1x128_3_2944 inb_S512x4096_S128x128_128_2944 x, ?_⟩
  refine List.forall_mem_cons.mpr ⟨fun x => piece arg12.view _ _ hL x5 x6 128 2816 inb_S520x4096_S136x128_128_2816 inb_S1x4096_S1x128_0_2816 inb_S4x4096_S1x128_0_2816 inb_S4x4096_S1x128_1_2816 inb_S4x4096_S1x128_2_2816 inb_S4x4096_S1x128_3_2816 inb_S512x4096_S128x128_128_2816 x, ?_⟩
  refine List.forall_mem_cons.mpr ⟨fun x => piece arg12.view _ _ hL x5 x6 128 2688 inb_S520x4096_S136x128_128_2688 inb_S1x4096_S1x128_0_2688 inb_S4x4096_S1x128_0_2688 inb_S4x4096_S1x128_1_2688 inb_S4x4096_S1x128_2_2688 inb_S4x4096_S1x128_3_2688 inb_S512x4096_S128x128_128_2688 x, ?_⟩
  refine List.forall_mem_cons.mpr ⟨fun x => piece arg12.view _ _ hL x5 x6 128 2560 inb_S520x4096_S136x128_128_2560 inb_S1x4096_S1x128_0_2560 inb_S4x4096_S1x128_0_2560 inb_S4x4096_S1x128_1_2560 inb_S4x4096_S1x128_2_2560 inb_S4x4096_S1x128_3_2560 inb_S512x4096_S128x128_128_2560 x, ?_⟩
  refine List.forall_mem_cons.mpr ⟨fun x => piece arg12.view _ _ hL x5 x6 128 2432 inb_S520x4096_S136x128_128_2432 inb_S1x4096_S1x128_0_2432 inb_S4x4096_S1x128_0_2432 inb_S4x4096_S1x128_1_2432 inb_S4x4096_S1x128_2_2432 inb_S4x4096_S1x128_3_2432 inb_S512x4096_S128x128_128_2432 x, ?_⟩
  refine List.forall_mem_cons.mpr ⟨fun x => piece arg12.view _ _ hL x5 x6 128 2304 inb_S520x4096_S136x128_128_2304 inb_S1x4096_S1x128_0_2304 inb_S4x4096_S1x128_0_2304 inb_S4x4096_S1x128_1_2304 inb_S4x4096_S1x128_2_2304 inb_S4x4096_S1x128_3_2304 inb_S512x4096_S128x128_128_2304 x, ?_⟩
  refine List.forall_mem_cons.mpr ⟨fun x => piece arg12.view _ _ hL x5 x6 128 2176 inb_S520x4096_S136x128_128_2176 inb_S1x4096_S1x128_0_2176 inb_S4x4096_S1x128_0_2176 inb_S4x4096_S1x128_1_2176 inb_S4x4096_S1x128_2_2176 inb_S4x4096_S1x128_3_2176 inb_S512x4096_S128x128_128_2176 x, ?_⟩
  refine List.forall_mem_cons.mpr ⟨fun x => piece arg12.view _ _ hL x5 x6 128 2048 inb_S520x4096_S136x128_128_2048 inb_S1x4096_S1x128_0_2048 inb_S4x4096_S1x128_0_2048 inb_S4x4096_S1x128_1_2048 inb_S4x4096_S1x128_2_2048 inb_S4x4096_S1x128_3_2048 inb_S512x4096_S128x128_128_2048 x, ?_⟩
  refine List.forall_mem_cons.mpr ⟨fun x => piece arg12.view _ _ hL x5 x6 128 1920 inb_S520x4096_S136x128_128_1920 inb_S1x4096_S1x128_0_1920 inb_S4x4096_S1x128_0_1920 inb_S4x4096_S1x128_1_1920 inb_S4x4096_S1x128_2_1920 inb_S4x4096_S1x128_3_1920 inb_S512x4096_S128x128_128_1920 x, ?_⟩
  refine List.forall_mem_cons.mpr ⟨fun x => piece arg12.view _ _ hL x5 x6 128 1792 inb_S520x4096_S136x128_128_1792 inb_S1x4096_S1x128_0_1792 inb_S4x4096_S1x128_0_1792 inb_S4x4096_S1x128_1_1792 inb_S4x4096_S1x128_2_1792 inb_S4x4096_S1x128_3_1792 inb_S512x4096_S128x128_128_1792 x, ?_⟩
  refine List.forall_mem_cons.mpr ⟨fun x => piece arg12.view _ _ hL x5 x6 128 1664 inb_S520x4096_S136x128_128_1664 inb_S1x4096_S1x128_0_1664 inb_S4x4096_S1x128_0_1664 inb_S4x4096_S1x128_1_1664 inb_S4x4096_S1x128_2_1664 inb_S4x4096_S1x128_3_1664 inb_S512x4096_S128x128_128_1664 x, ?_⟩
  refine List.forall_mem_cons.mpr ⟨fun x => piece arg12.view _ _ hL x5 x6 128 1536 inb_S520x4096_S136x128_128_1536 inb_S1x4096_S1x128_0_1536 inb_S4x4096_S1x128_0_1536 inb_S4x4096_S1x128_1_1536 inb_S4x4096_S1x128_2_1536 inb_S4x4096_S1x128_3_1536 inb_S512x4096_S128x128_128_1536 x, ?_⟩
  refine List.forall_mem_cons.mpr ⟨fun x => piece arg12.view _ _ hL x5 x6 128 1408 inb_S520x4096_S136x128_128_1408 inb_S1x4096_S1x128_0_1408 inb_S4x4096_S1x128_0_1408 inb_S4x4096_S1x128_1_1408 inb_S4x4096_S1x128_2_1408 inb_S4x4096_S1x128_3_1408 inb_S512x4096_S128x128_128_1408 x, ?_⟩
  refine List.forall_mem_cons.mpr ⟨fun x => piece arg12.view _ _ hL x5 x6 128 1280 inb_S520x4096_S136x128_128_1280 inb_S1x4096_S1x128_0_1280 inb_S4x4096_S1x128_0_1280 inb_S4x4096_S1x128_1_1280 inb_S4x4096_S1x128_2_1280 inb_S4x4096_S1x128_3_1280 inb_S512x4096_S128x128_128_1280 x, ?_⟩
  refine List.forall_mem_cons.mpr ⟨fun x => piece arg12.view _ _ hL x5 x6 128 1152 inb_S520x4096_S136x128_128_1152 inb_S1x4096_S1x128_0_1152 inb_S4x4096_S1x128_0_1152 inb_S4x4096_S1x128_1_1152 inb_S4x4096_S1x128_2_1152 inb_S4x4096_S1x128_3_1152 inb_S512x4096_S128x128_128_1152 x, ?_⟩
  refine List.forall_mem_cons.mpr ⟨fun x => piece arg12.view _ _ hL x5 x6 128 1024 inb_S520x4096_S136x128_128_1024 inb_S1x4096_S1x128_0_1024 inb_S4x4096_S1x128_0_1024 inb_S4x4096_S1x128_1_1024 inb_S4x4096_S1x128_2_1024 inb_S4x4096_S1x128_3_1024 inb_S512x4096_S128x128_128_1024 x, ?_⟩
  refine List.forall_mem_cons.mpr ⟨fun x => piece arg12.view _ _ hL x5 x6 128 896 inb_S520x4096_S136x128_128_896 inb_S1x4096_S1x128_0_896 inb_S4x4096_S1x128_0_896 inb_S4x4096_S1x128_1_896 inb_S4x4096_S1x128_2_896 inb_S4x4096_S1x128_3_896 inb_S512x4096_S128x128_128_896 x, ?_⟩
  refine List.forall_mem_cons.mpr ⟨fun x => piece arg12.view _ _ hL x5 x6 128 768 inb_S520x4096_S136x128_128_768 inb_S1x4096_S1x128_0_768 inb_S4x4096_S1x128_0_768 inb_S4x4096_S1x128_1_768 inb_S4x4096_S1x128_2_768 inb_S4x4096_S1x128_3_768 inb_S512x4096_S128x128_128_768 x, ?_⟩
  refine List.forall_mem_cons.mpr ⟨fun x => piece arg12.view _ _ hL x5 x6 128 640 inb_S520x4096_S136x128_128_640 inb_S1x4096_S1x128_0_640 inb_S4x4096_S1x128_0_640 inb_S4x4096_S1x128_1_640 inb_S4x4096_S1x128_2_640 inb_S4x4096_S1x128_3_640 inb_S512x4096_S128x128_128_640 x, ?_⟩
  refine List.forall_mem_cons.mpr ⟨fun x => piece arg12.view _ _ hL x5 x6 128 512 inb_S520x4096_S136x128_128_512 inb_S1x4096_S1x128_0_512 inb_S4x4096_S1x128_0_512 inb_S4x4096_S1x128_1_512 inb_S4x4096_S1x128_2_512 inb_S4x4096_S1x128_3_512 inb_S512x4096_S128x128_128_512 x, ?_⟩
  refine List.forall_mem_cons.mpr ⟨fun x => piece arg12.view _ _ hL x5 x6 128 384 inb_S520x4096_S136x128_128_384 inb_S1x4096_S1x128_0_384 inb_S4x4096_S1x128_0_384 inb_S4x4096_S1x128_1_384 inb_S4x4096_S1x128_2_384 inb_S4x4096_S1x128_3_384 inb_S512x4096_S128x128_128_384 x, ?_⟩
  refine List.forall_mem_cons.mpr ⟨fun x => piece arg12.view _ _ hL x5 x6 128 256 inb_S520x4096_S136x128_128_256 inb_S1x4096_S1x128_0_256 inb_S4x4096_S1x128_0_256 inb_S4x4096_S1x128_1_256 inb_S4x4096_S1x128_2_256 inb_S4x4096_S1x128_3_256 inb_S512x4096_S128x128_128_256 x, ?_⟩
  refine List.forall_mem_cons.mpr ⟨fun x => piece arg12.view _ _ hL x5 x6 128 128 inb_S520x4096_S136x128_128_128 inb_S1x4096_S1x128_0_128 inb_S4x4096_S1x128_0_128 inb_S4x4096_S1x128_1_128 inb_S4x4096_S1x128_2_128 inb_S4x4096_S1x128_3_128 inb_S512x4096_S128x128_128_128 x, ?_⟩
  refine List.forall_mem_cons.mpr ⟨fun x => piece arg12.view _ _ hL x5 x6 128 0 inb_S520x4096_S136x128_128_0 inb_S1x4096_S1x128_0_0 inb_S4x4096_S1x128_0_0 inb_S4x4096_S1x128_1_0 inb_S4x4096_S1x128_2_0 inb_S4x4096_S1x128_3_0 inb_S512x4096_S128x128_128_0 x, ?_⟩
  refine List.forall_mem_cons.mpr ⟨fun x => piece arg12.view _ _ hL x5 x6 0 3968 inb_S520x4096_S136x128_0_3968 inb_S1x4096_S1x128_0_3968 inb_S4x4096_S1x128_0_3968 inb_S4x4096_S1x128_1_3968 inb_S4x4096_S1x128_2_3968 inb_S4x4096_S1x128_3_3968 inb_S512x4096_S128x128_0_3968 x, ?_⟩
  refine List.forall_mem_cons.mpr ⟨fun x => piece arg12.view _ _ hL x5 x6 0 3840 inb_S520x4096_S136x128_0_3840 inb_S1x4096_S1x128_0_3840 inb_S4x4096_S1x128_0_3840 inb_S4x4096_S1x128_1_3840 inb_S4x4096_S1x128_2_3840 inb_S4x4096_S1x128_3_3840 inb_S512x4096_S128x128_0_3840 x, ?_⟩
  refine List.forall_mem_cons.mpr ⟨fun x => piece arg12.view _ _ hL x5 x6 0 3712 inb_S520x4096_S136x128_0_3712 inb_S1x4096_S1x128_0_3712 inb_S4x4096_S1x128_0_3712 inb_S4x4096_S1x128_1_3712 inb_S4x4096_S1x128_2_3712 inb_S4x4096_S1x128_3_3712 inb_S512x4096_S128x128_0_3712 x, ?_⟩
  refine List.forall_mem_cons.mpr ⟨fun x => piece arg12.view _ _ hL x5 x6 0 3584 inb_S520x4096_S136x128_0_3584 inb_S1x4096_S1x128_0_3584 inb_S4x4096_S1x128_0_3584 inb_S4x4096_S1x128_1_3584 inb_S4x4096_S1x128_2_3584 inb_S4x4096_S1x128_3_3584 inb_S512x4096_S128x128_0_3584 x, ?_⟩
  refine List.forall_mem_cons.mpr ⟨fun x => piece arg12.view _ _ hL x5 x6 0 3456 inb_S520x4096_S136x128_0_3456 inb_S1x4096_S1x128_0_3456 inb_S4x4096_S1x128_0_3456 inb_S4x4096_S1x128_1_3456 inb_S4x4096_S1x128_2_3456 inb_S4x4096_S1x128_3_3456 inb_S512x4096_S128x128_0_3456 x, ?_⟩
  refine List.forall_mem_cons.mpr ⟨fun x => piece arg12.view _ _ hL x5 x6 0 3328 inb_S520x4096_S136x128_0_3328 inb_S1x4096_S1x128_0_3328 inb_S4x4096_S1x128_0_3328 inb_S4x4096_S1x128_1_3328 inb_S4x4096_S1x128_2_3328 inb_S4x4096_S1x128_3_3328 inb_S512x4096_S128x128_0_3328 x, ?_⟩
  refine List.forall_mem_cons.mpr ⟨fun x => piece arg12.view _ _ hL x5 x6 0 3200 inb_S520x4096_S136x128_0_3200 inb_S1x4096_S1x128_0_3200 inb_S4x4096_S1x128_0_3200 inb_S4x4096_S1x128_1_3200 inb_S4x4096_S1x128_2_3200 inb_S4x4096_S1x128_3_3200 inb_S512x4096_S128x128_0_3200 x, ?_⟩
  refine List.forall_mem_cons.mpr ⟨fun x => piece arg12.view _ _ hL x5 x6 0 3072 inb_S520x4096_S136x128_0_3072 inb_S1x4096_S1x128_0_3072 inb_S4x4096_S1x128_0_3072 inb_S4x4096_S1x128_1_3072 inb_S4x4096_S1x128_2_3072 inb_S4x4096_S1x128_3_3072 inb_S512x4096_S128x128_0_3072 x, ?_⟩
  refine List.forall_mem_cons.mpr ⟨fun x => piece arg12.view _ _ hL x5 x6 0 2944 inb_S520x4096_S136x128_0_2944 inb_S1x4096_S1x128_0_2944 inb_S4x4096_S1x128_0_2944 inb_S4x4096_S1x128_1_2944 inb_S4x4096_S1x128_2_2944 inb_S4x4096_S1x128_3_2944 inb_S512x4096_S128x128_0_2944 x, ?_⟩
  refine List.forall_mem_cons.mpr ⟨fun x => piece arg12.view _ _ hL x5 x6 0 2816 inb_S520x4096_S136x128_0_2816 inb_S1x4096_S1x128_0_2816 inb_S4x4096_S1x128_0_2816 inb_S4x4096_S1x128_1_2816 inb_S4x4096_S1x128_2_2816 inb_S4x4096_S1x128_3_2816 inb_S512x4096_S128x128_0_2816 x, ?_⟩
  refine List.forall_mem_cons.mpr ⟨fun x => piece arg12.view _ _ hL x5 x6 0 2688 inb_S520x4096_S136x128_0_2688 inb_S1x4096_S1x128_0_2688 inb_S4x4096_S1x128_0_2688 inb_S4x4096_S1x128_1_2688 inb_S4x4096_S1x128_2_2688 inb_S4x4096_S1x128_3_2688 inb_S512x4096_S128x128_0_2688 x, ?_⟩
  refine List.forall_mem_cons.mpr ⟨fun x => piece arg12.view _ _ hL x5 x6 0 2560 inb_S520x4096_S136x128_0_2560 inb_S1x4096_S1x128_0_2560 inb_S4x4096_S1x128_0_2560 inb_S4x4096_S1x128_1_2560 inb_S4x4096_S1x128_2_2560 inb_S4x4096_S1x128_3_2560 inb_S512x4096_S128x128_0_2560 x, ?_⟩
  refine List.forall_mem_cons.mpr ⟨fun x => piece arg12.view _ _ hL x5 x6 0 2432 inb_S520x4096_S136x128_0_2432 inb_S1x4096_S1x128_0_2432 inb_S4x4096_S1x128_0_2432 inb_S4x4096_S1x128_1_2432 inb_S4x4096_S1x128_2_2432 inb_S4x4096_S1x128_3_2432 inb_S512x4096_S128x128_0_2432 x, ?_⟩
  refine List.forall_mem_cons.mpr ⟨fun x => piece arg12.view _ _ hL x5 x6 0 2304 inb_S520x4096_S136x128_0_2304 inb_S1x4096_S1x128_0_2304 inb_S4x4096_S1x128_0_2304 inb_S4x4096_S1x128_1_2304 inb_S4x4096_S1x128_2_2304 inb_S4x4096_S1x128_3_2304 inb_S512x4096_S128x128_0_2304 x, ?_⟩
  refine List.forall_mem_cons.mpr ⟨fun x => piece arg12.view _ _ hL x5 x6 0 2176 inb_S520x4096_S136x128_0_2176 inb_S1x4096_S1x128_0_2176 inb_S4x4096_S1x128_0_2176 inb_S4x4096_S1x128_1_2176 inb_S4x4096_S1x128_2_2176 inb_S4x4096_S1x128_3_2176 inb_S512x4096_S128x128_0_2176 x, ?_⟩
  refine List.forall_mem_cons.mpr ⟨fun x => piece arg12.view _ _ hL x5 x6 0 2048 inb_S520x4096_S136x128_0_2048 inb_S1x4096_S1x128_0_2048 inb_S4x4096_S1x128_0_2048 inb_S4x4096_S1x128_1_2048 inb_S4x4096_S1x128_2_2048 inb_S4x4096_S1x128_3_2048 inb_S512x4096_S128x128_0_2048 x, ?_⟩
  refine List.forall_mem_cons.mpr ⟨fun x => piece arg12.view _ _ hL x5 x6 0 1920 inb_S520x4096_S136x128_0_1920 inb_S1x4096_S1x128_0_1920 inb_S4x4096_S1x128_0_1920 inb_S4x4096_S1x128_1_1920 inb_S4x4096_S1x128_2_1920 inb_S4x4096_S1x128_3_1920 inb_S512x4096_S128x128_0_1920 x, ?_⟩
  refine List.forall_mem_cons.mpr ⟨fun x => piece arg12.view _ _ hL x5 x6 0 1792 inb_S520x4096_S136x128_0_1792 inb_S1x4096_S1x128_0_1792 inb_S4x4096_S1x128_0_1792 inb_S4x4096_S1x128_1_1792 inb_S4x4096_S1x128_2_1792 inb_S4x4096_S1x128_3_1792 inb_S512x4096_S128x128_0_1792 x, ?_⟩
  refine List.forall_mem_cons.mpr ⟨fun x => piece arg12.view _ _ hL x5 x6 0 1664 inb_S520x4096_S136x128_0_1664 inb_S1x4096_S1x128_0_1664 inb_S4x4096_S1x128_0_1664 inb_S4x4096_S1x128_1_1664 inb_S4x4096_S1x128_2_1664 inb_S4x4096_S1x128_3_1664 inb_S512x4096_S128x128_0_1664 x, ?_⟩
  refine List.forall_mem_cons.mpr ⟨fun x => piece arg12.view _ _ hL x5 x6 0 1536 inb_S520x4096_S136x128_0_1536 inb_S1x4096_S1x128_0_1536 inb_S4x4096_S1x128_0_1536 inb_S4x4096_S1x128_1_1536 inb_S4x4096_S1x128_2_1536 inb_S4x4096_S1x128_3_1536 inb_S512x4096_S128x128_0_1536 x, ?_⟩
  refine List.forall_mem_cons.mpr ⟨fun x => piece arg12.view _ _ hL x5 x6 0 1408 inb_S520x4096_S136x128_0_1408 inb_S1x4096_S1x128_0_1408 inb_S4x4096_S1x128_0_1408 inb_S4x4096_S1x128_1_1408 inb_S4x4096_S1x128_2_1408 inb_S4x4096_S1x128_3_1408 inb_S512x4096_S128x128_0_1408 x, ?_⟩
  refine List.forall_mem_cons.mpr ⟨fun x => piece arg12.view _ _ hL x5 x6 0 1280 inb_S520x4096_S136x128_0_1280 inb_S1x4096_S1x128_0_1280 inb_S4x4096_S1x128_0_1280 inb_S4x4096_S1x128_1_1280 inb_S4x4096_S1x128_2_1280 inb_S4x4096_S1x128_3_1280 inb_S512x4096_S128x128_0_1280 x, ?_⟩
  refine List.forall_mem_cons.mpr ⟨fun x => piece arg12.view _ _ hL x5 x6 0 1152 inb_S520x4096_S136x128_0_1152 inb_S1x4096_S1x128_0_1152 inb_S4x4096_S1x128_0_1152 inb_S4x4096_S1x128_1_1152 inb_S4x4096_S1x128_2_1152 inb_S4x4096_S1x128_3_1152 inb_S512x4096_S128x128_0_1152 x, ?_⟩
  refine List.forall_mem_cons.mpr ⟨fun x => piece arg12.view _ _ hL x5 x6 0 1024 inb_S520x4096_S136x128_0_1024 inb_S1x4096_S1x128_0_1024 inb_S4x4096_S1x128_0_1024 inb_S4x4096_S1x128_1_1024 inb_S4x4096_S1x128_2_1024 inb_S4x4096_S1x128_3_1024 inb_S512x4096_S128x128_0_1024 x, ?_⟩
  refine List.forall_mem_cons.mpr ⟨fun x => piece arg12.view _ _ hL x5 x6 0 896 inb_S520x4096_S136x128_0_896 inb_S1x4096_S1x128_0_896 inb_S4x4096_S1x128_0_896 inb_S4x4096_S1x128_1_896 inb_S4x4096_S1x128_2_896 inb_S4x4096_S1x128_3_896 inb_S512x4096_S128x128_0_896 x, ?_⟩
  refine List.forall_mem_cons.mpr ⟨fun x => piece arg12.view _ _ hL x5 x6 0 768 inb_S520x4096_S136x128_0_768 inb_S1x4096_S1x128_0_768 inb_S4x4096_S1x128_0_768 inb_S4x4096_S1x128_1_768 inb_S4x4096_S1x128_2_768 inb_S4x4096_S1x128_3_768 inb_S512x4096_S128x128_0_768 x, ?_⟩
  refine List.forall_mem_cons.mpr ⟨fun x => piece arg12.view _ _ hL x5 x6 0 640 inb_S520x4096_S136x128_0_640 inb_S1x4096_S1x128_0_640 inb_S4x4096_S1x128_0_640 inb_S4x4096_S1x128_1_640 inb_S4x4096_S1x128_2_640 inb_S4x4096_S1x128_3_640 inb_S512x4096_S128x128_0_640 x, ?_⟩
  refine List.forall_mem_cons.mpr ⟨fun x => piece arg12.view _ _ hL x5 x6 0 512 inb_S520x4096_S136x128_0_512 inb_S1x4096_S1x128_0_512 inb_S4x4096_S1x128_0_512 inb_S4x4096_S1x128_1_512 inb_S4x4096_S1x128_2_512 inb_S4x4096_S1x128_3_512 inb_S512x4096_S128x128_0_512 x, ?_⟩
  refine List.forall_mem_cons.mpr ⟨fun x => piece arg12.view _ _ hL x5 x6 0 384 inb_S520x4096_S136x128_0_384 inb_S1x4096_S1x128_0_384 inb_S4x4096_S1x128_0_384 inb_S4x4096_S1x128_1_384 inb_S4x4096_S1x128_2_384 inb_S4x4096_S1x128_3_384 inb_S512x4096_S128x128_0_384 x, ?_⟩
  refine List.forall_mem_cons.mpr ⟨fun x => piece arg12.view _ _ hL x5 x6 0 256 inb_S520x4096_S136x128_0_256 inb_S1x4096_S1x128_0_256 inb_S4x4096_S1x128_0_256 inb_S4x4096_S1x128_1_256 inb_S4x4096_S1x128_2_256 inb_S4x4096_S1x128_3_256 inb_S512x4096_S128x128_0_256 x, ?_⟩
  refine List.forall_mem_cons.mpr ⟨fun x => piece arg12.view _ _ hL x5 x6 0 128 inb_S520x4096_S136x128_0_128 inb_S1x4096_S1x128_0_128 inb_S4x4096_S1x128_0_128 inb_S4x4096_S1x128_1_128 inb_S4x4096_S1x128_2_128 inb_S4x4096_S1x128_3_128 inb_S512x4096_S128x128_0_128 x, ?_⟩
  refine List.forall_mem_cons.mpr ⟨fun x => piece arg12.view _ _ hL x5 x6 0 0 inb_S520x4096_S136x128_0_0 inb_S1x4096_S1x128_0_0 inb_S4x4096_S1x128_0_0 inb_S4x4096_S1x128_1_0 inb_S4x4096_S1x128_2_0 inb_S4x4096_S1x128_3_0 inb_S512x4096_S128x128_0_0 x, ?_⟩
  exact fun _ h => absurd h List.not_mem_nil

theorem st_C (c : Dev nD) (i : grid0.Coords) (arg1 : Memref sig .tc .vmem S512x1024 .f32) (harg1 : arg1.IsWhole) (arg2 : Memref sig .tc .vmem S1024x2048 .bf16) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S512x2048 .f32) (harg8 : arg8.IsWhole) (arg9 : Memref sig .tc .vmem S512x4096 .f32) (harg9 : arg9.IsWhole) (arg10 : Memref sig .tc .vmem S512x128 .f32) (harg10 : arg10.IsWhole) (arg11 : Memref sig .tc .vmem S1x3x4096 .f32) (harg11 : arg11.IsWhole) (arg12 : Memref sig .tc .vmem S520x4096 .f32) (harg12 : arg12.IsWhole) (hc0 : ¬cond0_0 i) (hc1 : cond0_1 i) (hc2 : cond0_2 i)
    (x0 : Vec Ideal S512x1024 .f32) (x1 : Vec Ideal S1024x2048 .bf16) (x2 : Vec Ideal S1024x4096 .bf16) (x3 : Vec Ideal S1024x128 .bf16) (x4 : Vec Ideal S1x128 .f32) (x5 : Vec Ideal S4x4096 .f32) (x6 : Vec Ideal S1x4096 .f32) (xs0 : Vec Ideal S520x4096 .f32) (p : Fin 3) (j : Fin 4096) :
    out0_C_10 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix3 0 p j) = scr (prevHd xs0) x0 x2 (ix2 (⟨517 + p.val, by omega⟩ : Fin 520) j) := by
  frame_open
  frame_out
  refine (last_at _ p j).trans ?_
  rw [View.readCov_eq_canon']
  refine (scr_eq (prevHd xs0) x0 x2 _ (hd_prev xs0 inb_S520x4096_S8x4096_512_0) _).trans (congrArg (scr (prevHd xs0) x0 x2) (funext (Fin.forall_fin_two.mpr ⟨Fin.ext ?_, Fin.ext ?_⟩)))
  · show 517 + 1 * p.val = 517 + p.val; omega
  · show 0 + 1 * j.val = j.val; omega

end Cert.MbIn
-- ==== Proof.MbInRef.lean ====
module

public import proofs.«01_k».proof.Proof.MbInPay
public import proofs.«01_k».proof.Proof.Gen.Reference8Ideal.Run
public import Idealize.ShloMosaic.Lib.Pointwise
public import Idealize.ShloMosaic.Lib.KernelVsHost

@[expose] public section

set_option maxRecDepth 16384

noncomputable section

namespace Cert.MbIn
open Idealize.ShloMosaic Idealize.ShloMosaic.TcCoe Idealize.SL.Sem
open Cert.Layer Cert.Reference8Ideal Cert.Reference8Ideal.Gen

/-- The projection of every row, as the reference writes it. -/
def projR (x : FVec Ideal S4x4096x1024 .f32) (w : FVec Ideal S1024x6176 .f32) : FVec Ideal S4x4096x6176 .f32 :=
  Host.dotGeneral (φ₁ := .f32) (φ₂ := .f32) dot_S4x4096x1024_S1024x6176_S4x4096x6176_2_0_01_1_n_n none x w

/-- The gate's rows, as the reference writes them. -/
def zR (y : FVec Ideal S4x4096x6176 .f32) : FVec Ideal S16384x2048 .f32 :=
  shapeCast S16384x2048 (extractStridedSlice S4x4096x2048 ![0, 0, 0] y slices_S4x4096x6176_S4x4096x2048_0_0_0) shapeCasts_S4x4096x2048_S16384x2048

/-- The convolved columns with three rows of zeros before them, as the reference writes them. -/
def padR (y : FVec Ideal S4x4096x6176 .f32) : FVec Ideal S4x4099x4096 .f32 :=
  concatenate S4x4099x4096 1 [⟨S4x3x4096, (broadcastInDim S4x3x4096 ![] bcast_S_S4x3x4096 (constant S_ .f32 0x00000000#32) : FVec Ideal S4x3x4096 .f32)⟩,
    ⟨S4x4096x4096, extractStridedSlice S4x4096x4096 ![0, 0, 2048] y slices_S4x4096x6176_S4x4096x4096_0_0_2048⟩] concatenates_S4x3x4096_S4x4096x4096_S4x4099x4096_d1

/-- A row of weights at every row of every sequence. -/
def rowR (w : FVec Ideal S4096 .f32) : FVec Ideal S4x4096x4096 .f32 :=
  broadcastInDim S4x4096x4096 ![0, 1, 2] bcast_S1x1x4096_S4x4096x4096_0_1_2 (broadcastInDim S1x1x4096 ![2] bcast_S4096_S1x1x4096_2 w)

/-- The four taps, as the reference writes them. -/
def w0R (w : FVec Ideal S4x4096 .f32) : FVec Ideal S4x4096x4096 .f32 := rowR (shapeCast S4096 (extractStridedSlice S1x4096 ![0, 0] w slices_S4x4096_S1x4096_0_0) shapeCasts_S1x4096_S4096)
def w1R (w : FVec Ideal S4x4096 .f32) : FVec Ideal S4x4096x4096 .f32 := rowR (shapeCast S4096 (extractStridedSlice S1x4096 ![1, 0] w slices_S4x4096_S1x4096_1_0) shapeCasts_S1x4096_S4096)
def w2R (w : FVec Ideal S4x4096 .f32) : FVec Ideal S4x4096x4096 .f32 := rowR (shapeCast S4096 (extractStridedSlice S1x4096 ![2, 0] w slices_S4x4096_S1x4096_2_0) shapeCasts_S1x4096_S4096)
def w3R (w : FVec Ideal S4x4096 .f32) : FVec Ideal S4x4096x4096 .f32 := rowR (shapeCast S4096 (extractStridedSlice S1x4096 ![3, 0] w slices_S4x4096_S1x4096_3_0) shapeCasts_S1x4096_S4096)

/-- The convolution along the rows, as the reference writes it. -/
def convR (p : FVec Ideal S4x4099x4096 .f32) (w : FVec Ideal S4x4096 .f32) (b : FVec Ideal S4096 .f32) : FVec Ideal S4x4096x4096 .f32 :=
  addf (addf (addf (addf (addf (broadcastInDim S4x4096x4096 ![] bcast_S_S4x4096x4096 (constant S_ .f32 0x00000000#32))
      (mulf (w0R w) (extractStridedSlice S4x4096x4096 ![0, 0, 0] p slices_S4x4099x4096_S4x4096x4096_0_0_0)))
      (mulf (w1R w) (extractStridedSlice S4x4096x4096 ![0, 1, 0] p slices_S4x4099x4096_S4x4096x4096_0_1_0)))
      (mulf (w2R w) (extractStridedSlice S4x4096x4096 ![0, 2, 0] p slices_S4x4099x4096_S4x4096x4096_0_2_0)))
      (mulf (w3R w) (extractStridedSlice S4x4096x4096 ![0, 3, 0] p slices_S4x4099x4096_S4x4096x4096_0_3_0)))
    (rowR b)

/-- The activated rows, as the reference writes them. -/
def actR (y : FVec Ideal S4x4096x4096 .f32) : FVec Ideal S16384x4096 .f32 :=
  shapeCast S16384x4096 (mulf y (Host.divf (broadcastInDim S4x4096x4096 ![] bcast_S_S4x4096x4096 (constant S_ .f32 0x3F800000#32))
    (addf (broadcastInDim S4x4096x4096 ![] bcast_S_S4x4096x4096 (constant S_ .f32 0x3F800000#32)) (Host.exp (Host.negf y))))) shapeCasts_S4x4096x4096_S16384x4096

/-- The step sizes before the softplus, as the reference writes them. -/
def stepR (y : FVec Ideal S4x4096x6176 .f32) (b : FVec Ideal S32 .f32) : FVec Ideal S16384x32 .f32 :=
  shapeCast S16384x32 (addf (extractStridedSlice S4x4096x32 ![0, 0, 6144] y slices_S4x4096x6176_S4x4096x32_0_0_6144)
    (broadcastInDim S4x4096x32 ![0, 1, 2] bcast_S1x1x32_S4x4096x32_0_1_2 (broadcastInDim S1x1x32 ![2] bcast_S32_S1x1x32_2 b))) shapeCasts_S4x4096x32_S16384x32

/-- The step sizes in 128 lanes, as the reference writes them. -/
def laneR (y : FVec Ideal S16384x32 .f32) : FVec Ideal S16384x128 .f32 :=
  pad S16384x128 ![0, 0] ![0, 96] ![0, 0] y (sitofp (F := Ideal) .f32 (constantI S_ 32 0#32)) pads_S16384x32_S16384x128_000_0960 h_S_

/-- The softplus, as the reference writes it. -/
def softR (y : FVec Ideal S16384x128 .f32) : FVec Ideal S16384x128 .f32 :=
  let o : FVec Ideal S16384x128 .f32 := broadcastInDim S16384x128 ![] bcast_S_S16384x128 (constant S_ .f32 0x00000000#32)
  select (cmpf .une (subf y o) (subf y o)) (addf y o) (addf (maximumf y o) (Host.log1p (Host.exp (Host.negf (Host.absf (subf y o))))))

/-- The last three rows of every sequence, as the reference writes them. -/
def lastR (p : FVec Ideal S4x4099x4096 .f32) : FVec Ideal S4x3x4096 .f32 := extractStridedSlice S4x3x4096 ![0, 4096, 0] p slices_S4x4099x4096_S4x3x4096_0_4096_0

/-- A row of the projection. -/
def projAt (x : Fin 1024 → EReal) (w : Fin 1024 → Fin 6176 → EReal) (q : Fin 6176) : EReal := ∑ k : Fin 1024, x k * w k q

theorem projR_at (x : FVec Ideal S4x4096x1024 .f32) (w : FVec Ideal S1024x6176 .f32) (b : Fin 4) (l : Fin 4096) (q : Fin 6176) :
    projR x w (ix3 b l q) = projAt (fun k => x (ix3 b l k)) (fun k q => w (ix2 k q)) q := by pointwise [projR, projAt]
theorem zR_at (y : FVec Ideal S4x4096x6176 .f32) (r : Fin 16384) (j : Fin 2048) : zR y (ix2 r j) = y (ix3 (seq r) (step r) ⟨j.val, by omega⟩) := by pointwise [zR, seq, step]
theorem xbc_at (y : FVec Ideal S4x4096x6176 .f32) (b : Fin 4) (l j : Fin 4096) :
    extractStridedSlice S4x4096x4096 ![0, 0, 2048] y slices_S4x4096x6176_S4x4096x4096_0_0_2048 (ix3 b l j) = y (ix3 b l ⟨2048 + j.val, by omega⟩) := by pointwise []
theorem w0R_at (w : FVec Ideal S4x4096 .f32) (b : Fin 4) (l j : Fin 4096) : w0R w (ix3 b l j) = w (ix2 0 j) := by pointwise [w0R, rowR]
theorem w1R_at (w : FVec Ideal S4x4096 .f32) (b : Fin 4) (l j : Fin 4096) : w1R w (ix3 b l j) = w (ix2 1 j) := by pointwise [w1R, rowR]
theorem w2R_at (w : FVec Ideal S4x4096 .f32) (b : Fin 4) (l j : Fin 4096) : w2R w (ix3 b l j) = w (ix2 2 j) := by pointwise [w2R, rowR]
theorem w3R_at (w : FVec Ideal S4x4096 .f32) (b : Fin 4) (l j : Fin 4096) : w3R w (ix3 b l j) = w (ix2 3 j) := by pointwise [w3R, rowR]
theorem rowR_at (w : FVec Ideal S4096 .f32) (b : Fin 4) (l j : Fin 4096) : rowR w (ix3 b l j) = w (ix1 j) := by pointwise [rowR]

theorem convR_at (p : FVec Ideal S4x4099x4096 .f32) (w : FVec Ideal S4x4096 .f32) (bi : FVec Ideal S4096 .f32) (b : Fin 4) (l j : Fin 4096) :
    convR p w bi (ix3 b l j) = taps (bi (ix1 j)) (w (ix2 0 j)) (w (ix2 1 j)) (w (ix2 2 j)) (w (ix2 3 j))
      (p (ix3 b (⟨l.val, by omega⟩ : Fin 4099) j)) (p (ix3 b (⟨1 + l.val, by omega⟩ : Fin 4099) j)) (p (ix3 b (⟨2 + l.val, by omega⟩ : Fin 4099) j)) (p (ix3 b (⟨3 + l.val, by omega⟩ : Fin 4099) j)) := by
  have h : convR p w bi (ix3 b l j) = w0R w (ix3 b l j) * p (ix3 b (⟨l.val, by omega⟩ : Fin 4099) j) + w1R w (ix3 b l j) * p (ix3 b (⟨1 + l.val, by omega⟩ : Fin 4099) j)
      + w2R w (ix3 b l j) * p (ix3 b (⟨2 + l.val, by omega⟩ : Fin 4099) j) + w3R w (ix3 b l j) * p (ix3 b (⟨3 + l.val, by omega⟩ : Fin 4099) j) + rowR bi (ix3 b l j) := by
    pointwise [convR]
  rw [h, w0R_at, w1R_at, w2R_at, w3R_at, rowR_at]
  unfold taps
  rw [add_comm _ (bi (ix1 j)), ← add_assoc, ← add_assoc, ← add_assoc]

theorem actR_at (y : FVec Ideal S4x4096x4096 .f32) (r : Fin 16384) (j : Fin 4096) : actR y (ix2 r j) = act (y (ix3 (seq r) (step r) j)) := by pointwise [actR, act, sigm, seq, step]
theorem stepR_at (y : FVec Ideal S4x4096x6176 .f32) (b : FVec Ideal S32 .f32) (r : Fin 16384) (j : Fin 32) :
    stepR y b (ix2 r j) = y (ix3 (seq r) (step r) ⟨6144 + j.val, by omega⟩) + b (ix1 j) := by pointwise [stepR, seq, step]
theorem lane_in (x : FVec Ideal S16384x32 .f32) (v : FVec Ideal S_ .f32) (k : Fin 16384) (d : Fin 32) :
    pad S16384x128 ![0, 0] ![0, 96] ![0, 0] x v pads_S16384x32_S16384x128_000_0960 h_S_ (ix2 k (⟨d.val, by omega⟩ : Fin 128)) = x (ix2 k d) := by
  pointwise
  try rfl
theorem lane_out (x : FVec Ideal S16384x32 .f32) (v : FVec Ideal S_ .f32) (k : Fin 16384) (d : Fin 128) (hd : ¬ d.val < 32) :
    pad S16384x128 ![0, 0] ![0, 96] ![0, 0] x v pads_S16384x32_S16384x128_000_0960 h_S_ (ix2 k d) = v (Shape.Idx.first h_S_) :=
  pad_apply_of_not_inside _ _ _ _ _ _ _ _ 1 (by
    show ¬ (0 ≤ d.val ∧ (d.val - 0) % 1 = 0 ∧ (d.val - 0) / 1 < 32)
    omega)
theorem laneR_at (y : FVec Ideal S4x4096x6176 .f32) (b : FVec Ideal S32 .f32) (r : Fin 16384) (q : Fin 128) :
    laneR (stepR y b) (ix2 r q) = if h : q.val < 32 then y (ix3 (seq r) (step r) ⟨6144 + q.val, by omega⟩) + b (ix1 (⟨q.val, h⟩ : Fin 32)) else 0 := by
  by_cases h : q.val < 32
  · rw [dif_pos h]
    exact (lane_in _ _ r ⟨q.val, h⟩).trans (stepR_at y b r ⟨q.val, h⟩)
  · rw [dif_neg h]
    refine (lane_out _ _ r q h).trans ?_
    show ((((0#32 : BitVec 32).toInt : ℤ) : ℝ) : EReal) = 0
    simp
theorem softR_at (y : FVec Ideal S16384x128 .f32) (r : Fin 16384) (q : Fin 128) : softR y (ix2 r q) = soft (y (ix2 r q)) := by
  have hc : ∀ z : EReal, Ideal.cmp .une z z = 0#1 := fun z => by simp [Ideal.cmp]
  pointwise [softR, soft]
  try simp [hc]
theorem lastR_at (p : FVec Ideal S4x4099x4096 .f32) (b : Fin 4) (i : Fin 3) (j : Fin 4096) : lastR p (ix3 b i j) = p (ix3 b (⟨4096 + i.val, by omega⟩ : Fin 4099) j) := by pointwise [lastR]

/-- A padded row is a row of zeros or a row of the projection. -/
theorem padR_at (y : FVec Ideal S4x4096x6176 .f32) (b : Fin 4) (l : Fin 4099) (j : Fin 4096) :
    padR y (ix3 b l j) = if h : l.val < 3 then 0 else y (ix3 b ⟨l.val - 3, by omega⟩ ⟨2048 + j.val, by omega⟩) := by
  by_cases h : l.val < 3
  · rw [dif_pos h]
    pointwise [padR]
    exact dif_pos h
  · rw [dif_neg h]
    pointwise [padR]
    exact dif_neg h

variable (m : (ℓ : Loc nD τ sig) → Buf (Elt Ideal) ℓ) (c : Dev nD)

end Cert.MbIn
-- ==== Proof.MbInKernel.lean ====
module

public import proofs.«01_k».proof.Proof.MbInFirst
public import proofs.«01_k».proof.Proof.MbInLater
public import proofs.«01_k».proof.Proof.MbInRef

@[expose] public section

set_option maxRecDepth 16384

noncomputable section

namespace Cert.MbIn
open Idealize.ShloMosaic Idealize.ShloMosaic.TcCoe Idealize.SL.Sem
open Cert.Layer Cert.Kernel8Ideal Cert.Kernel8Ideal.Gen

variable (m : (ℓ : Loc nD τ sig) → Buf (Elt Ideal) ℓ)

/-- The windows' index maps, at every grid point. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] ∧ win0_10.index t = ![t.val / 8, 0, 0] ∧ t.val < 32 := (by decide +kernel : ∀ t : Fin grid0.N, _)

theorem point_lt (t : Fin cfg0.N) : t.val < 32 := (idx t).2.2.2.2.2.2.2.2.2.2.2

/-- The last result is written back at a sequence's last point alone. -/
theorem flush_last : ∀ t : Fin cfg0.N, (cfg0.win 10).flush t = true → t.val % 8 = 7 := (by decide +kernel : ∀ t : Fin grid0.N, _)

/-- The launch's arguments, at coordinates. -/
def aX (c : Dev nD) (b : Fin 4) (l : Fin 4096) (k : Fin 1024) : EReal := m ((c.tc : Thread nD τ).loc main_arg0) (ix3 b l k)
def aW (c : Dev nD) (k : Fin 1024) (q : Fin 6176) : EReal := m ((c.tc : Thread nD τ).loc main_arg1) (ix2 k q)
def aC (c : Dev nD) (r : Fin 4) (j : Fin 4096) : EReal := m ((c.tc : Thread nD τ).loc main_arg2) (ix2 r j)
def aB (c : Dev nD) (j : Fin 4096) : EReal := m ((c.tc : Thread nD τ).loc main_arg3) (ix1 j)
def aD (c : Dev nD) (j : Fin 32) : EReal := m ((c.tc : Thread nD τ).loc main_arg4) (ix1 j)

theorem V10 (c : Dev nD) : V m c main_v10 = shapeCast S16384x1024 (m ((c.tc : Thread nD τ).loc main_arg0) : FVec Ideal S4x4096x1024 .f32) shapeCasts_S4x4096x1024_S16384x1024 := by
  entry_read
  rfl
theorem V1 (c : Dev nD) : V m c main_v1 = truncf (F := Ideal) (s := S1024x2048) (φ := .f32) .bf16 (extractStridedSlice S1024x2048 ![0, 0] (m ((c.tc : Thread nD τ).loc main_arg1) : FVec Ideal S1024x6176 .f32) slices_S1024x6176_S1024x2048_0_0) bitsLt_bf16_f32 := by
  entry_read
  rfl
theorem V3 (c : Dev nD) : V m c main_v3 = truncf (F := Ideal) (s := S1024x4096) (φ := .f32) .bf16 (extractStridedSlice S1024x4096 ![0, 2048] (m ((c.tc : Thread nD τ).loc main_arg1) : FVec Ideal S1024x6176 .f32) slices_S1024x6176_S1024x4096_0_2048) bitsLt_bf16_f32 := by
  entry_read
  rfl
theorem V6 (c : Dev nD) : V m c main_v6 = truncf (F := Ideal) (s := S1024x128) (φ := .f32) .bf16 (pad S1024x128 ![0, 0] ![0, 96] ![0, 0] (extractStridedSlice S1024x32 ![0, 6144] (m ((c.tc : Thread nD τ).loc main_arg1) : FVec Ideal S1024x6176 .f32) slices_S1024x6176_S1024x32_0_6144) (sitofp (F := Ideal) .f32 (constantI S_ 32 0#32)) pads_S1024x32_S1024x128_000_0960 h_S_) bitsLt_bf16_f32 := by
  entry_read
  rfl
theorem V8 (c : Dev nD) : V m c main_v8 = pad S1x128 ![0, 0] ![0, 96] ![0, 0] (shapeCast S1x32 (m ((c.tc : Thread nD τ).loc main_arg4) : FVec Ideal S32 .f32) shapeCasts_S32_S1x32) (sitofp (F := Ideal) .f32 (constantI S_ 32 0#32)) pads_S1x32_S1x128_000_0960 h_S_ := by
  entry_read
  rfl
theorem V9 (c : Dev nD) : V m c main_v9 = shapeCast S1x4096 (m ((c.tc : Thread nD τ).loc main_arg3) : FVec Ideal S4096 .f32) shapeCasts_S4096_S1x4096 := by
  entry_read
  rfl

theorem cast_x (x : FVec Ideal S4x4096x1024 .f32) (r : Fin 16384) (j : Fin 1024) : shapeCast S16384x1024 x shapeCasts_S4x4096x1024_S16384x1024 (ix2 r j) = x (ix3 (seq r) (step r) j) := by
  pointwise [seq, step]
theorem cast_b (w : FVec Ideal S4096 .f32) (q : Fin 4096) : shapeCast S1x4096 w shapeCasts_S4096_S1x4096 (ix2 0 q) = w (ix1 q) := by pointwise
theorem cast_d (w : FVec Ideal S32 .f32) (q : Fin 32) : shapeCast S1x32 w shapeCasts_S32_S1x32 (ix2 0 q) = w (ix1 q) := by pointwise
theorem slice_z (x : FVec Ideal S1024x6176 .f32) (k : Fin 1024) (j : Fin 2048) : extractStridedSlice S1024x2048 ![0, 0] x slices_S1024x6176_S1024x2048_0_0 (ix2 k j) = x (ix2 k ⟨j.val, by omega⟩) := by pointwise []
theorem slice_x (x : FVec Ideal S1024x6176 .f32) (k : Fin 1024) (j : Fin 4096) : extractStridedSlice S1024x4096 ![0, 2048] x slices_S1024x6176_S1024x4096_0_2048 (ix2 k j) = x (ix2 k ⟨2048 + j.val, by omega⟩) := by pointwise []
theorem slice_d (x : FVec Ideal S1024x6176 .f32) (k : Fin 1024) (j : Fin 32) : extractStridedSlice S1024x32 ![0, 6144] x slices_S1024x6176_S1024x32_0_6144 (ix2 k j) = x (ix2 k ⟨6144 + j.val, by omega⟩) := by pointwise []
theorem wlane_in (x : FVec Ideal S1024x32 .f32) (v : FVec Ideal S_ .f32) (k : Fin 1024) (d : Fin 32) :
    pad S1024x128 ![0, 0] ![0, 96] ![0, 0] x v pads_S1024x32_S1024x128_000_0960 h_S_ (ix2 k (⟨d.val, by omega⟩ : Fin 128)) = x (ix2 k d) := by
  pointwise
  try rfl
theorem wlane_out (x : FVec Ideal S1024x32 .f32) (v : FVec Ideal S_ .f32) (k : Fin 1024) (d : Fin 128) (hd : ¬ d.val < 32) :
    pad S1024x128 ![0, 0] ![0, 96] ![0, 0] x v pads_S1024x32_S1024x128_000_0960 h_S_ (ix2 k d) = v (Shape.Idx.first h_S_) :=
  pad_apply_of_not_inside _ _ _ _ _ _ _ _ 1 (by
    show ¬ (0 ≤ d.val ∧ (d.val - 0) % 1 = 0 ∧ (d.val - 0) / 1 < 32)
    omega)
theorem dlane_in (x : FVec Ideal S1x32 .f32) (v : FVec Ideal S_ .f32) (d : Fin 32) :
    pad S1x128 ![0, 0] ![0, 96] ![0, 0] x v pads_S1x32_S1x128_000_0960 h_S_ (ix2 0 (⟨d.val, by omega⟩ : Fin 128)) = x (ix2 0 d) := by
  pointwise
  try rfl
theorem dlane_out (x : FVec Ideal S1x32 .f32) (v : FVec Ideal S_ .f32) (d : Fin 128) (hd : ¬ d.val < 32) :
    pad S1x128 ![0, 0] ![0, 96] ![0, 0] x v pads_S1x32_S1x128_000_0960 h_S_ (ix2 0 d) = v (Shape.Idx.first h_S_) :=
  pad_apply_of_not_inside _ _ _ _ _ _ _ _ 1 (by
    show ¬ (0 ≤ d.val ∧ (d.val - 0) % 1 = 0 ∧ (d.val - 0) / 1 < 32)
    omega)

/-- The row that row `s` of point `t`'s tile is. -/
def row (t : Fin cfg0.N) (s : Fin 512) : Fin 16384 := ⟨t.val * 512 + s.val, by have := point_lt t; omega⟩

theorem blk0 (c : Dev nD) (t : Fin cfg0.N) (s : Fin 512) (k : Fin 1024) : iblk m c 0 t (ix2 s k) = aX m c (seq (row t s)) (step (row t s)) k := by
  have := point_lt t
  blk_simp [iblk]
  have e : ((cfg0.win 0).blk t).view.emb (ix2 s k) = ix2 (row t s) k := by blk_ext [idx t, row]
  exact (congrArg (V m c main_v10) e).trans ((congrFun (V10 m c) _).trans (cast_x _ _ _))
theorem blk1 (c : Dev nD) (t : Fin cfg0.N) (k : Fin 1024) (j : Fin 2048) : iblk m c 1 t (ix2 k j) = aW m c k ⟨j.val, by omega⟩ := by
  blk_simp [iblk]
  have e : ((cfg0.win 1).blk t).view.emb (ix2 k j) = ix2 k j := by blk_ext [idx t]
  exact (congrArg (V m c main_v1) e).trans ((congrFun (V1 m c) _).trans (slice_z _ k j))
theorem blk2 (c : Dev nD) (t : Fin cfg0.N) (k : Fin 1024) (j : Fin 4096) : iblk m c 2 t (ix2 k j) = aW m c k ⟨2048 + j.val, by omega⟩ := by
  blk_simp [iblk]
  have e : ((cfg0.win 2).blk t).view.emb (ix2 k j) = ix2 k j := by blk_ext [idx t]
  exact (congrArg (V m c main_v3) e).trans ((congrFun (V3 m c) _).trans (slice_x _ k j))
theorem blk3 (c : Dev nD) (t : Fin cfg0.N) (k : Fin 1024) (q : Fin 128) : iblk m c 3 t (ix2 k q) = if h : q.val < 32 then aW m c k ⟨6144 + q.val, by omega⟩ else 0 := by
  blk_simp [iblk]
  have e : ((cfg0.win 3).blk t).view.emb (ix2 k q) = ix2 k q := by blk_ext [idx t]
  refine (congrArg (V m c main_v6) e).trans ((congrFun (V6 m c) _).trans ?_)
  by_cases h : q.val < 32
  · rw [dif_pos h]
    exact (wlane_in _ _ k ⟨q.val, h⟩).trans (slice_d _ k ⟨q.val, h⟩)
  · rw [dif_neg h]
    refine (wlane_out _ _ k q h).trans ?_
    show ((((0#32 : BitVec 32).toInt : ℤ) : ℝ) : EReal) = 0
    simp
theorem blk4 (c : Dev nD) (t : Fin cfg0.N) (q : Fin 128) : iblk m c 4 t (ix2 0 q) = if h : q.val < 32 then aD m c ⟨q.val, h⟩ else 0 := by
  blk_simp [iblk]
  have e : ((cfg0.win 4).blk t).view.emb (ix2 0 q) = ix2 0 q := by blk_ext [idx t]
  refine (congrArg (V m c main_v8) e).trans ((congrFun (V8 m c) _).trans ?_)
  by_cases h : q.val < 32
  · rw [dif_pos h]
    exact (dlane_in _ _ ⟨q.val, h⟩).trans (cast_d _ ⟨q.val, h⟩)
  · rw [dif_neg h]
    refine (dlane_out _ _ q h).trans ?_
    show ((((0#32 : BitVec 32).toInt : ℤ) : ℝ) : EReal) = 0
    simp
theorem blk5 (c : Dev nD) (t : Fin cfg0.N) (r : Fin 4) (j : Fin 4096) : iblk m c 5 t (ix2 r j) = aC m c r j := by
  blk_simp [iblk]
  exact congrArg (m ((c.tc : Thread nD τ).loc main_arg2)) (show ((cfg0.win 5).blk t).view.emb (ix2 r j) = ix2 r j by blk_ext [idx t])
theorem blk6 (c : Dev nD) (t : Fin cfg0.N) (j : Fin 4096) : iblk m c 6 t (ix2 0 j) = aB m c j := by
  blk_simp [iblk]
  have e : ((cfg0.win 6).blk t).view.emb (ix2 0 j) = ix2 0 j := by blk_ext [idx t]
  exact (congrArg (V m c main_v9) e).trans ((congrFun (V9 m c) _).trans (cast_b _ _))

/-- A row's projection. -/
def pR (c : Dev nD) (r : Fin 16384) (q : Fin 6176) : EReal := projAt (aX m c (seq r) (step r)) (aW m c) q

/-- A row of a sequence, counted from the three rows of zeros before it. -/
def padAt (c : Dev nD) (b : Fin 4) (l : Fin 4099) (j : Fin 4096) : EReal :=
  if h : l.val < 3 then 0 else projAt (aX m c b ⟨l.val - 3, by omega⟩) (aW m c) ⟨2048 + j.val, by omega⟩

/-- A sum of products. -/
abbrev sumOf (f g : Fin 1024 → EReal) : EReal := ∑ k : Fin 1024, f k * g k

theorem sumOf_congr (f g f' g' : Fin 1024 → EReal) (hf : ∀ k, f k = f' k) (hg : ∀ k, g k = g' k) : sumOf f g = sumOf f' g' := by
  rw [funext hf, funext hg]
theorem sumOf_zero (f g : Fin 1024 → EReal) (hg : ∀ k, g k = 0) : sumOf f g = 0 :=
  Finset.sum_eq_zero fun k _ => (congrArg (f k * ·) (hg k)).trans (mul_zero _)

theorem scr_lo (hd : Fin 8 → Fin 4096 → EReal) (x0 : Vec Ideal S512x1024 .f32) (x2 : Vec Ideal S1024x4096 .bf16) (p : Fin 520) (s : Fin 512) (j : Fin 4096) (h : p.val = s.val + 8) :
    scr hd x0 x2 (ix2 p j) = ∑ k : Fin 1024, x0 (ix2 s k) * x2 (ix2 k j) := by
  unfold scr
  refine (dif_neg (show ¬ p.val < 8 by omega)).trans ?_
  exact Finset.sum_congr rfl fun k _ => congrArg (fun z => x0 (ix2 z k) * x2 (ix2 k j)) (Fin.ext (show p.val - 8 = s.val by omega))
theorem scr_hi (hd : Fin 8 → Fin 4096 → EReal) (x0 : Vec Ideal S512x1024 .f32) (x2 : Vec Ideal S1024x4096 .bf16) (p : Fin 520) (r : Fin 8) (j : Fin 4096) (h : p.val = r.val) :
    scr hd x0 x2 (ix2 p j) = hd r j := by
  unfold scr
  exact (dif_pos (show p.val < 8 by omega)).trans (congrArg (fun z => hd z j) (Fin.ext h))

theorem tile_sum (c : Dev nD) (t : Fin cfg0.N) (s : Fin 512) (j : Fin 4096) :
    sumOf (fun k => iblk m c 0 t (ix2 s k)) (fun k => iblk m c 2 t (ix2 k j)) = pR m c (row t s) ⟨2048 + j.val, by omega⟩ :=
  sumOf_congr _ _ _ _ (fun k => blk0 m c t s k) fun k => blk2 m c t k j

/-- What the buffer's last eight rows are after a point. -/
theorem kept (c : Dev nD) (t : Fin cfg0.N) (r : Fin 8) (j : Fin 4096) :
    prevHd (outsAt0 m c t.val t.isLt).2.2.2.2 r j = pR m c (row t ⟨504 + r.val, by omega⟩) ⟨2048 + j.val, by omega⟩ := by
  unfold prevHd
  by_cases h0 : t.val % 8 = 0
  · rw [outsAt0_A m c t h0 (by omega) (by omega)]
    dsimp only
    rw [scr_A]
    exact (scr_lo _ _ _ _ ⟨504 + r.val, by omega⟩ j (show 512 + r.val = 504 + r.val + 8 by omega)).trans (tile_sum m c t _ j)
  · by_cases h1 : t.val % 8 = 7
    · rw [outsAt0_C m c t h0 h0 h1]
      dsimp only
      rw [scr_C]
      exact (scr_lo _ _ _ _ ⟨504 + r.val, by omega⟩ j (show 512 + r.val = 504 + r.val + 8 by omega)).trans (tile_sum m c t _ j)
    · rw [outsAt0_B m c t h0 h0 h1]
      dsimp only
      rw [scr_B]
      exact (scr_lo _ _ _ _ ⟨504 + r.val, by omega⟩ j (show 512 + r.val = 504 + r.val + 8 by omega)).trans (tile_sum m c t _ j)

/-- The eight rows before a tile: zero at the head of a sequence. -/
def before (c : Dev nD) (t : Fin cfg0.N) (r : Fin 8) (j : Fin 4096) : EReal :=
  if t.val % 8 = 0 then 0 else pR m c ⟨t.val * 512 + r.val - 8, by have := point_lt t; omega⟩ ⟨2048 + j.val, by omega⟩

theorem before_prev (c : Dev nD) (t : Fin cfg0.N) (h0 : ¬ t.val % 8 = 0) (h : t.val - 1 < cfg0.N) (r : Fin 8) (j : Fin 4096) : prevHd (outsAt0 m c (t.val - 1) h).2.2.2.2 r j = before m c t r j := by
  refine (kept m c ⟨t.val - 1, h⟩ r j).trans ?_
  unfold before
  rw [if_neg h0]
  exact congrArg (fun z => pR m c z ⟨2048 + j.val, by omega⟩) (Fin.ext (show (t.val - 1) * 512 + (504 + r.val) = t.val * 512 + r.val - 8 by omega))

/-- Every point's results, over its blocks and the eight rows before its tile. -/
theorem point (c : Dev nD) (t : Fin cfg0.N) : ∃ hd : Fin 8 → Fin 4096 → EReal, (∀ r j, hd r j = before m c t r j)
    ∧ (∀ (s : Fin 512) (j : Fin 2048), (outsAt0 m c t.val t.isLt).1 (ix2 s j) = sumOf (fun k => iblk m c 0 t (ix2 s k)) (fun k => iblk m c 1 t (ix2 k j)))
    ∧ (∀ y : S512x4096.Idx, (outsAt0 m c t.val t.isLt).2.1 y = convG (scr hd (iblk m c 0 t) (iblk m c 2 t)) (iblk m c 5 t) (iblk m c 6 t) y)
    ∧ (∀ (s : Fin 512) (j : Fin 128), (outsAt0 m c t.val t.isLt).2.2.1 (ix2 s j) = soft ((sumOf (fun k => iblk m c 0 t (ix2 s k)) (fun k => iblk m c 3 t (ix2 k j))) + (iblk m c 4 t (ix2 0 j) : EReal)))
    ∧ (t.val % 8 = 7 → ∀ (p : Fin 3) (j : Fin 4096), (outsAt0 m c t.val t.isLt).2.2.2.1 (ix3 0 p j) = scr hd (iblk m c 0 t) (iblk m c 2 t) (ix2 (⟨517 + p.val, by omega⟩ : Fin 520) j)) := by
  by_cases h0 : t.val % 8 = 0
  · rw [outsAt0_A m c t h0 (by omega) (by omega)]
    dsimp only
    refine ⟨zeroHd, fun r j => ?_, fun s j => ?_, fun y => ?_, fun s j => ?_, fun h => absurd h (by omega)⟩
    · unfold before
      rw [if_pos h0]
      rfl
    · rw [z_A] <;> rfl
    · rw [xbc_A] <;> rfl
    · rw [dt_A] <;> rfl
  · by_cases h1 : t.val % 8 = 7
    · rw [outsAt0_C m c t h0 h0 h1]
      dsimp only
      refine ⟨_, before_prev m c t h0 (Nat.lt_of_le_of_lt (Nat.sub_le _ _) t.isLt), fun s j => ?_, fun y => ?_, fun s j => ?_, fun _ p j => ?_⟩
      · rw [z_C] <;> rfl
      · rw [xbc_C] <;> rfl
      · rw [dt_C] <;> rfl
      · rw [st_C] <;> rfl
    · rw [outsAt0_B m c t h0 h0 h1]
      dsimp only
      refine ⟨_, before_prev m c t h0 (Nat.lt_of_le_of_lt (Nat.sub_le _ _) t.isLt), fun s j => ?_, fun y => ?_, fun s j => ?_, fun h => absurd h h1⟩
      · rw [z_B] <;> rfl
      · rw [xbc_B] <;> rfl
      · rw [dt_B] <;> rfl

/-- The buffer's rows are the padded sequence's. -/
theorem tap (c : Dev nD) (t : Fin cfg0.N) (hd : Fin 8 → Fin 4096 → EReal) (hh : ∀ r j, hd r j = before m c t r j) (s : Fin 512) (i : ℕ) (hi : i < 4) (p : Fin 520) (l : Fin 4099) (j : Fin 4096)
    (hp : p.val = 5 + i + s.val) (hl : l.val = i + (step (row t s)).val) :
    scr hd (iblk m c 0 t) (iblk m c 2 t) (ix2 p j) = padAt m c (seq (row t s)) l j := by
  have ht := point_lt t
  have hl' : l.val = i + (t.val * 512 + s.val) % 4096 := hl
  clear hl
  unfold padAt
  by_cases h : p.val < 8
  · refine (scr_hi _ _ _ p ⟨p.val, h⟩ j rfl).trans ((hh _ j).trans ?_)
    unfold before
    by_cases h0 : t.val % 8 = 0
    · rw [if_pos h0, dif_pos (show l.val < 3 by omega)]
    · rw [if_neg h0, dif_neg (show ¬ l.val < 3 by omega)]
      unfold pR
      refine congrArg (fun z => projAt z (aW m c) ⟨2048 + j.val, by omega⟩) (congrArg₂ (aX m c) (Fin.ext ?_) (Fin.ext ?_))
      · show (t.val * 512 + p.val - 8) / 4096 = (t.val * 512 + s.val) / 4096; omega
      · show (t.val * 512 + p.val - 8) % 4096 = l.val - 3; omega
  · refine (scr_lo _ _ _ p ⟨p.val - 8, by omega⟩ j (show p.val = p.val - 8 + 8 by omega)).trans ((tile_sum m c t _ j).trans ?_)
    rw [dif_neg (show ¬ l.val < 3 by omega)]
    unfold pR
    refine congrArg (fun z => projAt z (aW m c) ⟨2048 + j.val, by omega⟩) (congrArg₂ (aX m c) (Fin.ext ?_) (Fin.ext ?_))
    · show (t.val * 512 + (p.val - 8)) / 4096 = (t.val * 512 + s.val) / 4096; omega
    · show (t.val * 512 + (p.val - 8)) % 4096 = l.val - 3; omega

/-- The gate's array. -/
def G7 (c : Dev nD) : Buf (Elt Ideal) ((c.tc : Thread nD τ).loc main_v11_0) :=
  fun i => pR m c ⟨(i 0).val, (i 0).isLt⟩ ⟨(i 1).val, by have : (i 1).val < 2048 := (i 1).isLt; omega⟩
/-- The activated convolution at a row and a column. -/
def xbcAt (c : Dev nD) (r : Fin 16384) (j : Fin 4096) : EReal :=
  act (taps (aB m c j) (aC m c 0 j) (aC m c 1 j) (aC m c 2 j) (aC m c 3 j) (padAt m c (seq r) ⟨(step r).val, by omega⟩ j) (padAt m c (seq r) ⟨1 + (step r).val, by omega⟩ j)
    (padAt m c (seq r) ⟨2 + (step r).val, by omega⟩ j) (padAt m c (seq r) ⟨3 + (step r).val, by omega⟩ j))
def G8 (c : Dev nD) : Buf (Elt Ideal) ((c.tc : Thread nD τ).loc main_v11_1) := fun i => xbcAt m c ⟨(i 0).val, (i 0).isLt⟩ ⟨(i 1).val, (i 1).isLt⟩
/-- The step size at a row and a lane. -/
def dtAt (c : Dev nD) (r : Fin 16384) (q : Fin 128) : EReal :=
  soft (if h : q.val < 32 then pR m c r ⟨6144 + q.val, by omega⟩ + aD m c ⟨q.val, h⟩ else 0)
def G9 (c : Dev nD) : Buf (Elt Ideal) ((c.tc : Thread nD τ).loc main_v11_2) := fun i => dtAt m c ⟨(i 0).val, (i 0).isLt⟩ ⟨(i 1).val, (i 1).isLt⟩
/-- The last three rows of a sequence before the convolution. -/
def stAt (c : Dev nD) (b : Fin 4) (p : Fin 3) (j : Fin 4096) : EReal := padAt m c b ⟨4096 + p.val, by omega⟩ j
def G10 (c : Dev nD) : Buf (Elt Ideal) ((c.tc : Thread nD τ).loc main_v11_3) := fun i => stAt m c ⟨(i 0).val, (i 0).isLt⟩ ⟨(i 1).val, (i 1).isLt⟩ ⟨(i 2).val, (i 2).isLt⟩

theorem final7 (c : Dev nD) : (dats m 0 c).arrAt 7 (cfgs 0).N = G7 m c := by
  refine (dats m 0 c).arrAt_eq_of_covers 7 _ (by decide +kernel) fun t _ y => ?_
  obtain ⟨s, j, rfl⟩ : ∃ (s : Fin 512) (j : Fin 2048), y = ix2 s j := ⟨y 0, y 1, by idx_vars y⟩
  blk_simp
  rw [after0_7]
  obtain ⟨hd, _, hz, _, _, _⟩ := point m c t
  have e : ((cfg0.win 7).blk t).view.emb (ix2 s j) = ix2 (row t s) j := by blk_ext [idx t, row]
  refine (hz s j).trans (Eq.trans ?_ (congrArg (G7 m c) e).symm)
  exact sumOf_congr _ _ _ _ (fun k => blk0 m c t s k) fun k => blk1 m c t k j

theorem final8 (c : Dev nD) : (dats m 0 c).arrAt 8 (cfgs 0).N = G8 m c := by
  refine (dats m 0 c).arrAt_eq_of_covers 8 _ (by decide +kernel) fun t _ y => ?_
  obtain ⟨s, j, rfl⟩ : ∃ (s : Fin 512) (j : Fin 4096), y = ix2 s j := ⟨y 0, y 1, by idx_vars y⟩
  blk_simp
  rw [after0_8]
  obtain ⟨hd, hh, _, hx, _, _⟩ := point m c t
  have e : ((cfg0.win 8).blk t).view.emb (ix2 s j) = ix2 (row t s) j := by blk_ext [idx t, row]
  refine (hx (ix2 s j)).trans (Eq.trans ?_ (congrArg (G8 m c) e).symm)
  show convG _ _ _ (ix2 s j) = xbcAt m c (row t s) j
  unfold convG xbcAt
  refine congrArg act ?_
  have e0 := tap m c t hd hh s 0 (by omega) ⟨5 + s.val, by omega⟩ ⟨(step (row t s)).val, by omega⟩ j (show 5 + s.val = 5 + 0 + s.val by omega) (Nat.zero_add _).symm
  have e1 := tap m c t hd hh s 1 (by omega) ⟨6 + s.val, by omega⟩ ⟨1 + (step (row t s)).val, by omega⟩ j (show 6 + s.val = 5 + 1 + s.val by omega) rfl
  have e2 := tap m c t hd hh s 2 (by omega) ⟨7 + s.val, by omega⟩ ⟨2 + (step (row t s)).val, by omega⟩ j (show 7 + s.val = 5 + 2 + s.val by omega) rfl
  have e3 := tap m c t hd hh s 3 (by omega) ⟨8 + s.val, by omega⟩ ⟨3 + (step (row t s)).val, by omega⟩ j (show 8 + s.val = 5 + 3 + s.val by omega) rfl
  rw [← e0, ← e1, ← e2, ← e3, ← blk6 m c t j, ← blk5 m c t 0 j, ← blk5 m c t 1 j, ← blk5 m c t 2 j, ← blk5 m c t 3 j]
  rfl

theorem final9 (c : Dev nD) : (dats m 0 c).arrAt 9 (cfgs 0).N = G9 m c := by
  refine (dats m 0 c).arrAt_eq_of_covers 9 _ (by decide +kernel) fun t _ y => ?_
  obtain ⟨s, j, rfl⟩ : ∃ (s : Fin 512) (j : Fin 128), y = ix2 s j := ⟨y 0, y 1, by idx_vars y⟩
  blk_simp
  rw [after0_9]
  obtain ⟨hd, _, _, _, hd9, _⟩ := point m c t
  have e : ((cfg0.win 9).blk t).view.emb (ix2 s j) = ix2 (row t s) j := by blk_ext [idx t, row]
  refine (hd9 s j).trans (Eq.trans ?_ (congrArg (G9 m c) e).symm)
  show _ = dtAt m c (row t s) j
  unfold dtAt
  refine congrArg soft ?_
  by_cases h : j.val < 32
  · rw [dif_pos h]
    exact congrArg₂ (fun a b : EReal => a + b) (sumOf_congr _ _ _ _ (fun k => blk0 m c t s k) fun k => (blk3 m c t k j).trans (dif_pos h)) ((blk4 m c t j).trans (dif_pos h))
  · rw [dif_neg h]
    exact (congrArg₂ (fun a b : EReal => a + b) (sumOf_zero _ _ fun k => (blk3 m c t k j).trans (dif_neg h)) ((blk4 m c t j).trans (dif_neg h))).trans (add_zero 0)

theorem final10 (c : Dev nD) : (dats m 0 c).arrAt 10 (cfgs 0).N = G10 m c := by
  refine (dats m 0 c).arrAt_eq_of_covers 10 _ (by decide +kernel) fun t hf y => ?_
  have h7 := flush_last t hf
  obtain ⟨a, p, j, rfl⟩ : ∃ (a : Fin 1) (p : Fin 3) (j : Fin 4096), y = ix3 a p j := ⟨y 0, y 1, y 2, by idx_vars y⟩
  obtain rfl : a = 0 := Subsingleton.elim _ _
  have ht := point_lt t
  blk_simp
  rw [after0_10]
  obtain ⟨hd, _, _, _, _, hs⟩ := point m c t
  have e : ((cfg0.win 10).blk t).view.emb (ix3 0 p j) = ix3 (⟨t.val / 8, by omega⟩ : Fin 4) p j := by blk_ext [idx t]
  refine (hs h7 p j).trans (Eq.trans ?_ (congrArg (G10 m c) e).symm)
  show _ = stAt m c ⟨t.val / 8, by omega⟩ p j
  refine (scr_lo _ _ _ _ ⟨509 + p.val, by omega⟩ j (show 517 + p.val = 509 + p.val + 8 by omega)).trans ((tile_sum m c t _ j).trans ?_)
  unfold stAt padAt pR
  rw [dif_neg (show ¬ 4096 + p.val < 3 by omega)]
  refine congrArg (fun z => projAt z (aW m c) ⟨2048 + j.val, by omega⟩) (congrArg₂ (aX m c) (Fin.ext ?_) (Fin.ext ?_))
  · show (t.val * 512 + (509 + p.val)) / 4096 = t.val / 8; omega
  · show (t.val * 512 + (509 + p.val)) % 4096 = 4096 + p.val - 3; omega

end Cert.MbIn
-- ==== Proof.MbIn.lean ====
module

public import proofs.«01_k».proof.Proof.MbInKernel
public import proofs.«01_k».proof.Proof.Gen.Reference8Ideal.Run
public import proofs.«01_k».proof.Defs

@[expose] public section

set_option maxRecDepth 16384

noncomputable section

namespace Cert.MbIn
open Idealize.ShloMosaic Idealize.ShloMosaic.TcCoe Idealize.SL.Sem Cert.Layer

open Cert.Kernel8Ideal in
/-- The reference's padded rows are the kernel's. -/
theorem padded (m : (ℓ : Loc nD τ sig) → Buf (Elt Ideal) ℓ) (c : Dev nD) (b : Fin 4) (l : Fin 4099) (j : Fin 4096) :
    padR (projR (m ((c.tc : Thread nD τ).loc main_arg0)) (m ((c.tc : Thread nD τ).loc main_arg1))) (ix3 b l j) = padAt m c b l j := by
  refine (padR_at _ b l j).trans ?_
  unfold padAt
  by_cases h : l.val < 3
  · rw [dif_pos h, dif_pos h]
  · rw [dif_neg h, dif_neg h]
    exact projR_at _ _ _ _ _

open Cert.Kernel8Ideal in
/-- The reference's results are the kernel's, over the same arguments. -/
theorem ref_all (m : (ℓ : Loc nD τ sig) → Buf (Elt Ideal) ℓ) (c : Dev nD) (x : FVec Ideal S4x4096x1024 .f32) (w : FVec Ideal S1024x6176 .f32) (wc : FVec Ideal S4x4096 .f32) (bc : FVec Ideal S4096 .f32) (dtb : FVec Ideal S32 .f32)
    (hx : x = m ((c.tc : Thread nD τ).loc main_arg0)) (hw : w = m ((c.tc : Thread nD τ).loc main_arg1)) (hc : wc = m ((c.tc : Thread nD τ).loc main_arg2)) (hb : bc = m ((c.tc : Thread nD τ).loc main_arg3)) (hd : dtb = m ((c.tc : Thread nD τ).loc main_arg4)) :
    zR (projR x w) = G7 m c ∧ actR (convR (padR (projR x w)) wc bc) = G8 m c ∧ softR (laneR (stepR (projR x w) dtb)) = G9 m c ∧ lastR (padR (projR x w)) = G10 m c := by
  subst hx hw hc hb hd
  refine ⟨funext fun i => ?_, funext fun i => ?_, funext fun i => ?_, funext fun i => ?_⟩
  · obtain ⟨r, j, rfl⟩ : ∃ (r : Fin 16384) (j : Fin 2048), i = ix2 r j := ⟨i 0, i 1, by idx_vars i⟩
    exact (zR_at _ r j).trans (projR_at _ _ _ _ _)
  · obtain ⟨r, j, rfl⟩ : ∃ (r : Fin 16384) (j : Fin 4096), i = ix2 r j := ⟨i 0, i 1, by idx_vars i⟩
    refine (actR_at _ r j).trans (congrArg act ((convR_at _ _ _ _ _ _).trans ?_))
    simp only [padded]
    rfl
  · obtain ⟨r, q, rfl⟩ : ∃ (r : Fin 16384) (q : Fin 128), i = ix2 r q := ⟨i 0, i 1, by idx_vars i⟩
    refine (softR_at _ r q).trans (congrArg soft ((laneR_at _ _ r q).trans ?_))
    by_cases h : q.val < 32
    · simp only [dif_pos h]
      refine (congrArg₂ (· + ·) (projR_at _ _ _ _ _) rfl).trans (Eq.symm (dif_pos h))
    · simp only [dif_neg h]
      show (0 : EReal) = if h : q.val < 32 then pR m c r ⟨6144 + q.val, by omega⟩ + aD m c ⟨q.val, h⟩ else 0
      rw [dif_neg h]
  · obtain ⟨b, p, j, rfl⟩ : ∃ (b : Fin 4) (p : Fin 3) (j : Fin 4096), i = ix3 b p j := ⟨i 0, i 1, i 2, by idx_vars i⟩
    exact (lastR_at _ b p j).trans (padded m c b _ j)

theorem algebraic : Cert.algebraic_Kernel8Ideal_Reference8Ideal (hKernel8Ideal := Cert.Kernel8Ideal.Gen.facts) (hReference8Ideal := Cert.Reference8Ideal.Gen.facts) := by
  intro m g m' g' _ ha
  refine ⟨G7 m, G8 m, G9 m, G10 m, (θ_run Cert.Kernel8Ideal.defs _ _).mono (fun r h c => ?_) (Cert.Kernel8Ideal.Value.run_blocks m g), ?_⟩
  · obtain ⟨h0, h1, h2, h3, h4, h5, h6, h7, h8⟩ := h c
    exact ⟨h0.trans (final7 m c), h1.trans (final8 m c), h2.trans (final9 m c), h3.trans (final10 m c), h4, h5, h6, h7, h8⟩
  refine (θ_run Cert.Reference8Ideal.defs _ _).mono (fun r h c => ?_) (Cert.Reference8Ideal.Value.run m' g')
  obtain ⟨h0, h1, h2, h3, h4⟩ := h c
  obtain ⟨a0, a1, a2, a3, a4⟩ := ha c
  obtain ⟨e0, e1, e2, e3⟩ := ref_all m c _ _ _ _ _ a0 a1 a2 a3 a4
  exact ⟨h0.trans e0, h1.trans e1, h2.trans e2, h3.trans e3, h4⟩

end Cert.MbIn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gm
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Tail3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Tail0
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Tail1
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Tail2
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.AtIn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.MbIn
public import Idealize.ShloMosaic.Adequacy
public import Idealize.ShloMosaic.Init
public import Idealize.ShloMosaic.Lib.Quiescent

@[expose] public section

noncomputable section

namespace Cert.Proof

open Idealize.ShloMosaic Idealize.SL.Sem

theorem kernelFrame : Cert.quiescent_KernelIdeal (hKernelIdeal := Cert.KernelIdeal.Gen.facts) :=
  fun m g _ => Cert.KernelIdeal.Gen.frame m g

theorem referenceFrame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

theorem kernelFrame2 : Cert.quiescent_Kernel2Ideal (hKernel2Ideal := Cert.Kernel2Ideal.Gen.facts) :=
  fun m g _ => Cert.Kernel2Ideal.Gen.frame m g

theorem referenceFrame2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run m g)

theorem kernelFrame3 : Cert.quiescent_Kernel3Ideal (hKernel3Ideal := Cert.Kernel3Ideal.Gen.facts) :=
  fun m g _ => Cert.Kernel3Ideal.Gen.frame m g

theorem referenceFrame3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

theorem kernelFrame4 : Cert.quiescent_Kernel4Ideal (hKernel4Ideal := Cert.Kernel4Ideal.Gen.facts) :=
  fun m g _ => Cert.Kernel4Ideal.Gen.frame m g

theorem referenceFrame4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

theorem kernelFrame5 : Cert.quiescent_Kernel5Ideal (hKernel5Ideal := Cert.Kernel5Ideal.Gen.facts) :=
  fun m g _ => Cert.Kernel5Ideal.Gen.frame m g

theorem referenceFrame5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

theorem kernelFrame6 : Cert.quiescent_Kernel6Ideal (hKernel6Ideal := Cert.Kernel6Ideal.Gen.facts) :=
  fun m g _ => Cert.Kernel6Ideal.Gen.frame m g

theorem referenceFrame6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run m g)

theorem kernelFrame7 : Cert.quiescent_Kernel7Ideal (hKernel7Ideal := Cert.Kernel7Ideal.Gen.facts) :=
  fun m g _ => Cert.Kernel7Ideal.Gen.frame m g

theorem referenceFrame7 : Cert.quiescent_Reference7Ideal (hReference7Ideal := Cert.Reference7Ideal.Gen.facts) := fun m g _ =>
  (θ_run Cert.Reference7Ideal.defs _ _).mono (fun r h => ⟨fun c => (h c).2.2.2.2.2.2.2.2, sem_eq_zero_of_no_sems (by decide) r.2⟩)
    (Cert.Reference7Ideal.Value.run m g)

theorem kernelFrame8 : Cert.quiescent_Kernel8Ideal (hKernel8Ideal := Cert.Kernel8Ideal.Gen.facts) :=
  fun m g _ => Cert.Kernel8Ideal.Gen.frame m g

theorem referenceFrame8 : Cert.quiescent_Reference8Ideal (hReference8Ideal := Cert.Reference8Ideal.Gen.facts) := fun m g _ =>
  (θ_run Cert.Reference8Ideal.defs _ _).mono (fun r h => ⟨fun c => (h c).2.2.2.2, sem_eq_zero_of_no_sems (by decide) r.2⟩)
    (Cert.Reference8Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Ssd.facts_pre,
   fun m g _ => Cert.Kernel.Gen.frame m g, kernelFrame, fun m g _ => kernelFrame m g trivial, referenceFrame, fun m g _ => referenceFrame m g trivial,
   fun m g _ => Cert.Kernel2.Gen.frame m g, kernelFrame2, referenceFrame2,
   fun m g _ => Cert.Kernel3.Gen.frame m g, kernelFrame3, referenceFrame3,
   fun m g _ => Cert.Kernel4.Gen.frame m g, kernelFrame4, referenceFrame4,
   fun m g _ => Cert.Kernel5.Gen.frame m g, kernelFrame5, referenceFrame5,
   fun m g _ => Cert.Kernel6.Gen.frame m g, kernelFrame6, referenceFrame6,
   fun m g _ => Cert.Kernel7.Gen.frame m g, kernelFrame7, referenceFrame7,
   fun m g _ => Cert.Kernel8.Gen.frame m g, kernelFrame8, referenceFrame8,
   trivial, @Cert.Ssd.algebraic Cert.Ssd.facts_pre,
   trivial, Cert.Gm.algebraic,
   trivial, Cert.Layer.T3.algebraic,
   trivial, Cert.Layer.T0.algebraic,
   trivial, Cert.Layer.T1.algebraic,
   trivial, Cert.Layer.T2.algebraic,
   trivial, Cert.AtIn.algebraic,
   trivial, Cert.MbIn.algebraic⟩

end Cert.Proof
